-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_scores [hPre_finite_scores : Cert.Pre_finite_scores.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_scores.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_scores [hPre_finite_scores : Cert.Pre_finite_scores.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_scores.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_finite_scores [hKernel7Ideal : Cert.Kernel7Ideal.Facts] [hPre_finite_scores : Cert.Pre_finite_scores.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_scores m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_finite_scores [hReference7Ideal : Cert.Reference7Ideal.Facts] [hPre_finite_scores : Cert.Pre_finite_scores.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_scores m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v21) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v20) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal_pre_finite_scores [hKernel7Ideal : Cert.Kernel7Ideal.Facts] [hReference7Ideal : Cert.Reference7Ideal.Facts] [hPre_finite_scores : Cert.Pre_finite_scores.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_scores m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v15)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v15) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v52) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v7)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v7) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v51) = v0 c
          ∧ r.2.mem ((c.tc : Thread Cert.Reference9Ideal.nD Cert.Reference9Ideal.τ).loc Cert.Reference9Ideal.main_v52) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v42_0)) (v1 : (c : Dev Cert.Kernel10Ideal.nD) → Buf (Elt Ideal) ((c.tc : Thread Cert.Kernel10Ideal.nD Cert.Kernel10Ideal.τ).loc Cert.Kernel10Ideal.main_v42_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v42_0) = v0 c
          ∧ r.2.mem ((c.tc : Thread Cert.Kernel10Ideal.nD Cert.Kernel10Ideal.τ).loc Cert.Kernel10Ideal.main_v42_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v150) = v0 c
          ∧ r.2.mem ((c.tc : Thread Cert.Reference10Ideal.nD Cert.Reference10Ideal.τ).loc Cert.Reference10Ideal.main_v152) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite_scores : Cert.Pre_finite_scores.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_scores (hKernel7Ideal := hKernel7Ideal) (hPre_finite_scores := hPre_finite_scores)
    ∧ quiescent_Reference7Ideal (hReference7Ideal := hReference7Ideal)
    ∧ quiescent_Reference7Ideal_pre_finite_scores (hReference7Ideal := hReference7Ideal) (hPre_finite_scores := hPre_finite_scores)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_scores (hKernel7Ideal := hKernel7Ideal) (hReference7Ideal := hReference7Ideal) (hPre_finite_scores := hPre_finite_scores)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite_scores.lean ====
abbrev S1 : Shape := ⟨1, ![1]⟩
abbrev S8448x16x128 : Shape := ⟨3, ![8448, 16, 128]⟩
abbrev S8448x4x128 : Shape := ⟨3, ![8448, 4, 128]⟩
abbrev S8448x13312 : Shape := ⟨2, ![8448, 13312]⟩
abbrev S_ : Shape := ⟨0, ![]⟩

class Facts : Prop where
  bcast_S_S8448x16x128 : S_.BroadcastsInDim S8448x16x128 (![] : Fin 0 → Fin S8448x16x128.rank)
  reducesTo_S8448x16x128_S_d0_1_2 : S8448x16x128.ReducesTo [0, 1, 2] S_
  h_S_ : 0 < S_.numel
  bitsLt_bf16_f32 : FTy.bits .bf16 < FTy.bits .f32
  bcast_S_S8448x4x128 : S_.BroadcastsInDim S8448x4x128 (![] : Fin 0 → Fin S8448x4x128.rank)
  reducesTo_S8448x4x128_S_d0_1_2 : S8448x4x128.ReducesTo [0, 1, 2] S_

variable [Facts]

def fn {F : FTy → Type} [FloatOps F] (main_arg0 : IVec S1 32) (main_arg1 : FVec F S8448x16x128 .f32) (main_arg2 : FVec F S8448x4x128 .bf16) (main_arg3 : FVec F S8448x13312 .bf16) : IVec S_ 1 :=
  let main_v0 : FVec F S8448x16x128 .f32 := Host.absf main_arg1
  let main_cst : FVec F S_ .f32 := constant S_ .f32 0x7F800000#32
  let main_v1 : FVec F S8448x16x128 .f32 := broadcastInDim S8448x16x128 ![] bcast_S_S8448x16x128 main_cst
  let main_v2 : IVec S8448x16x128 1 := cmpf .olt main_v0 main_v1
  let main_c : IVec S_ 1 := constantI S_ 1 1#1
  let main_v3 : IVec S_ 1 := (fun x v => Host.reduce IntOp.andi x v reducesTo_S8448x16x128_S_d0_1_2 h_S_) main_v2 main_c
  let main_v4 : FVec F S8448x4x128 .f32 := (extf .f32 · bitsLt_bf16_f32) main_arg2
  let main_v5 : FVec F S8448x4x128 .f32 := Host.absf main_v4
  let main_cst_0 : FVec F S_ .f32 := constant S_ .f32 0x7F800000#32
  let main_v6 : FVec F S8448x4x128 .f32 := broadcastInDim S8448x4x128 ![] bcast_S_S8448x4x128 main_cst_0
  let main_v7 : IVec S8448x4x128 1 := cmpf .olt main_v5 main_v6
  let main_c_1 : IVec S_ 1 := constantI S_ 1 1#1
  let main_v8 : IVec S_ 1 := (fun x v => Host.reduce IntOp.andi x v reducesTo_S8448x4x128_S_d0_1_2 h_S_) main_v7 main_c_1
  let main_v9 : IVec S_ 1 := andi main_v3 main_v8
  main_v9
-- ==== Kernel.lean ====
abbrev S8448x4096 : Shape := ⟨2, ![8448, 4096]⟩
abbrev S4096 : Shape := ⟨1, ![4096]⟩
abbrev S8x12288 : Shape := ⟨2, ![8, 12288]⟩
abbrev S1x4096 : Shape := ⟨2, ![1, 4096]⟩
abbrev S8x1x12288 : Shape := ⟨3, ![8, 1, 12288]⟩
abbrev S3x256x4096 : Shape := ⟨3, ![3, 256, 4096]⟩
abbrev S3 : Shape := ⟨1, ![3]⟩
abbrev S2x1x1x4096 : Shape := ⟨4, ![2, 1, 1, 4096]⟩
abbrev S2 : Shape := ⟨1, ![2]⟩
abbrev S2x256x4096 : Shape := ⟨3, ![2, 256, 4096]⟩
abbrev S1 : Shape := ⟨1, ![1]⟩
abbrev S_ : Shape := ⟨0, ![]⟩
abbrev S1x256x4096 : Shape := ⟨3, ![1, 256, 4096]⟩
abbrev S256x4096 : Shape := ⟨2, ![256, 4096]⟩
abbrev S1x1x1x4096 : Shape := ⟨4, ![1, 1, 1, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 6
  | .vmem => 5
  | .smem => 0
  | _ => 0

abbrev bufTy : (tb : Table) → Fin (tcTables nBuf tb) → BufTy
  | .hbm, ⟨0, _⟩ => ⟨S8448x4096, .f32⟩
  | .hbm, ⟨1, _⟩ => ⟨S4096, .f32⟩
  | .hbm, ⟨2, _⟩ => ⟨S8x12288, .f32⟩
  | .hbm, ⟨3, _⟩ => ⟨S1x4096, .f32⟩
  | .hbm, ⟨4, _⟩ => ⟨S8x1x12288, .f32⟩
  | .hbm, ⟨5, _⟩ => ⟨S8448x4096, .bf16⟩
  | .local _ .vmem, ⟨0, _⟩ => ⟨S1x4096, .f32⟩
  | .local _ .vmem, ⟨1, _⟩ => ⟨S3x256x4096, .f32⟩
  | .local _ .vmem, ⟨2, _⟩ => ⟨S2x1x1x4096, .f32⟩
  | .local _ .vmem, ⟨3, _⟩ => ⟨S2x1x1x4096, .f32⟩
  | .local _ .vmem, ⟨4, _⟩ => ⟨S2x256x4096, .bf16⟩
  | _, _ => ⟨S8448x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_scoped0 : Ref sig .tc := ⟨.vmem, 1, rfl⟩
abbrev cc0_scoped2 : Ref sig .tc := ⟨.vmem, 2, rfl⟩
abbrev cc0_scoped4 : Ref sig .tc := ⟨.vmem, 3, rfl⟩
abbrev cc0_scoped6 : Ref sig .tc := ⟨.vmem, 4, rfl⟩
abbrev cc0_sem0_0 : DmaSem sig := 0

abbrev nD : Nat := 1
abbrev τ : Topo := Topo.v7x

variable {F : FTy → Type} [FloatOps F]

abbrev grid0 : Pipeline.Grid := .none

def k0_off1 : Fin 1 → Nat :=
  let c0_i32_19_r0 : BitVec 32 := 0#32
  let c3_i32_r0 : BitVec 32 := 3#32
  let v22_r0 : BitVec 32 := Scalar.remui c0_i32_19_r0 c3_i32_r0
  ![v22_r0.toNat]
def k0_off2 : Fin 3 → Nat :=
  let c0_i32_19_r0 : BitVec 32 := 0#32
  let c3_i32_r0 : BitVec 32 := 3#32
  let v22_r0 : BitVec 32 := Scalar.remui c0_i32_19_r0 c3_i32_r0
  let c0_i32_20_r0 : BitVec 32 := 0#32
  let c0_i32_21_r0 : BitVec 32 := 0#32
  ![v22_r0.toNat, 0, 0]
def k0_off3 : Fin 1 → Nat :=
  let c0_i32_26_r0 : BitVec 32 := 0#32
  let c2_i32_r0 : BitVec 32 := 2#32
  let v29_r0 : BitVec 32 := Scalar.remui c0_i32_26_r0 c2_i32_r0
  ![v29_r0.toNat]
def k0_off4 : Fin 4 → Nat :=
  let c0_i32_26_r0 : BitVec 32 := 0#32
  let c2_i32_r0 : BitVec 32 := 2#32
  let v29_r0 : BitVec 32 := Scalar.remui c0_i32_26_r0 c2_i32_r0
  let c0_i32_30_r0 : BitVec 32 := 0#32
  let c0_i32_31_r0 : BitVec 32 := 0#32
  let c0_i32_32_r0 : BitVec 32 := 0#32
  ![v29_r0.toNat, 0, 0, 0]
def k0_off5 : Fin 3 → Nat :=
  let c1_i32_29_r0 : BitVec 32 := 1#32
  let v_false_r0 : BitVec 1 := 0#1
  let c1_i32_27_r0 : BitVec 32 := 1#32
  let c0_i32_28_r0 : BitVec 32 := 0#32
  let v30_r0 : BitVec 32 := Scalar.select v_false_r0 c1_i32_27_r0 c0_i32_28_r0
  let v31_r0 : BitVec 32 := Scalar.muli c1_i32_29_r0 v30_r0
  let c0_i32_33_r0 : BitVec 32 := 0#32
  let c0_i32_34_r0 : BitVec 32 := 0#32
  ![v31_r0.toNat, 0, 0]
def k0_off6 : Fin 3 → Nat :=
  let c1_i32_42_r0 : BitVec 32 := 1#32
  let false_39_r0 : BitVec 1 := 0#1
  let c1_i32_40_r0 : BitVec 32 := 1#32
  let c0_i32_41_r0 : BitVec 32 := 0#32
  let v39_r0 : BitVec 32 := Scalar.select false_39_r0 c1_i32_40_r0 c0_i32_41_r0
  let v40_r0 : BitVec 32 := Scalar.muli c1_i32_42_r0 v39_r0
  let c0_i32_46_r0 : BitVec 32 := 0#32
  let c4096_i32_r0 : BitVec 32 := 4096#32
  ![v40_r0.toNat, 0, 4096]
def k0_cond1 : BitVec 1 :=
  let true_50_r0 : BitVec 1 := 1#1
  let true_5_r0 : BitVec 1 := 1#1
  let c1_i32_r0 : BitVec 32 := 1#32
  let c0_i32_6_r0 : BitVec 32 := 0#32
  let v8_r0 : BitVec 32 := Scalar.select true_5_r0 c1_i32_r0 c0_i32_6_r0
  let c33_i32_r0 : BitVec 32 := 33#32
  let v9_r0 : BitVec 1 := Scalar.cmpi .eq v8_r0 c33_i32_r0
  let c0_i32_7_r0 : BitVec 32 := 0#32
  let v10_r0 : BitVec 32 := Scalar.select v9_r0 c0_i32_7_r0 v8_r0
  let c0_i32_8_r0 : BitVec 32 := 0#32
  let v11_r0 : BitVec 32 := Scalar.addi v10_r0 c0_i32_8_r0
  let c0_i32_49_r0 : BitVec 32 := 0#32
  let v47_r0 : BitVec 1 := Scalar.cmpi .ne v11_r0 c0_i32_49_r0
  let v48_r0 : BitVec 1 := Scalar.andi true_50_r0 v47_r0
  let true_51_r0 : BitVec 1 := 1#1
  let v49_r0 : BitVec 1 := Scalar.andi v48_r0 true_51_r0
  let v50_r0 : BitVec 32 := Scalar.extui v49_r0
  let c0_i32_52_r0 : BitVec 32 := 0#32
  let v51_r0 : BitVec 1 := Scalar.cmpi .ne v50_r0 c0_i32_52_r0
  v51_r0

def k0_off7 : Fin 1 → Nat :=
  let c0_i32_24_r0 : BitVec 32 := 0#32
  let c1_i32_25_r0 : BitVec 32 := 1#32
  let v28_r0 : BitVec 32 := Scalar.addi c0_i32_24_r0 c1_i32_25_r0
  let c3_i32_93_r0 : BitVec 32 := 3#32
  let v88_r0 : BitVec 32 := Scalar.remui v28_r0 c3_i32_93_r0
  ![v88_r0.toNat]
def k0_off8 : Fin 3 → Nat :=
  let c0_i32_24_r0 : BitVec 32 := 0#32
  let c1_i32_25_r0 : BitVec 32 := 1#32
  let v28_r0 : BitVec 32 := Scalar.addi c0_i32_24_r0 c1_i32_25_r0
  let c3_i32_93_r0 : BitVec 32 := 3#32
  let v88_r0 : BitVec 32 := Scalar.remui v28_r0 c3_i32_93_r0
  let c0_i32_95_r0 : BitVec 32 := 0#32
  let c0_i32_96_r0 : BitVec 32 := 0#32
  ![v88_r0.toNat, 0, 0]
def k0_off9 : Fin 2 → Nat :=
  let c256_i32_94_r0 : BitVec 32 := 256#32
  let true_5_r0 : BitVec 1 := 1#1
  let c1_i32_r0 : BitVec 32 := 1#32
  let c0_i32_6_r0 : BitVec 32 := 0#32
  let v8_r0 : BitVec 32 := Scalar.select true_5_r0 c1_i32_r0 c0_i32_6_r0
  let c33_i32_r0 : BitVec 32 := 33#32
  let v9_r0 : BitVec 1 := Scalar.cmpi .eq v8_r0 c33_i32_r0
  let c0_i32_7_r0 : BitVec 32 := 0#32
  let v10_r0 : BitVec 32 := Scalar.select v9_r0 c0_i32_7_r0 v8_r0
  let c0_i32_8_r0 : BitVec 32 := 0#32
  let v11_r0 : BitVec 32 := Scalar.addi v10_r0 c0_i32_8_r0
  let v89_r0 : BitVec 32 := Scalar.muli c256_i32_94_r0 v11_r0
  let c0_i32_97_r0 : BitVec 32 := 0#32
  ![v89_r0.toNat, 0]
@[reducible] def k0_t1_loop : Scf.Loop 32 :=
  let c0_i32_60_r0 : BitVec 32 := 0#32
  let c33_i32_61_r0 : BitVec 32 := 33#32
  let v54_r0 : BitVec 32 := Scalar.addi c0_i32_60_r0 c33_i32_61_r0
  let c1_i32_62_r0 : BitVec 32 := 1#32
  ⟨c0_i32_60_r0, v54_r0, c1_i32_62_r0⟩
def k0_off10 (arg5_r0 : BitVec 32) : Fin 1 → Nat :=
  let c3_i32_214_r0 : BitVec 32 := 3#32
  let v285_r0 : BitVec 32 := Scalar.remui arg5_r0 c3_i32_214_r0
  ![v285_r0.toNat]
def k0_cond2 (k0_t1 : Fin k0_t1_loop.trips) (arg13_r0 : BitVec 32) : BitVec 1 :=
  let true_102_r0 : BitVec 1 := 1#1
  let c1_i32_101_r0 : BitVec 32 := 1#32
  let v96_r0 : BitVec 32 := Scalar.addi arg13_r0 c1_i32_101_r0
  let v97_r0 : BitVec 32 := Scalar.select true_102_r0 v96_r0 arg13_r0
  let c33_i32_103_r0 : BitVec 32 := 33#32
  let v98_r0 : BitVec 1 := Scalar.cmpi .eq v97_r0 c33_i32_103_r0
  let c0_i32_104_r0 : BitVec 32 := 0#32
  let v99_r0 : BitVec 32 := Scalar.select v98_r0 c0_i32_104_r0 v97_r0
  let c0_i32_105_r0 : BitVec 32 := 0#32
  let v100_r0 : BitVec 32 := Scalar.addi v99_r0 c0_i32_105_r0
  let true_107_r0 : BitVec 1 := 1#1
  let c1_i32_106_r0 : BitVec 32 := 1#32
  let v101_r0 : BitVec 32 := Scalar.addi v99_r0 c1_i32_106_r0
  let v102_r0 : BitVec 32 := Scalar.select true_107_r0 v101_r0 v99_r0
  let c33_i32_108_r0 : BitVec 32 := 33#32
  let v103_r0 : BitVec 1 := Scalar.cmpi .eq v102_r0 c33_i32_108_r0
  let c0_i32_109_r0 : BitVec 32 := 0#32
  let v104_r0 : BitVec 32 := Scalar.select v103_r0 c0_i32_109_r0 v102_r0
  let c0_i32_110_r0 : BitVec 32 := 0#32
  let v105_r0 : BitVec 32 := Scalar.addi v104_r0 c0_i32_110_r0
  let v111_r0 : BitVec 1 := Scalar.cmpi .ne v100_r0 v105_r0
  let c0_i32_60_r0 : BitVec 32 := 0#32
  let c1_i32_62_r0 : BitVec 32 := 1#32
  let arg4_r0 : BitVec 32 := Scf.iv c0_i32_60_r0 c1_i32_62_r0 k0_t1
  let c31_i32_r0 : BitVec 32 := 31#32
  let v112_r0 : BitVec 1 := Scalar.cmpi .sge arg4_r0 c31_i32_r0
  let true_116_r0 : BitVec 1 := 1#1
  let v113_r0 : BitVec 1 := Scalar.xori v112_r0 true_116_r0
  let v114_r0 : BitVec 1 := Scalar.andi v111_r0 v113_r0
  let true_117_r0 : BitVec 1 := 1#1
  let v115_r0 : BitVec 1 := Scalar.andi v114_r0 true_117_r0
  let v116_r0 : BitVec 32 := Scalar.extui v115_r0
  let c0_i32_118_r0 : BitVec 32 := 0#32
  let v117_r0 : BitVec 1 := Scalar.cmpi .ne v116_r0 c0_i32_118_r0
  v117_r0

def k0_off11 (arg5_r0 : BitVec 32) : Fin 3 → Nat :=
  let c3_i32_214_r0 : BitVec 32 := 3#32
  let v285_r0 : BitVec 32 := Scalar.remui arg5_r0 c3_i32_214_r0
  let c0_i32_216_r0 : BitVec 32 := 0#32
  let c0_i32_217_r0 : BitVec 32 := 0#32
  ![v285_r0.toNat, 0, 0]
def k0_off12 (arg13_r0 : BitVec 32) : Fin 2 → Nat :=
  let c256_i32_215_r0 : BitVec 32 := 256#32
  let true_107_r0 : BitVec 1 := 1#1
  let true_102_r0 : BitVec 1 := 1#1
  let c1_i32_101_r0 : BitVec 32 := 1#32
  let v96_r0 : BitVec 32 := Scalar.addi arg13_r0 c1_i32_101_r0
  let v97_r0 : BitVec 32 := Scalar.select true_102_r0 v96_r0 arg13_r0
  let c33_i32_103_r0 : BitVec 32 := 33#32
  let v98_r0 : BitVec 1 := Scalar.cmpi .eq v97_r0 c33_i32_103_r0
  let c0_i32_104_r0 : BitVec 32 := 0#32
  let v99_r0 : BitVec 32 := Scalar.select v98_r0 c0_i32_104_r0 v97_r0
  let c1_i32_106_r0 : BitVec 32 := 1#32
  let v101_r0 : BitVec 32 := Scalar.addi v99_r0 c1_i32_106_r0
  let v102_r0 : BitVec 32 := Scalar.select true_107_r0 v101_r0 v99_r0
  let c33_i32_108_r0 : BitVec 32 := 33#32
  let v103_r0 : BitVec 1 := Scalar.cmpi .eq v102_r0 c33_i32_108_r0
  let c0_i32_109_r0 : BitVec 32 := 0#32
  let v104_r0 : BitVec 32 := Scalar.select v103_r0 c0_i32_109_r0 v102_r0
  let c0_i32_110_r0 : BitVec 32 := 0#32
  let v105_r0 : BitVec 32 := Scalar.addi v104_r0 c0_i32_110_r0
  let v286_r0 : BitVec 32 := Scalar.muli c256_i32_215_r0 v105_r0
  let c0_i32_218_r0 : BitVec 32 := 0#32
  ![v286_r0.toNat, 0]
def k0_off13 (arg7_r0 : BitVec 32) : Fin 1 → Nat :=
  let c2_i32_214_r0 : BitVec 32 := 2#32
  let v285_r0 : BitVec 32 := Scalar.remui arg7_r0 c2_i32_214_r0
  ![v285_r0.toNat]
def k0_cond3 (k0_t1 : Fin k0_t1_loop.trips) (arg13_r0 : BitVec 32) : BitVec 1 :=
  let c0_i32_95_r0 : BitVec 32 := 0#32
  let v90_r0 : BitVec 32 := Scalar.addi arg13_r0 c0_i32_95_r0
  let c32_i32_121_r0 : BitVec 32 := 32#32
  let v121_r0 : BitVec 1 := Scalar.cmpi .sge v90_r0 c32_i32_121_r0
  let c1_i32_122_r0 : BitVec 32 := 1#32
  let c0_i32_123_r0 : BitVec 32 := 0#32
  let v122_r0 : BitVec 32 := Scalar.select v121_r0 c1_i32_122_r0 c0_i32_123_r0
  let true_102_r0 : BitVec 1 := 1#1
  let c1_i32_101_r0 : BitVec 32 := 1#32
  let v96_r0 : BitVec 32 := Scalar.addi arg13_r0 c1_i32_101_r0
  let v97_r0 : BitVec 32 := Scalar.select true_102_r0 v96_r0 arg13_r0
  let c33_i32_103_r0 : BitVec 32 := 33#32
  let v98_r0 : BitVec 1 := Scalar.cmpi .eq v97_r0 c33_i32_103_r0
  let c0_i32_104_r0 : BitVec 32 := 0#32
  let v99_r0 : BitVec 32 := Scalar.select v98_r0 c0_i32_104_r0 v97_r0
  let c0_i32_105_r0 : BitVec 32 := 0#32
  let v100_r0 : BitVec 32 := Scalar.addi v99_r0 c0_i32_105_r0
  let c32_i32_124_r0 : BitVec 32 := 32#32
  let v123_r0 : BitVec 1 := Scalar.cmpi .sge v100_r0 c32_i32_124_r0
  let c1_i32_125_r0 : BitVec 32 := 1#32
  let c0_i32_126_r0 : BitVec 32 := 0#32
  let v124_r0 : BitVec 32 := Scalar.select v123_r0 c1_i32_125_r0 c0_i32_126_r0
  let v125_r0 : BitVec 1 := Scalar.cmpi .ne v122_r0 v124_r0
  let c0_i32_60_r0 : BitVec 32 := 0#32
  let c1_i32_62_r0 : BitVec 32 := 1#32
  let arg4_r0 : BitVec 32 := Scf.iv c0_i32_60_r0 c1_i32_62_r0 k0_t1
  let c32_i32_127_r0 : BitVec 32 := 32#32
  let v126_r0 : BitVec 1 := Scalar.cmpi .sge arg4_r0 c32_i32_127_r0
  let true_128_r0 : BitVec 1 := 1#1
  let v127_r0 : BitVec 1 := Scalar.xori v126_r0 true_128_r0
  let v128_r0 : BitVec 1 := Scalar.andi v125_r0 v127_r0
  let true_129_r0 : BitVec 1 := 1#1
  let v129_r0 : BitVec 1 := Scalar.andi v128_r0 true_129_r0
  let v130_r0 : BitVec 32 := Scalar.extui v129_r0
  let c0_i32_130_r0 : BitVec 32 := 0#32
  let v131_r0 : BitVec 1 := Scalar.cmpi .ne v130_r0 c0_i32_130_r0
  v131_r0

def k0_off14 (arg7_r0 : BitVec 32) : Fin 4 → Nat :=
  let c2_i32_214_r0 : BitVec 32 := 2#32
  let v285_r0 : BitVec 32 := Scalar.remui arg7_r0 c2_i32_214_r0
  let c0_i32_219_r0 : BitVec 32 := 0#32
  let c0_i32_220_r0 : BitVec 32 := 0#32
  let c0_i32_221_r0 : BitVec 32 := 0#32
  ![v285_r0.toNat, 0, 0, 0]
def k0_off15 (arg13_r0 : BitVec 32) : Fin 3 → Nat :=
  let c1_i32_218_r0 : BitVec 32 := 1#32
  let true_102_r0 : BitVec 1 := 1#1
  let c1_i32_101_r0 : BitVec 32 := 1#32
  let v96_r0 : BitVec 32 := Scalar.addi arg13_r0 c1_i32_101_r0
  let v97_r0 : BitVec 32 := Scalar.select true_102_r0 v96_r0 arg13_r0
  let c33_i32_103_r0 : BitVec 32 := 33#32
  let v98_r0 : BitVec 1 := Scalar.cmpi .eq v97_r0 c33_i32_103_r0
  let c0_i32_104_r0 : BitVec 32 := 0#32
  let v99_r0 : BitVec 32 := Scalar.select v98_r0 c0_i32_104_r0 v97_r0
  let c0_i32_105_r0 : BitVec 32 := 0#32
  let v100_r0 : BitVec 32 := Scalar.addi v99_r0 c0_i32_105_r0
  let c32_i32_215_r0 : BitVec 32 := 32#32
  let v286_r0 : BitVec 1 := Scalar.cmpi .sge v100_r0 c32_i32_215_r0
  let c1_i32_216_r0 : BitVec 32 := 1#32
  let c0_i32_217_r0 : BitVec 32 := 0#32
  let v287_r0 : BitVec 32 := Scalar.select v286_r0 c1_i32_216_r0 c0_i32_217_r0
  let v288_r0 : BitVec 32 := Scalar.muli c1_i32_218_r0 v287_r0
  let c0_i32_222_r0 : BitVec 32 := 0#32
  let c0_i32_223_r0 : BitVec 32 := 0#32
  ![v288_r0.toNat, 0, 0]
def k0_off16 (arg9_r0 : BitVec 32) : Fin 1 → Nat :=
  let c2_i32_214_r0 : BitVec 32 := 2#32
  let v285_r0 : BitVec 32 := Scalar.remui arg9_r0 c2_i32_214_r0
  ![v285_r0.toNat]
def k0_cond4 (k0_t1 : Fin k0_t1_loop.trips) (arg13_r0 : BitVec 32) : BitVec 1 :=
  let c0_i32_95_r0 : BitVec 32 := 0#32
  let v90_r0 : BitVec 32 := Scalar.addi arg13_r0 c0_i32_95_r0
  let c32_i32_133_r0 : BitVec 32 := 32#32
  let v135_r0 : BitVec 1 := Scalar.cmpi .sge v90_r0 c32_i32_133_r0
  let c1_i32_134_r0 : BitVec 32 := 1#32
  let c0_i32_135_r0 : BitVec 32 := 0#32
  let v136_r0 : BitVec 32 := Scalar.select v135_r0 c1_i32_134_r0 c0_i32_135_r0
  let true_102_r0 : BitVec 1 := 1#1
  let c1_i32_101_r0 : BitVec 32 := 1#32
  let v96_r0 : BitVec 32 := Scalar.addi arg13_r0 c1_i32_101_r0
  let v97_r0 : BitVec 32 := Scalar.select true_102_r0 v96_r0 arg13_r0
  let c33_i32_103_r0 : BitVec 32 := 33#32
  let v98_r0 : BitVec 1 := Scalar.cmpi .eq v97_r0 c33_i32_103_r0
  let c0_i32_104_r0 : BitVec 32 := 0#32
  let v99_r0 : BitVec 32 := Scalar.select v98_r0 c0_i32_104_r0 v97_r0
  let c0_i32_105_r0 : BitVec 32 := 0#32
  let v100_r0 : BitVec 32 := Scalar.addi v99_r0 c0_i32_105_r0
  let c32_i32_136_r0 : BitVec 32 := 32#32
  let v137_r0 : BitVec 1 := Scalar.cmpi .sge v100_r0 c32_i32_136_r0
  let c1_i32_137_r0 : BitVec 32 := 1#32
  let c0_i32_138_r0 : BitVec 32 := 0#32
  let v138_r0 : BitVec 32 := Scalar.select v137_r0 c1_i32_137_r0 c0_i32_138_r0
  let v139_r0 : BitVec 1 := Scalar.cmpi .ne v136_r0 v138_r0
  let c0_i32_60_r0 : BitVec 32 := 0#32
  let c1_i32_62_r0 : BitVec 32 := 1#32
  let arg4_r0 : BitVec 32 := Scf.iv c0_i32_60_r0 c1_i32_62_r0 k0_t1
  let c32_i32_139_r0 : BitVec 32 := 32#32
  let v140_r0 : BitVec 1 := Scalar.cmpi .sge arg4_r0 c32_i32_139_r0
  let true_140_r0 : BitVec 1 := 1#1
  let v141_r0 : BitVec 1 := Scalar.xori v140_r0 true_140_r0
  let v142_r0 : BitVec 1 := Scalar.andi v139_r0 v141_r0
  let true_141_r0 : BitVec 1 := 1#1
  let v143_r0 : BitVec 1 := Scalar.andi v142_r0 true_141_r0
  let v144_r0 : BitVec 32 := Scalar.extui v143_r0
  let c0_i32_142_r0 : BitVec 32 := 0#32
  let v145_r0 : BitVec 1 := Scalar.cmpi .ne v144_r0 c0_i32_142_r0
  v145_r0

def k0_off17 (arg9_r0 : BitVec 32) : Fin 4 → Nat :=
  let c2_i32_214_r0 : BitVec 32 := 2#32
  let v285_r0 : BitVec 32 := Scalar.remui arg9_r0 c2_i32_214_r0
  let c0_i32_219_r0 : BitVec 32 := 0#32
  let c0_i32_220_r0 : BitVec 32 := 0#32
  let c0_i32_221_r0 : BitVec 32 := 0#32
  ![v285_r0.toNat, 0, 0, 0]
def k0_off18 (arg13_r0 : BitVec 32) : Fin 3 → Nat :=
  let c1_i32_218_r0 : BitVec 32 := 1#32
  let true_102_r0 : BitVec 1 := 1#1
  let c1_i32_101_r0 : BitVec 32 := 1#32
  let v96_r0 : BitVec 32 := Scalar.addi arg13_r0 c1_i32_101_r0
  let v97_r0 : BitVec 32 := Scalar.select true_102_r0 v96_r0 arg13_r0
  let c33_i32_103_r0 : BitVec 32 := 33#32
  let v98_r0 : BitVec 1 := Scalar.cmpi .eq v97_r0 c33_i32_103_r0
  let c0_i32_104_r0 : BitVec 32 := 0#32
  let v99_r0 : BitVec 32 := Scalar.select v98_r0 c0_i32_104_r0 v97_r0
  let c0_i32_105_r0 : BitVec 32 := 0#32
  let v100_r0 : BitVec 32 := Scalar.addi v99_r0 c0_i32_105_r0
  let c32_i32_215_r0 : BitVec 32 := 32#32
  let v286_r0 : BitVec 1 := Scalar.cmpi .sge v100_r0 c32_i32_215_r0
  let c1_i32_216_r0 : BitVec 32 := 1#32
  let c0_i32_217_r0 : BitVec 32 := 0#32
  let v287_r0 : BitVec 32 := Scalar.select v286_r0 c1_i32_216_r0 c0_i32_217_r0
  let v288_r0 : BitVec 32 := Scalar.muli c1_i32_218_r0 v287_r0
  let c0_i32_222_r0 : BitVec 32 := 0#32
  let c4096_i32_223_r0 : BitVec 32 := 4096#32
  ![v288_r0.toNat, 0, 4096]
def k0_off19 (arg6_r0 : BitVec 32) : Fin 1 → Nat :=
  let c3_i32_215_r0 : BitVec 32 := 3#32
  let v286_r0 : BitVec 32 := Scalar.remui arg6_r0 c3_i32_215_r0
  ![v286_r0.toNat]
def k0_cond5 (k0_t1 : Fin k0_t1_loop.trips) (arg13_r0 : BitVec 32) : BitVec 1 :=
  let c0_i32_95_r0 : BitVec 32 := 0#32
  let v90_r0 : BitVec 32 := Scalar.addi arg13_r0 c0_i32_95_r0
  let true_97_r0 : BitVec 1 := 1#1
  let c1_i32_96_r0 : BitVec 32 := 1#32
  let v91_r0 : BitVec 32 := Scalar.subi arg13_r0 c1_i32_96_r0
  let v92_r0 : BitVec 32 := Scalar.select true_97_r0 v91_r0 arg13_r0
  let c_m1_i32_98_r0 : BitVec 32 := 4294967295#32
  let v93_r0 : BitVec 1 := Scalar.cmpi .eq v92_r0 c_m1_i32_98_r0
  let c32_i32_99_r0 : BitVec 32 := 32#32
  let v94_r0 : BitVec 32 := Scalar.select v93_r0 c32_i32_99_r0 v92_r0
  let c0_i32_100_r0 : BitVec 32 := 0#32
  let v95_r0 : BitVec 32 := Scalar.addi v94_r0 c0_i32_100_r0
  let v153_r0 : BitVec 1 := Scalar.cmpi .ne v90_r0 v95_r0
  let c0_i32_60_r0 : BitVec 32 := 0#32
  let c1_i32_62_r0 : BitVec 32 := 1#32
  let arg4_r0 : BitVec 32 := Scf.iv c0_i32_60_r0 c1_i32_62_r0 k0_t1
  let c0_i32_93_r0 : BitVec 32 := 0#32
  let v88_r0 : BitVec 1 := Scalar.cmpi .eq arg4_r0 c0_i32_93_r0
  let v154_r0 : BitVec 1 := Scalar.ori v153_r0 v88_r0
  let c0_i32_147_r0 : BitVec 32 := 0#32
  let v155_r0 : BitVec 1 := Scalar.cmpi .sge arg4_r0 c0_i32_147_r0
  let v156_r0 : BitVec 1 := Scalar.andi v154_r0 v155_r0
  let v157_r0 : BitVec 32 := Scalar.extui v156_r0
  let c0_i32_148_r0 : BitVec 32 := 0#32
  let v158_r0 : BitVec 1 := Scalar.cmpi .ne v157_r0 c0_i32_148_r0
  v158_r0

def k0_off20 (arg6_r0 : BitVec 32) : Fin 3 → Nat :=
  let c3_i32_215_r0 : BitVec 32 := 3#32
  let v286_r0 : BitVec 32 := Scalar.remui arg6_r0 c3_i32_215_r0
  let c0_i32_216_r0 : BitVec 32 := 0#32
  let c0_i32_217_r0 : BitVec 32 := 0#32
  ![v286_r0.toNat, 0, 0]
def k0_off21 (arg13_r0 : BitVec 32) : Fin 2 → Nat :=
  let c256_i32_214_r0 : BitVec 32 := 256#32
  let c0_i32_95_r0 : BitVec 32 := 0#32
  let v90_r0 : BitVec 32 := Scalar.addi arg13_r0 c0_i32_95_r0
  let v285_r0 : BitVec 32 := Scalar.muli c256_i32_214_r0 v90_r0
  let c0_i32_218_r0 : BitVec 32 := 0#32
  ![v285_r0.toNat, 0]
def k0_off22 (arg8_r0 : BitVec 32) : Fin 1 → Nat :=
  let c2_i32_218_r0 : BitVec 32 := 2#32
  let v288_r0 : BitVec 32 := Scalar.remui arg8_r0 c2_i32_218_r0
  ![v288_r0.toNat]
def k0_cond6 (k0_t1 : Fin k0_t1_loop.trips) (arg13_r0 : BitVec 32) : BitVec 1 :=
  let c0_i32_95_r0 : BitVec 32 := 0#32
  let v90_r0 : BitVec 32 := Scalar.addi arg13_r0 c0_i32_95_r0
  let c32_i32_121_r0 : BitVec 32 := 32#32
  let v121_r0 : BitVec 1 := Scalar.cmpi .sge v90_r0 c32_i32_121_r0
  let c1_i32_122_r0 : BitVec 32 := 1#32
  let c0_i32_123_r0 : BitVec 32 := 0#32
  let v122_r0 : BitVec 32 := Scalar.select v121_r0 c1_i32_122_r0 c0_i32_123_r0
  let true_97_r0 : BitVec 1 := 1#1
  let c1_i32_96_r0 : BitVec 32 := 1#32
  let v91_r0 : BitVec 32 := Scalar.subi arg13_r0 c1_i32_96_r0
  let v92_r0 : BitVec 32 := Scalar.select true_97_r0 v91_r0 arg13_r0
  let c_m1_i32_98_r0 : BitVec 32 := 4294967295#32
  let v93_r0 : BitVec 1 := Scalar.cmpi .eq v92_r0 c_m1_i32_98_r0
  let c32_i32_99_r0 : BitVec 32 := 32#32
  let v94_r0 : BitVec 32 := Scalar.select v93_r0 c32_i32_99_r0 v92_r0
  let c0_i32_100_r0 : BitVec 32 := 0#32
  let v95_r0 : BitVec 32 := Scalar.addi v94_r0 c0_i32_100_r0
  let c32_i32_149_r0 : BitVec 32 := 32#32
  let v159_r0 : BitVec 1 := Scalar.cmpi .sge v95_r0 c32_i32_149_r0
  let c1_i32_150_r0 : BitVec 32 := 1#32
  let c0_i32_151_r0 : BitVec 32 := 0#32
  let v160_r0 : BitVec 32 := Scalar.select v159_r0 c1_i32_150_r0 c0_i32_151_r0
  let v161_r0 : BitVec 1 := Scalar.cmpi .ne v122_r0 v160_r0
  let c0_i32_60_r0 : BitVec 32 := 0#32
  let c1_i32_62_r0 : BitVec 32 := 1#32
  let arg4_r0 : BitVec 32 := Scf.iv c0_i32_60_r0 c1_i32_62_r0 k0_t1
  let c0_i32_93_r0 : BitVec 32 := 0#32
  let v88_r0 : BitVec 1 := Scalar.cmpi .eq arg4_r0 c0_i32_93_r0
  let v162_r0 : BitVec 1 := Scalar.ori v161_r0 v88_r0
  let c0_i32_152_r0 : BitVec 32 := 0#32
  let v163_r0 : BitVec 1 := Scalar.cmpi .sge arg4_r0 c0_i32_152_r0
  let v164_r0 : BitVec 1 := Scalar.andi v162_r0 v163_r0
  let v165_r0 : BitVec 32 := Scalar.extui v164_r0
  let c0_i32_153_r0 : BitVec 32 := 0#32
  let v166_r0 : BitVec 1 := Scalar.cmpi .ne v165_r0 c0_i32_153_r0
  v166_r0

def k0_off23 (arg8_r0 : BitVec 32) : Fin 4 → Nat :=
  let c2_i32_218_r0 : BitVec 32 := 2#32
  let v288_r0 : BitVec 32 := Scalar.remui arg8_r0 c2_i32_218_r0
  let c0_i32_219_r0 : BitVec 32 := 0#32
  let c0_i32_220_r0 : BitVec 32 := 0#32
  let c0_i32_221_r0 : BitVec 32 := 0#32
  ![v288_r0.toNat, 0, 0, 0]
def k0_off24 (arg13_r0 : BitVec 32) : Fin 3 → Nat :=
  let c1_i32_217_r0 : BitVec 32 := 1#32
  let c0_i32_95_r0 : BitVec 32 := 0#32
  let v90_r0 : BitVec 32 := Scalar.addi arg13_r0 c0_i32_95_r0
  let c32_i32_214_r0 : BitVec 32 := 32#32
  let v285_r0 : BitVec 1 := Scalar.cmpi .sge v90_r0 c32_i32_214_r0
  let c1_i32_215_r0 : BitVec 32 := 1#32
  let c0_i32_216_r0 : BitVec 32 := 0#32
  let v286_r0 : BitVec 32 := Scalar.select v285_r0 c1_i32_215_r0 c0_i32_216_r0
  let v287_r0 : BitVec 32 := Scalar.muli c1_i32_217_r0 v286_r0
  let c0_i32_222_r0 : BitVec 32 := 0#32
  let c0_i32_223_r0 : BitVec 32 := 0#32
  ![v287_r0.toNat, 0, 0]
def k0_off25 (arg10_r0 : BitVec 32) : Fin 1 → Nat :=
  let c2_i32_218_r0 : BitVec 32 := 2#32
  let v288_r0 : BitVec 32 := Scalar.remui arg10_r0 c2_i32_218_r0
  ![v288_r0.toNat]
def k0_cond7 (k0_t1 : Fin k0_t1_loop.trips) (arg13_r0 : BitVec 32) : BitVec 1 :=
  let c0_i32_95_r0 : BitVec 32 := 0#32
  let v90_r0 : BitVec 32 := Scalar.addi arg13_r0 c0_i32_95_r0
  let c32_i32_133_r0 : BitVec 32 := 32#32
  let v135_r0 : BitVec 1 := Scalar.cmpi .sge v90_r0 c32_i32_133_r0
  let c1_i32_134_r0 : BitVec 32 := 1#32
  let c0_i32_135_r0 : BitVec 32 := 0#32
  let v136_r0 : BitVec 32 := Scalar.select v135_r0 c1_i32_134_r0 c0_i32_135_r0
  let true_97_r0 : BitVec 1 := 1#1
  let c1_i32_96_r0 : BitVec 32 := 1#32
  let v91_r0 : BitVec 32 := Scalar.subi arg13_r0 c1_i32_96_r0
  let v92_r0 : BitVec 32 := Scalar.select true_97_r0 v91_r0 arg13_r0
  let c_m1_i32_98_r0 : BitVec 32 := 4294967295#32
  let v93_r0 : BitVec 1 := Scalar.cmpi .eq v92_r0 c_m1_i32_98_r0
  let c32_i32_99_r0 : BitVec 32 := 32#32
  let v94_r0 : BitVec 32 := Scalar.select v93_r0 c32_i32_99_r0 v92_r0
  let c0_i32_100_r0 : BitVec 32 := 0#32
  let v95_r0 : BitVec 32 := Scalar.addi v94_r0 c0_i32_100_r0
  let c32_i32_154_r0 : BitVec 32 := 32#32
  let v167_r0 : BitVec 1 := Scalar.cmpi .sge v95_r0 c32_i32_154_r0
  let c1_i32_155_r0 : BitVec 32 := 1#32
  let c0_i32_156_r0 : BitVec 32 := 0#32
  let v168_r0 : BitVec 32 := Scalar.select v167_r0 c1_i32_155_r0 c0_i32_156_r0
  let v169_r0 : BitVec 1 := Scalar.cmpi .ne v136_r0 v168_r0
  let c0_i32_60_r0 : BitVec 32 := 0#32
  let c1_i32_62_r0 : BitVec 32 := 1#32
  let arg4_r0 : BitVec 32 := Scf.iv c0_i32_60_r0 c1_i32_62_r0 k0_t1
  let c0_i32_93_r0 : BitVec 32 := 0#32
  let v88_r0 : BitVec 1 := Scalar.cmpi .eq arg4_r0 c0_i32_93_r0
  let v170_r0 : BitVec 1 := Scalar.ori v169_r0 v88_r0
  let c0_i32_157_r0 : BitVec 32 := 0#32
  let v171_r0 : BitVec 1 := Scalar.cmpi .sge arg4_r0 c0_i32_157_r0
  let v172_r0 : BitVec 1 := Scalar.andi v170_r0 v171_r0
  let v173_r0 : BitVec 32 := Scalar.extui v172_r0
  let c0_i32_158_r0 : BitVec 32 := 0#32
  let v174_r0 : BitVec 1 := Scalar.cmpi .ne v173_r0 c0_i32_158_r0
  v174_r0

def k0_off26 (arg10_r0 : BitVec 32) : Fin 4 → Nat :=
  let c2_i32_218_r0 : BitVec 32 := 2#32
  let v288_r0 : BitVec 32 := Scalar.remui arg10_r0 c2_i32_218_r0
  let c0_i32_219_r0 : BitVec 32 := 0#32
  let c0_i32_220_r0 : BitVec 32 := 0#32
  let c0_i32_221_r0 : BitVec 32 := 0#32
  ![v288_r0.toNat, 0, 0, 0]
def k0_off27 (arg13_r0 : BitVec 32) : Fin 3 → Nat :=
  let c1_i32_217_r0 : BitVec 32 := 1#32
  let c0_i32_95_r0 : BitVec 32 := 0#32
  let v90_r0 : BitVec 32 := Scalar.addi arg13_r0 c0_i32_95_r0
  let c32_i32_214_r0 : BitVec 32 := 32#32
  let v285_r0 : BitVec 1 := Scalar.cmpi .sge v90_r0 c32_i32_214_r0
  let c1_i32_215_r0 : BitVec 32 := 1#32
  let c0_i32_216_r0 : BitVec 32 := 0#32
  let v286_r0 : BitVec 32 := Scalar.select v285_r0 c1_i32_215_r0 c0_i32_216_r0
  let v287_r0 : BitVec 32 := Scalar.muli c1_i32_217_r0 v286_r0
  let c0_i32_222_r0 : BitVec 32 := 0#32
  let c4096_i32_223_r0 : BitVec 32 := 4096#32
  ![v287_r0.toNat, 0, 4096]
def k0_off28 (arg6_r0 : BitVec 32) : Fin 3 → Nat :=
  let c3_i32_161_r0 : BitVec 32 := 3#32
  let v181_r0 : BitVec 32 := Scalar.remui arg6_r0 c3_i32_161_r0
  let v185_r0 : Index := Scalar.indexCast v181_r0
  let c0_r0 : Index := 0#32
  let c0_165_r0 : Index := 0#32
  ![v185_r0.toNat, 0, 0]

def k0_chk2 (arg6_r0 : BitVec 32) : Prop :=
  (∀ a, (k0_off28 arg6_r0) a + S1x256x4096.size a ≤ S3x256x4096.size a)
theorem k0_off28_inb : ∀ (arg6_r0 : BitVec 32) (k0_hw2 : k0_chk2 arg6_r0), ∀ a, (k0_off28 arg6_r0) a + S1x256x4096.size a ≤ S3x256x4096.size a := fun arg6_r0 k0_hw2 => k0_hw2

def k0_off29 (arg10_r0 : BitVec 32) : Fin 4 → Nat :=
  let c2_i32_163_r0 : BitVec 32 := 2#32
  let v183_r0 : BitVec 32 := Scalar.remui arg10_r0 c2_i32_163_r0
  let c0_i32_170_r0 : BitVec 32 := 0#32
  let c0_i32_171_r0 : BitVec 32 := 0#32
  let c0_i32_172_r0 : BitVec 32 := 0#32
  ![v183_r0.toNat, 0, 0, 0]

def k0_chk3 (arg10_r0 : BitVec 32) : Prop :=
  (∀ a, (k0_off29 arg10_r0) a + S1x1x1x4096.size a ≤ S2x1x1x4096.size a)
theorem k0_off29_inb : ∀ (arg10_r0 : BitVec 32) (k0_hw3 : k0_chk3 arg10_r0), ∀ a, (k0_off29 arg10_r0) a + S1x1x1x4096.size a ≤ S2x1x1x4096.size a := fun arg10_r0 k0_hw3 => k0_hw3

def k0_off30 (arg8_r0 : BitVec 32) : Fin 4 → Nat :=
  let c2_i32_162_r0 : BitVec 32 := 2#32
  let v182_r0 : BitVec 32 := Scalar.remui arg8_r0 c2_i32_162_r0
  let c0_i32_177_r0 : BitVec 32 := 0#32
  let c0_i32_178_r0 : BitVec 32 := 0#32
  let c0_i32_179_r0 : BitVec 32 := 0#32
  ![v182_r0.toNat, 0, 0, 0]

def k0_chk4 (arg8_r0 : BitVec 32) : Prop :=
  (∀ a, (k0_off30 arg8_r0) a + S1x1x1x4096.size a ≤ S2x1x1x4096.size a)
theorem k0_off30_inb : ∀ (arg8_r0 : BitVec 32) (k0_hw4 : k0_chk4 arg8_r0), ∀ a, (k0_off30 arg8_r0) a + S1x1x1x4096.size a ≤ S2x1x1x4096.size a := fun arg8_r0 k0_hw4 => k0_hw4

def k0_off31 (arg11_r0 : BitVec 32) : Fin 3 → Nat :=
  let c2_i32_164_r0 : BitVec 32 := 2#32
  let v184_r0 : BitVec 32 := Scalar.remui arg11_r0 c2_i32_164_r0
  let v217_r0 : Index := Scalar.indexCast v184_r0
  let c0_183_r0 : Index := 0#32
  let c0_184_r0 : Index := 0#32
  ![v217_r0.toNat, 0, 0]

def k0_chk5 (arg11_r0 : BitVec 32) : Prop :=
  (∀ a, (k0_off31 arg11_r0) a + S1x256x4096.size a ≤ S2x256x4096.size a) ∧
  (∀ (hinb : ∀ a, (k0_off31 arg11_r0) a + S1x256x4096.size a ≤ S2x256x4096.size a), (Rect.unit (s := S2x256x4096) (k0_off31 arg11_r0) S1x256x4096.size hinb).PackedRows (EltTy.packing .bf16))
theorem k0_off31_inb : ∀ (arg11_r0 : BitVec 32) (k0_hw5 : k0_chk5 arg11_r0), ∀ a, (k0_off31 arg11_r0) a + S1x256x4096.size a ≤ S2x256x4096.size a := fun arg11_r0 k0_hw5 => k0_hw5.1
theorem k0_off31_packedbf16 : ∀ (arg11_r0 : BitVec 32) (k0_hw5 : k0_chk5 arg11_r0), (Rect.unit (s := S2x256x4096) (k0_off31 arg11_r0) S1x256x4096.size (k0_off31_inb arg11_r0 k0_hw5)).PackedRows (EltTy.packing .bf16) := fun arg11_r0 k0_hw5 => k0_hw5.2 (k0_off31_inb arg11_r0 k0_hw5)

def k0_off32 (arg11_r0 : BitVec 32) : Fin 1 → Nat :=
  let c2_i32_214_r0 : BitVec 32 := 2#32
  let v285_r0 : BitVec 32 := Scalar.remui arg11_r0 c2_i32_214_r0
  ![v285_r0.toNat]
def k0_cond12 (k0_t1 : Fin k0_t1_loop.trips) (arg13_r0 : BitVec 32) : BitVec 1 :=
  let c0_i32_95_r0 : BitVec 32 := 0#32
  let v90_r0 : BitVec 32 := Scalar.addi arg13_r0 c0_i32_95_r0
  let true_102_r0 : BitVec 1 := 1#1
  let c1_i32_101_r0 : BitVec 32 := 1#32
  let v96_r0 : BitVec 32 := Scalar.addi arg13_r0 c1_i32_101_r0
  let v97_r0 : BitVec 32 := Scalar.select true_102_r0 v96_r0 arg13_r0
  let c33_i32_103_r0 : BitVec 32 := 33#32
  let v98_r0 : BitVec 1 := Scalar.cmpi .eq v97_r0 c33_i32_103_r0
  let c0_i32_104_r0 : BitVec 32 := 0#32
  let v99_r0 : BitVec 32 := Scalar.select v98_r0 c0_i32_104_r0 v97_r0
  let c0_i32_105_r0 : BitVec 32 := 0#32
  let v100_r0 : BitVec 32 := Scalar.addi v99_r0 c0_i32_105_r0
  let v236_r0 : BitVec 1 := Scalar.cmpi .ne v90_r0 v100_r0
  let c0_i32_60_r0 : BitVec 32 := 0#32
  let c1_i32_62_r0 : BitVec 32 := 1#32
  let arg4_r0 : BitVec 32 := Scf.iv c0_i32_60_r0 c1_i32_62_r0 k0_t1
  let c32_i32_94_r0 : BitVec 32 := 32#32
  let v89_r0 : BitVec 1 := Scalar.cmpi .eq arg4_r0 c32_i32_94_r0
  let v237_r0 : BitVec 1 := Scalar.ori v236_r0 v89_r0
  let v238_r0 : BitVec 32 := Scalar.extui v237_r0
  let c0_i32_191_r0 : BitVec 32 := 0#32
  let v239_r0 : BitVec 1 := Scalar.cmpi .ne v238_r0 c0_i32_191_r0
  v239_r0

def k0_off33 (arg13_r0 : BitVec 32) : Fin 2 → Nat :=
  let c256_i32_215_r0 : BitVec 32 := 256#32
  let c0_i32_95_r0 : BitVec 32 := 0#32
  let v90_r0 : BitVec 32 := Scalar.addi arg13_r0 c0_i32_95_r0
  let v286_r0 : BitVec 32 := Scalar.muli c256_i32_215_r0 v90_r0
  let c0_i32_216_r0 : BitVec 32 := 0#32
  ![v286_r0.toNat, 0]
def k0_off34 (arg11_r0 : BitVec 32) : Fin 3 → Nat :=
  let c2_i32_214_r0 : BitVec 32 := 2#32
  let v285_r0 : BitVec 32 := Scalar.remui arg11_r0 c2_i32_214_r0
  let c0_i32_217_r0 : BitVec 32 := 0#32
  let c0_i32_218_r0 : BitVec 32 := 0#32
  ![v285_r0.toNat, 0, 0]
def k0_off35 (arg12_r0 : BitVec 32) : Fin 1 → Nat :=
  let c2_i32_214_r0 : BitVec 32 := 2#32
  let v285_r0 : BitVec 32 := Scalar.remui arg12_r0 c2_i32_214_r0
  ![v285_r0.toNat]
def k0_cond16 (k0_t1 : Fin k0_t1_loop.trips) (arg13_r0 : BitVec 32) : BitVec 1 :=
  let c0_i32_95_r0 : BitVec 32 := 0#32
  let v90_r0 : BitVec 32 := Scalar.addi arg13_r0 c0_i32_95_r0
  let true_97_r0 : BitVec 1 := 1#1
  let c1_i32_96_r0 : BitVec 32 := 1#32
  let v91_r0 : BitVec 32 := Scalar.subi arg13_r0 c1_i32_96_r0
  let v92_r0 : BitVec 32 := Scalar.select true_97_r0 v91_r0 arg13_r0
  let c_m1_i32_98_r0 : BitVec 32 := 4294967295#32
  let v93_r0 : BitVec 1 := Scalar.cmpi .eq v92_r0 c_m1_i32_98_r0
  let c32_i32_99_r0 : BitVec 32 := 32#32
  let v94_r0 : BitVec 32 := Scalar.select v93_r0 c32_i32_99_r0 v92_r0
  let c0_i32_100_r0 : BitVec 32 := 0#32
  let v95_r0 : BitVec 32 := Scalar.addi v94_r0 c0_i32_100_r0
  let v261_r0 : BitVec 1 := Scalar.cmpi .ne v90_r0 v95_r0
  let c0_i32_60_r0 : BitVec 32 := 0#32
  let c1_i32_62_r0 : BitVec 32 := 1#32
  let arg4_r0 : BitVec 32 := Scf.iv c0_i32_60_r0 c1_i32_62_r0 k0_t1
  let c0_i32_93_r0 : BitVec 32 := 0#32
  let v88_r0 : BitVec 1 := Scalar.cmpi .eq arg4_r0 c0_i32_93_r0
  let true_203_r0 : BitVec 1 := 1#1
  let v262_r0 : BitVec 1 := Scalar.xori v88_r0 true_203_r0
  let v263_r0 : BitVec 1 := Scalar.andi v261_r0 v262_r0
  let v264_r0 : BitVec 32 := Scalar.extui v263_r0
  let c0_i32_204_r0 : BitVec 32 := 0#32
  let v265_r0 : BitVec 1 := Scalar.cmpi .ne v264_r0 c0_i32_204_r0
  v265_r0

def k0_off36 (arg13_r0 : BitVec 32) : Fin 2 → Nat :=
  let c256_i32_215_r0 : BitVec 32 := 256#32
  let true_97_r0 : BitVec 1 := 1#1
  let c1_i32_96_r0 : BitVec 32 := 1#32
  let v91_r0 : BitVec 32 := Scalar.subi arg13_r0 c1_i32_96_r0
  let v92_r0 : BitVec 32 := Scalar.select true_97_r0 v91_r0 arg13_r0
  let c_m1_i32_98_r0 : BitVec 32 := 4294967295#32
  let v93_r0 : BitVec 1 := Scalar.cmpi .eq v92_r0 c_m1_i32_98_r0
  let c32_i32_99_r0 : BitVec 32 := 32#32
  let v94_r0 : BitVec 32 := Scalar.select v93_r0 c32_i32_99_r0 v92_r0
  let c0_i32_100_r0 : BitVec 32 := 0#32
  let v95_r0 : BitVec 32 := Scalar.addi v94_r0 c0_i32_100_r0
  let v286_r0 : BitVec 32 := Scalar.muli c256_i32_215_r0 v95_r0
  let c0_i32_216_r0 : BitVec 32 := 0#32
  ![v286_r0.toNat, 0]
def k0_off37 (arg12_r0 : BitVec 32) : Fin 3 → Nat :=
  let c2_i32_214_r0 : BitVec 32 := 2#32
  let v285_r0 : BitVec 32 := Scalar.remui arg12_r0 c2_i32_214_r0
  let c0_i32_217_r0 : BitVec 32 := 0#32
  let c0_i32_218_r0 : BitVec 32 := 0#32
  ![v285_r0.toNat, 0, 0]

def k0_chk1 (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) : Prop :=
  (∀ (k0_h2 : k0_cond2 k0_t1 arg13_r0 = 1#1), ∀ a, (k0_off10 arg5_r0) a + S1.size a ≤ S3.size a) ∧
  (∀ (k0_h2 : k0_cond2 k0_t1 arg13_r0 = 1#1), ∀ a, (k0_off11 arg5_r0) a + S1x256x4096.size a ≤ S3x256x4096.size a) ∧
  (∀ (k0_h2 : k0_cond2 k0_t1 arg13_r0 = 1#1), ∀ a, (k0_off12 arg13_r0) a + S256x4096.size a ≤ S8448x4096.size a) ∧
  (∀ (k0_h3 : k0_cond3 k0_t1 arg13_r0 = 1#1), ∀ a, (k0_off13 arg7_r0) a + S1.size a ≤ S2.size a) ∧
  (∀ (k0_h3 : k0_cond3 k0_t1 arg13_r0 = 1#1), ∀ a, (k0_off14 arg7_r0) a + S1x1x1x4096.size a ≤ S2x1x1x4096.size a) ∧
  (∀ (k0_h3 : k0_cond3 k0_t1 arg13_r0 = 1#1), ∀ a, (k0_off15 arg13_r0) a + S1x1x4096.size a ≤ S8x1x12288.size a) ∧
  (∀ (k0_h4 : k0_cond4 k0_t1 arg13_r0 = 1#1), ∀ a, (k0_off16 arg9_r0) a + S1.size a ≤ S2.size a) ∧
  (∀ (k0_h4 : k0_cond4 k0_t1 arg13_r0 = 1#1), ∀ a, (k0_off17 arg9_r0) a + S1x1x1x4096.size a ≤ S2x1x1x4096.size a) ∧
  (∀ (k0_h4 : k0_cond4 k0_t1 arg13_r0 = 1#1), ∀ a, (k0_off18 arg13_r0) a + S1x1x4096.size a ≤ S8x1x12288.size a) ∧
  (∀ (k0_h5 : k0_cond5 k0_t1 arg13_r0 = 1#1), ∀ a, (k0_off19 arg6_r0) a + S1.size a ≤ S3.size a) ∧
  (∀ (k0_h5 : k0_cond5 k0_t1 arg13_r0 = 1#1), ∀ a, (k0_off20 arg6_r0) a + S1x256x4096.size a ≤ S3x256x4096.size a) ∧
  (∀ (k0_h5 : k0_cond5 k0_t1 arg13_r0 = 1#1), ∀ a, (k0_off21 arg13_r0) a + S256x4096.size a ≤ S8448x4096.size a) ∧
  (∀ (k0_h6 : k0_cond6 k0_t1 arg13_r0 = 1#1), ∀ a, (k0_off22 arg8_r0) a + S1.size a ≤ S2.size a) ∧
  (∀ (k0_h6 : k0_cond6 k0_t1 arg13_r0 = 1#1), ∀ a, (k0_off23 arg8_r0) a + S1x1x1x4096.size a ≤ S2x1x1x4096.size a) ∧
  (∀ (k0_h6 : k0_cond6 k0_t1 arg13_r0 = 1#1), ∀ a, (k0_off24 arg13_r0) a + S1x1x4096.size a ≤ S8x1x12288.size a) ∧
  (∀ (k0_h7 : k0_cond7 k0_t1 arg13_r0 = 1#1), ∀ a, (k0_off25 arg10_r0) a + S1.size a ≤ S2.size a) ∧
  (∀ (k0_h7 : k0_cond7 k0_t1 arg13_r0 = 1#1), ∀ a, (k0_off26 arg10_r0) a + S1x1x1x4096.size a ≤ S2x1x1x4096.size a) ∧
  (∀ (k0_h7 : k0_cond7 k0_t1 arg13_r0 = 1#1), ∀ a, (k0_off27 arg13_r0) a + S1x1x4096.size a ≤ S8x1x12288.size a) ∧
  (∀ (k0_h12 : k0_cond12 k0_t1 arg13_r0 = 1#1), ∀ a, (k0_off32 arg11_r0) a + S1.size a ≤ S2.size a) ∧
  (∀ (k0_h12 : k0_cond12 k0_t1 arg13_r0 = 1#1), ∀ a, (k0_off33 arg13_r0) a + S256x4096.size a ≤ S8448x4096.size a) ∧
  (∀ (k0_h12 : k0_cond12 k0_t1 arg13_r0 = 1#1), ∀ a, (k0_off34 arg11_r0) a + S1x256x4096.size a ≤ S2x256x4096.size a) ∧
  (∀ (k0_h12 : k0_cond12 k0_t1 arg13_r0 = 1#1), ∀ (hinb : ∀ a, (k0_off34 arg11_r0) a + S1x256x4096.size a ≤ S2x256x4096.size a), (Rect.unit (s := S2x256x4096) (k0_off34 arg11_r0) S1x256x4096.size hinb).WholeWords (EltTy.packing .bf16)) ∧
  (∀ (k0_h12 : k0_cond12 k0_t1 arg13_r0 = 1#1), ∀ (hinb : ∀ a, (k0_off33 arg13_r0) a + S256x4096.size a ≤ S8448x4096.size a), (Rect.unit (s := S8448x4096) (k0_off33 arg13_r0) S256x4096.size hinb).WholeWords (EltTy.packing .bf16)) ∧
  (∀ (k0_h16 : k0_cond16 k0_t1 arg13_r0 = 1#1), ∀ a, (k0_off35 arg12_r0) a + S1.size a ≤ S2.size a) ∧
  (∀ (k0_h16 : k0_cond16 k0_t1 arg13_r0 = 1#1), ∀ a, (k0_off36 arg13_r0) a + S256x4096.size a ≤ S8448x4096.size a) ∧
  (∀ (k0_h16 : k0_cond16 k0_t1 arg13_r0 = 1#1), ∀ a, (k0_off37 arg12_r0) a + S1x256x4096.size a ≤ S2x256x4096.size a) ∧
  (∀ (k0_h16 : k0_cond16 k0_t1 arg13_r0 = 1#1), ∀ (hinb : ∀ a, (k0_off37 arg12_r0) a + S1x256x4096.size a ≤ S2x256x4096.size a), (Rect.unit (s := S2x256x4096) (k0_off37 arg12_r0) S1x256x4096.size hinb).WholeWords (EltTy.packing .bf16)) ∧
  (∀ (k0_h16 : k0_cond16 k0_t1 arg13_r0 = 1#1), ∀ (hinb : ∀ a, (k0_off36 arg13_r0) a + S256x4096.size a ≤ S8448x4096.size a), (Rect.unit (s := S8448x4096) (k0_off36 arg13_r0) S256x4096.size hinb).WholeWords (EltTy.packing .bf16))
theorem k0_off10_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg5_r0 arg6_r0 arg7_r0 arg8_r0 arg9_r0 arg10_r0 arg11_r0 arg12_r0 arg13_r0), ∀ (k0_h2 : k0_cond2 k0_t1 arg13_r0 = 1#1), ∀ a, (k0_off10 arg5_r0) a + S1.size a ≤ S3.size a := fun k0_t1 arg5_r0 arg6_r0 arg7_r0 arg8_r0 arg9_r0 arg10_r0 arg11_r0 arg12_r0 arg13_r0 k0_hw1 k0_h2 => k0_hw1.1 k0_h2
theorem k0_off11_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg5_r0 arg6_r0 arg7_r0 arg8_r0 arg9_r0 arg10_r0 arg11_r0 arg12_r0 arg13_r0), ∀ (k0_h2 : k0_cond2 k0_t1 arg13_r0 = 1#1), ∀ a, (k0_off11 arg5_r0) a + S1x256x4096.size a ≤ S3x256x4096.size a := fun k0_t1 arg5_r0 arg6_r0 arg7_r0 arg8_r0 arg9_r0 arg10_r0 arg11_r0 arg12_r0 arg13_r0 k0_hw1 k0_h2 => k0_hw1.2.1 k0_h2
theorem k0_off12_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg5_r0 arg6_r0 arg7_r0 arg8_r0 arg9_r0 arg10_r0 arg11_r0 arg12_r0 arg13_r0), ∀ (k0_h2 : k0_cond2 k0_t1 arg13_r0 = 1#1), ∀ a, (k0_off12 arg13_r0) a + S256x4096.size a ≤ S8448x4096.size a := fun k0_t1 arg5_r0 arg6_r0 arg7_r0 arg8_r0 arg9_r0 arg10_r0 arg11_r0 arg12_r0 arg13_r0 k0_hw1 k0_h2 => k0_hw1.2.2.1 k0_h2
theorem k0_off13_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg5_r0 arg6_r0 arg7_r0 arg8_r0 arg9_r0 arg10_r0 arg11_r0 arg12_r0 arg13_r0), ∀ (k0_h3 : k0_cond3 k0_t1 arg13_r0 = 1#1), ∀ a, (k0_off13 arg7_r0) a + S1.size a ≤ S2.size a := fun k0_t1 arg5_r0 arg6_r0 arg7_r0 arg8_r0 arg9_r0 arg10_r0 arg11_r0 arg12_r0 arg13_r0 k0_hw1 k0_h3 => k0_hw1.2.2.2.1 k0_h3
theorem k0_off14_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg5_r0 arg6_r0 arg7_r0 arg8_r0 arg9_r0 arg10_r0 arg11_r0 arg12_r0 arg13_r0), ∀ (k0_h3 : k0_cond3 k0_t1 arg13_r0 = 1#1), ∀ a, (k0_off14 arg7_r0) a + S1x1x1x4096.size a ≤ S2x1x1x4096.size a := fun k0_t1 arg5_r0 arg6_r0 arg7_r0 arg8_r0 arg9_r0 arg10_r0 arg11_r0 arg12_r0 arg13_r0 k0_hw1 k0_h3 => k0_hw1.2.2.2.2.1 k0_h3
theorem k0_off15_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg5_r0 arg6_r0 arg7_r0 arg8_r0 arg9_r0 arg10_r0 arg11_r0 arg12_r0 arg13_r0), ∀ (k0_h3 : k0_cond3 k0_t1 arg13_r0 = 1#1), ∀ a, (k0_off15 arg13_r0) a + S1x1x4096.size a ≤ S8x1x12288.size a := fun k0_t1 arg5_r0 arg6_r0 arg7_r0 arg8_r0 arg9_r0 arg10_r0 arg11_r0 arg12_r0 arg13_r0 k0_hw1 k0_h3 => k0_hw1.2.2.2.2.2.1 k0_h3
theorem k0_off16_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg5_r0 arg6_r0 arg7_r0 arg8_r0 arg9_r0 arg10_r0 arg11_r0 arg12_r0 arg13_r0), ∀ (k0_h4 : k0_cond4 k0_t1 arg13_r0 = 1#1), ∀ a, (k0_off16 arg9_r0) a + S1.size a ≤ S2.size a := fun k0_t1 arg5_r0 arg6_r0 arg7_r0 arg8_r0 arg9_r0 arg10_r0 arg11_r0 arg12_r0 arg13_r0 k0_hw1 k0_h4 => k0_hw1.2.2.2.2.2.2.1 k0_h4
theorem k0_off17_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg5_r0 arg6_r0 arg7_r0 arg8_r0 arg9_r0 arg10_r0 arg11_r0 arg12_r0 arg13_r0), ∀ (k0_h4 : k0_cond4 k0_t1 arg13_r0 = 1#1), ∀ a, (k0_off17 arg9_r0) a + S1x1x1x4096.size a ≤ S2x1x1x4096.size a := fun k0_t1 arg5_r0 arg6_r0 arg7_r0 arg8_r0 arg9_r0 arg10_r0 arg11_r0 arg12_r0 arg13_r0 k0_hw1 k0_h4 => k0_hw1.2.2.2.2.2.2.2.1 k0_h4
theorem k0_off18_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg5_r0 arg6_r0 arg7_r0 arg8_r0 arg9_r0 arg10_r0 arg11_r0 arg12_r0 arg13_r0), ∀ (k0_h4 : k0_cond4 k0_t1 arg13_r0 = 1#1), ∀ a, (k0_off18 arg13_r0) a + S1x1x4096.size a ≤ S8x1x12288.size a := fun k0_t1 arg5_r0 arg6_r0 arg7_r0 arg8_r0 arg9_r0 arg10_r0 arg11_r0 arg12_r0 arg13_r0 k0_hw1 k0_h4 => k0_hw1.2.2.2.2.2.2.2.2.1 k0_h4
theorem k0_off19_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg5_r0 arg6_r0 arg7_r0 arg8_r0 arg9_r0 arg10_r0 arg11_r0 arg12_r0 arg13_r0), ∀ (k0_h5 : k0_cond5 k0_t1 arg13_r0 = 1#1), ∀ a, (k0_off19 arg6_r0) a + S1.size a ≤ S3.size a := fun k0_t1 arg5_r0 arg6_r0 arg7_r0 arg8_r0 arg9_r0 arg10_r0 arg11_r0 arg12_r0 arg13_r0 k0_hw1 k0_h5 => k0_hw1.2.2.2.2.2.2.2.2.2.1 k0_h5
theorem k0_off20_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg5_r0 arg6_r0 arg7_r0 arg8_r0 arg9_r0 arg10_r0 arg11_r0 arg12_r0 arg13_r0), ∀ (k0_h5 : k0_cond5 k0_t1 arg13_r0 = 1#1), ∀ a, (k0_off20 arg6_r0) a + S1x256x4096.size a ≤ S3x256x4096.size a := fun k0_t1 arg5_r0 arg6_r0 arg7_r0 arg8_r0 arg9_r0 arg10_r0 arg11_r0 arg12_r0 arg13_r0 k0_hw1 k0_h5 => k0_hw1.2.2.2.2.2.2.2.2.2.2.1 k0_h5
theorem k0_off21_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg5_r0 arg6_r0 arg7_r0 arg8_r0 arg9_r0 arg10_r0 arg11_r0 arg12_r0 arg13_r0), ∀ (k0_h5 : k0_cond5 k0_t1 arg13_r0 = 1#1), ∀ a, (k0_off21 arg13_r0) a + S256x4096.size a ≤ S8448x4096.size a := fun k0_t1 arg5_r0 arg6_r0 arg7_r0 arg8_r0 arg9_r0 arg10_r0 arg11_r0 arg12_r0 arg13_r0 k0_hw1 k0_h5 => k0_hw1.2.2.2.2.2.2.2.2.2.2.2.1 k0_h5
theorem k0_off22_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg5_r0 arg6_r0 arg7_r0 arg8_r0 arg9_r0 arg10_r0 arg11_r0 arg12_r0 arg13_r0), ∀ (k0_h6 : k0_cond6 k0_t1 arg13_r0 = 1#1), ∀ a, (k0_off22 arg8_r0) a + S1.size a ≤ S2.size a := fun k0_t1 arg5_r0 arg6_r0 arg7_r0 arg8_r0 arg9_r0 arg10_r0 arg11_r0 arg12_r0 arg13_r0 k0_hw1 k0_h6 => k0_hw1.2.2.2.2.2.2.2.2.2.2.2.2.1 k0_h6
theorem k0_off23_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg5_r0 arg6_r0 arg7_r0 arg8_r0 arg9_r0 arg10_r0 arg11_r0 arg12_r0 arg13_r0), ∀ (k0_h6 : k0_cond6 k0_t1 arg13_r0 = 1#1), ∀ a, (k0_off23 arg8_r0) a + S1x1x1x4096.size a ≤ S2x1x1x4096.size a := fun k0_t1 arg5_r0 arg6_r0 arg7_r0 arg8_r0 arg9_r0 arg10_r0 arg11_r0 arg12_r0 arg13_r0 k0_hw1 k0_h6 => k0_hw1.2.2.2.2.2.2.2.2.2.2.2.2.2.1 k0_h6
theorem k0_off24_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg5_r0 arg6_r0 arg7_r0 arg8_r0 arg9_r0 arg10_r0 arg11_r0 arg12_r0 arg13_r0), ∀ (k0_h6 : k0_cond6 k0_t1 arg13_r0 = 1#1), ∀ a, (k0_off24 arg13_r0) a + S1x1x4096.size a ≤ S8x1x12288.size a := fun k0_t1 arg5_r0 arg6_r0 arg7_r0 arg8_r0 arg9_r0 arg10_r0 arg11_r0 arg12_r0 arg13_r0 k0_hw1 k0_h6 => k0_hw1.2.2.2.2.2.2.2.2.2.2.2.2.2.2.1 k0_h6
theorem k0_off25_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg5_r0 arg6_r0 arg7_r0 arg8_r0 arg9_r0 arg10_r0 arg11_r0 arg12_r0 arg13_r0), ∀ (k0_h7 : k0_cond7 k0_t1 arg13_r0 = 1#1), ∀ a, (k0_off25 arg10_r0) a + S1.size a ≤ S2.size a := fun k0_t1 arg5_r0 arg6_r0 arg7_r0 arg8_r0 arg9_r0 arg10_r0 arg11_r0 arg12_r0 arg13_r0 k0_hw1 k0_h7 => k0_hw1.2.2.2.2.2.2.2.2.2.2.2.2.2.2.2.1 k0_h7
theorem k0_off26_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg5_r0 arg6_r0 arg7_r0 arg8_r0 arg9_r0 arg10_r0 arg11_r0 arg12_r0 arg13_r0), ∀ (k0_h7 : k0_cond7 k0_t1 arg13_r0 = 1#1), ∀ a, (k0_off26 arg10_r0) a + S1x1x1x4096.size a ≤ S2x1x1x4096.size a := fun k0_t1 arg5_r0 arg6_r0 arg7_r0 arg8_r0 arg9_r0 arg10_r0 arg11_r0 arg12_r0 arg13_r0 k0_hw1 k0_h7 => k0_hw1.2.2.2.2.2.2.2.2.2.2.2.2.2.2.2.2.1 k0_h7
theorem k0_off27_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg5_r0 arg6_r0 arg7_r0 arg8_r0 arg9_r0 arg10_r0 arg11_r0 arg12_r0 arg13_r0), ∀ (k0_h7 : k0_cond7 k0_t1 arg13_r0 = 1#1), ∀ a, (k0_off27 arg13_r0) a + S1x1x4096.size a ≤ S8x1x12288.size a := fun k0_t1 arg5_r0 arg6_r0 arg7_r0 arg8_r0 arg9_r0 arg10_r0 arg11_r0 arg12_r0 arg13_r0 k0_hw1 k0_h7 => k0_hw1.2.2.2.2.2.2.2.2.2.2.2.2.2.2.2.2.2.1 k0_h7
theorem k0_off32_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg5_r0 arg6_r0 arg7_r0 arg8_r0 arg9_r0 arg10_r0 arg11_r0 arg12_r0 arg13_r0), ∀ (k0_h12 : k0_cond12 k0_t1 arg13_r0 = 1#1), ∀ a, (k0_off32 arg11_r0) a + S1.size a ≤ S2.size a := fun k0_t1 arg5_r0 arg6_r0 arg7_r0 arg8_r0 arg9_r0 arg10_r0 arg11_r0 arg12_r0 arg13_r0 k0_hw1 k0_h12 => k0_hw1.2.2.2.2.2.2.2.2.2.2.2.2.2.2.2.2.2.2.1 k0_h12
theorem k0_off33_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg5_r0 arg6_r0 arg7_r0 arg8_r0 arg9_r0 arg10_r0 arg11_r0 arg12_r0 arg13_r0), ∀ (k0_h12 : k0_cond12 k0_t1 arg13_r0 = 1#1), ∀ a, (k0_off33 arg13_r0) a + S256x4096.size a ≤ S8448x4096.size a := fun k0_t1 arg5_r0 arg6_r0 arg7_r0 arg8_r0 arg9_r0 arg10_r0 arg11_r0 arg12_r0 arg13_r0 k0_hw1 k0_h12 => k0_hw1.2.2.2.2.2.2.2.2.2.2.2.2.2.2.2.2.2.2.2.1 k0_h12
theorem k0_off34_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg5_r0 arg6_r0 arg7_r0 arg8_r0 arg9_r0 arg10_r0 arg11_r0 arg12_r0 arg13_r0), ∀ (k0_h12 : k0_cond12 k0_t1 arg13_r0 = 1#1), ∀ a, (k0_off34 arg11_r0) a + S1x256x4096.size a ≤ S2x256x4096.size a := fun k0_t1 arg5_r0 arg6_r0 arg7_r0 arg8_r0 arg9_r0 arg10_r0 arg11_r0 arg12_r0 arg13_r0 k0_hw1 k0_h12 => k0_hw1.2.2.2.2.2.2.2.2.2.2.2.2.2.2.2.2.2.2.2.2.1 k0_h12
theorem k0_off34_wordsbf16 : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg5_r0 arg6_r0 arg7_r0 arg8_r0 arg9_r0 arg10_r0 arg11_r0 arg12_r0 arg13_r0), ∀ (k0_h12 : k0_cond12 k0_t1 arg13_r0 = 1#1), (Rect.unit (s := S2x256x4096) (k0_off34 arg11_r0) S1x256x4096.size (k0_off34_inb k0_t1 arg5_r0 arg6_r0 arg7_r0 arg8_r0 arg9_r0 arg10_r0 arg11_r0 arg12_r0 arg13_r0 k0_hw1 k0_h12)).WholeWords (EltTy.packing .bf16) := fun k0_t1 arg5_r0 arg6_r0 arg7_r0 arg8_r0 arg9_r0 arg10_r0 arg11_r0 arg12_r0 arg13_r0 k0_hw1 k0_h12 => k0_hw1.2.2.2.2.2.2.2.2.2.2.2.2.2.2.2.2.2.2.2.2.2.1 k0_h12 (k0_off34_inb k0_t1 arg5_r0 arg6_r0 arg7_r0 arg8_r0 arg9_r0 arg10_r0 arg11_r0 arg12_r0 arg13_r0 k0_hw1 k0_h12)
theorem k0_off33_wordsbf16 : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg5_r0 arg6_r0 arg7_r0 arg8_r0 arg9_r0 arg10_r0 arg11_r0 arg12_r0 arg13_r0), ∀ (k0_h12 : k0_cond12 k0_t1 arg13_r0 = 1#1), (Rect.unit (s := S8448x4096) (k0_off33 arg13_r0) S256x4096.size (k0_off33_inb k0_t1 arg5_r0 arg6_r0 arg7_r0 arg8_r0 arg9_r0 arg10_r0 arg11_r0 arg12_r0 arg13_r0 k0_hw1 k0_h12)).WholeWords (EltTy.packing .bf16) := fun k0_t1 arg5_r0 arg6_r0 arg7_r0 arg8_r0 arg9_r0 arg10_r0 arg11_r0 arg12_r0 arg13_r0 k0_hw1 k0_h12 => k0_hw1.2.2.2.2.2.2.2.2.2.2.2.2.2.2.2.2.2.2.2.2.2.2.1 k0_h12 (k0_off33_inb k0_t1 arg5_r0 arg6_r0 arg7_r0 arg8_r0 arg9_r0 arg10_r0 arg11_r0 arg12_r0 arg13_r0 k0_hw1 k0_h12)
theorem k0_off35_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg5_r0 arg6_r0 arg7_r0 arg8_r0 arg9_r0 arg10_r0 arg11_r0 arg12_r0 arg13_r0), ∀ (k0_h16 : k0_cond16 k0_t1 arg13_r0 = 1#1), ∀ a, (k0_off35 arg12_r0) a + S1.size a ≤ S2.size a := fun k0_t1 arg5_r0 arg6_r0 arg7_r0 arg8_r0 arg9_r0 arg10_r0 arg11_r0 arg12_r0 arg13_r0 k0_hw1 k0_h16 => k0_hw1.2.2.2.2.2.2.2.2.2.2.2.2.2.2.2.2.2.2.2.2.2.2.2.1 k0_h16
theorem k0_off36_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg5_r0 arg6_r0 arg7_r0 arg8_r0 arg9_r0 arg10_r0 arg11_r0 arg12_r0 arg13_r0), ∀ (k0_h16 : k0_cond16 k0_t1 arg13_r0 = 1#1), ∀ a, (k0_off36 arg13_r0) a + S256x4096.size a ≤ S8448x4096.size a := fun k0_t1 arg5_r0 arg6_r0 arg7_r0 arg8_r0 arg9_r0 arg10_r0 arg11_r0 arg12_r0 arg13_r0 k0_hw1 k0_h16 => k0_hw1.2.2.2.2.2.2.2.2.2.2.2.2.2.2.2.2.2.2.2.2.2.2.2.2.1 k0_h16
theorem k0_off37_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg5_r0 arg6_r0 arg7_r0 arg8_r0 arg9_r0 arg10_r0 arg11_r0 arg12_r0 arg13_r0), ∀ (k0_h16 : k0_cond16 k0_t1 arg13_r0 = 1#1), ∀ a, (k0_off37 arg12_r0) a + S1x256x4096.size a ≤ S2x256x4096.size a := fun k0_t1 arg5_r0 arg6_r0 arg7_r0 arg8_r0 arg9_r0 arg10_r0 arg11_r0 arg12_r0 arg13_r0 k0_hw1 k0_h16 => k0_hw1.2.2.2.2.2.2.2.2.2.2.2.2.2.2.2.2.2.2.2.2.2.2.2.2.2.1 k0_h16
theorem k0_off37_wordsbf16 : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg5_r0 arg6_r0 arg7_r0 arg8_r0 arg9_r0 arg10_r0 arg11_r0 arg12_r0 arg13_r0), ∀ (k0_h16 : k0_cond16 k0_t1 arg13_r0 = 1#1), (Rect.unit (s := S2x256x4096) (k0_off37 arg12_r0) S1x256x4096.size (k0_off37_inb k0_t1 arg5_r0 arg6_r0 arg7_r0 arg8_r0 arg9_r0 arg10_r0 arg11_r0 arg12_r0 arg13_r0 k0_hw1 k0_h16)).WholeWords (EltTy.packing .bf16) := fun k0_t1 arg5_r0 arg6_r0 arg7_r0 arg8_r0 arg9_r0 arg10_r0 arg11_r0 arg12_r0 arg13_r0 k0_hw1 k0_h16 => k0_hw1.2.2.2.2.2.2.2.2.2.2.2.2.2.2.2.2.2.2.2.2.2.2.2.2.2.2.1 k0_h16 (k0_off37_inb k0_t1 arg5_r0 arg6_r0 arg7_r0 arg8_r0 arg9_r0 arg10_r0 arg11_r0 arg12_r0 arg13_r0 k0_hw1 k0_h16)
theorem k0_off36_wordsbf16 : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg5_r0 arg6_r0 arg7_r0 arg8_r0 arg9_r0 arg10_r0 arg11_r0 arg12_r0 arg13_r0), ∀ (k0_h16 : k0_cond16 k0_t1 arg13_r0 = 1#1), (Rect.unit (s := S8448x4096) (k0_off36 arg13_r0) S256x4096.size (k0_off36_inb k0_t1 arg5_r0 arg6_r0 arg7_r0 arg8_r0 arg9_r0 arg10_r0 arg11_r0 arg12_r0 arg13_r0 k0_hw1 k0_h16)).WholeWords (EltTy.packing .bf16) := fun k0_t1 arg5_r0 arg6_r0 arg7_r0 arg8_r0 arg9_r0 arg10_r0 arg11_r0 arg12_r0 arg13_r0 k0_hw1 k0_h16 => k0_hw1.2.2.2.2.2.2.2.2.2.2.2.2.2.2.2.2.2.2.2.2.2.2.2.2.2.2.2 k0_h16 (k0_off36_inb k0_t1 arg5_r0 arg6_r0 arg7_r0 arg8_r0 arg9_r0 arg10_r0 arg11_r0 arg12_r0 arg13_r0 k0_hw1 k0_h16)

def k0_off38 (v55_7_r0 : BitVec 32) : Fin 1 → Nat :=
  let c2_i32_89_r0 : BitVec 32 := 2#32
  let v81_r0 : BitVec 32 := Scalar.remui v55_7_r0 c2_i32_89_r0
  ![v81_r0.toNat]

def k0_off39 (v55_8_r0 : BitVec 32) : Fin 2 → Nat :=
  let c256_i32_r0 : BitVec 32 := 256#32
  let true_65_r0 : BitVec 1 := 1#1
  let c1_i32_64_r0 : BitVec 32 := 1#32
  let v56_r0 : BitVec 32 := Scalar.subi v55_8_r0 c1_i32_64_r0
  let v57_r0 : BitVec 32 := Scalar.select true_65_r0 v56_r0 v55_8_r0
  let c_m1_i32_66_r0 : BitVec 32 := 4294967295#32
  let v58_r0 : BitVec 1 := Scalar.cmpi .eq v57_r0 c_m1_i32_66_r0
  let c32_i32_67_r0 : BitVec 32 := 32#32
  let v59_r0 : BitVec 32 := Scalar.select v58_r0 c32_i32_67_r0 v57_r0
  let c0_i32_68_r0 : BitVec 32 := 0#32
  let v60_r0 : BitVec 32 := Scalar.addi v59_r0 c0_i32_68_r0
  let v82_r0 : BitVec 32 := Scalar.muli c256_i32_r0 v60_r0
  let c0_i32_90_r0 : BitVec 32 := 0#32
  ![v82_r0.toNat, 0]

def k0_off40 (v55_7_r0 : BitVec 32) : Fin 3 → Nat :=
  let c2_i32_89_r0 : BitVec 32 := 2#32
  let v81_r0 : BitVec 32 := Scalar.remui v55_7_r0 c2_i32_89_r0
  let c0_i32_91_r0 : BitVec 32 := 0#32
  let c0_i32_92_r0 : BitVec 32 := 0#32
  ![v81_r0.toNat, 0, 0]

def k0_chk6 (v55_7_r0 : BitVec 32) : Prop :=
  (∀ a, (k0_off38 v55_7_r0) a + S1.size a ≤ S2.size a) ∧
  (∀ a, (k0_off40 v55_7_r0) a + S1x256x4096.size a ≤ S2x256x4096.size a) ∧
  (∀ (hinb : ∀ a, (k0_off40 v55_7_r0) a + S1x256x4096.size a ≤ S2x256x4096.size a), (Rect.unit (s := S2x256x4096) (k0_off40 v55_7_r0) S1x256x4096.size hinb).WholeWords (EltTy.packing .bf16))
theorem k0_off38_inb : ∀ (v55_7_r0 : BitVec 32) (k0_hw6 : k0_chk6 v55_7_r0), ∀ a, (k0_off38 v55_7_r0) a + S1.size a ≤ S2.size a := fun v55_7_r0 k0_hw6 => k0_hw6.1
theorem k0_off40_inb : ∀ (v55_7_r0 : BitVec 32) (k0_hw6 : k0_chk6 v55_7_r0), ∀ a, (k0_off40 v55_7_r0) a + S1x256x4096.size a ≤ S2x256x4096.size a := fun v55_7_r0 k0_hw6 => k0_hw6.2.1
theorem k0_off40_wordsbf16 : ∀ (v55_7_r0 : BitVec 32) (k0_hw6 : k0_chk6 v55_7_r0), (Rect.unit (s := S2x256x4096) (k0_off40 v55_7_r0) S1x256x4096.size (k0_off40_inb v55_7_r0 k0_hw6)).WholeWords (EltTy.packing .bf16) := fun v55_7_r0 k0_hw6 => k0_hw6.2.2 (k0_off40_inb v55_7_r0 k0_hw6)

def k0_chk7 (v55_8_r0 : BitVec 32) : Prop :=
  (∀ a, (k0_off39 v55_8_r0) a + S256x4096.size a ≤ S8448x4096.size a) ∧
  (∀ (hinb : ∀ a, (k0_off39 v55_8_r0) a + S256x4096.size a ≤ S8448x4096.size a), (Rect.unit (s := S8448x4096) (k0_off39 v55_8_r0) S256x4096.size hinb).WholeWords (EltTy.packing .bf16))
theorem k0_off39_inb : ∀ (v55_8_r0 : BitVec 32) (k0_hw7 : k0_chk7 v55_8_r0), ∀ a, (k0_off39 v55_8_r0) a + S256x4096.size a ≤ S8448x4096.size a := fun v55_8_r0 k0_hw7 => k0_hw7.1
theorem k0_off39_wordsbf16 : ∀ (v55_8_r0 : BitVec 32) (k0_hw7 : k0_chk7 v55_8_r0), (Rect.unit (s := S8448x4096) (k0_off39 v55_8_r0) S256x4096.size (k0_off39_inb v55_8_r0 k0_hw7)).WholeWords (EltTy.packing .bf16) := fun v55_8_r0 k0_hw7 => k0_hw7.2 (k0_off39_inb v55_8_r0 k0_hw7)

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8448x4096 : Shape := ⟨2, ![8448, 4096]⟩
abbrev S4096 : Shape := ⟨1, ![4096]⟩
abbrev S8x12288 : Shape := ⟨2, ![8, 12288]⟩
abbrev S8192x4096 : Shape := ⟨2, ![8192, 4096]⟩
abbrev S256x4096 : Shape := ⟨2, ![256, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S256 : Shape := ⟨1, ![256]⟩
abbrev S256x1 : Shape := ⟨2, ![256, 1]⟩

abbrev nBuf : Space → Nat
  | .hbm => 65
  | .vmem => 0
  | .smem => 0
  | _ => 0

abbrev bufTy : (tb : Table) → Fin (tcTables nBuf tb) → BufTy
  | .hbm, ⟨0, _⟩ => ⟨S8448x4096, .f32⟩
  | .hbm, ⟨1, _⟩ => ⟨S4096, .f32⟩
  | .hbm, ⟨2, _⟩ => ⟨S8x12288, .f32⟩
  | .hbm, ⟨3, _⟩ => ⟨S8192x4096, .f32⟩
  | .hbm, ⟨4, _⟩ => ⟨S256x4096, .f32⟩
  | .hbm, ⟨5, _⟩ => ⟨S8192x4096, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x4096, .f32⟩
  | .hbm, ⟨17, _⟩ => ⟨S8192x4096, .f32⟩
  | .hbm, ⟨18, _⟩ => ⟨S1x4096, .f32⟩
  | .hbm, ⟨19, _⟩ => ⟨S8192x4096, .f32⟩
  | .hbm, ⟨20, _⟩ => ⟨S8192x4096, .f32⟩
  | .hbm, ⟨21, _⟩ => ⟨S1x4096, .f32⟩
  | .hbm, ⟨22, _⟩ => ⟨S4096, .f32⟩
  | .hbm, ⟨23, _⟩ => ⟨S1x4096, .f32⟩
  | .hbm, ⟨24, _⟩ => ⟨S4096, .f32⟩
  | .hbm, ⟨25, _⟩ => ⟨S1x4096, .f32⟩
  | .hbm, ⟨26, _⟩ => ⟨S_, .f32⟩
  | .hbm, ⟨27, _⟩ => ⟨S1x4096, .f32⟩
  | .hbm, ⟨28, _⟩ => ⟨S1x4096, .f32⟩
  | .hbm, ⟨29, _⟩ => ⟨S8192x4096, .f32⟩
  | .hbm, ⟨30, _⟩ => ⟨S8192x4096, .f32⟩
  | .hbm, ⟨31, _⟩ => ⟨S1x4096, .f32⟩
  | .hbm, ⟨32, _⟩ => ⟨S8192x4096, .f32⟩
  | .hbm, ⟨33, _⟩ => ⟨S8192x4096, .f32⟩
  | .hbm, ⟨34, _⟩ => ⟨S256x4096, .f32⟩
  | .hbm, ⟨35, _⟩ => ⟨S_, .f32⟩
  | .hbm, ⟨36, _⟩ => ⟨S256, .f32⟩
  | .hbm, ⟨37, _⟩ => ⟨S256x1, .f32⟩
  | .hbm, ⟨38, _⟩ => ⟨S_, .f32⟩
  | .hbm, ⟨39, _⟩ => ⟨S256x1, .f32⟩
  | .hbm, ⟨40, _⟩ => ⟨S256x1, .f32⟩
  | .hbm, ⟨41, _⟩ => ⟨S_, .f32⟩
  | .hbm, ⟨42, _⟩ => ⟨S256x1, .f32⟩
  | .hbm, ⟨43, _⟩ => ⟨S256x1, .f32⟩
  | .hbm, ⟨44, _⟩ => ⟨S256x1, .f32⟩
  | .hbm, ⟨45, _⟩ => ⟨S256x4096, .f32⟩
  | .hbm, ⟨46, _⟩ => ⟨S256x4096, .f32⟩
  | .hbm, ⟨47, _⟩ => ⟨S1x4096, .f32⟩
  | .hbm, ⟨48, _⟩ => ⟨S256x4096, .f32⟩
  | .hbm, ⟨49, _⟩ => ⟨S256x4096, .f32⟩
  | .hbm, ⟨50, _⟩ => ⟨S1x4096, .f32⟩
  | .hbm, ⟨51, _⟩ => ⟨S4096, .f32⟩
  | .hbm, ⟨52, _⟩ => ⟨S1x4096, .f32⟩
  | .hbm, ⟨53, _⟩ => ⟨S4096, .f32⟩
  | .hbm, ⟨54, _⟩ => ⟨S1x4096, .f32⟩
  | .hbm, ⟨55, _⟩ => ⟨S_, .f32⟩
  | .hbm, ⟨56, _⟩ => ⟨S1x4096, .f32⟩
  | .hbm, ⟨57, _⟩ => ⟨S1x4096, .f32⟩
  | .hbm, ⟨58, _⟩ => ⟨S256x4096, .f32⟩
  | .hbm, ⟨59, _⟩ => ⟨S256x4096, .f32⟩
  | .hbm, ⟨60, _⟩ => ⟨S1x4096, .f32⟩
  | .hbm, ⟨61, _⟩ => ⟨S256x4096, .f32⟩
  | .hbm, ⟨62, _⟩ => ⟨S256x4096, .f32⟩
  | .hbm, ⟨63, _⟩ => ⟨S8448x4096, .f32⟩
  | .hbm, ⟨64, _⟩ => ⟨S8448x4096, .bf16⟩
  | _, _ => ⟨S8448x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩

abbrev nD : Nat := 1
abbrev τ : Topo := Topo.v7x

variable {F : FTy → Type} [FloatOps F]
-- ==== Kernel2.lean ====
abbrev S8448x4096 : Shape := ⟨2, ![8448, 4096]⟩
abbrev S2x4096x13312 : Shape := ⟨3, ![2, 4096, 13312]⟩
abbrev S8448x13312 : Shape := ⟨2, ![8448, 13312]⟩
abbrev S1408x4096 : Shape := ⟨2, ![1408, 4096]⟩
abbrev S1x4096x512 : Shape := ⟨3, ![1, 4096, 512]⟩
abbrev S1408x512 : Shape := ⟨2, ![1408, 512]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S8448x4096, .bf16⟩
  | .hbm, ⟨1, _⟩ => ⟨S2x4096x13312, .f32⟩
  | .hbm, ⟨2, _⟩ => ⟨S8448x13312, .bf16⟩
  | .local _ .vmem, ⟨0, _⟩ => ⟨S1408x4096, .bf16⟩
  | .local _ .vmem, ⟨1, _⟩ => ⟨S1408x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1408x512, .bf16⟩
  | .local _ .vmem, ⟨5, _⟩ => ⟨S1408x512, .bf16⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 26], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1408x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8448x4096 : Shape := ⟨2, ![8448, 4096]⟩
abbrev S2x4096x13312 : Shape := ⟨3, ![2, 4096, 13312]⟩
abbrev S1x4096x13312 : Shape := ⟨3, ![1, 4096, 13312]⟩
abbrev S4096x13312 : Shape := ⟨2, ![4096, 13312]⟩
abbrev S8448x13312 : Shape := ⟨2, ![8448, 13312]⟩

abbrev nBuf : Space → Nat
  | .hbm => 7
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S2x4096x13312, .f32⟩
  | .hbm, ⟨2, _⟩ => ⟨S8448x4096, .f32⟩
  | .hbm, ⟨3, _⟩ => ⟨S1x4096x13312, .f32⟩
  | .hbm, ⟨4, _⟩ => ⟨S4096x13312, .f32⟩
  | .hbm, ⟨5, _⟩ => ⟨S8448x13312, .f32⟩
  | .hbm, ⟨6, _⟩ => ⟨S8448x13312, .bf16⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel3.lean ====
abbrev S8448x4096 : Shape := ⟨2, ![8448, 4096]⟩
abbrev S2x4096x16384 : Shape := ⟨3, ![2, 4096, 16384]⟩
abbrev S8448x16384 : Shape := ⟨2, ![8448, 16384]⟩
abbrev S1408x4096 : Shape := ⟨2, ![1408, 4096]⟩
abbrev S1x4096x512 : Shape := ⟨3, ![1, 4096, 512]⟩
abbrev S1408x512 : Shape := ⟨2, ![1408, 512]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S8448x4096, .bf16⟩
  | .hbm, ⟨1, _⟩ => ⟨S2x4096x16384, .f32⟩
  | .hbm, ⟨2, _⟩ => ⟨S8448x16384, .bf16⟩
  | .local _ .vmem, ⟨0, _⟩ => ⟨S1408x4096, .bf16⟩
  | .local _ .vmem, ⟨1, _⟩ => ⟨S1408x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1408x512, .bf16⟩
  | .local _ .vmem, ⟨5, _⟩ => ⟨S1408x512, .bf16⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1408x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8448x4096 : Shape := ⟨2, ![8448, 4096]⟩
abbrev S2x4096x16384 : Shape := ⟨3, ![2, 4096, 16384]⟩
abbrev S1x4096x16384 : Shape := ⟨3, ![1, 4096, 16384]⟩
abbrev S4096x16384 : Shape := ⟨2, ![4096, 16384]⟩
abbrev S8448x16384 : Shape := ⟨2, ![8448, 16384]⟩

abbrev nBuf : Space → Nat
  | .hbm => 7
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S2x4096x16384, .f32⟩
  | .hbm, ⟨2, _⟩ => ⟨S8448x4096, .f32⟩
  | .hbm, ⟨3, _⟩ => ⟨S1x4096x16384, .f32⟩
  | .hbm, ⟨4, _⟩ => ⟨S4096x16384, .f32⟩
  | .hbm, ⟨5, _⟩ => ⟨S8448x16384, .f32⟩
  | .hbm, ⟨6, _⟩ => ⟨S8448x16384, .bf16⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S8448x4096 : Shape := ⟨2, ![8448, 4096]⟩
abbrev S2x4096x4096 : Shape := ⟨3, ![2, 4096, 4096]⟩
abbrev S8x12288 : Shape := ⟨2, ![8, 12288]⟩
abbrev S8192x4096 : Shape := ⟨2, ![8192, 4096]⟩
abbrev S512x2048 : Shape := ⟨2, ![512, 2048]⟩
abbrev S1x2048x1024 : Shape := ⟨3, ![1, 2048, 1024]⟩
abbrev S512x1024 : Shape := ⟨2, ![512, 1024]⟩
abbrev S8x1024 : Shape := ⟨2, ![8, 1024]⟩
abbrev S2048x1024 : Shape := ⟨2, ![2048, 1024]⟩
abbrev S512x1 : Shape := ⟨2, ![512, 1]⟩
abbrev S1x1024 : Shape := ⟨2, ![1, 1024]⟩

abbrev nBuf : Space → Nat
  | .hbm => 5
  | .vmem => 14
  | .smem => 0
  | _ => 0

abbrev bufTy : (tb : Table) → Fin (tcTables nBuf tb) → BufTy
  | .hbm, ⟨0, _⟩ => ⟨S8448x4096, .bf16⟩
  | .hbm, ⟨1, _⟩ => ⟨S2x4096x4096, .f32⟩
  | .hbm, ⟨2, _⟩ => ⟨S8448x4096, .f32⟩
  | .hbm, ⟨3, _⟩ => ⟨S8x12288, .f32⟩
  | .hbm, ⟨4, _⟩ => ⟨S8192x4096, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S8x1024, .f32⟩
  | .local _ .vmem, ⟨9, _⟩ => ⟨S8x1024, .f32⟩
  | .local _ .vmem, ⟨10, _⟩ => ⟨S512x1024, .f32⟩
  | .local _ .vmem, ⟨11, _⟩ => ⟨S512x1024, .f32⟩
  | .local _ .vmem, ⟨12, _⟩ => ⟨S2048x1024, .bf16⟩
  | .local _ .vmem, ⟨13, _⟩ => ⟨S2048x1024, .bf16⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  ![c1_i32.toNat, c1_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S8448x4096 : Shape := ⟨2, ![8448, 4096]⟩
abbrev S2x4096x4096 : Shape := ⟨3, ![2, 4096, 4096]⟩
abbrev S8x12288 : Shape := ⟨2, ![8, 12288]⟩
abbrev S8192x4096 : Shape := ⟨2, ![8192, 4096]⟩
abbrev S1x4096x4096 : Shape := ⟨3, ![1, 4096, 4096]⟩
abbrev S4096x4096 : Shape := ⟨2, ![4096, 4096]⟩
abbrev S1x4096 : Shape := ⟨2, ![1, 4096]⟩
abbrev S4096 : Shape := ⟨1, ![4096]⟩

abbrev nBuf : Space → Nat
  | .hbm => 16
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S2x4096x4096, .f32⟩
  | .hbm, ⟨2, _⟩ => ⟨S8448x4096, .f32⟩
  | .hbm, ⟨3, _⟩ => ⟨S8x12288, .f32⟩
  | .hbm, ⟨4, _⟩ => ⟨S8192x4096, .bf16⟩
  | .hbm, ⟨5, _⟩ => ⟨S8192x4096, .f32⟩
  | .hbm, ⟨6, _⟩ => ⟨S1x4096x4096, .f32⟩
  | .hbm, ⟨7, _⟩ => ⟨S4096x4096, .f32⟩
  | .hbm, ⟨8, _⟩ => ⟨S8192x4096, .f32⟩
  | .hbm, ⟨9, _⟩ => ⟨S8192x4096, .f32⟩
  | .hbm, ⟨10, _⟩ => ⟨S1x4096, .f32⟩
  | .hbm, ⟨11, _⟩ => ⟨S4096, .f32⟩
  | .hbm, ⟨12, _⟩ => ⟨S1x4096, .f32⟩
  | .hbm, ⟨13, _⟩ => ⟨S8192x4096, .f32⟩
  | .hbm, ⟨14, _⟩ => ⟨S8192x4096, .f32⟩
  | .hbm, ⟨15, _⟩ => ⟨S8192x4096, .f32⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel5.lean ====
abbrev S8448x2048 : Shape := ⟨2, ![8448, 2048]⟩
abbrev S2x4096x4096 : Shape := ⟨3, ![2, 4096, 4096]⟩
abbrev S8448x4096 : Shape := ⟨2, ![8448, 4096]⟩
abbrev S8x12288 : Shape := ⟨2, ![8, 12288]⟩
abbrev S768x2048 : Shape := ⟨2, ![768, 2048]⟩
abbrev S1x2048x1024 : Shape := ⟨3, ![1, 2048, 1024]⟩
abbrev S768x1024 : Shape := ⟨2, ![768, 1024]⟩
abbrev S8x1024 : Shape := ⟨2, ![8, 1024]⟩
abbrev S2048x1024 : Shape := ⟨2, ![2048, 1024]⟩
abbrev S768x1 : Shape := ⟨2, ![768, 1]⟩
abbrev S1x1024 : Shape := ⟨2, ![1, 1024]⟩

abbrev nBuf : Space → Nat
  | .hbm => 6
  | .vmem => 14
  | .smem => 0
  | _ => 0

abbrev bufTy : (tb : Table) → Fin (tcTables nBuf tb) → BufTy
  | .hbm, ⟨0, _⟩ => ⟨S8448x2048, .bf16⟩
  | .hbm, ⟨1, _⟩ => ⟨S8448x2048, .bf16⟩
  | .hbm, ⟨2, _⟩ => ⟨S2x4096x4096, .f32⟩
  | .hbm, ⟨3, _⟩ => ⟨S8448x4096, .f32⟩
  | .hbm, ⟨4, _⟩ => ⟨S8x12288, .f32⟩
  | .hbm, ⟨5, _⟩ => ⟨S8448x4096, .f32⟩
  | .local _ .vmem, ⟨0, _⟩ => ⟨S768x2048, .bf16⟩
  | .local _ .vmem, ⟨1, _⟩ => ⟨S768x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S768x2048, .bf16⟩
  | .local _ .vmem, ⟨5, _⟩ => ⟨S768x2048, .bf16⟩
  | .local _ .vmem, ⟨6, _⟩ => ⟨S768x1024, .f32⟩
  | .local _ .vmem, ⟨7, _⟩ => ⟨S768x1024, .f32⟩
  | .local _ .vmem, ⟨8, _⟩ => ⟨S8x1024, .f32⟩
  | .local _ .vmem, ⟨9, _⟩ => ⟨S8x1024, .f32⟩
  | .local _ .vmem, ⟨10, _⟩ => ⟨S768x1024, .f32⟩
  | .local _ .vmem, ⟨11, _⟩ => ⟨S768x1024, .f32⟩
  | .local _ .vmem, ⟨12, _⟩ => ⟨S2048x1024, .bf16⟩
  | .local _ .vmem, ⟨13, _⟩ => ⟨S2048x1024, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S768x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S768x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S8448x2048 : Shape := ⟨2, ![8448, 2048]⟩
abbrev S2x4096x4096 : Shape := ⟨3, ![2, 4096, 4096]⟩
abbrev S8448x4096 : Shape := ⟨2, ![8448, 4096]⟩
abbrev S8x12288 : Shape := ⟨2, ![8, 12288]⟩
abbrev S1x4096x4096 : Shape := ⟨3, ![1, 4096, 4096]⟩
abbrev S4096x4096 : Shape := ⟨2, ![4096, 4096]⟩
abbrev S8192x4096 : Shape := ⟨2, ![8192, 4096]⟩
abbrev S1x4096 : Shape := ⟨2, ![1, 4096]⟩
abbrev S4096 : Shape := ⟨1, ![4096]⟩
abbrev S256x4096 : Shape := ⟨2, ![256, 4096]⟩

abbrev nBuf : Space → Nat
  | .hbm => 27
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x2048, .bf16⟩
  | .hbm, ⟨2, _⟩ => ⟨S2x4096x4096, .f32⟩
  | .hbm, ⟨3, _⟩ => ⟨S8448x4096, .f32⟩
  | .hbm, ⟨4, _⟩ => ⟨S8x12288, .f32⟩
  | .hbm, ⟨5, _⟩ => ⟨S8448x4096, .bf16⟩
  | .hbm, ⟨6, _⟩ => ⟨S8448x4096, .f32⟩
  | .hbm, ⟨7, _⟩ => ⟨S1x4096x4096, .f32⟩
  | .hbm, ⟨8, _⟩ => ⟨S4096x4096, .f32⟩
  | .hbm, ⟨9, _⟩ => ⟨S8448x4096, .f32⟩
  | .hbm, ⟨10, _⟩ => ⟨S8192x4096, .f32⟩
  | .hbm, ⟨11, _⟩ => ⟨S1x4096, .f32⟩
  | .hbm, ⟨12, _⟩ => ⟨S4096, .f32⟩
  | .hbm, ⟨13, _⟩ => ⟨S1x4096, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S256x4096, .f32⟩
  | .hbm, ⟨19, _⟩ => ⟨S1x4096, .f32⟩
  | .hbm, ⟨20, _⟩ => ⟨S4096, .f32⟩
  | .hbm, ⟨21, _⟩ => ⟨S1x4096, .f32⟩
  | .hbm, ⟨22, _⟩ => ⟨S256x4096, .f32⟩
  | .hbm, ⟨23, _⟩ => ⟨S256x4096, .f32⟩
  | .hbm, ⟨24, _⟩ => ⟨S256x4096, .f32⟩
  | .hbm, ⟨25, _⟩ => ⟨S256x4096, .f32⟩
  | .hbm, ⟨26, _⟩ => ⟨S8448x4096, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]
-- ==== Kernel6.lean ====
abbrev S8448x4096 : Shape := ⟨2, ![8448, 4096]⟩
abbrev S2x4096x4096 : Shape := ⟨3, ![2, 4096, 4096]⟩
abbrev S8x12288 : Shape := ⟨2, ![8, 12288]⟩
abbrev S768x2048 : Shape := ⟨2, ![768, 2048]⟩
abbrev S1x2048x1024 : Shape := ⟨3, ![1, 2048, 1024]⟩
abbrev S768x1024 : Shape := ⟨2, ![768, 1024]⟩
abbrev S8x1024 : Shape := ⟨2, ![8, 1024]⟩
abbrev S2048x1024 : Shape := ⟨2, ![2048, 1024]⟩
abbrev S768x1 : Shape := ⟨2, ![768, 1]⟩
abbrev S1x1024 : Shape := ⟨2, ![1, 1024]⟩

abbrev nBuf : Space → Nat
  | .hbm => 5
  | .vmem => 14
  | .smem => 0
  | _ => 0

abbrev bufTy : (tb : Table) → Fin (tcTables nBuf tb) → BufTy
  | .hbm, ⟨0, _⟩ => ⟨S8448x4096, .bf16⟩
  | .hbm, ⟨1, _⟩ => ⟨S2x4096x4096, .f32⟩
  | .hbm, ⟨2, _⟩ => ⟨S8448x4096, .f32⟩
  | .hbm, ⟨3, _⟩ => ⟨S8x12288, .f32⟩
  | .hbm, ⟨4, _⟩ => ⟨S8448x4096, .f32⟩
  | .local _ .vmem, ⟨0, _⟩ => ⟨S768x2048, .bf16⟩
  | .local _ .vmem, ⟨1, _⟩ => ⟨S768x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S768x2048, .bf16⟩
  | .local _ .vmem, ⟨5, _⟩ => ⟨S768x2048, .bf16⟩
  | .local _ .vmem, ⟨6, _⟩ => ⟨S768x1024, .f32⟩
  | .local _ .vmem, ⟨7, _⟩ => ⟨S768x1024, .f32⟩
  | .local _ .vmem, ⟨8, _⟩ => ⟨S8x1024, .f32⟩
  | .local _ .vmem, ⟨9, _⟩ => ⟨S8x1024, .f32⟩
  | .local _ .vmem, ⟨10, _⟩ => ⟨S768x1024, .f32⟩
  | .local _ .vmem, ⟨11, _⟩ => ⟨S768x1024, .f32⟩
  | .local _ .vmem, ⟨12, _⟩ => ⟨S2048x1024, .bf16⟩
  | .local _ .vmem, ⟨13, _⟩ => ⟨S2048x1024, .bf16⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S768x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S768x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S8448x4096 : Shape := ⟨2, ![8448, 4096]⟩
abbrev S2x4096x4096 : Shape := ⟨3, ![2, 4096, 4096]⟩
abbrev S8x12288 : Shape := ⟨2, ![8, 12288]⟩
abbrev S1x4096x4096 : Shape := ⟨3, ![1, 4096, 4096]⟩
abbrev S4096x4096 : Shape := ⟨2, ![4096, 4096]⟩
abbrev S8192x4096 : Shape := ⟨2, ![8192, 4096]⟩
abbrev S1x4096 : Shape := ⟨2, ![1, 4096]⟩
abbrev S4096 : Shape := ⟨1, ![4096]⟩
abbrev S256x4096 : Shape := ⟨2, ![256, 4096]⟩

abbrev nBuf : Space → Nat
  | .hbm => 25
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S2x4096x4096, .f32⟩
  | .hbm, ⟨2, _⟩ => ⟨S8448x4096, .f32⟩
  | .hbm, ⟨3, _⟩ => ⟨S8x12288, .f32⟩
  | .hbm, ⟨4, _⟩ => ⟨S8448x4096, .f32⟩
  | .hbm, ⟨5, _⟩ => ⟨S1x4096x4096, .f32⟩
  | .hbm, ⟨6, _⟩ => ⟨S4096x4096, .f32⟩
  | .hbm, ⟨7, _⟩ => ⟨S8448x4096, .f32⟩
  | .hbm, ⟨8, _⟩ => ⟨S8192x4096, .f32⟩
  | .hbm, ⟨9, _⟩ => ⟨S1x4096, .f32⟩
  | .hbm, ⟨10, _⟩ => ⟨S4096, .f32⟩
  | .hbm, ⟨11, _⟩ => ⟨S1x4096, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S256x4096, .f32⟩
  | .hbm, ⟨17, _⟩ => ⟨S1x4096, .f32⟩
  | .hbm, ⟨18, _⟩ => ⟨S4096, .f32⟩
  | .hbm, ⟨19, _⟩ => ⟨S1x4096, .f32⟩
  | .hbm, ⟨20, _⟩ => ⟨S256x4096, .f32⟩
  | .hbm, ⟨21, _⟩ => ⟨S256x4096, .f32⟩
  | .hbm, ⟨22, _⟩ => ⟨S256x4096, .f32⟩
  | .hbm, ⟨23, _⟩ => ⟨S256x4096, .f32⟩
  | .hbm, ⟨24, _⟩ => ⟨S8448x4096, .f32⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩

abbrev nD : Nat := 1
abbrev τ : Topo := Topo.v7x

variable {F : FTy → Type} [FloatOps F]
-- ==== Kernel7.lean ====
abbrev S1 : Shape := ⟨1, ![1]⟩
abbrev S8448x16x128 : Shape := ⟨3, ![8448, 16, 128]⟩
abbrev S8448x4x128 : Shape := ⟨3, ![8448, 4, 128]⟩
abbrev S8448x13312 : Shape := ⟨2, ![8448, 13312]⟩
abbrev S_ : Shape := ⟨0, ![]⟩
abbrev S8448x2048 : Shape := ⟨2, ![8448, 2048]⟩
abbrev S2048x8448 : Shape := ⟨2, ![2048, 8448]⟩
abbrev S8448x512 : Shape := ⟨2, ![8448, 512]⟩
abbrev S4x128x8448 : Shape := ⟨3, ![4, 128, 8448]⟩
abbrev S4x16x8448 : Shape := ⟨3, ![4, 16, 8448]⟩
abbrev S4x144x8448 : Shape := ⟨3, ![4, 144, 8448]⟩
abbrev S576x8448 : Shape := ⟨2, ![576, 8448]⟩
abbrev S512x256 : Shape := ⟨2, ![512, 256]⟩
abbrev S8448x128 : Shape := ⟨2, ![8448, 128]⟩
abbrev S144x8448 : Shape := ⟨2, ![144, 8448]⟩
abbrev S256x512 : Shape := ⟨2, ![256, 512]⟩
abbrev S4x1x256 : Shape := ⟨3, ![4, 1, 256]⟩
abbrev S4x144x256 : Shape := ⟨3, ![4, 144, 256]⟩
abbrev S4224x128 : Shape := ⟨2, ![4224, 128]⟩
abbrev S144x4224 : Shape := ⟨2, ![144, 4224]⟩
abbrev S128x256 : Shape := ⟨2, ![128, 256]⟩
abbrev S4224x256 : Shape := ⟨2, ![4224, 256]⟩
abbrev S1x144x256 : Shape := ⟨3, ![1, 144, 256]⟩
abbrev S144x256 : Shape := ⟨2, ![144, 256]⟩
abbrev S256x128 : Shape := ⟨2, ![256, 128]⟩
abbrev S256x256 : Shape := ⟨2, ![256, 256]⟩
abbrev S1x1x256 : Shape := ⟨3, ![1, 1, 256]⟩
abbrev S1x256 : Shape := ⟨2, ![1, 256]⟩
abbrev S256 : Shape := ⟨1, ![256]⟩

abbrev nBuf : Space → Nat
  | .hbm => 22
  | .vmem => 12
  | .smem => 1
  | _ => 0

abbrev bufTy : (tb : Table) → Fin (tcTables nBuf tb) → BufTy
  | .hbm, ⟨0, _⟩ => ⟨S8448x16x128, .f32⟩
  | .hbm, ⟨1, _⟩ => ⟨S8448x4x128, .bf16⟩
  | .hbm, ⟨2, _⟩ => ⟨S8448x13312, .bf16⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8448x16x128, .f32⟩
  | .hbm, ⟨9, _⟩ => ⟨S8448x16x128, .f32⟩
  | .hbm, ⟨10, _⟩ => ⟨S8448x16x128, .bf16⟩
  | .hbm, ⟨11, _⟩ => ⟨S8448x2048, .bf16⟩
  | .hbm, ⟨12, _⟩ => ⟨S2048x8448, .bf16⟩
  | .hbm, ⟨13, _⟩ => ⟨S8448x512, .bf16⟩
  | .hbm, ⟨14, _⟩ => ⟨S8448x4x128, .bf16⟩
  | .hbm, ⟨15, _⟩ => ⟨S4x128x8448, .bf16⟩
  | .hbm, ⟨16, _⟩ => ⟨S_, .bf16⟩
  | .hbm, ⟨17, _⟩ => ⟨S4x16x8448, .bf16⟩
  | .hbm, ⟨18, _⟩ => ⟨S4x144x8448, .bf16⟩
  | .hbm, ⟨19, _⟩ => ⟨S576x8448, .bf16⟩
  | .hbm, ⟨20, _⟩ => ⟨S8448x512, .bf16⟩
  | .hbm, ⟨21, _⟩ => ⟨S8448x2048, .bf16⟩
  | .local _ .vmem, ⟨0, _⟩ => ⟨S512x256, .bf16⟩
  | .local _ .vmem, ⟨1, _⟩ => ⟨S512x256, .bf16⟩
  | .local _ .vmem, ⟨2, _⟩ => ⟨S8448x128, .bf16⟩
  | .local _ .vmem, ⟨3, _⟩ => ⟨S8448x128, .bf16⟩
  | .local _ .vmem, ⟨4, _⟩ => ⟨S144x8448, .bf16⟩
  | .local _ .vmem, ⟨5, _⟩ => ⟨S144x8448, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S4x1x256, .f32⟩
  | .local _ .vmem, ⟨11, _⟩ => ⟨S4x144x256, .f32⟩
  | .local _ .smem, ⟨0, _⟩ => ⟨S1, .i32⟩
  | _, _ => ⟨S8448x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 33], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond2 (i : grid0.Coords) : BitVec 1 :=
  let arg1 : BitVec 32 := BitVec.ofNat 32 (i 1).val
  let c256_i32 : BitVec 32 := 256#32
  let v68 : BitVec 32 := Scalar.muli arg1 c256_i32
  let c8192_i32 : BitVec 32 := 8192#32
  let v69 : BitVec 1 := Scalar.cmpi .slt v68 c8192_i32
  let v70 : BitVec 32 := Scalar.extui v69
  let c0_i32_29 : BitVec 32 := 0#32
  let v71 : BitVec 1 := Scalar.cmpi .ne v70 c0_i32_29
  v71

@[reducible] def k0_t1_loop : Scf.Loop 32 :=
  let c0_i32_31 : BitVec 32 := 0#32
  let c2_i32 : BitVec 32 := 2#32
  let v75 : BitVec 32 := Scalar.addi c0_i32_31 c2_i32
  let c1_i32 : BitVec 32 := 1#32
  ⟨c0_i32_31, v75, c1_i32⟩
def k0_mult1 (k0_t1 : Fin k0_t1_loop.trips) : BitVec 32 :=
  let c0_i32_31 : BitVec 32 := 0#32
  let c1_i32 : BitVec 32 := 1#32
  let arg10 : BitVec 32 := Scf.iv c0_i32_31 c1_i32 k0_t1
  let c4224_i32 : BitVec 32 := 4224#32
  let v76 : BitVec 32 := Scalar.muli arg10 c4224_i32
  v76
def k0_off1 (k0_t1 : Fin k0_t1_loop.trips) : Fin 2 → Nat :=
  let c0_i32_31 : BitVec 32 := 0#32
  let c1_i32 : BitVec 32 := 1#32
  let arg10 : BitVec 32 := Scf.iv c0_i32_31 c1_i32 k0_t1
  let c4224_i32 : BitVec 32 := 4224#32
  let v76 : BitVec 32 := Scalar.muli arg10 c4224_i32
  let v77 : BitVec 32 := v76
  let v78 : Index := Scalar.indexCast v77
  let c0_33 : Index := 0#32
  ![v78.toNat, 0]
def k0_off2 (k0_t1 : Fin k0_t1_loop.trips) : Fin 2 → Nat :=
  let c0_34 : Index := 0#32
  let c0_i32_31 : BitVec 32 := 0#32
  let c1_i32 : BitVec 32 := 1#32
  let arg10 : BitVec 32 := Scf.iv c0_i32_31 c1_i32 k0_t1
  let c4224_i32 : BitVec 32 := 4224#32
  let v76 : BitVec 32 := Scalar.muli arg10 c4224_i32
  let v77 : BitVec 32 := v76
  let v81 : Index := Scalar.indexCast v77
  ![0, v81.toNat]
def k0_cond5 (i : grid0.Coords) : BitVec 1 :=
  let arg1 : BitVec 32 := BitVec.ofNat 32 (i 1).val
  let c256_i32 : BitVec 32 := 256#32
  let v72 : BitVec 32 := Scalar.muli arg1 c256_i32
  let c8192_i32 : BitVec 32 := 8192#32
  let v73 : BitVec 1 := Scalar.cmpi .slt v72 c8192_i32
  let v74 : BitVec 32 := Scalar.extui v73
  let c0_i32_33 : BitVec 32 := 0#32
  let v75 : BitVec 1 := Scalar.cmpi .ne v74 c0_i32_33
  v75

@[reducible] def k0_t2_loop : Scf.Loop 32 :=
  let c0_i32_35 : BitVec 32 := 0#32
  let c2_i32 : BitVec 32 := 2#32
  let v79 : BitVec 32 := Scalar.addi c0_i32_35 c2_i32
  let c1_i32 : BitVec 32 := 1#32
  ⟨c0_i32_35, v79, c1_i32⟩
def k0_mult2 (k0_t2 : Fin k0_t2_loop.trips) : BitVec 32 :=
  let c0_i32_35 : BitVec 32 := 0#32
  let c1_i32 : BitVec 32 := 1#32
  let arg10 : BitVec 32 := Scf.iv c0_i32_35 c1_i32 k0_t2
  let c4224_i32 : BitVec 32 := 4224#32
  let v80 : BitVec 32 := Scalar.muli arg10 c4224_i32
  v80
def k0_off3 (k0_t2 : Fin k0_t2_loop.trips) : Fin 2 → Nat :=
  let c0_i32_35 : BitVec 32 := 0#32
  let c1_i32 : BitVec 32 := 1#32
  let arg10 : BitVec 32 := Scf.iv c0_i32_35 c1_i32 k0_t2
  let c4224_i32 : BitVec 32 := 4224#32
  let v80 : BitVec 32 := Scalar.muli arg10 c4224_i32
  let v81 : BitVec 32 := v80
  let v82 : Index := Scalar.indexCast v81
  let c0_37 : Index := 0#32
  ![v82.toNat, 0]
def k0_off4 (k0_t2 : Fin k0_t2_loop.trips) : Fin 2 → Nat :=
  let c0_38 : Index := 0#32
  let c0_i32_35 : BitVec 32 := 0#32
  let c1_i32 : BitVec 32 := 1#32
  let arg10 : BitVec 32 := Scf.iv c0_i32_35 c1_i32 k0_t2
  let c4224_i32 : BitVec 32 := 4224#32
  let v80 : BitVec 32 := Scalar.muli arg10 c4224_i32
  let v81 : BitVec 32 := v80
  let v85 : Index := Scalar.indexCast v81
  ![0, v85.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S144x8448 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference7Ideal.lean ====
abbrev S1 : Shape := ⟨1, ![1]⟩
abbrev S8448x16x128 : Shape := ⟨3, ![8448, 16, 128]⟩
abbrev S8448x4x128 : Shape := ⟨3, ![8448, 4, 128]⟩
abbrev S8448x13312 : Shape := ⟨2, ![8448, 13312]⟩
abbrev S8448x4x4x128 : Shape := ⟨4, ![8448, 4, 4, 128]⟩
abbrev S8448x512 : Shape := ⟨2, ![8448, 512]⟩
abbrev S8192x4x4x128 : Shape := ⟨4, ![8192, 4, 4, 128]⟩
abbrev S4x8448x8192x4 : Shape := ⟨4, ![4, 8448, 8192, 4]⟩
abbrev S4x4x8192x8448 : Shape := ⟨4, ![4, 4, 8192, 8448]⟩
abbrev S_ : Shape := ⟨0, ![]⟩
abbrev S4x4x8192 : Shape := ⟨3, ![4, 4, 8192]⟩
abbrev S4x4x8192x1 : Shape := ⟨4, ![4, 4, 8192, 1]⟩
abbrev S4x128x4x8192 : Shape := ⟨4, ![4, 128, 4, 8192]⟩
abbrev S8192x2048 : Shape := ⟨2, ![8192, 2048]⟩
abbrev S256x4x4x128 : Shape := ⟨4, ![256, 4, 4, 128]⟩
abbrev S256x4x128 : Shape := ⟨3, ![256, 4, 128]⟩
abbrev S4x256x256x4 : Shape := ⟨4, ![4, 256, 256, 4]⟩
abbrev S4x4x256x256 : Shape := ⟨4, ![4, 4, 256, 256]⟩
abbrev S4x4x256 : Shape := ⟨3, ![4, 4, 256]⟩
abbrev S4x4x256x1 : Shape := ⟨4, ![4, 4, 256, 1]⟩
abbrev S4x128x4x256 : Shape := ⟨4, ![4, 128, 4, 256]⟩
abbrev S256x2048 : Shape := ⟨2, ![256, 2048]⟩
abbrev S8448x2048 : Shape := ⟨2, ![8448, 2048]⟩

abbrev nBuf : Space → Nat
  | .hbm => 73
  | .vmem => 0
  | .smem => 0
  | _ => 0

abbrev bufTy : (tb : Table) → Fin (tcTables nBuf tb) → BufTy
  | .hbm, ⟨0, _⟩ => ⟨S1, .i32⟩
  | .hbm, ⟨1, _⟩ => ⟨S8448x16x128, .f32⟩
  | .hbm, ⟨2, _⟩ => ⟨S8448x4x128, .bf16⟩
  | .hbm, ⟨3, _⟩ => ⟨S8448x13312, .bf16⟩
  | .hbm, ⟨4, _⟩ => ⟨S8448x4x4x128, .f32⟩
  | .hbm, ⟨5, _⟩ => ⟨S8448x4x128, .f32⟩
  | .hbm, ⟨6, _⟩ => ⟨S8448x512, .bf16⟩
  | .hbm, ⟨7, _⟩ => ⟨S8448x512, .f32⟩
  | .hbm, ⟨8, _⟩ => ⟨S8448x4x128, .f32⟩
  | .hbm, ⟨9, _⟩ => ⟨S8192x4x4x128, .f32⟩
  | .hbm, ⟨10, _⟩ => ⟨S4x8448x8192x4, .f32⟩
  | .hbm, ⟨11, _⟩ => ⟨S4x4x8192x8448, .f32⟩
  | .hbm, ⟨12, _⟩ => ⟨S_, .f32⟩
  | .hbm, ⟨13, _⟩ => ⟨S_, .f32⟩
  | .hbm, ⟨14, _⟩ => ⟨S4x4x8192x8448, .f32⟩
  | .hbm, ⟨15, _⟩ => ⟨S4x4x8192x8448, .f32⟩
  | .hbm, ⟨16, _⟩ => ⟨S_, .f32⟩
  | .hbm, ⟨17, _⟩ => ⟨S4x4x8192, .f32⟩
  | .hbm, ⟨18, _⟩ => ⟨S_, .f32⟩
  | .hbm, ⟨19, _⟩ => ⟨S4x4x8192, .f32⟩
  | .hbm, ⟨20, _⟩ => ⟨S4x4x8192, .f32⟩
  | .hbm, ⟨21, _⟩ => ⟨S4x4x8192x1, .f32⟩
  | .hbm, ⟨22, _⟩ => ⟨S4x4x8192x8448, .f32⟩
  | .hbm, ⟨23, _⟩ => ⟨S4x4x8192x8448, .f32⟩
  | .hbm, ⟨24, _⟩ => ⟨S4x4x8192x8448, .f32⟩
  | .hbm, ⟨25, _⟩ => ⟨S_, .f32⟩
  | .hbm, ⟨26, _⟩ => ⟨S4x4x8192, .f32⟩
  | .hbm, ⟨27, _⟩ => ⟨S4x4x8192x1, .f32⟩
  | .hbm, ⟨28, _⟩ => ⟨S4x4x8192x8448, .f32⟩
  | .hbm, ⟨29, _⟩ => ⟨S4x4x8192x8448, .f32⟩
  | .hbm, ⟨30, _⟩ => ⟨S4x128x4x8192, .f32⟩
  | .hbm, ⟨31, _⟩ => ⟨S8192x4x4x128, .f32⟩
  | .hbm, ⟨32, _⟩ => ⟨S8192x2048, .f32⟩
  | .hbm, ⟨33, _⟩ => ⟨S256x4x4x128, .f32⟩
  | .hbm, ⟨34, _⟩ => ⟨S256x4x128, .f32⟩
  | .hbm, ⟨35, _⟩ => ⟨S256x4x128, .f32⟩
  | .hbm, ⟨36, _⟩ => ⟨S4x256x256x4, .f32⟩
  | .hbm, ⟨37, _⟩ => ⟨S4x4x256x256, .f32⟩
  | .hbm, ⟨38, _⟩ => ⟨S_, .f32⟩
  | .hbm, ⟨39, _⟩ => ⟨S_, .f32⟩
  | .hbm, ⟨40, _⟩ => ⟨S4x4x256x256, .f32⟩
  | .hbm, ⟨41, _⟩ => ⟨S4x4x256x256, .f32⟩
  | .hbm, ⟨42, _⟩ => ⟨S_, .f32⟩
  | .hbm, ⟨43, _⟩ => ⟨S4x4x256, .f32⟩
  | .hbm, ⟨44, _⟩ => ⟨S_, .f32⟩
  | .hbm, ⟨45, _⟩ => ⟨S4x4x256, .f32⟩
  | .hbm, ⟨46, _⟩ => ⟨S4x4x256, .f32⟩
  | .hbm, ⟨47, _⟩ => ⟨S4x4x256x1, .f32⟩
  | .hbm, ⟨48, _⟩ => ⟨S4x4x256x256, .f32⟩
  | .hbm, ⟨49, _⟩ => ⟨S4x4x256x256, .f32⟩
  | .hbm, ⟨50, _⟩ => ⟨S4x4x256x256, .f32⟩
  | .hbm, ⟨51, _⟩ => ⟨S_, .f32⟩
  | .hbm, ⟨52, _⟩ => ⟨S4x4x256, .f32⟩
  | .hbm, ⟨53, _⟩ => ⟨S4x4x256x1, .f32⟩
  | .hbm, ⟨54, _⟩ => ⟨S4x4x256x256, .f32⟩
  | .hbm, ⟨55, _⟩ => ⟨S4x4x256x256, .f32⟩
  | .hbm, ⟨56, _⟩ => ⟨S4x128x4x256, .f32⟩
  | .hbm, ⟨57, _⟩ => ⟨S256x4x4x128, .f32⟩
  | .hbm, ⟨58, _⟩ => ⟨S256x2048, .f32⟩
  | .hbm, ⟨59, _⟩ => ⟨S8448x2048, .f32⟩
  | .hbm, ⟨60, _⟩ => ⟨S8448x2048, .bf16⟩
  | .hbm, ⟨61, _⟩ => ⟨S8448x2048, .f32⟩
  | .hbm, ⟨62, _⟩ => ⟨S8448x2048, .f32⟩
  | .hbm, ⟨63, _⟩ => ⟨S8448x2048, .f32⟩
  | .hbm, ⟨64, _⟩ => ⟨S_, .f32⟩
  | .hbm, ⟨65, _⟩ => ⟨S8448x2048, .f32⟩
  | .hbm, ⟨66, _⟩ => ⟨S8448x2048, .f32⟩
  | .hbm, ⟨67, _⟩ => ⟨S_, .f32⟩
  | .hbm, ⟨68, _⟩ => ⟨S8448x2048, .f32⟩
  | .hbm, ⟨69, _⟩ => ⟨S8448x2048, .f32⟩
  | .hbm, ⟨70, _⟩ => ⟨S8448x2048, .f32⟩
  | .hbm, ⟨71, _⟩ => ⟨S8448x2048, .f32⟩
  | .hbm, ⟨72, _⟩ => ⟨S8448x2048, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_6 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_call0_v5 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Kernel8.lean ====
abbrev S1x4096 : Shape := ⟨2, ![1, 4096]⟩
abbrev S4096 : Shape := ⟨1, ![4096]⟩
abbrev S4x4096x12288 : Shape := ⟨3, ![4, 4096, 12288]⟩
abbrev S4x12288 : Shape := ⟨2, ![4, 12288]⟩
abbrev S_ : Shape := ⟨0, ![]⟩
abbrev S8x4096 : Shape := ⟨2, ![8, 4096]⟩
abbrev S1 : Shape := ⟨1, ![1]⟩
abbrev S4x1x12288 : Shape := ⟨3, ![4, 1, 12288]⟩
abbrev S4x8x12288 : Shape := ⟨3, ![4, 8, 12288]⟩
abbrev S1x4096x512 : Shape := ⟨3, ![1, 4096, 512]⟩
abbrev S1x1x512 : Shape := ⟨3, ![1, 1, 512]⟩
abbrev S1x8x512 : Shape := ⟨3, ![1, 8, 512]⟩
abbrev S4096x512 : Shape := ⟨2, ![4096, 512]⟩
abbrev S8x512 : Shape := ⟨2, ![8, 512]⟩
abbrev S1x512 : Shape := ⟨2, ![1, 512]⟩

abbrev nBuf : Space → Nat
  | .hbm => 15
  | .vmem => 7
  | .smem => 0
  | _ => 0

abbrev bufTy : (tb : Table) → Fin (tcTables nBuf tb) → BufTy
  | .hbm, ⟨0, _⟩ => ⟨S1x4096, .f32⟩
  | .hbm, ⟨1, _⟩ => ⟨S4096, .f32⟩
  | .hbm, ⟨2, _⟩ => ⟨S4x4096x12288, .f32⟩
  | .hbm, ⟨3, _⟩ => ⟨S4x12288, .f32⟩
  | .hbm, ⟨4, _⟩ => ⟨S_, .f32⟩
  | .hbm, ⟨5, _⟩ => ⟨S8x4096, .f32⟩
  | .hbm, ⟨6, _⟩ => ⟨S4096, .f32⟩
  | .hbm, ⟨7, _⟩ => ⟨S_, .i32⟩
  | .hbm, ⟨8, _⟩ => ⟨S1, .i32⟩
  | .hbm, ⟨9, _⟩ => ⟨S8x4096, .f32⟩
  | .hbm, ⟨10, _⟩ => ⟨S_, .i32⟩
  | .hbm, ⟨11, _⟩ => ⟨S1, .i32⟩
  | .hbm, ⟨12, _⟩ => ⟨S8x4096, .f32⟩
  | .hbm, ⟨13, _⟩ => ⟨S4x1x12288, .f32⟩
  | .hbm, ⟨14, _⟩ => ⟨S4x8x12288, .f32⟩
  | .local _ .vmem, ⟨0, _⟩ => ⟨S8x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S1x8x512, .f32⟩
  | .local _ .vmem, ⟨6, _⟩ => ⟨S1x8x512, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S1x4096 : Shape := ⟨2, ![1, 4096]⟩
abbrev S4096 : Shape := ⟨1, ![4096]⟩
abbrev S4x4096x12288 : Shape := ⟨3, ![4, 4096, 12288]⟩
abbrev S4x12288 : Shape := ⟨2, ![4, 12288]⟩
abbrev S_ : Shape := ⟨0, ![]⟩
abbrev S6x4096 : Shape := ⟨2, ![6, 4096]⟩
abbrev S8x4096 : Shape := ⟨2, ![8, 4096]⟩
abbrev S4x12288x8 : Shape := ⟨3, ![4, 12288, 8]⟩
abbrev S4x8x12288 : Shape := ⟨3, ![4, 8, 12288]⟩
abbrev S4x1x12288 : Shape := ⟨3, ![4, 1, 12288]⟩

abbrev nBuf : Space → Nat
  | .hbm => 22
  | .vmem => 0
  | .smem => 0
  | _ => 0

abbrev bufTy : (tb : Table) → Fin (tcTables nBuf tb) → BufTy
  | .hbm, ⟨0, _⟩ => ⟨S1x4096, .f32⟩
  | .hbm, ⟨1, _⟩ => ⟨S4096, .f32⟩
  | .hbm, ⟨2, _⟩ => ⟨S4x4096x12288, .f32⟩
  | .hbm, ⟨3, _⟩ => ⟨S4x12288, .f32⟩
  | .hbm, ⟨4, _⟩ => ⟨S1x4096, .f32⟩
  | .hbm, ⟨5, _⟩ => ⟨S_, .f32⟩
  | .hbm, ⟨6, _⟩ => ⟨S6x4096, .f32⟩
  | .hbm, ⟨7, _⟩ => ⟨S8x4096, .f32⟩
  | .hbm, ⟨8, _⟩ => ⟨S8x4096, .f32⟩
  | .hbm, ⟨9, _⟩ => ⟨S8x4096, .f32⟩
  | .hbm, ⟨10, _⟩ => ⟨S_, .f32⟩
  | .hbm, ⟨11, _⟩ => ⟨S8x4096, .f32⟩
  | .hbm, ⟨12, _⟩ => ⟨S8x4096, .f32⟩
  | .hbm, ⟨13, _⟩ => ⟨S_, .f32⟩
  | .hbm, ⟨14, _⟩ => ⟨S8x4096, .f32⟩
  | .hbm, ⟨15, _⟩ => ⟨S8x4096, .f32⟩
  | .hbm, ⟨16, _⟩ => ⟨S8x4096, .f32⟩
  | .hbm, ⟨17, _⟩ => ⟨S4x12288x8, .f32⟩
  | .hbm, ⟨18, _⟩ => ⟨S4x8x12288, .f32⟩
  | .hbm, ⟨19, _⟩ => ⟨S4x1x12288, .f32⟩
  | .hbm, ⟨20, _⟩ => ⟨S4x8x12288, .f32⟩
  | .hbm, ⟨21, _⟩ => ⟨S4x8x12288, .f32⟩
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Kernel9.lean ====
abbrev S8192x4096 : Shape := ⟨2, ![8192, 4096]⟩
abbrev S256x4096 : Shape := ⟨2, ![256, 4096]⟩
abbrev S4096 : Shape := ⟨1, ![4096]⟩
abbrev S8x12288 : Shape := ⟨2, ![8, 12288]⟩
abbrev S1x4096 : Shape := ⟨2, ![1, 4096]⟩
abbrev S8448x4096 : Shape := ⟨2, ![8448, 4096]⟩
abbrev S8x4096 : Shape := ⟨2, ![8, 4096]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S256x4096, .f32⟩
  | .hbm, ⟨2, _⟩ => ⟨S4096, .f32⟩
  | .hbm, ⟨3, _⟩ => ⟨S8x12288, .f32⟩
  | .hbm, ⟨4, _⟩ => ⟨S1x4096, .f32⟩
  | .hbm, ⟨5, _⟩ => ⟨S8448x4096, .bf16⟩
  | .hbm, ⟨6, _⟩ => ⟨S8448x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S1x4096, .f32⟩
  | .local _ .vmem, ⟨4, _⟩ => ⟨S8x4096, .f32⟩
  | .local _ .vmem, ⟨5, _⟩ => ⟨S8x4096, .f32⟩
  | .local _ .vmem, ⟨6, _⟩ => ⟨S256x4096, .bf16⟩
  | .local _ .vmem, ⟨7, _⟩ => ⟨S256x4096, .bf16⟩
  | .local _ .vmem, ⟨8, _⟩ => ⟨S256x4096, .f32⟩
  | .local _ .vmem, ⟨9, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S8192x4096 : Shape := ⟨2, ![8192, 4096]⟩
abbrev S256x4096 : Shape := ⟨2, ![256, 4096]⟩
abbrev S4096 : Shape := ⟨1, ![4096]⟩
abbrev S8x12288 : Shape := ⟨2, ![8, 12288]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S256 : Shape := ⟨1, ![256]⟩
abbrev S256x1 : Shape := ⟨2, ![256, 1]⟩
abbrev S8448x4096 : Shape := ⟨2, ![8448, 4096]⟩

abbrev nBuf : Space → Nat
  | .hbm => 65
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S256x4096, .f32⟩
  | .hbm, ⟨2, _⟩ => ⟨S4096, .f32⟩
  | .hbm, ⟨3, _⟩ => ⟨S8x12288, .f32⟩
  | .hbm, ⟨4, _⟩ => ⟨S8192x4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S1x4096, .f32⟩
  | .hbm, ⟨21, _⟩ => ⟨S4096, .f32⟩
  | .hbm, ⟨22, _⟩ => ⟨S1x4096, .f32⟩
  | .hbm, ⟨23, _⟩ => ⟨S4096, .f32⟩
  | .hbm, ⟨24, _⟩ => ⟨S1x4096, .f32⟩
  | .hbm, ⟨25, _⟩ => ⟨S_, .f32⟩
  | .hbm, ⟨26, _⟩ => ⟨S1x4096, .f32⟩
  | .hbm, ⟨27, _⟩ => ⟨S1x4096, .f32⟩
  | .hbm, ⟨28, _⟩ => ⟨S8192x4096, .f32⟩
  | .hbm, ⟨29, _⟩ => ⟨S8192x4096, .f32⟩
  | .hbm, ⟨30, _⟩ => ⟨S1x4096, .f32⟩
  | .hbm, ⟨31, _⟩ => ⟨S8192x4096, .f32⟩
  | .hbm, ⟨32, _⟩ => ⟨S8192x4096, .f32⟩
  | .hbm, ⟨33, _⟩ => ⟨S256x4096, .f32⟩
  | .hbm, ⟨34, _⟩ => ⟨S_, .f32⟩
  | .hbm, ⟨35, _⟩ => ⟨S256, .f32⟩
  | .hbm, ⟨36, _⟩ => ⟨S256x1, .f32⟩
  | .hbm, ⟨37, _⟩ => ⟨S_, .f32⟩
  | .hbm, ⟨38, _⟩ => ⟨S256x1, .f32⟩
  | .hbm, ⟨39, _⟩ => ⟨S256x1, .f32⟩
  | .hbm, ⟨40, _⟩ => ⟨S_, .f32⟩
  | .hbm, ⟨41, _⟩ => ⟨S256x1, .f32⟩
  | .hbm, ⟨42, _⟩ => ⟨S256x1, .f32⟩
  | .hbm, ⟨43, _⟩ => ⟨S256x1, .f32⟩
  | .hbm, ⟨44, _⟩ => ⟨S256x4096, .f32⟩
  | .hbm, ⟨45, _⟩ => ⟨S256x4096, .f32⟩
  | .hbm, ⟨46, _⟩ => ⟨S1x4096, .f32⟩
  | .hbm, ⟨47, _⟩ => ⟨S256x4096, .f32⟩
  | .hbm, ⟨48, _⟩ => ⟨S256x4096, .f32⟩
  | .hbm, ⟨49, _⟩ => ⟨S1x4096, .f32⟩
  | .hbm, ⟨50, _⟩ => ⟨S4096, .f32⟩
  | .hbm, ⟨51, _⟩ => ⟨S1x4096, .f32⟩
  | .hbm, ⟨52, _⟩ => ⟨S4096, .f32⟩
  | .hbm, ⟨53, _⟩ => ⟨S1x4096, .f32⟩
  | .hbm, ⟨54, _⟩ => ⟨S_, .f32⟩
  | .hbm, ⟨55, _⟩ => ⟨S1x4096, .f32⟩
  | .hbm, ⟨56, _⟩ => ⟨S1x4096, .f32⟩
  | .hbm, ⟨57, _⟩ => ⟨S256x4096, .f32⟩
  | .hbm, ⟨58, _⟩ => ⟨S256x4096, .f32⟩
  | .hbm, ⟨59, _⟩ => ⟨S1x4096, .f32⟩
  | .hbm, ⟨60, _⟩ => ⟨S256x4096, .f32⟩
  | .hbm, ⟨61, _⟩ => ⟨S256x4096, .f32⟩
  | .hbm, ⟨62, _⟩ => ⟨S8448x4096, .f32⟩
  | .hbm, ⟨63, _⟩ => ⟨S8448x4096, .bf16⟩
  | .hbm, ⟨64, _⟩ => ⟨S8448x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩

abbrev nD : Nat := 1
abbrev τ : Topo := Topo.v7x

variable {F : FTy → Type} [FloatOps F]
-- ==== Kernel10.lean ====
abbrev S8448x13312 : Shape := ⟨2, ![8448, 13312]⟩
abbrev S128 : Shape := ⟨1, ![128]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S256x128 : Shape := ⟨2, ![256, 128]⟩
abbrev S8448x128 : Shape := ⟨2, ![8448, 128]⟩
abbrev S1x128 : Shape := ⟨2, ![1, 128]⟩
abbrev S16x128 : Shape := ⟨2, ![16, 128]⟩
abbrev S2048 : Shape := ⟨1, ![2048]⟩
abbrev S4x128 : Shape := ⟨2, ![4, 128]⟩
abbrev S512 : Shape := ⟨1, ![512]⟩
abbrev S2560 : Shape := ⟨1, ![2560]⟩
abbrev S1x2560 : Shape := ⟨2, ![1, 2560]⟩
abbrev S2048x8448 : Shape := ⟨2, ![2048, 8448]⟩
abbrev S8448x512 : Shape := ⟨2, ![8448, 512]⟩
abbrev S576x8448 : Shape := ⟨2, ![576, 8448]⟩
abbrev S768x2048 : Shape := ⟨2, ![768, 2048]⟩
abbrev S768x512 : Shape := ⟨2, ![768, 512]⟩
abbrev S768x128 : Shape := ⟨2, ![768, 128]⟩
abbrev S2048x768 : Shape := ⟨2, ![2048, 768]⟩
abbrev S576x768 : Shape := ⟨2, ![576, 768]⟩
abbrev S768 : Shape := ⟨1, ![768]⟩
abbrev S768x1 : Shape := ⟨2, ![768, 1]⟩
abbrev S128x768 : Shape := ⟨2, ![128, 768]⟩
abbrev S16x768 : Shape := ⟨2, ![16, 768]⟩

abbrev nBuf : Space → Nat
  | .hbm => 54
  | .vmem => 17
  | .smem => 0
  | _ => 0

abbrev bufTy : (tb : Table) → Fin (tcTables nBuf tb) → BufTy
  | .hbm, ⟨0, _⟩ => ⟨S8448x13312, .bf16⟩
  | .hbm, ⟨1, _⟩ => ⟨S128, .f32⟩
  | .hbm, ⟨2, _⟩ => ⟨S128, .f32⟩
  | .hbm, ⟨3, _⟩ => ⟨S8192, .i32⟩
  | .hbm, ⟨4, _⟩ => ⟨S8192, .i32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S8192, .f32⟩
  | .hbm, ⟨14, _⟩ => ⟨S8192x1, .f32⟩
  | .hbm, ⟨15, _⟩ => ⟨S1x32, .f32⟩
  | .hbm, ⟨16, _⟩ => ⟨S8192x32, .f32⟩
  | .hbm, ⟨17, _⟩ => ⟨S8192x32, .f32⟩
  | .hbm, ⟨18, _⟩ => ⟨S8192x32, .f32⟩
  | .hbm, ⟨19, _⟩ => ⟨S8192, .f32⟩
  | .hbm, ⟨20, _⟩ => ⟨S8192x1, .f32⟩
  | .hbm, ⟨21, _⟩ => ⟨S1x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S8192x32, .f32⟩
  | .hbm, ⟨26, _⟩ => ⟨S8192x32, .f32⟩
  | .hbm, ⟨27, _⟩ => ⟨S8192x32, .f32⟩
  | .hbm, ⟨28, _⟩ => ⟨S8192x32, .f32⟩
  | .hbm, ⟨29, _⟩ => ⟨S8192x128, .f32⟩
  | .hbm, ⟨30, _⟩ => ⟨S8192x32, .f32⟩
  | .hbm, ⟨31, _⟩ => ⟨S8192x32, .f32⟩
  | .hbm, ⟨32, _⟩ => ⟨S8192x32, .f32⟩
  | .hbm, ⟨33, _⟩ => ⟨S8192x32, .f32⟩
  | .hbm, ⟨34, _⟩ => ⟨S8192x32, .f32⟩
  | .hbm, ⟨35, _⟩ => ⟨S8192x32, .f32⟩
  | .hbm, ⟨36, _⟩ => ⟨S8192x128, .f32⟩
  | .hbm, ⟨37, _⟩ => ⟨S_, .f32⟩
  | .hbm, ⟨38, _⟩ => ⟨S256x128, .f32⟩
  | .hbm, ⟨39, _⟩ => ⟨S8448x128, .f32⟩
  | .hbm, ⟨40, _⟩ => ⟨S_, .f32⟩
  | .hbm, ⟨41, _⟩ => ⟨S256x128, .f32⟩
  | .hbm, ⟨42, _⟩ => ⟨S8448x128, .f32⟩
  | .hbm, ⟨43, _⟩ => ⟨S1x128, .f32⟩
  | .hbm, ⟨44, _⟩ => ⟨S16x128, .f32⟩
  | .hbm, ⟨45, _⟩ => ⟨S2048, .f32⟩
  | .hbm, ⟨46, _⟩ => ⟨S1x128, .f32⟩
  | .hbm, ⟨47, _⟩ => ⟨S4x128, .f32⟩
  | .hbm, ⟨48, _⟩ => ⟨S512, .f32⟩
  | .hbm, ⟨49, _⟩ => ⟨S2560, .f32⟩
  | .hbm, ⟨50, _⟩ => ⟨S1x2560, .f32⟩
  | .hbm, ⟨51, _⟩ => ⟨S2048x8448, .bf16⟩
  | .hbm, ⟨52, _⟩ => ⟨S8448x512, .bf16⟩
  | .hbm, ⟨53, _⟩ => ⟨S576x8448, .bf16⟩
  | .local _ .vmem, ⟨0, _⟩ => ⟨S768x2048, .bf16⟩
  | .local _ .vmem, ⟨1, _⟩ => ⟨S768x2048, .bf16⟩
  | .local _ .vmem, ⟨2, _⟩ => ⟨S768x512, .bf16⟩
  | .local _ .vmem, ⟨3, _⟩ => ⟨S768x512, .bf16⟩
  | .local _ .vmem, ⟨4, _⟩ => ⟨S768x512, .bf16⟩
  | .local _ .vmem, ⟨5, _⟩ => ⟨S768x512, .bf16⟩
  | .local _ .vmem, ⟨6, _⟩ => ⟨S1x2560, .f32⟩
  | .local _ .vmem, ⟨7, _⟩ => ⟨S768x128, .f32⟩
  | .local _ .vmem, ⟨8, _⟩ => ⟨S768x128, .f32⟩
  | .local _ .vmem, ⟨9, _⟩ => ⟨S768x128, .f32⟩
  | .local _ .vmem, ⟨10, _⟩ => ⟨S768x128, .f32⟩
  | .local _ .vmem, ⟨11, _⟩ => ⟨S2048x768, .bf16⟩
  | .local _ .vmem, ⟨12, _⟩ => ⟨S2048x768, .bf16⟩
  | .local _ .vmem, ⟨13, _⟩ => ⟨S768x512, .bf16⟩
  | .local _ .vmem, ⟨14, _⟩ => ⟨S768x512, .bf16⟩
  | .local _ .vmem, ⟨15, _⟩ => ⟨S576x768, .bf16⟩
  | .local _ .vmem, ⟨16, _⟩ => ⟨S576x768, .bf16⟩
  | _, _ => ⟨S8448x13312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_1 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42_0 : Ref sig .tc := ⟨.hbm, 51, rfl⟩
abbrev main_v42_1 : Ref sig .tc := ⟨.hbm, 52, rfl⟩
abbrev main_v42_2 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.addi c21_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S768x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S768x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S768x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S768x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S576x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference10Ideal.lean ====
abbrev S8448x13312 : Shape := ⟨2, ![8448, 13312]⟩
abbrev S128 : Shape := ⟨1, ![128]⟩
abbrev S8192 : Shape := ⟨1, ![8192]⟩
abbrev S8448x2048 : Shape := ⟨2, ![8448, 2048]⟩
abbrev S8448x16x128 : Shape := ⟨3, ![8448, 16, 128]⟩
abbrev S_ : Shape := ⟨0, ![]⟩
abbrev S8448x16 : Shape := ⟨2, ![8448, 16]⟩
abbrev S8448x16x1 : Shape := ⟨3, ![8448, 16, 1]⟩
abbrev S1x1x128 : Shape := ⟨3, ![1, 1, 128]⟩
abbrev S8448x512 : Shape := ⟨2, ![8448, 512]⟩
abbrev S8448x4x128 : Shape := ⟨3, ![8448, 4, 128]⟩
abbrev S8448x4 : Shape := ⟨2, ![8448, 4]⟩
abbrev S8448x4x1 : Shape := ⟨3, ![8448, 4, 1]⟩
abbrev S8192x16x128 : Shape := ⟨3, ![8192, 16, 128]⟩
abbrev S32 : Shape := ⟨1, ![32]⟩
abbrev S8192x16x64 : Shape := ⟨3, ![8192, 16, 64]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S8192x16x32 : Shape := ⟨3, ![8192, 16, 32]⟩
abbrev S256x16x128 : Shape := ⟨3, ![256, 16, 128]⟩
abbrev S8192x4x128 : Shape := ⟨3, ![8192, 4, 128]⟩
abbrev S8192x4x64 : Shape := ⟨3, ![8192, 4, 64]⟩
abbrev S8192x4x32 : Shape := ⟨3, ![8192, 4, 32]⟩
abbrev S256x4x128 : Shape := ⟨3, ![256, 4, 128]⟩
abbrev S2048x8448 : Shape := ⟨2, ![2048, 8448]⟩

abbrev nBuf : Space → Nat
  | .hbm => 168
  | .vmem => 0
  | .smem => 0
  | _ => 0

abbrev hbmTy0_0 (i : Nat) : BufTy := match i % 128 with
  | 0 => ⟨S8448x13312, .bf16⟩
  | 1 => ⟨S128, .f32⟩
  | 2 => ⟨S128, .f32⟩
  | 3 => ⟨S8192, .i32⟩
  | 4 => ⟨S8192, .i32⟩
  | 5 => ⟨S8448x2048, .bf16⟩
  | 6 => ⟨S8448x2048, .f32⟩
  | 7 => ⟨S8448x16x128, .f32⟩
  | 8 => ⟨S8448x16x128, .f32⟩
  | 9 => ⟨S_, .f32⟩
  | 10 => ⟨S8448x16, .f32⟩
  | 11 => ⟨S8448x16x1, .f32⟩
  | 12 => ⟨S_, .f32⟩
  | 13 => ⟨S8448x16x1, .f32⟩
  | 14 => ⟨S8448x16x1, .f32⟩
  | 15 => ⟨S_, .f32⟩
  | 16 => ⟨S8448x16x1, .f32⟩
  | 17 => ⟨S8448x16x1, .f32⟩
  | 18 => ⟨S8448x16x1, .f32⟩
  | 19 => ⟨S8448x16x128, .f32⟩
  | 20 => ⟨S8448x16x128, .f32⟩
  | 21 => ⟨S1x1x128, .f32⟩
  | 22 => ⟨S8448x16x128, .f32⟩
  | 23 => ⟨S8448x16x128, .f32⟩
  | 24 => ⟨S8448x512, .bf16⟩
  | 25 => ⟨S8448x512, .f32⟩
  | 26 => ⟨S8448x4x128, .f32⟩
  | 27 => ⟨S8448x4x128, .f32⟩
  | 28 => ⟨S_, .f32⟩
  | 29 => ⟨S8448x4, .f32⟩
  | 30 => ⟨S8448x4x1, .f32⟩
  | 31 => ⟨S_, .f32⟩
  | 32 => ⟨S8448x4x1, .f32⟩
  | 33 => ⟨S8448x4x1, .f32⟩
  | 34 => ⟨S_, .f32⟩
  | 35 => ⟨S8448x4x1, .f32⟩
  | 36 => ⟨S8448x4x1, .f32⟩
  | 37 => ⟨S8448x4x1, .f32⟩
  | 38 => ⟨S8448x4x128, .f32⟩
  | 39 => ⟨S8448x4x128, .f32⟩
  | 40 => ⟨S1x1x128, .f32⟩
  | 41 => ⟨S8448x4x128, .f32⟩
  | 42 => ⟨S8448x4x128, .f32⟩
  | 43 => ⟨S8192x16x128, .f32⟩
  | 44 => ⟨S32, .f32⟩
  | 45 => ⟨S32, .f32⟩
  | 46 => ⟨S_, .f32⟩
  | 47 => ⟨S32, .f32⟩
  | 48 => ⟨S32, .f32⟩
  | 49 => ⟨S_, .f32⟩
  | 50 => ⟨S32, .f32⟩
  | 51 => ⟨S32, .f32⟩
  | 52 => ⟨S8192x16x64, .f32⟩
  | 53 => ⟨S8192, .f32⟩
  | 54 => ⟨S8192x1, .f32⟩
  | 55 => ⟨S1x32, .f32⟩
  | 56 => ⟨S8192x32, .f32⟩
  | 57 => ⟨S8192x32, .f32⟩
  | 58 => ⟨S8192x32, .f32⟩
  | 59 => ⟨S8192x32, .f32⟩
  | 60 => ⟨S8192x1x32, .f32⟩
  | 61 => ⟨S8192x32, .f32⟩
  | 62 => ⟨S8192x1x32, .f32⟩
  | 63 => ⟨S8192x16x32, .f32⟩
  | 64 => ⟨S8192x16x32, .f32⟩
  | 65 => ⟨S8192x16x32, .f32⟩
  | 66 => ⟨S8192x16x32, .f32⟩
  | 67 => ⟨S8192x16x32, .f32⟩
  | 68 => ⟨S8192x16x32, .f32⟩
  | 69 => ⟨S8192x16x32, .f32⟩
  | 70 => ⟨S8192x16x32, .f32⟩
  | 71 => ⟨S8192x16x32, .f32⟩
  | 72 => ⟨S8192x16x32, .f32⟩
  | 73 => ⟨S8192x16x32, .f32⟩
  | 74 => ⟨S8192x16x32, .f32⟩
  | 75 => ⟨S8192x16x64, .f32⟩
  | 76 => ⟨S8192x16x64, .f32⟩
  | 77 => ⟨S8192, .f32⟩
  | 78 => ⟨S8192x1, .f32⟩
  | 79 => ⟨S1x32, .f32⟩
  | 80 => ⟨S8192x32, .f32⟩
  | 81 => ⟨S8192x32, .f32⟩
  | 82 => ⟨S8192x32, .f32⟩
  | 83 => ⟨S8192x32, .f32⟩
  | 84 => ⟨S8192x1x32, .f32⟩
  | 85 => ⟨S8192x32, .f32⟩
  | 86 => ⟨S8192x1x32, .f32⟩
  | 87 => ⟨S8192x16x32, .f32⟩
  | 88 => ⟨S8192x16x32, .f32⟩
  | 89 => ⟨S8192x16x32, .f32⟩
  | 90 => ⟨S8192x16x32, .f32⟩
  | 91 => ⟨S8192x16x32, .f32⟩
  | 92 => ⟨S8192x16x32, .f32⟩
  | 93 => ⟨S8192x16x32, .f32⟩
  | 94 => ⟨S8192x16x32, .f32⟩
  | 95 => ⟨S8192x16x32, .f32⟩
  | 96 => ⟨S8192x16x32, .f32⟩
  | 97 => ⟨S8192x16x32, .f32⟩
  | 98 => ⟨S8192x16x32, .f32⟩
  | 99 => ⟨S8192x16x64, .f32⟩
  | 100 => ⟨S8192x16x128, .f32⟩
  | 101 => ⟨S256x16x128, .f32⟩
  | 102 => ⟨S8448x16x128, .f32⟩
  | 103 => ⟨S8192x4x128, .f32⟩
  | 104 => ⟨S32, .f32⟩
  | 105 => ⟨S32, .f32⟩
  | 106 => ⟨S_, .f32⟩
  | 107 => ⟨S32, .f32⟩
  | 108 => ⟨S32, .f32⟩
  | 109 => ⟨S_, .f32⟩
  | 110 => ⟨S32, .f32⟩
  | 111 => ⟨S32, .f32⟩
  | 112 => ⟨S8192x4x64, .f32⟩
  | 113 => ⟨S8192, .f32⟩
  | 114 => ⟨S8192x1, .f32⟩
  | 115 => ⟨S1x32, .f32⟩
  | 116 => ⟨S8192x32, .f32⟩
  | 117 => ⟨S8192x32, .f32⟩
  | 118 => ⟨S8192x32, .f32⟩
  | 119 => ⟨S8192x32, .f32⟩
  | 120 => ⟨S8192x1x32, .f32⟩
  | 121 => ⟨S8192x32, .f32⟩
  | 122 => ⟨S8192x1x32, .f32⟩
  | 123 => ⟨S8192x4x32, .f32⟩
  | 124 => ⟨S8192x4x32, .f32⟩
  | 125 => ⟨S8192x4x32, .f32⟩
  | 126 => ⟨S8192x4x32, .f32⟩
  | 127 => ⟨S8192x4x32, .f32⟩
  | _ => ⟨S8448x13312, .bf16⟩

abbrev hbmTy0_1 (i : Nat) : BufTy := match i % 128 with
  | 0 => ⟨S8192x4x32, .f32⟩
  | 1 => ⟨S8192x4x32, .f32⟩
  | 2 => ⟨S8192x4x32, .f32⟩
  | 3 => ⟨S8192x4x32, .f32⟩
  | 4 => ⟨S8192x4x32, .f32⟩
  | 5 => ⟨S8192x4x32, .f32⟩
  | 6 => ⟨S8192x4x32, .f32⟩
  | 7 => ⟨S8192x4x64, .f32⟩
  | 8 => ⟨S8192x4x64, .f32⟩
  | 9 => ⟨S8192, .f32⟩
  | 10 => ⟨S8192x1, .f32⟩
  | 11 => ⟨S1x32, .f32⟩
  | 12 => ⟨S8192x32, .f32⟩
  | 13 => ⟨S8192x32, .f32⟩
  | 14 => ⟨S8192x32, .f32⟩
  | 15 => ⟨S8192x32, .f32⟩
  | 16 => ⟨S8192x1x32, .f32⟩
  | 17 => ⟨S8192x32, .f32⟩
  | 18 => ⟨S8192x1x32, .f32⟩
  | 19 => ⟨S8192x4x32, .f32⟩
  | 20 => ⟨S8192x4x32, .f32⟩
  | 21 => ⟨S8192x4x32, .f32⟩
  | 22 => ⟨S8192x4x32, .f32⟩
  | 23 => ⟨S8192x4x32, .f32⟩
  | 24 => ⟨S8192x4x32, .f32⟩
  | 25 => ⟨S8192x4x32, .f32⟩
  | 26 => ⟨S8192x4x32, .f32⟩
  | 27 => ⟨S8192x4x32, .f32⟩
  | 28 => ⟨S8192x4x32, .f32⟩
  | 29 => ⟨S8192x4x32, .f32⟩
  | 30 => ⟨S8192x4x32, .f32⟩
  | 31 => ⟨S8192x4x64, .f32⟩
  | 32 => ⟨S8192x4x128, .f32⟩
  | 33 => ⟨S256x4x128, .f32⟩
  | 34 => ⟨S8448x4x128, .f32⟩
  | 35 => ⟨S8448x16x128, .bf16⟩
  | 36 => ⟨S8448x2048, .bf16⟩
  | 37 => ⟨S2048x8448, .bf16⟩
  | 38 => ⟨S8448x4x128, .bf16⟩
  | 39 => ⟨S8448x512, .bf16⟩
  | _ => ⟨S8448x13312, .bf16⟩

abbrev hbmTy (i : Nat) : BufTy := match i / 128 with
  | 0 => hbmTy0_0 i
  | 1 => hbmTy0_1 i
  | _ => ⟨S8448x13312, .bf16⟩

abbrev bufTy : (tb : Table) → Fin (tcTables nBuf tb) → BufTy
  | .hbm, ⟨i, _⟩ => hbmTy i
  | _, _ => ⟨S8448x13312, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_cst_7 : Ref sig .tc := ⟨.hbm, 106, rfl⟩
abbrev main_v93 : Ref sig .tc := ⟨.hbm, 107, rfl⟩
abbrev main_v94 : Ref sig .tc := ⟨.hbm, 108, rfl⟩
abbrev main_cst_8 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩

abbrev nD : Nat := 1
abbrev τ : Topo := Topo.v7x

variable {F : FTy → Type} [FloatOps F]
-- ==== Proof.Words.lean ====
/-
  The words that the pipeline's loop carries, as functions of the trip number, and everything the kernel computes from
  them: which slot, which semaphore and which block each transfer of a trip names, and which of the trip's branches are
  taken. Each fact is a statement about the 33 trips and is decided over them once.

  The loop carries nine counters. `w5` counts the row blocks of `x` copied in, `w6` those waited for; `w7`, `w8` do the
  same for the shift rows and `w9`, `w10` for the scale rows, each of which has only two blocks (one of the 32 main row
  blocks, one of the last row block); `w11` counts the row blocks written back, `w12` those whose write-back has been
  waited for; `w13` is the row block's number.
-/
module

public import proofs.«01_k».proof.Proof.Gen.KernelIdeal
public import proofs.«01_k».proof.Proof.Gen.KernelIdeal.Skeleton
public import Idealize.ShloMosaic.Lib.Ring.Trips

@[expose] public section

set_option maxRecDepth 16384

noncomputable section

namespace Cert.Proof.Norm

open Cert.KernelIdeal Cert.KernelIdeal.Gen
open Idealize.ShloMosaic Idealize.ShloMosaic.TcCoe

abbrev T : ℕ := k0_t1_loop.trips
theorem T_eq : T = 33 := by decide

/-! ## The carried words before trip `k` -/

def w5 (k : ℕ) : BitVec 32 := BitVec.ofNat 32 (min (k + 2) 33)
def w6 (k : ℕ) : BitVec 32 := BitVec.ofNat 32 k
def w7 (k : ℕ) : BitVec 32 := BitVec.ofNat 32 (if k < 32 then 1 else 2)
def w8 (k : ℕ) : BitVec 32 := BitVec.ofNat 32 (k - 31)
def w9 (k : ℕ) : BitVec 32 := BitVec.ofNat 32 (if k < 32 then 1 else 2)
def w10 (k : ℕ) : BitVec 32 := BitVec.ofNat 32 (k - 31)
def w11 (k : ℕ) : BitVec 32 := BitVec.ofNat 32 k
def w12 (k : ℕ) : BitVec 32 := BitVec.ofNat 32 (k - 1)
def w13 (k : ℕ) : BitVec 32 := BitVec.ofNat 32 (k % 33)

/-- All nine. -/
abbrev accs (k : ℕ) : BitVec 32 × BitVec 32 × BitVec 32 × BitVec 32 × BitVec 32 × BitVec 32 × BitVec 32 × BitVec 32 × BitVec 32 :=
  (w5 k, w6 k, w7 k, w8 k, w9 k, w10 k, w11 k, w12 k, w13 k)

/-- Which of the two modulation rows trip `k` reads: row 0 for the main row blocks, row 1 for the last. -/
def rowOf (k : ℕ) : Fin 2 := if k < 32 then 0 else 1

/-! ## The checks -/

theorem chk1 : ∀ k : Fin T, k0_chk1 k (w5 k) (w6 k) (w7 k) (w8 k) (w9 k) (w10 k) (w11 k) (w12 k) (w13 k) := by decide +kernel
theorem chk2 : ∀ k : Fin T, k0_chk2 (w6 k) := by decide +kernel
theorem chk3 : ∀ k : Fin T, k0_chk3 (w10 k) := by decide +kernel
theorem chk4 : ∀ k : Fin T, k0_chk4 (w8 k) := by decide +kernel
theorem chk5 : ∀ k : Fin T, k0_chk5 (w11 k) := by decide +kernel
theorem chk6 : k0_chk6 (w12 33) := by decide +kernel
theorem chk7 : k0_chk7 (w13 33) := by decide +kernel

/-! ## The branches -/

theorem cond2_iff : ∀ k : Fin T, k0_cond2 k (w13 k) = 1#1 ↔ k.val < 31 := by decide +kernel
theorem cond3_iff : ∀ k : Fin T, k0_cond3 k (w13 k) = 1#1 ↔ k.val = 31 := by decide +kernel
theorem cond4_iff : ∀ k : Fin T, k0_cond4 k (w13 k) = 1#1 ↔ k.val = 31 := by decide +kernel
theorem cond5_iff : ∀ k : Fin T, k0_cond5 k (w13 k) = 1#1 ↔ True := by decide +kernel
theorem cond6_iff : ∀ k : Fin T, k0_cond6 k (w13 k) = 1#1 ↔ (k.val = 0 ∨ k.val = 32) := by decide +kernel
theorem cond7_iff : ∀ k : Fin T, k0_cond7 k (w13 k) = 1#1 ↔ (k.val = 0 ∨ k.val = 32) := by decide +kernel
theorem cond12_iff : ∀ k : Fin T, k0_cond12 k (w13 k) = 1#1 ↔ True := by decide +kernel
theorem cond16_iff : ∀ k : Fin T, k0_cond16 k (w13 k) = 1#1 ↔ 0 < k.val := by decide +kernel

/-! ## The places -/

theorem off10_eq : ∀ k : Fin T, k.val < 31 → k0_off10 (w5 k) = ![(k.val + 2) % 3] := by decide +kernel
theorem off11_eq : ∀ k : Fin T, k.val < 31 → k0_off11 (w5 k) = ![(k.val + 2) % 3, 0, 0] := by decide +kernel
theorem off12_eq : ∀ k : Fin T, k.val < 31 → k0_off12 (w13 k) = ![256 * (k.val + 2), 0] := by decide +kernel
theorem off13_eq : ∀ k : Fin T, k.val = 31 → k0_off13 (w7 k) = ![1] := by decide +kernel
theorem off14_eq : ∀ k : Fin T, k.val = 31 → k0_off14 (w7 k) = ![1, 0, 0, 0] := by decide +kernel
theorem off15_eq : ∀ k : Fin T, k.val = 31 → k0_off15 (w13 k) = ![1, 0, 0] := by decide +kernel
theorem off16_eq : ∀ k : Fin T, k.val = 31 → k0_off16 (w9 k) = ![1] := by decide +kernel
theorem off17_eq : ∀ k : Fin T, k.val = 31 → k0_off17 (w9 k) = ![1, 0, 0, 0] := by decide +kernel
theorem off18_eq : ∀ k : Fin T, k.val = 31 → k0_off18 (w13 k) = ![1, 0, 4096] := by decide +kernel
theorem off19_eq : ∀ k : Fin T, k0_off19 (w6 k) = ![k.val % 3] := by decide +kernel
theorem off20_eq : ∀ k : Fin T, k0_off20 (w6 k) = ![k.val % 3, 0, 0] := by decide +kernel
theorem off21_eq : ∀ k : Fin T, k0_off21 (w13 k) = ![256 * k.val, 0] := by decide +kernel
theorem off22_eq : ∀ k : Fin T, k0_off22 (w8 k) = ![(rowOf k).val] := by decide +kernel
theorem off23_eq : ∀ k : Fin T, k0_off23 (w8 k) = ![(rowOf k).val, 0, 0, 0] := by decide +kernel
theorem off24_eq : ∀ k : Fin T, k0_off24 (w13 k) = ![(rowOf k).val, 0, 0] := by decide +kernel
theorem off25_eq : ∀ k : Fin T, k0_off25 (w10 k) = ![(rowOf k).val] := by decide +kernel
theorem off26_eq : ∀ k : Fin T, k0_off26 (w10 k) = ![(rowOf k).val, 0, 0, 0] := by decide +kernel
theorem off27_eq : ∀ k : Fin T, k0_off27 (w13 k) = ![(rowOf k).val, 0, 4096] := by decide +kernel
theorem off28_eq : ∀ k : Fin T, k0_off28 (w6 k) = ![k.val % 3, 0, 0] := by decide +kernel
theorem off29_eq : ∀ k : Fin T, k0_off29 (w10 k) = ![(rowOf k).val, 0, 0, 0] := by decide +kernel
theorem off30_eq : ∀ k : Fin T, k0_off30 (w8 k) = ![(rowOf k).val, 0, 0, 0] := by decide +kernel
theorem off31_eq : ∀ k : Fin T, k0_off31 (w11 k) = ![k.val % 2, 0, 0] := by decide +kernel
theorem off32_eq : ∀ k : Fin T, k0_off32 (w11 k) = ![k.val % 2] := by decide +kernel
theorem off33_eq : ∀ k : Fin T, k0_off33 (w13 k) = ![256 * k.val, 0] := by decide +kernel
theorem off34_eq : ∀ k : Fin T, k0_off34 (w11 k) = ![k.val % 2, 0, 0] := by decide +kernel
theorem off35_eq : ∀ k : Fin T, 0 < k.val → k0_off35 (w12 k) = ![(k.val - 1) % 2] := by decide +kernel
theorem off36_eq : ∀ k : Fin T, 0 < k.val → k0_off36 (w13 k) = ![256 * (k.val - 1), 0] := by decide +kernel
theorem off37_eq : ∀ k : Fin T, 0 < k.val → k0_off37 (w12 k) = ![(k.val - 1) % 2, 0, 0] := by decide +kernel
theorem off38_eq : k0_off38 (w12 33) = ![0] := by decide +kernel
theorem off39_eq : k0_off39 (w13 33) = ![8192, 0] := by decide +kernel
theorem off40_eq : k0_off40 (w12 33) = ![0, 0, 0] := by decide +kernel

end Cert.Proof.Norm

end
-- ==== Proof.Names.lean ====
/-
  The parts of the kernel's buffers under one name each: the row blocks of `x` and of the result in HBM, the two shift
  rows and the two scale rows of the modulation array, the slots of the four VMEM rings and their semaphores. The memrefs
  that the kernel spells through its carried words are these (the `sl_canon` equations), at the trip's slots and blocks.
-/
module

public import proofs.«01_k».proof.Proof.Words
public import Idealize.ShloMosaic.Lib.Tactic

@[expose] public section

set_option maxRecDepth 16384

noncomputable section

namespace Cert.Proof.Norm

open Cert.KernelIdeal Cert.KernelIdeal.Gen
open Idealize.ShloMosaic Idealize.ShloMosaic.TcCoe Idealize.ShloMosaic.Tactic

/-! ## The buffers -/

abbrev xM : Memref sig .tc .hbm S8448x4096 .f32 := Memref.whole main_arg0
abbrev mM : Memref sig .tc .hbm S8x1x12288 .f32 := Memref.whole main_v1
abbrev oM : Memref sig .tc .hbm S8448x4096 .bf16 := Memref.whole main_v2
abbrev xR : Memref sig .tc .vmem S3x256x4096 .f32 := Memref.whole cc0_scoped0
abbrev sR : Memref sig .tc .vmem S2x1x1x4096 .f32 := Memref.whole cc0_scoped2
abbrev cR : Memref sig .tc .vmem S2x1x1x4096 .f32 := Memref.whole cc0_scoped4
abbrev oR : Memref sig .tc .vmem S2x256x4096 .bf16 := Memref.whole cc0_scoped6

/-! ## Offsets and their ranges -/

abbrev cell3 (s : Fin 3) : Fin 1 → ℕ := ![s.val]
theorem cell3_inb (s : Fin 3) : ∀ a, cell3 s a + S1.size a ≤ S3.size a := by
  have := s.isLt; intro a; fin_cases a; show s.val + 1 ≤ 3; omega
abbrev cell2 (s : Fin 2) : Fin 1 → ℕ := ![s.val]
theorem cell2_inb (s : Fin 2) : ∀ a, cell2 s a + S1.size a ≤ S2.size a := by
  have := s.isLt; intro a; fin_cases a; show s.val + 1 ≤ 2; omega
abbrev slot3 (s : Fin 3) : Fin 3 → ℕ := ![s.val, 0, 0]
theorem slot3_inb (s : Fin 3) : ∀ a, slot3 s a + S1x256x4096.size a ≤ S3x256x4096.size a := by
  have := s.isLt; intro a; fin_cases a
  · show s.val + 1 ≤ 3; omega
  · show 0 + 256 ≤ 256; omega
  · show 0 + 4096 ≤ 4096; omega
abbrev slot2 (s : Fin 2) : Fin 3 → ℕ := ![s.val, 0, 0]
theorem slot2_inb (s : Fin 2) : ∀ a, slot2 s a + S1x256x4096.size a ≤ S2x256x4096.size a := by
  have := s.isLt; intro a; fin_cases a
  · show s.val + 1 ≤ 2; omega
  · show 0 + 256 ≤ 256; omega
  · show 0 + 4096 ≤ 4096; omega
abbrev rowSlot (s : Fin 2) : Fin 4 → ℕ := ![s.val, 0, 0, 0]
theorem rowSlot_inb (s : Fin 2) : ∀ a, rowSlot s a + S1x1x1x4096.size a ≤ S2x1x1x4096.size a := by
  have := s.isLt; intro a; fin_cases a
  · show s.val + 1 ≤ 2; omega
  · show 0 + 1 ≤ 1; omega
  · show 0 + 1 ≤ 1; omega
  · show 0 + 4096 ≤ 4096; omega
abbrev blk (b : Fin 33) : Fin 2 → ℕ := ![256 * b.val, 0]
theorem blk_inb (b : Fin 33) : ∀ a, blk b a + S256x4096.size a ≤ S8448x4096.size a := by
  have := b.isLt; intro a; fin_cases a
  · show 256 * b.val + 256 ≤ 8448; omega
  · show 0 + 4096 ≤ 4096; omega
abbrev shiftAt (r : Fin 2) : Fin 3 → ℕ := ![r.val, 0, 0]
theorem shiftAt_inb (r : Fin 2) : ∀ a, shiftAt r a + S1x1x4096.size a ≤ S8x1x12288.size a := by
  have := r.isLt; intro a; fin_cases a
  · show r.val + 1 ≤ 8; omega
  · show 0 + 1 ≤ 1; omega
  · show 0 + 4096 ≤ 12288; omega
abbrev scaleAt (r : Fin 2) : Fin 3 → ℕ := ![r.val, 0, 4096]
theorem scaleAt_inb (r : Fin 2) : ∀ a, scaleAt r a + S1x1x4096.size a ≤ S8x1x12288.size a := by
  have := r.isLt; intro a; fin_cases a
  · show r.val + 1 ≤ 8; omega
  · show 0 + 1 ≤ 1; omega
  · show 4096 + 4096 ≤ 12288; omega

instance (s : Fin 3) : ClosedOff (slot3 s) := ⟨slot3 s, rfl⟩
instance (s : Fin 2) : ClosedOff (slot2 s) := ⟨slot2 s, rfl⟩
instance (s : Fin 2) : ClosedOff (rowSlot s) := ⟨rowSlot s, rfl⟩
instance (b : Fin 33) : ClosedOff (blk b) := ⟨blk b, rfl⟩
instance (r : Fin 2) : ClosedOff (shiftAt r) := ⟨shiftAt r, rfl⟩
instance (r : Fin 2) : ClosedOff (scaleAt r) := ⟨scaleAt r, rfl⟩

/-! ## The parts -/

/-- Row block `b` of `x`. -/
def xb (b : Fin 33) : Memref sig .tc .hbm S256x4096 .f32 :=
  xM.slice (Rect.unit (s := S8448x4096) (blk b) S256x4096.size (blk_inb b)) (fun _ => rfl)
/-- Row block `b` of the result. -/
def ob (b : Fin 33) : Memref sig .tc .hbm S256x4096 .bf16 :=
  oM.slice (Rect.unit (s := S8448x4096) (blk b) S256x4096.size (blk_inb b)) (fun _ => rfl)
/-- The shift of modulation row `r`. -/
def sh (r : Fin 2) : Memref sig .tc .hbm S1x1x4096 .f32 :=
  mM.slice (Rect.unit (s := S8x1x12288) (shiftAt r) S1x1x4096.size (shiftAt_inb r)) (fun _ => rfl)
/-- The scale of modulation row `r`. -/
def sc (r : Fin 2) : Memref sig .tc .hbm S1x1x4096 .f32 :=
  mM.slice (Rect.unit (s := S8x1x12288) (scaleAt r) S1x1x4096.size (scaleAt_inb r)) (fun _ => rfl)
/-- Slot `s` of `x`'s ring. -/
def xs (s : Fin 3) : Memref sig .tc .vmem S256x4096 .f32 :=
  (xR.slice (Rect.unit (s := S3x256x4096) (slot3 s) S1x256x4096.size (slot3_inb s)) (fun _ => rfl)).squeeze S256x4096 squeezes_S1x256x4096_S256x4096
/-- Slot `s` of the shift ring. -/
def ss (s : Fin 2) : Memref sig .tc .vmem S1x1x4096 .f32 :=
  (sR.slice (Rect.unit (s := S2x1x1x4096) (rowSlot s) S1x1x1x4096.size (rowSlot_inb s)) (fun _ => rfl)).squeeze S1x1x4096 squeezes_S1x1x1x4096_S1x1x4096
/-- Slot `s` of the scale ring. -/
def cs (s : Fin 2) : Memref sig .tc .vmem S1x1x4096 .f32 :=
  (cR.slice (Rect.unit (s := S2x1x1x4096) (rowSlot s) S1x1x1x4096.size (rowSlot_inb s)) (fun _ => rfl)).squeeze S1x1x4096 squeezes_S1x1x1x4096_S1x1x4096
/-- Slot `s` of the result's ring. -/
def os (s : Fin 2) : Memref sig .tc .vmem S256x4096 .bf16 :=
  (oR.slice (Rect.unit (s := S2x256x4096) (slot2 s) S1x256x4096.size (slot2_inb s)) (fun _ => rfl)).squeeze S256x4096 squeezes_S1x256x4096_S256x4096
/-- The semaphore of slot `s` of `x`'s ring, of the shift ring, the scale ring and the result's ring. -/
def xc (s : Fin 3) : DmaSems sig S_ := (cc0_scoped1.slice (Rect.unit (s := S3) (cell3 s) S1.size (cell3_inb s))).squeeze S_ squeezes_S1_S_
def shc (s : Fin 2) : DmaSems sig S_ := (cc0_scoped3.slice (Rect.unit (s := S2) (cell2 s) S1.size (cell2_inb s))).squeeze S_ squeezes_S1_S_
def scc (s : Fin 2) : DmaSems sig S_ := (cc0_scoped5.slice (Rect.unit (s := S2) (cell2 s) S1.size (cell2_inb s))).squeeze S_ squeezes_S1_S_
def oc (s : Fin 2) : DmaSems sig S_ := (cc0_scoped7.slice (Rect.unit (s := S2) (cell2 s) S1.size (cell2_inb s))).squeeze S_ squeezes_S1_S_

/-! ## Equal offsets, equal parts -/

section Congr
theorem xb_congr {off : Fin 2 → ℕ} {b : Fin 33} (e : off = blk b) (hh hs) :
    xM.slice (Rect.unit (s := S8448x4096) off S256x4096.size hh) hs = xb b := Memref.slice_unit_congr _ e _ _ hs (fun _ => rfl)
theorem ob_congr {off : Fin 2 → ℕ} {b : Fin 33} (e : off = blk b) (hh hs) :
    oM.slice (Rect.unit (s := S8448x4096) off S256x4096.size hh) hs = ob b := Memref.slice_unit_congr _ e _ _ hs (fun _ => rfl)
theorem sh_congr {off : Fin 3 → ℕ} {r : Fin 2} (e : off = shiftAt r) (hh hs) :
    mM.slice (Rect.unit (s := S8x1x12288) off S1x1x4096.size hh) hs = sh r := Memref.slice_unit_congr _ e _ _ hs (fun _ => rfl)
theorem sc_congr {off : Fin 3 → ℕ} {r : Fin 2} (e : off = scaleAt r) (hh hs) :
    mM.slice (Rect.unit (s := S8x1x12288) off S1x1x4096.size hh) hs = sc r := Memref.slice_unit_congr _ e _ _ hs (fun _ => rfl)
theorem xs_congr {off : Fin 3 → ℕ} {s : Fin 3} (e : off = slot3 s) (hh hs) :
    (xR.slice (Rect.unit (s := S3x256x4096) off S1x256x4096.size hh) hs).squeeze S256x4096 squeezes_S1x256x4096_S256x4096 = xs s :=
  congrArg (fun M : Memref sig .tc .vmem S1x256x4096 .f32 => M.squeeze S256x4096 squeezes_S1x256x4096_S256x4096) (Memref.slice_unit_congr _ e _ _ _ _)
theorem ss_congr {off : Fin 4 → ℕ} {s : Fin 2} (e : off = rowSlot s) (hh hs) :
    (sR.slice (Rect.unit (s := S2x1x1x4096) off S1x1x1x4096.size hh) hs).squeeze S1x1x4096 squeezes_S1x1x1x4096_S1x1x4096 = ss s :=
  congrArg (fun M : Memref sig .tc .vmem S1x1x1x4096 .f32 => M.squeeze S1x1x4096 squeezes_S1x1x1x4096_S1x1x4096) (Memref.slice_unit_congr _ e _ _ _ _)
theorem cs_congr {off : Fin 4 → ℕ} {s : Fin 2} (e : off = rowSlot s) (hh hs) :
    (cR.slice (Rect.unit (s := S2x1x1x4096) off S1x1x1x4096.size hh) hs).squeeze S1x1x4096 squeezes_S1x1x1x4096_S1x1x4096 = cs s :=
  congrArg (fun M : Memref sig .tc .vmem S1x1x1x4096 .f32 => M.squeeze S1x1x4096 squeezes_S1x1x1x4096_S1x1x4096) (Memref.slice_unit_congr _ e _ _ _ _)
theorem os_congr {off : Fin 3 → ℕ} {s : Fin 2} (e : off = slot2 s) (hh hs) :
    (oR.slice (Rect.unit (s := S2x256x4096) off S1x256x4096.size hh) hs).squeeze S256x4096 squeezes_S1x256x4096_S256x4096 = os s :=
  congrArg (fun M : Memref sig .tc .vmem S1x256x4096 .bf16 => M.squeeze S256x4096 squeezes_S1x256x4096_S256x4096) (Memref.slice_unit_congr _ e _ _ _ _)
theorem xc_congr {off : Fin 1 → ℕ} {s : Fin 3} (e : off = cell3 s) (hh) :
    (cc0_scoped1.slice (Rect.unit (s := S3) off S1.size hh)).squeeze S_ squeezes_S1_S_ = xc s :=
  congrArg (fun A : DmaSems sig S1 => A.squeeze S_ squeezes_S1_S_) (SemArray.slice_unit_congr _ e _ _)
theorem shc_congr {off : Fin 1 → ℕ} {s : Fin 2} (e : off = cell2 s) (hh) :
    (cc0_scoped3.slice (Rect.unit (s := S2) off S1.size hh)).squeeze S_ squeezes_S1_S_ = shc s :=
  congrArg (fun A : DmaSems sig S1 => A.squeeze S_ squeezes_S1_S_) (SemArray.slice_unit_congr _ e _ _)
theorem scc_congr {off : Fin 1 → ℕ} {s : Fin 2} (e : off = cell2 s) (hh) :
    (cc0_scoped5.slice (Rect.unit (s := S2) off S1.size hh)).squeeze S_ squeezes_S1_S_ = scc s :=
  congrArg (fun A : DmaSems sig S1 => A.squeeze S_ squeezes_S1_S_) (SemArray.slice_unit_congr _ e _ _)
theorem oc_congr {off : Fin 1 → ℕ} {s : Fin 2} (e : off = cell2 s) (hh) :
    (cc0_scoped7.slice (Rect.unit (s := S2) off S1.size hh)).squeeze S_ squeezes_S1_S_ = oc s :=
  congrArg (fun A : DmaSems sig S1 => A.squeeze S_ squeezes_S1_S_) (SemArray.slice_unit_congr _ e _ _)
end Congr

/-! ## The offsets of a trip at its slots and blocks -/

section Off
variable (k : Fin T)

theorem T_lt : k.val < 33 := Nat.lt_of_lt_of_eq k.isLt T_eq

/-- A one-, three- or two-axis offset whose leading entry is a slot or block number. -/
theorem slot3_of {n : ℕ} {s : Fin 3} (h : s.val = n) : (![n, 0, 0] : Fin 3 → ℕ) = slot3 s := by rw [← h]
theorem cell3_of {n : ℕ} {s : Fin 3} (h : s.val = n) : (![n] : Fin 1 → ℕ) = cell3 s := by rw [← h]
theorem slot2_of {n : ℕ} {s : Fin 2} (h : s.val = n) : (![n, 0, 0] : Fin 3 → ℕ) = slot2 s := by rw [← h]
theorem cell2_of {n : ℕ} {s : Fin 2} (h : s.val = n) : (![n] : Fin 1 → ℕ) = cell2 s := by rw [← h]
theorem blk_of {n : ℕ} {b : Fin 33} (h : b.val = n) : (![256 * n, 0] : Fin 2 → ℕ) = blk b := by rw [← h]

end Off

/-- The slots that a trip loads and stores through the whole buffers. -/
instance (k : Fin T) : ClosedOff (k0_off28 (w6 k)) := ⟨slot3 (Ring.sl 3 k.val), (off28_eq k).trans (slot3_of (Ring.sl_val 3 _))⟩
instance (k : Fin T) : ClosedOff (k0_off31 (w11 k)) := ⟨slot2 (Ring.sl 2 k.val), (off31_eq k).trans (slot2_of (Ring.sl_val 2 _))⟩

/-! ## What the kernel spells -/

section Canon
variable (k : Fin T)

/-! The prologue: block 0 into slot 0, block 1 into slot 1, modulation row 0 into slot 0. -/
@[sl_canon] theorem xcL0 (hh) : (cc0_scoped1.slice (Rect.unit (s := S3) k0_off1 S1.size hh)).squeeze S_ squeezes_S1_S_ = xc 0 := xc_congr (by decide) _
@[sl_canon] theorem xsL0 (hh hs) : (xR.slice (Rect.unit (s := S3x256x4096) k0_off2 S1x256x4096.size hh) hs).squeeze S256x4096 squeezes_S1x256x4096_S256x4096 = xs 0 := xs_congr (by decide) _ _
@[sl_canon] theorem xbL0 (hh hs) : xM.slice (Rect.unit (s := S8448x4096) ![0, 0] S256x4096.size hh) hs = xb 0 := xb_congr (by decide) _ _
@[sl_canon] theorem xcL1 (hh) : (cc0_scoped1.slice (Rect.unit (s := S3) k0_off7 S1.size hh)).squeeze S_ squeezes_S1_S_ = xc 1 := xc_congr (by decide) _
@[sl_canon] theorem xsL1 (hh hs) : (xR.slice (Rect.unit (s := S3x256x4096) k0_off8 S1x256x4096.size hh) hs).squeeze S256x4096 squeezes_S1x256x4096_S256x4096 = xs 1 := xs_congr (by decide) _ _
@[sl_canon] theorem xbL1 (hh hs) : xM.slice (Rect.unit (s := S8448x4096) k0_off9 S256x4096.size hh) hs = xb 1 := xb_congr (by decide) _ _
@[sl_canon] theorem shcL0 (hh) : (cc0_scoped3.slice (Rect.unit (s := S2) k0_off3 S1.size hh)).squeeze S_ squeezes_S1_S_ = shc 0 := shc_congr (by decide) _
@[sl_canon] theorem ssL0 (hh hs) : (sR.slice (Rect.unit (s := S2x1x1x4096) k0_off4 S1x1x1x4096.size hh) hs).squeeze S1x1x4096 squeezes_S1x1x1x4096_S1x1x4096 = ss 0 := ss_congr (by decide) _ _
@[sl_canon] theorem shL0 (hh hs) : mM.slice (Rect.unit (s := S8x1x12288) k0_off5 S1x1x4096.size hh) hs = sh 0 := sh_congr (by decide) _ _
@[sl_canon] theorem sccL0 (hh) : (cc0_scoped5.slice (Rect.unit (s := S2) k0_off3 S1.size hh)).squeeze S_ squeezes_S1_S_ = scc 0 := scc_congr (by decide) _
@[sl_canon] theorem csL0 (hh hs) : (cR.slice (Rect.unit (s := S2x1x1x4096) k0_off4 S1x1x1x4096.size hh) hs).squeeze S1x1x4096 squeezes_S1x1x1x4096_S1x1x4096 = cs 0 := cs_congr (by decide) _ _
@[sl_canon] theorem scL0 (hh hs) : mM.slice (Rect.unit (s := S8x1x12288) k0_off6 S1x1x4096.size hh) hs = sc 0 := sc_congr (by decide) _ _

/-! A trip's issue of block `k + 2`. -/
@[sl_canon] theorem xcI (h : k.val < 31) (hh) : (cc0_scoped1.slice (Rect.unit (s := S3) (k0_off10 (w5 k)) S1.size hh)).squeeze S_ squeezes_S1_S_ = xc (Ring.sl 3 (k.val + 2)) :=
  xc_congr ((off10_eq k h).trans (cell3_of (Ring.sl_val 3 _))) _
@[sl_canon] theorem xsI (h : k.val < 31) (hh hs) : (xR.slice (Rect.unit (s := S3x256x4096) (k0_off11 (w5 k)) S1x256x4096.size hh) hs).squeeze S256x4096 squeezes_S1x256x4096_S256x4096 = xs (Ring.sl 3 (k.val + 2)) :=
  xs_congr ((off11_eq k h).trans (slot3_of (Ring.sl_val 3 _))) _ _
@[sl_canon] theorem xbI (h : k.val < 31) (hh hs) : xM.slice (Rect.unit (s := S8448x4096) (k0_off12 (w13 k)) S256x4096.size hh) hs = xb (Ring.bk 33 (k.val + 2)) :=
  xb_congr ((off12_eq k h).trans (blk_of (Ring.bk_val (by omega)))) _ _

/-! Trip 31's issue of modulation row 1. -/
@[sl_canon] theorem shcI (h : k.val = 31) (hh) : (cc0_scoped3.slice (Rect.unit (s := S2) (k0_off13 (w7 k)) S1.size hh)).squeeze S_ squeezes_S1_S_ = shc 1 := shc_congr (off13_eq k h) _
@[sl_canon] theorem ssI (h : k.val = 31) (hh hs) : (sR.slice (Rect.unit (s := S2x1x1x4096) (k0_off14 (w7 k)) S1x1x1x4096.size hh) hs).squeeze S1x1x4096 squeezes_S1x1x1x4096_S1x1x4096 = ss 1 := ss_congr (off14_eq k h) _ _
@[sl_canon] theorem shI (h : k.val = 31) (hh hs) : mM.slice (Rect.unit (s := S8x1x12288) (k0_off15 (w13 k)) S1x1x4096.size hh) hs = sh 1 := sh_congr (off15_eq k h) _ _
@[sl_canon] theorem sccI (h : k.val = 31) (hh) : (cc0_scoped5.slice (Rect.unit (s := S2) (k0_off16 (w9 k)) S1.size hh)).squeeze S_ squeezes_S1_S_ = scc 1 := scc_congr (off16_eq k h) _
@[sl_canon] theorem csI (h : k.val = 31) (hh hs) : (cR.slice (Rect.unit (s := S2x1x1x4096) (k0_off17 (w9 k)) S1x1x1x4096.size hh) hs).squeeze S1x1x4096 squeezes_S1x1x1x4096_S1x1x4096 = cs 1 := cs_congr (off17_eq k h) _ _
@[sl_canon] theorem scI (h : k.val = 31) (hh hs) : mM.slice (Rect.unit (s := S8x1x12288) (k0_off18 (w13 k)) S1x1x4096.size hh) hs = sc 1 := sc_congr (off18_eq k h) _ _

/-! A trip's waits for its own block and its modulation row, and the row's slots as the trip reads them. -/
@[sl_canon] theorem xcW (hh) : (cc0_scoped1.slice (Rect.unit (s := S3) (k0_off19 (w6 k)) S1.size hh)).squeeze S_ squeezes_S1_S_ = xc (Ring.sl 3 k.val) :=
  xc_congr ((off19_eq k).trans (cell3_of (Ring.sl_val 3 _))) _
@[sl_canon] theorem xsW (hh hs) : (xR.slice (Rect.unit (s := S3x256x4096) (k0_off20 (w6 k)) S1x256x4096.size hh) hs).squeeze S256x4096 squeezes_S1x256x4096_S256x4096 = xs (Ring.sl 3 k.val) :=
  xs_congr ((off20_eq k).trans (slot3_of (Ring.sl_val 3 _))) _ _
@[sl_canon] theorem xbW (hh hs) : xM.slice (Rect.unit (s := S8448x4096) (k0_off21 (w13 k)) S256x4096.size hh) hs = xb (Ring.bk 33 k.val) :=
  xb_congr ((off21_eq k).trans (blk_of (Ring.bk_val (T_lt k)))) _ _
@[sl_canon] theorem shcW (hh) : (cc0_scoped3.slice (Rect.unit (s := S2) (k0_off22 (w8 k)) S1.size hh)).squeeze S_ squeezes_S1_S_ = shc (rowOf k) := shc_congr (off22_eq k) _
@[sl_canon] theorem ssW (hh hs) : (sR.slice (Rect.unit (s := S2x1x1x4096) (k0_off23 (w8 k)) S1x1x1x4096.size hh) hs).squeeze S1x1x4096 squeezes_S1x1x1x4096_S1x1x4096 = ss (rowOf k) := ss_congr (off23_eq k) _ _
@[sl_canon] theorem shW (hh hs) : mM.slice (Rect.unit (s := S8x1x12288) (k0_off24 (w13 k)) S1x1x4096.size hh) hs = sh (rowOf k) := sh_congr (off24_eq k) _ _
@[sl_canon] theorem sccW (hh) : (cc0_scoped5.slice (Rect.unit (s := S2) (k0_off25 (w10 k)) S1.size hh)).squeeze S_ squeezes_S1_S_ = scc (rowOf k) := scc_congr (off25_eq k) _
@[sl_canon] theorem csW (hh hs) : (cR.slice (Rect.unit (s := S2x1x1x4096) (k0_off26 (w10 k)) S1x1x1x4096.size hh) hs).squeeze S1x1x4096 squeezes_S1x1x1x4096_S1x1x4096 = cs (rowOf k) := cs_congr (off26_eq k) _ _
@[sl_canon] theorem scW (hh hs) : mM.slice (Rect.unit (s := S8x1x12288) (k0_off27 (w13 k)) S1x1x4096.size hh) hs = sc (rowOf k) := sc_congr (off27_eq k) _ _
@[sl_canon] theorem csV (hh hs) : (cR.slice (Rect.unit (s := S2x1x1x4096) (k0_off29 (w10 k)) S1x1x1x4096.size hh) hs).squeeze S1x1x4096 squeezes_S1x1x1x4096_S1x1x4096 = cs (rowOf k) := cs_congr (off29_eq k) _ _
@[sl_canon] theorem ssV (hh hs) : (sR.slice (Rect.unit (s := S2x1x1x4096) (k0_off30 (w8 k)) S1x1x1x4096.size hh) hs).squeeze S1x1x4096 squeezes_S1x1x1x4096_S1x1x4096 = ss (rowOf k) := ss_congr (off30_eq k) _ _

/-! A trip's write-back of its block, and its wait for the block before. -/
@[sl_canon] theorem ocI (hh) : (cc0_scoped7.slice (Rect.unit (s := S2) (k0_off32 (w11 k)) S1.size hh)).squeeze S_ squeezes_S1_S_ = oc (Ring.sl 2 k.val) :=
  oc_congr ((off32_eq k).trans (cell2_of (Ring.sl_val 2 _))) _
@[sl_canon] theorem obI (hh hs) : oM.slice (Rect.unit (s := S8448x4096) (k0_off33 (w13 k)) S256x4096.size hh) hs = ob (Ring.bk 33 k.val) :=
  ob_congr ((off33_eq k).trans (blk_of (Ring.bk_val (T_lt k)))) _ _
@[sl_canon] theorem osI (hh hs) : (oR.slice (Rect.unit (s := S2x256x4096) (k0_off34 (w11 k)) S1x256x4096.size hh) hs).squeeze S256x4096 squeezes_S1x256x4096_S256x4096 = os (Ring.sl 2 k.val) :=
  os_congr ((off34_eq k).trans (slot2_of (Ring.sl_val 2 _))) _ _
@[sl_canon] theorem ocW (h : 0 < k.val) (hh) : (cc0_scoped7.slice (Rect.unit (s := S2) (k0_off35 (w12 k)) S1.size hh)).squeeze S_ squeezes_S1_S_ = oc (Ring.sl 2 (k.val - 1)) :=
  oc_congr ((off35_eq k h).trans (cell2_of (Ring.sl_val 2 _))) _
@[sl_canon] theorem obW (h : 0 < k.val) (hh hs) : oM.slice (Rect.unit (s := S8448x4096) (k0_off36 (w13 k)) S256x4096.size hh) hs = ob (Ring.bk 33 (k.val - 1)) :=
  ob_congr ((off36_eq k h).trans (blk_of (Ring.bk_val (by have := T_lt k; omega)))) _ _
@[sl_canon] theorem osW (h : 0 < k.val) (hh hs) : (oR.slice (Rect.unit (s := S2x256x4096) (k0_off37 (w12 k)) S1x256x4096.size hh) hs).squeeze S256x4096 squeezes_S1x256x4096_S256x4096 = os (Ring.sl 2 (k.val - 1)) :=
  os_congr ((off37_eq k h).trans (slot2_of (Ring.sl_val 2 _))) _ _

/-! The last wait, after the loop. -/
@[sl_canon] theorem ocE (hh) : (cc0_scoped7.slice (Rect.unit (s := S2) (k0_off38 (w12 33)) S1.size hh)).squeeze S_ squeezes_S1_S_ = oc 0 := oc_congr off38_eq _
@[sl_canon] theorem obE (hh hs) : oM.slice (Rect.unit (s := S8448x4096) (k0_off39 (w13 33)) S256x4096.size hh) hs = ob 32 := ob_congr off39_eq _ _
@[sl_canon] theorem osE (hh hs) : (oR.slice (Rect.unit (s := S2x256x4096) (k0_off40 (w12 33)) S1x256x4096.size hh) hs).squeeze S256x4096 squeezes_S1x256x4096_S256x4096 = os 0 := os_congr off40_eq _ _

end Canon

end Cert.Proof.Norm

end
-- ==== Proof.Pieces.lean ====
/-
  The pieces that the pipeline's invariant is made of: a row block of `x` at home, a slot of a ring held with its
  semaphore at rest, and a transfer under way, which holds its slot and its block until it is waited for.
-/
module

public import proofs.«01_k».proof.Proof.Names
public import proofs.«01_k».proof.Proof.Gen.KernelIdeal.Loops
public import Idealize.ShloMosaic.Lib.Pipeline.KitQuiescent
public import Idealize.ShloMosaic.Lib.Ring

@[expose] public section

set_option maxRecDepth 16384

noncomputable section

namespace Cert.Proof.Norm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's beside the counters that the kernel's own transfers ride on -/

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

section Pieces
variable (c : Dev nD)
variable (X : Buf (Elt F) (xM.view.loc (c : Thread nD τ))) (M : Buf (Elt F) (mM.view.loc (c : Thread nD τ)))
  (O : Buf (Elt F) (oM.view.loc (c : Thread nD τ)))

/-- A part of a buffer, held on its elements at the given contents. -/
abbrev partP {sp : Space} {s : Shape} {d : EltTy} (v : Memref sig .tc sp s d) (f : Buf (Elt F) (v.view.loc (c : Thread nD τ))) : sProp 𝕄 :=
  v.view.loc (c : Thread nD τ) ↦[v.view.set]{fullShare} f
/-- A semaphore at rest. -/
abbrev restP (s : DmaSems sig S_) : sProp 𝕄 := semVal ((c : Thread nD τ), SemLoc.dma s.sem) 0
/-- What a transfer of the part `src` leaves in the part `dst`. -/
abbrev landed {sp sp' : Space} {s : Shape} {d : EltTy} (dst : Memref sig .tc sp s d) (src : Memref sig .tc sp' s d)
    (f : Buf (Elt F) (dst.view.loc (c : Thread nD τ))) (g : Buf (Elt F) (src.view.loc (c : Thread nD τ))) : Buf (Elt F) (dst.view.loc (c : Thread nD τ)) :=
  dst.view.writes (Elt F) f [⟨Rect.whole s, ReadAs.same.apply (src.view.read (Elt F) g)⟩]
/-- A transfer of `src` into `dst` under way, `N` units on the semaphore `sem`. -/
abbrev flyP {sp sp' : Space} {s : Shape} {d : EltTy} (sem : DmaSems sig S_) (N : ℕ) (dst : Memref sig .tc sp s d) (src : Memref sig .tc sp' s d)
    (f : Buf (Elt F) (dst.view.loc (c : Thread nD τ))) (g : Buf (Elt F) (src.view.loc (c : Thread nD τ))) : sProp 𝕄 :=
  Transfers.Flight countersEmb (c : Thread nD τ) (SemLoc.dma sem.sem) () N iprop(partP c dst (landed c dst src f g) ∗ partP c src g)

/-- Row block `b` of `x` at home. -/
abbrev xHome (b : Fin 33) : sProp 𝕄 := partP c (xb b) X
/-- The shift and the scale of row `r` at home. -/
abbrev shHome (r : Fin 2) : sProp 𝕄 := partP c (sh r) M
abbrev scHome (r : Fin 2) : sProp 𝕄 := partP c (sc r) M
/-- Row block `b` of the result, holding `O`. -/
abbrev oHome (b : Fin 33) : sProp 𝕄 := partP c (ob b) O
/-- Row block `b` of `x` on its way into slot `s`. -/
abbrev xFly (s : Fin 3) (b : Fin 33) (f : Buf (Elt F) ((xs s).view.loc (c : Thread nD τ))) : sProp 𝕄 := flyP c (xc s) 131072 (xs s) (xb b) f X
/-- The shift, the scale of row `r` on its way into slot `s`. -/
abbrev shFly (s : Fin 2) (r : Fin 2) (f : Buf (Elt F) ((ss s).view.loc (c : Thread nD τ))) : sProp 𝕄 := flyP c (shc s) 512 (ss s) (sh r) f M
abbrev scFly (s : Fin 2) (r : Fin 2) (f : Buf (Elt F) ((cs s).view.loc (c : Thread nD τ))) : sProp 𝕄 := flyP c (scc s) 512 (cs s) (sc r) f M
/-- The shift, the scale of row `r` as it lies in slot `s`. -/
abbrev shHere (s : Fin 2) (r : Fin 2) (f : Buf (Elt F) ((ss s).view.loc (c : Thread nD τ))) : sProp 𝕄 := partP c (ss s) (landed c (ss s) (sh r) f M)
abbrev scHere (s : Fin 2) (r : Fin 2) (f : Buf (Elt F) ((cs s).view.loc (c : Thread nD τ))) : sProp 𝕄 := partP c (cs s) (landed c (cs s) (sc r) f M)
/-- Slot `s` of the result's ring on its way into row block `b`, which then holds `O`. -/
abbrev oFly (s : Fin 2) (b : Fin 33) (f : Buf (Elt F) ((os s).view.loc (c : Thread nD τ))) : sProp 𝕄 :=
  Transfers.Flight countersEmb (c : Thread nD τ) (SemLoc.dma (oc s).sem) () 65536 iprop(oHome c O b ∗ partP c (os s) f)

end Pieces

end Cert.Proof.Norm

end
-- ==== Proof.Out.lean ====
/-
  What the kernel leaves in the result: row block `b` holds the normalised and modulated row block `b` of `x`. And what
  the loads and transfers of a trip read: the slots give back the blocks copied into them.
-/
module

public import proofs.«01_k».proof.Proof.Pieces
public import Idealize.ShloMosaic.Lib.Pipeline.Value
public import Idealize.ShloMosaic.Lib.VecWindow

@[expose] public section

set_option maxRecDepth 16384

noncomputable section

namespace Cert.Proof.Norm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Out
variable (c : Dev nD)
variable (X : Buf (Elt F) (xM.view.loc (c : Thread nD τ))) (M : Buf (Elt F) (mM.view.loc (c : Thread nD τ)))
  (gv : Vec F S1x4096 .f32)

theorem cast_up : S256x4096.ShapeCasts S1x256x4096 := shapeCasts_S256x4096_S1x256x4096
theorem cast_down : S1x256x4096.ShapeCasts S256x4096 := shapeCasts_S1x256x4096_S256x4096

/-- Row block `b` of `x`, as a trip loads it. -/
def xIn (b : Fin 33) : Vec F S1x256x4096 .f32 := shapeCast S1x256x4096 ((xb b).view.read (Elt F) X) cast_up
/-- Row block `b` of the result, with modulation row `r`. -/
def yBlk (b : Fin 33) (r : Fin 2) : FVec F S256x4096 .bf16 :=
  k0_pay1 (xIn c X b) gv ((sc r).view.read (Elt F) M) ((sh r).view.read (Elt F) M)

/-- The row block that a row lies in, and its row there. -/
def blkOf (i : S8448x4096.Idx) : Fin 33 := ⟨(i 0).val / 256, by have : (i 0).val < 8448 := (i 0).isLt; omega⟩
def inBlk (i : S8448x4096.Idx) : S256x4096.Idx
  | 0 => ⟨(i 0).val % 256, Nat.mod_lt _ (by decide)⟩
  | 1 => ⟨(i 1).val, (i 1).isLt⟩

/-- The result. -/
def OUT : Buf (Elt F) (oM.view.loc (c : Thread nD τ)) :=
  fun i : S8448x4096.Idx => yBlk c X M gv (blkOf i) (rowOf (blkOf i).val) (inBlk i)

/-- The row and the column of the result that a block's row and column are. -/
def atBlk (b : Fin 33) (j : S256x4096.Idx) : S8448x4096.Idx
  | 0 => ⟨256 * b.val + (j 0).val, by have := b.isLt; have : (j 0).val < 256 := (j 0).isLt; show _ < 8448; omega⟩
  | 1 => ⟨(j 1).val, (j 1).isLt⟩

theorem emb_val (b : Fin 33) (j : S256x4096.Idx) : ((ob b).view.emb j : S8448x4096.Idx) = atBlk b j := by
  refine funext fun a : Fin 2 => ?_
  match a with
  | 0 => exact Fin.ext (show 256 * b.val + 1 * (j 0).val = 256 * b.val + (j 0).val by omega)
  | 1 => exact Fin.ext (show 0 + 1 * (j 1).val = (j 1).val by omega)

theorem blkOf_atBlk (b : Fin 33) (j : S256x4096.Idx) : blkOf (atBlk b j) = b := by
  have hj : (j 0).val < 256 := (j 0).isLt
  exact Fin.ext (show (256 * b.val + (j 0).val) / 256 = b.val by omega)
theorem inBlk_atBlk (b : Fin 33) (j : S256x4096.Idx) : inBlk (atBlk b j) = j := by
  have hj : (j 0).val < 256 := (j 0).isLt
  funext a
  match a with
  | 0 => exact Fin.ext (show (256 * b.val + (j 0).val) % 256 = (j 0).val by omega)
  | 1 => rfl

theorem OUT_read (b : Fin 33) : (ob b).view.read (Elt F) (OUT c X M gv) = yBlk c X M gv b (rowOf b.val) := by
  funext j
  show OUT c X M gv ((ob b).view.emb j : S8448x4096.Idx) = _
  rw [emb_val]
  unfold OUT
  rw [blkOf_atBlk, inBlk_atBlk]

/-! ## What the slots read -/

section General
variable {Val : EltTy → Type} {κ : Kind} {sp : Space} {s s' : Shape} {e : EltTy}

/-- A load through a buffer of one of its slots, after a transfer has filled the slot. -/
theorem load_slot (B : Memref sig κ sp s e) (r : Rect s) (hr) (hq : r.shape.Squeezes s') (hd : r.shape.ShapeCasts s') (hu : s'.ShapeCasts r.shape)
    (f : B.view.ty.Contents Val) (v : s'.Idx → Val e) :
    B.view.readAt Val r.toLoadRect (((B.slice r hr).squeeze s' hq).view.writes Val f [⟨Rect.whole s', v⟩]) = shapeCast r.shape v hu := by
  have h := View.read_writes_whole ((B.slice r hr).squeeze s' hq).view f v
  rw [Memref.read_squeeze_slice B r hr hq hd] at h
  have h' := congrArg (fun w => shapeCast r.shape w hu) h
  rw [shapeCast_shapeCast] at h'
  exact h'

/-- A slot after a store through the whole buffer. -/
theorem slot_store (B : Memref sig κ sp s e) (r : Rect s) (hr) (hq : r.shape.Squeezes s') (hd : r.shape.ShapeCasts s') (hu : s'.ShapeCasts r.shape)
    (f : B.view.ty.Contents Val) (v : s'.Idx → Val e) :
    ((B.slice r hr).squeeze s' hq).view.read Val ((B.access r).write Val f (shapeCast r.shape v hu) Finset.univ) = v := by
  rw [Memref.read_squeeze_slice B r hr hq hd]
  have h : B.view.readAt Val r.toLoadRect ((B.access r).write Val f (shapeCast r.shape v hu) Finset.univ) = shapeCast r.shape v hu := View.read_write_univ _ _
  rw [h, shapeCast_shapeCast]

/-- Where a transfer has filled a view, its buffer agrees with any contents that read so. -/
theorem writes_eq_on (v : View sig κ sp s e) (f f' : v.ty.Contents Val) (x : s.Idx → Val e) (h : v.read Val f' = x) :
    ∀ i ∈ v.set, v.writes Val f [⟨Rect.whole s, x⟩] i = f' i := by
  intro i hi
  obtain ⟨j, -, rfl⟩ := Finset.mem_map.mp hi
  have h' := congrFun ((View.read_writes_whole v f x).trans h.symm) j
  exact (cast_inj _).mp h'

end General

/-- A load of a slot of `x`'s ring through the whole buffer, when the slot holds row block `b`. -/
theorem xLoad (s : Fin 3) (b : Fin 33) (off : Fin 3 → ℕ) (inb) (e : off = slot3 s) (f) :
    xR.view.readAt (Elt F) (Rect.unit (s := S3x256x4096) off S1x256x4096.size inb).toLoadRect
      ((xs s).view.writes (Elt F) f [⟨Rect.whole S256x4096, ReadAs.same.apply ((xb b).view.read (Elt F) X)⟩])
      = xIn c X b := by
  subst e
  exact load_slot xR (Rect.unit (s := S3x256x4096) (slot3 s) S1x256x4096.size inb) (fun _ => rfl) squeezes_S1x256x4096_S256x4096 cast_down cast_up f _

/-- A slot of the result's ring after a trip's store of `y` through the whole buffer. -/
theorem oRead (s : Fin 2) (off : Fin 3 → ℕ) (inb) (e : off = slot2 s) (f) (y : FVec F S256x4096 .bf16) :
    (os s).view.read (Elt F) (View.write (Elt F) (oR.access (Rect.unit (s := S2x256x4096) off S1x256x4096.size inb)) f (shapeCast S1x256x4096 y cast_up) Finset.univ) = y := by
  subst e
  exact slot_store oR (Rect.unit (s := S2x256x4096) (slot2 s) S1x256x4096.size inb) (fun _ => rfl) squeezes_S1x256x4096_S256x4096 cast_down cast_up f y

/-- A row block of the result that holds, of a transfer, what `OUT` holds there. -/
theorem oLand (b : Fin 33) (O : Buf (Elt F) (oM.view.loc (c : Thread nD τ))) (v : S256x4096.Idx → Elt F .bf16) (h : v = yBlk c X M gv b (rowOf b.val)) :
    (partP c (ob b) ((ob b).view.writes (Elt F) O [⟨Rect.whole S256x4096, v⟩]) : sProp 𝕄) = oHome c (OUT c X M gv) b := by
  refine pointsTo_congr (writes_eq_on (ob b).view O (OUT c X M gv) v ?_)
  rw [h]; exact OUT_read c X M gv b

/-- A load of a whole slot of the scale ring, of the shift ring. -/
theorem cLoad (s r : Fin 2) (inb) :
    (cs s).view.readCov [⟨Rect.whole S1x1x4096, ReadAs.same.apply ((sc r).view.read (Elt F) M)⟩] (Rect.unit (s := S1x1x4096) ![0, 0, 0] S1x1x4096.size inb).toLoadRect
      = (sc r).view.read (Elt F) M :=
  (View.readAt_full (cs s).view _ inb).trans (View.read_writes_whole (cs s).view _ _)
theorem sLoad (s r : Fin 2) (inb) :
    (ss s).view.readCov [⟨Rect.whole S1x1x4096, ReadAs.same.apply ((sh r).view.read (Elt F) M)⟩] (Rect.unit (s := S1x1x4096) ![0, 0, 0] S1x1x4096.size inb).toLoadRect
      = (sh r).view.read (Elt F) M :=
  (View.readAt_full (ss s).view _ inb).trans (View.read_writes_whole (ss s).view _ _)

/-- What trip `k` writes back is row block `k` of the result. -/
theorem payEq (k : Fin T) (arg1 : Memref sig .tc .vmem S1x4096 .f32) (g : Buf (Elt F) (arg1.view.loc (c : Thread nD τ))) (hg : arg1.view.read (Elt F) g = gv)
    (fx) (inb28) (inb31) (fo : (oR.access (Rect.unit (s := S2x256x4096) (k0_off31 (w11 k.val)) S1x256x4096.size inb31)).ty.Contents (Elt F)) (inb1) (inb2) (inb3) :
    ReadAs.same.apply ((os (Ring.sl 2 k.val)).view.read (Elt F)
      (View.write (Elt F) (oR.access (Rect.unit (s := S2x256x4096) (k0_off31 (w11 k.val)) S1x256x4096.size inb31)) fo
        (shapeCast S1x256x4096
          (k0_pay1
            (xR.view.readAt (Elt F) (Rect.unit (s := S3x256x4096) (k0_off28 (w6 k.val)) S1x256x4096.size inb28).toLoadRect
              ((xs (Ring.sl 3 k.val)).view.writes (Elt F) fx [⟨Rect.whole S256x4096, ReadAs.same.apply ((xb (Ring.bk 33 k.val)).view.read (Elt F) X)⟩]))
            (arg1.view.readAt (Elt F) (Rect.unit (s := S1x4096) ![0, 0] S1x4096.size inb1).toLoadRect g)
            ((cs (rowOf k.val)).view.readCov [⟨Rect.whole S1x1x4096, ReadAs.same.apply ((sc (rowOf k.val)).view.read (Elt F) M)⟩] (Rect.unit (s := S1x1x4096) ![0, 0, 0] S1x1x4096.size inb2).toLoadRect)
            ((ss (rowOf k.val)).view.readCov [⟨Rect.whole S1x1x4096, ReadAs.same.apply ((sh (rowOf k.val)).view.read (Elt F) M)⟩] (Rect.unit (s := S1x1x4096) ![0, 0, 0] S1x1x4096.size inb3).toLoadRect))
          cast_up) Finset.univ))
      = yBlk c X M gv (Ring.bk 33 k.val) (rowOf (Ring.bk 33 k.val).val) := by
  refine (oRead (Ring.sl 2 k.val) _ inb31 ((off31_eq k).trans (slot2_of (Ring.sl_val 2 _))) fo _).trans ?_
  rw [Ring.bk_val (T_lt k), xLoad c X _ _ _ inb28 ((off28_eq k).trans (slot3_of (Ring.sl_val 3 _))), View.readAt_full arg1.view g inb1, hg, cLoad, sLoad]
  rfl

/-- A write-back under way, as the trip leaves it, ends with the block holding `OUT`. -/
theorem oFly_of (s : Fin 2) (b : Fin 33) (O : Buf (Elt F) (oM.view.loc (c : Thread nD τ))) (f : Buf (Elt F) ((os s).view.loc (c : Thread nD τ))) (v : S256x4096.Idx → Elt F .bf16)
    (h : v = yBlk c X M gv b (rowOf b.val)) :
    (Transfers.Flight countersEmb (c : Thread nD τ) (SemLoc.dma (oc s).sem) () 65536
      iprop(partP c (ob b) ((ob b).view.writes (Elt F) O [⟨Rect.whole S256x4096, v⟩]) ∗ partP c (os s) f) : sProp 𝕄)
      ⊢ iprop(∃ f, oFly c (OUT c X M gv) s b f) := by
  rw [oLand c X M gv b O v h]
  iintro H; iexists f; iexact H

end Out

end Cert.Proof.Norm

end
-- ==== Proof.Inv.lean ====
/-
  The pipeline's invariant before trip `k`, ring by ring.

  `x`: row blocks `k` and `k + 1` are on their way into slots `k` and `k + 1` (mod 3), as far as there are such blocks; slot
  `k + 2` is free; the other row blocks are at home. The modulation rows: row 0 is on its way before trip 0 and lies in
  slot 0 before trips 1 to 31; row 1 is on its way before trip 32 (trip 31 sends for it) and lies in slot 1 after it.
  The result: row block `k - 1` is being written back, those before it hold the result, those from `k` on hold what they
  held at first, and slot `k` (mod 2) is free.
-/
module

public import proofs.«01_k».proof.Proof.Out

@[expose] public section

set_option maxRecDepth 16384

noncomputable section

namespace Cert.Proof.Norm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Inv
variable (c : Dev nD)
variable (X : Buf (Elt F) (xM.view.loc (c : Thread nD τ))) (M : Buf (Elt F) (mM.view.loc (c : Thread nD τ)))
  (O R : Buf (Elt F) (oM.view.loc (c : Thread nD τ)))

/-! ## `x`'s ring -/

/-- Slot `p` (mod 3) free. -/
abbrev xFree (p : ℕ) : sProp 𝕄 := iprop((∃ f, partP c (xs (Ring.sl 3 p)) f) ∗ restP c (xc (Ring.sl 3 p)))
/-- Slot `p` (mod 3) as block `p` has it: on its way there, or free if there is no such block. -/
def xAt (p : ℕ) : sProp 𝕄 := if p < 33 then iprop(∃ f, xFly c X (Ring.sl 3 p) (Ring.bk 33 p) f) else xFree c p
/-- The ring before trip `k`. -/
def XR (k : ℕ) : sProp 𝕄 := iprop(bigSep (Ring.homeSet 2 k) (xHome c X) ∗ xAt c X k ∗ xAt c X (k + 1) ∗ xFree c (k + 2))

theorem xFree_add3 (k : ℕ) : (xFree c (k + 1 + 2) : sProp 𝕄) = xFree c k := by
  unfold xFree; rw [show k + 1 + 2 = k + 3 from rfl, Ring.sl_add]
theorem xAt_fly {p : ℕ} (h : p < 33) : xAt c X p = iprop(∃ f, xFly c X (Ring.sl 3 p) (Ring.bk 33 p) f) := by rw [xAt, if_pos h]
theorem xAt_free {p : ℕ} (h : ¬ p < 33) : xAt c X p = xFree c p := by rw [xAt, if_neg h]

/-- The homes that stay home through trip `k`. -/
abbrev xRest (k : ℕ) : sProp 𝕄 := bigSep ((Ring.homeSet 2 k).erase (Ring.bk 33 (k + 2))) (xHome c X)

theorem XR_mid (k : ℕ) (h : k < 31) :
    XR c X k = iprop((xHome c X (Ring.bk 33 (k + 2)) ∗ xRest c X k) ∗ (∃ f, xFly c X (Ring.sl 3 k) (Ring.bk 33 k) f) ∗ xAt c X (k + 1) ∗ xFree c (k + 2)) := by
  unfold XR
  conv_lhs => rw [Ring.homeSet_out 2 k (by omega), bigSep_insert (Ring.bkL_not_mem_erase 2 k)]
  rw [xAt_fly c X (by omega : k < 33)]; rfl
theorem XR_mid' (k : ℕ) (h : k < 31) :
    XR c X (k + 1) = iprop((xHome c X (Ring.bk 33 k) ∗ xRest c X k) ∗ xAt c X (k + 1) ∗ (∃ f, xFly c X (Ring.sl 3 (k + 2)) (Ring.bk 33 (k + 2)) f) ∗ xFree c k) := by
  unfold XR
  conv_lhs => rw [Ring.homeSet_succ 2 k (by omega), bigSep_insert (Ring.bk_not_mem_erase 2 k (by omega) (by decide))]
  rw [xFree_add3, show k + 1 + 1 = k + 2 from rfl, xAt_fly c X (by omega : k + 2 < 33)]; rfl
theorem XR_end (k : ℕ) (h : k < 33) :
    XR c X k = iprop(bigSep (Ring.homeSet 2 k) (xHome c X) ∗ (∃ f, xFly c X (Ring.sl 3 k) (Ring.bk 33 k) f) ∗ xAt c X (k + 1) ∗ xFree c (k + 2)) := by
  unfold XR; rw [xAt_fly c X h]
theorem XR_end' (k : ℕ) (h : 31 ≤ k) (h' : k < 33) :
    XR c X (k + 1) = iprop((xHome c X (Ring.bk 33 k) ∗ bigSep (Ring.homeSet 2 k) (xHome c X)) ∗ xAt c X (k + 1) ∗ xFree c (k + 2) ∗ xFree c k) := by
  unfold XR
  conv_lhs => rw [Ring.homeSet_succ_tail 2 k (by omega) h', bigSep_insert (Ring.bk_not_mem_homeSet 2 k h' (by decide))]
  rw [xFree_add3, show k + 1 + 1 = k + 2 from rfl, xAt_free c X (by omega : ¬ k + 2 < 33)]; rfl

/-! ## The modulation rings -/

/-- Row `r` on its way into slot `r`. -/
abbrev MF (r : Fin 2) : sProp 𝕄 := iprop((∃ f, shFly c M r r f) ∗ (∃ f, scFly c M r r f))
/-- Row `r` lying in slot `r`. -/
abbrev MH (r : Fin 2) : sProp 𝕄 :=
  iprop((∃ f, shHere c M r r f) ∗ (∃ f, scHere c M r r f) ∗ restP c (shc r) ∗ restP c (scc r) ∗ shHome c M r ∗ scHome c M r)
/-- Row `r` at home and slot `r` free. -/
abbrev MI (r : Fin 2) : sProp 𝕄 :=
  iprop((∃ f, partP c (ss r) f) ∗ (∃ f, partP c (cs r) f) ∗ restP c (shc r) ∗ restP c (scc r) ∗ shHome c M r ∗ scHome c M r)
/-- The rings before trip `k`. -/
def MR (k : ℕ) : sProp 𝕄 :=
  if k = 0 then iprop(MF c M 0 ∗ MI c M 1)
  else if k < 32 then iprop(MH c M 0 ∗ MI c M 1)
  else if k = 32 then iprop(MF c M 1 ∗ MI c M 0)
  else iprop(MH c M 1 ∗ MI c M 0)

theorem rowOf_lt {k : ℕ} (h : k < 32) : rowOf k = 0 := if_pos h
theorem rowOf_32 {k : ℕ} (h : k = 32) : rowOf k = 1 := if_neg (by omega)

theorem MR_0 (k : ℕ) (h : k = 0) : MR c M k = iprop(MF c M (rowOf k) ∗ MI c M 1) := by rw [MR, if_pos h, rowOf_lt (by omega)]
theorem MR_mid (k : ℕ) (h : 0 < k) (h' : k < 32) : MR c M k = iprop(MH c M (rowOf k) ∗ MI c M 1) := by rw [MR, if_neg (by omega), if_pos h', rowOf_lt h']
theorem MR_mid' (k : ℕ) (h' : k < 31) : MR c M (k + 1) = iprop(MH c M (rowOf k) ∗ MI c M 1) := by rw [MR, if_neg (by omega), if_pos (by omega), rowOf_lt (by omega)]
theorem MR_31' (k : ℕ) (h : k = 31) : MR c M (k + 1) = iprop(MF c M 1 ∗ MI c M (rowOf k)) := by rw [MR, if_neg (by omega), if_neg (by omega), if_pos (by omega), rowOf_lt (by omega)]
theorem MR_32 (k : ℕ) (h : k = 32) : MR c M k = iprop(MF c M (rowOf k) ∗ MI c M 0) := by rw [MR, if_neg (by omega), if_neg (by omega), if_pos h, rowOf_32 h]
theorem MR_32' (k : ℕ) (h : k = 32) : MR c M (k + 1) = iprop(MH c M (rowOf k) ∗ MI c M 0) := by rw [MR, if_neg (by omega), if_neg (by omega), if_neg (by omega), rowOf_32 h]

/-! ## The result's ring -/

/-- Slot `p` (mod 2) free. -/
abbrev oFree (p : ℕ) : sProp 𝕄 := iprop((∃ f, partP c (os (Ring.sl 2 p)) f) ∗ restP c (oc (Ring.sl 2 p)))
/-- Row block `b` before trip `k`: the result if it came before, else what it held at first. -/
def oAt (k : ℕ) (b : Fin 33) : sProp 𝕄 := if b.val < k then oHome c R b else oHome c O b
/-- The ring before trip `k`. -/
def OR (k : ℕ) : sProp 𝕄 :=
  if k = 0 then iprop(bigSep Finset.univ (oAt c O R k) ∗ oFree c 0 ∗ oFree c 1)
  else iprop(bigSep (Finset.univ.erase (Ring.bk 33 (k - 1))) (oAt c O R k) ∗ (∃ f, oFly c R (Ring.sl 2 (k - 1)) (Ring.bk 33 (k - 1)) f) ∗ oFree c k)

/-- The blocks that trip `k` does not touch. -/
abbrev oRest (k : ℕ) : sProp 𝕄 := bigSep ((Finset.univ.erase (Ring.bk 33 (k - 1))).erase (Ring.bk 33 k)) (oAt c O R k)

theorem bk_ne {k : ℕ} (h : 0 < k) (h' : k < 33) : Ring.bk 33 (k - 1) ≠ Ring.bk 33 k := by
  intro e; have := congrArg Fin.val e; rw [Ring.bk_val (by omega), Ring.bk_val h'] at this; omega
/-- Away from block `k`, the blocks before trip `k + 1` are as before trip `k`. -/
theorem oAt_succ (k : ℕ) (h : k < 33) (S : Finset (Fin 33)) : bigSep (S.erase (Ring.bk 33 k)) (oAt c O R (k + 1)) = bigSep (S.erase (Ring.bk 33 k)) (oAt c O R k) := by
  refine bigSep_congr fun b hb => ?_
  have hne : b.val ≠ k := fun e => (Finset.mem_erase.mp hb).1 (Fin.ext (by rw [e, Ring.bk_val h]))
  unfold oAt
  by_cases hk : b.val < k
  · rw [if_pos hk, if_pos (by omega)]
  · rw [if_neg hk, if_neg (by omega)]
theorem oAt_new (k : ℕ) (h : k < 33) : oAt c O R k (Ring.bk 33 k) = oHome c O (Ring.bk 33 k) := by rw [oAt, if_neg (by rw [Ring.bk_val h]; omega)]
theorem oAt_old (k : ℕ) (h : 0 < k) (h' : k < 33) : oAt c O R k (Ring.bk 33 (k - 1)) = oHome c R (Ring.bk 33 (k - 1)) := by
  rw [oAt, if_pos (by rw [Ring.bk_val (by omega)]; omega)]

theorem OR_0 (k : ℕ) (h : k = 0) :
    OR c O R k = iprop((oHome c O (Ring.bk 33 k) ∗ bigSep (Finset.univ.erase (Ring.bk 33 k)) (oAt c O R k)) ∗ oFree c k ∗ oFree c (k + 1)) := by
  rw [OR, if_pos h]
  conv_lhs => rw [← Finset.insert_erase (Finset.mem_univ (Ring.bk 33 k)), bigSep_insert (Finset.notMem_erase _ _), oAt_new c O R k (by omega)]
  subst h; rfl
theorem OR_0' (k : ℕ) (h : k = 0) :
    OR c O R (k + 1) = iprop(bigSep (Finset.univ.erase (Ring.bk 33 k)) (oAt c O R k) ∗ (∃ f, oFly c R (Ring.sl 2 k) (Ring.bk 33 k) f) ∗ oFree c (k + 1)) := by
  rw [OR, if_neg (by omega), Nat.add_sub_cancel, oAt_succ c O R k (by omega)]
theorem OR_mid (k : ℕ) (h : 0 < k) (h' : k < 33) :
    OR c O R k = iprop((oHome c O (Ring.bk 33 k) ∗ oRest c O R k) ∗ (∃ f, oFly c R (Ring.sl 2 (k - 1)) (Ring.bk 33 (k - 1)) f) ∗ oFree c k) := by
  rw [OR, if_neg (by omega)]
  have hm : Ring.bk 33 k ∈ Finset.univ.erase (Ring.bk 33 (k - 1)) := Finset.mem_erase.mpr ⟨(bk_ne h h').symm, Finset.mem_univ _⟩
  conv_lhs => rw [← Finset.insert_erase hm, bigSep_insert (Finset.notMem_erase _ _), oAt_new c O R k h']
  rfl
theorem OR_mid' (k : ℕ) (h : 0 < k) (h' : k < 33) :
    OR c O R (k + 1) = iprop((oHome c R (Ring.bk 33 (k - 1)) ∗ oRest c O R k) ∗ (∃ f, oFly c R (Ring.sl 2 k) (Ring.bk 33 k) f)
      ∗ (∃ f, partP c (os (Ring.sl 2 (k - 1))) f) ∗ restP c (oc (Ring.sl 2 (k - 1)))) := by
  rw [OR, if_neg (by omega), Nat.add_sub_cancel, oAt_succ c O R k h']
  have hm : Ring.bk 33 (k - 1) ∈ Finset.univ.erase (Ring.bk 33 k) := Finset.mem_erase.mpr ⟨bk_ne h h', Finset.mem_univ _⟩
  have e : Ring.sl 2 (k + 1) = Ring.sl 2 (k - 1) := by rw [show k + 1 = (k - 1) + 2 by omega, Ring.sl_add]
  conv_lhs => rw [← Finset.insert_erase hm, bigSep_insert (Finset.notMem_erase _ _), oAt_old c O R k h h', Finset.erase_right_comm]
  unfold oFree; rw [e]; rfl

end Inv

end Cert.Proof.Norm

end
-- ==== Proof.Trip.lean ====
/-
  One trip of the pipeline's loop, at a symbolic trip number: from the invariant before it to the invariant after it. There are
  four kinds of trip: the first (it waits for the modulation row, and there is no write-back to wait for), those up to trip 30
  (they send for row block `k + 2`), trip 31 (it sends for the second modulation row instead), and trip 32 (it waits for it).
-/
module

public import proofs.«01_k».proof.Proof.Inv

@[expose] public section

set_option maxRecDepth 16384

noncomputable section

namespace Cert.Proof.Norm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Trip
variable (c : Dev nD)
variable (X : Buf (Elt F) (xM.view.loc (c : Thread nD τ))) (M : Buf (Elt F) (mM.view.loc (c : Thread nD τ)))
  (O : Buf (Elt F) (oM.view.loc (c : Thread nD τ)))
  (arg1 : Memref sig .tc .vmem S1x4096 .f32) (harg1 : arg1.IsWhole)
  (g : Buf (Elt F) (arg1.view.loc (c : Thread nD τ))) (gv : Vec F S1x4096 .f32)

/-- What the loop holds before trip `k`. -/
def resAt (k : ℕ) : sProp 𝕄 :=
  iprop(partP c arg1 g ∗ (∃ W, owes (c : Thread nD τ) 0 W) ∗ XR c X k ∗ MR c M k ∗ OR c O (OUT c X M gv) k)

abbrev tripG (v37 v46 v53 d0 d1 d2 d3 d4 : BitVec 32) (k : Fin T) (acc : BitVec 32 × BitVec 32 × BitVec 32 × BitVec 32 × BitVec 32 × BitVec 32 × BitVec 32 × BitVec 32 × BitVec 32) :=
  k0_t1_body (F := F) xM (Memref.isWhole_whole _) arg1 harg1 mM (Memref.isWhole_whole _) oM (Memref.isWhole_whole _) xR (Memref.isWhole_whole _) cc0_scoped1
    sR (Memref.isWhole_whole _) cc0_scoped3 cR (Memref.isWhole_whole _) cc0_scoped5 oR (Memref.isWhole_whole _) cc0_scoped7 v37 v46 v53 d0 d1 d2 d3 d4 k acc

set_option backward.proofsInPublic true in
/-- A trip from 1 to 30. -/
theorem midTrip (hg : arg1.view.read (Elt F) g = gv) (v37 v46 v53 d0 d1 d2 d3 d4 : BitVec 32) (k : Fin T) (h0 : 0 < k.val) (h1 : k.val < 31) :
    resAt c X M O arg1 g gv k.val
    ⊢ wp frame (wpE (defs₀ (F := F)) 𝒱₀ (c : Thread nD τ) none) Set.univ (tripG arg1 harg1 v37 v46 v53 d0 d1 d2 d3 d4 k (accs k.val))
        (fun acc => iprop(⌜acc = accs (k.val + 1)⌝ ∗ resAt c X M O arg1 g gv (k.val + 1))) := by
  have hk := T_lt k
  have c1 := chk1 k
  have c2 := chk2 k
  have c3 := chk3 k
  have c4 := chk4 k
  have c5 := chk5 k
  have b5 := (cond5_iff k).mpr trivial
  have b12 := (cond12_iff k).mpr trivial
  have b2 := (cond2_iff k).mpr (by omega)
  have b3 := mt (cond3_iff k).mp (by omega)
  have b4 := mt (cond4_iff k).mp (by omega)
  have b6 := mt (cond6_iff k).mp (by omega)
  have b7 := mt (cond7_iff k).mp (by omega)
  have b16 := (cond16_iff k).mpr (by omega)
  unfold resAt
  rw [XR_mid c X k.val h1, XR_mid' c X k.val h1, MR_mid c M k.val h0 (by omega), MR_mid' c M k.val h1, OR_mid c O _ k.val h0 hk, OR_mid' c O _ k.val h0 hk]
  iintro ⟨HG, ⟨%W, HW⟩, ⟨⟨Hb2, Hxr⟩, ⟨%f0, HF0⟩, HF1, ⟨%f2, Hx2⟩, Hc2⟩, ⟨⟨⟨%fs, HS⟩, ⟨%fc, HC⟩, Hsr⟩, Hmi⟩, ⟨⟨Hob, Hor⟩, ⟨%fo1, HFo⟩, ⟨%fo, Ho⟩, Hoc⟩⟩
  dsimp only [tripG]
  sl_unfold [k0_t1_body]
  sl_exec
  sl_step
  isplitr
  · ipureintro; clear * - k h0 h1; simp only [accs, Prod.mk.injEq]; revert k; decide +kernel
  isplitl [HG]; · iexact HG
  isplitl [HW]; · iexists _; iexact HW
  isplitl [Hxr HF0_dst HF0_src HF0 HF1 Hc2]
  · isplitl [Hxr HF0_src]
    · isplitl [HF0_src]; · iexact HF0_src
      iexact Hxr
    isplitl [HF1]; · iexact HF1
    isplitl [Hc2]; · iexists f2; iexact Hc2
    isplitl [HF0_dst]; · iexists _; iexact HF0_dst
    iexact HF0
  isplitl [HS HC Hsr Hmi]
  · isplitl [HS HC Hsr]
    · isplitl [HS]; · iexists fs; iexact HS
      isplitl [HC]; · iexists fc; iexact HC
      iexact Hsr
    iexact Hmi
  isplitl [Hor HFo_dst]
  · isplitl [HFo_dst]; · iexact HFo_dst
    iexact Hor
  isplitl [Hoc]
  · iapply (oFly_of c X M gv (Ring.sl 2 k.val) (Ring.bk 33 k.val) O _ _ (payEq c X M gv k arg1 g hg _ _ _ _ _ _ _))
    iexact Hoc
  isplitl [HFo_src]; · iexists _; iexact HFo_src
  iexact HFo

set_option backward.proofsInPublic true in
/-- Trip 0. -/
theorem zeroTrip (hg : arg1.view.read (Elt F) g = gv) (v37 v46 v53 d0 d1 d2 d3 d4 : BitVec 32) (k : Fin T) (h0 : k.val = 0) :
    resAt c X M O arg1 g gv k.val
    ⊢ wp frame (wpE (defs₀ (F := F)) 𝒱₀ (c : Thread nD τ) none) Set.univ (tripG arg1 harg1 v37 v46 v53 d0 d1 d2 d3 d4 k (accs k.val))
        (fun acc => iprop(⌜acc = accs (k.val + 1)⌝ ∗ resAt c X M O arg1 g gv (k.val + 1))) := by
  have hk := T_lt k
  have c1 := chk1 k
  have c2 := chk2 k
  have c3 := chk3 k
  have c4 := chk4 k
  have c5 := chk5 k
  have b5 := (cond5_iff k).mpr trivial
  have b12 := (cond12_iff k).mpr trivial
  have h1 : k.val < 31 := by omega
  have b2 := (cond2_iff k).mpr (by omega)
  have b3 := mt (cond3_iff k).mp (by omega)
  have b4 := mt (cond4_iff k).mp (by omega)
  have b6 := (cond6_iff k).mpr (by omega)
  have b7 := (cond7_iff k).mpr (by omega)
  have b16 := mt (cond16_iff k).mp (by omega)
  unfold resAt
  rw [XR_mid c X k.val h1, XR_mid' c X k.val h1, MR_0 c M k.val h0, MR_mid' c M k.val h1, OR_0 c O _ k.val h0, OR_0' c O _ k.val h0]
  iintro ⟨HG, ⟨%W, HW⟩, ⟨⟨Hb2, Hxr⟩, ⟨%f0, HF0⟩, HF1, ⟨%f2, Hx2⟩, Hc2⟩, ⟨⟨⟨%fs, HS⟩, ⟨%fc, HC⟩⟩, Hmi⟩, ⟨⟨Hob, Hor⟩, ⟨⟨%fo, Ho⟩, Hoc⟩, Hof⟩⟩
  dsimp only [tripG]
  sl_unfold [k0_t1_body]
  sl_exec
  sl_step
  isplitr
  · ipureintro; clear * - k h0; simp only [accs, Prod.mk.injEq]; revert k; decide +kernel
  isplitl [HG]; · iexact HG
  isplitl [HW]; · iexists _; iexact HW
  isplitl [Hxr HF0_dst HF0_src HF0 HF1 Hc2]
  · isplitl [Hxr HF0_src]
    · isplitl [HF0_src]; · iexact HF0_src
      iexact Hxr
    isplitl [HF1]; · iexact HF1
    isplitl [Hc2]; · iexists f2; iexact Hc2
    isplitl [HF0_dst]; · iexists _; iexact HF0_dst
    iexact HF0
  isplitl [HS HS_dst HS_src HC HC_dst HC_src Hmi]
  · isplitl [HS HS_dst HS_src HC HC_dst HC_src]
    · isplitl [HS_dst]; · iexists _; iexact HS_dst
      isplitl [HC_dst]; · iexists _; iexact HC_dst
      isplitl [HS]; · iexact HS
      isplitl [HC]; · iexact HC
      isplitl [HS_src]; · iexact HS_src
      iexact HC_src
    iexact Hmi
  isplitl [Hor]; · iexact Hor
  isplitl [Hoc]
  · iapply (oFly_of c X M gv (Ring.sl 2 k.val) (Ring.bk 33 k.val) O _ _ (payEq c X M gv k arg1 g hg _ _ _ _ _ _ _))
    iexact Hoc
  iexact Hof

set_option backward.proofsInPublic true in
/-- Trip 31. -/
theorem swapTrip (hg : arg1.view.read (Elt F) g = gv) (v37 v46 v53 d0 d1 d2 d3 d4 : BitVec 32) (k : Fin T) (h0 : k.val = 31) :
    resAt c X M O arg1 g gv k.val
    ⊢ wp frame (wpE (defs₀ (F := F)) 𝒱₀ (c : Thread nD τ) none) Set.univ (tripG arg1 harg1 v37 v46 v53 d0 d1 d2 d3 d4 k (accs k.val))
        (fun acc => iprop(⌜acc = accs (k.val + 1)⌝ ∗ resAt c X M O arg1 g gv (k.val + 1))) := by
  have hk := T_lt k
  have c1 := chk1 k
  have c2 := chk2 k
  have c3 := chk3 k
  have c4 := chk4 k
  have c5 := chk5 k
  have b5 := (cond5_iff k).mpr trivial
  have b12 := (cond12_iff k).mpr trivial
  have b2 := mt (cond2_iff k).mp (by omega)
  have b3 := (cond3_iff k).mpr (by omega)
  have b4 := (cond4_iff k).mpr (by omega)
  have b6 := mt (cond6_iff k).mp (by omega)
  have b7 := mt (cond7_iff k).mp (by omega)
  have b16 := (cond16_iff k).mpr (by omega)
  unfold resAt
  rw [XR_end c X k.val hk, XR_end' c X k.val (by omega) hk, MR_mid c M k.val (by omega) (by omega), MR_31' c M k.val h0, OR_mid c O _ k.val (by omega) hk, OR_mid' c O _ k.val (by omega) hk]
  iintro ⟨HG, ⟨%W, HW⟩, ⟨Hxr, ⟨%f0, HF0⟩, HF1, Hx2c2⟩, ⟨⟨⟨%fs, HS⟩, ⟨%fc, HC⟩, Hsr⟩, ⟨%fs1, HS1⟩, ⟨%fc1, HC1⟩, Hss1, Hcs1, Hsh1, Hsc1⟩, ⟨⟨Hob, Hor⟩, ⟨%fo1, HFo⟩, ⟨%fo, Ho⟩, Hoc⟩⟩
  dsimp only [tripG]
  sl_unfold [k0_t1_body]
  sl_exec
  sl_step
  isplitr
  · ipureintro; clear * - k h0; simp only [accs, Prod.mk.injEq]; revert k; decide +kernel
  isplitl [HG]; · iexact HG
  isplitl [HW]; · iexists _; iexact HW
  isplitl [Hxr HF0_dst HF0_src HF0 HF1 Hx2c2]
  · isplitl [Hxr HF0_src]
    · isplitl [HF0_src]; · iexact HF0_src
      iexact Hxr
    isplitl [HF1]; · iexact HF1
    isplitl [Hx2c2]; · iexact Hx2c2
    isplitl [HF0_dst]; · iexists _; iexact HF0_dst
    iexact HF0
  isplitl [HS HC Hsr Hss1 Hcs1]
  · isplitl [Hss1 Hcs1]
    · isplitl [Hss1]; · iexists fs1; iexact Hss1
      iexists fc1; iexact Hcs1
    isplitl [HS]; · iexists _; iexact HS
    isplitl [HC]; · iexists _; iexact HC
    iexact Hsr
  isplitl [Hor HFo_dst]
  · isplitl [HFo_dst]; · iexact HFo_dst
    iexact Hor
  isplitl [Hoc]
  · iapply (oFly_of c X M gv (Ring.sl 2 k.val) (Ring.bk 33 k.val) O _ _ (payEq c X M gv k arg1 g hg _ _ _ _ _ _ _))
    iexact Hoc
  isplitl [HFo_src]; · iexists _; iexact HFo_src
  iexact HFo

set_option backward.proofsInPublic true in
/-- Trip 32. -/
theorem lastTrip (hg : arg1.view.read (Elt F) g = gv) (v37 v46 v53 d0 d1 d2 d3 d4 : BitVec 32) (k : Fin T) (h0 : k.val = 32) :
    resAt c X M O arg1 g gv k.val
    ⊢ wp frame (wpE (defs₀ (F := F)) 𝒱₀ (c : Thread nD τ) none) Set.univ (tripG arg1 harg1 v37 v46 v53 d0 d1 d2 d3 d4 k (accs k.val))
        (fun acc => iprop(⌜acc = accs (k.val + 1)⌝ ∗ resAt c X M O arg1 g gv (k.val + 1))) := by
  have hk := T_lt k
  have c1 := chk1 k
  have c2 := chk2 k
  have c3 := chk3 k
  have c4 := chk4 k
  have c5 := chk5 k
  have b5 := (cond5_iff k).mpr trivial
  have b12 := (cond12_iff k).mpr trivial
  have b2 := mt (cond2_iff k).mp (by omega)
  have b3 := mt (cond3_iff k).mp (by omega)
  have b4 := mt (cond4_iff k).mp (by omega)
  have b6 := (cond6_iff k).mpr (by omega)
  have b7 := (cond7_iff k).mpr (by omega)
  have b16 := (cond16_iff k).mpr (by omega)
  unfold resAt
  rw [XR_end c X k.val hk, XR_end' c X k.val (by omega) hk, MR_32 c M k.val h0, MR_32' c M k.val h0, OR_mid c O _ k.val (by omega) hk, OR_mid' c O _ k.val (by omega) hk]
  iintro ⟨HG, ⟨%W, HW⟩, ⟨Hxr, ⟨%f0, HF0⟩, HF1, Hx2c2⟩, ⟨⟨⟨%fs, HS⟩, ⟨%fc, HC⟩⟩, Hmi⟩, ⟨⟨Hob, Hor⟩, ⟨%fo1, HFo⟩, ⟨%fo, Ho⟩, Hoc⟩⟩
  dsimp only [tripG]
  sl_unfold [k0_t1_body]
  sl_exec
  sl_step
  isplitr
  · ipureintro; clear * - k h0; simp only [accs, Prod.mk.injEq]; revert k; decide +kernel
  isplitl [HG]; · iexact HG
  isplitl [HW]; · iexists _; iexact HW
  isplitl [Hxr HF0_dst HF0_src HF0 HF1 Hx2c2]
  · isplitl [Hxr HF0_src]
    · isplitl [HF0_src]; · iexact HF0_src
      iexact Hxr
    isplitl [HF1]; · iexact HF1
    isplitl [Hx2c2]; · iexact Hx2c2
    isplitl [HF0_dst]; · iexists _; iexact HF0_dst
    iexact HF0
  isplitl [HS HS_dst HS_src HC HC_dst HC_src Hmi]
  · isplitl [HS HS_dst HS_src HC HC_dst HC_src]
    · isplitl [HS_dst]; · iexists _; iexact HS_dst
      isplitl [HC_dst]; · iexists _; iexact HC_dst
      isplitl [HS]; · iexact HS
      isplitl [HC]; · iexact HC
      isplitl [HS_src]; · iexact HS_src
      iexact HC_src
    iexact Hmi
  isplitl [Hor HFo_dst]
  · isplitl [HFo_dst]; · iexact HFo_dst
    iexact Hor
  isplitl [Hoc]
  · iapply (oFly_of c X M gv (Ring.sl 2 k.val) (Ring.bk 33 k.val) O _ _ (payEq c X M gv k arg1 g hg _ _ _ _ _ _ _))
    iexact Hoc
  isplitl [HFo_src]; · iexists _; iexact HFo_src
  iexact HFo

end Trip

end Cert.Proof.Norm

end
-- ==== Proof.Body.lean ====
/-
  The kernel's body: it sends for the first two row blocks and the first modulation row, runs the loop, and waits for the last
  write-back. Every buffer it was handed is held again at the end, the result's at `OUT`.
-/
module

public import proofs.«01_k».proof.Proof.Trip

@[expose] public section

set_option maxRecDepth 16384

noncomputable section

namespace Cert.Proof.Norm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Body
variable (c : Dev nD)
variable (X : Buf (Elt F) (xM.view.loc (c : Thread nD τ))) (M : Buf (Elt F) (mM.view.loc (c : Thread nD τ)))
  (O R : Buf (Elt F) (oM.view.loc (c : Thread nD τ)))
  (arg1 : Memref sig .tc .vmem S1x4096 .f32) (harg1 : arg1.IsWhole)
  (g : Buf (Elt F) (arg1.view.loc (c : Thread nD τ))) (gv : Vec F S1x4096 .f32)

/-- The loop's invariant. -/
def inv (k : ℕ) (acc : BitVec 32 × BitVec 32 × BitVec 32 × BitVec 32 × BitVec 32 × BitVec 32 × BitVec 32 × BitVec 32 × BitVec 32) : sProp 𝕄 :=
  iprop(⌜acc = accs k⌝ ∗ resAt c X M O arg1 g gv k)

/-- One trip, whichever it is. -/
theorem trip (hg : arg1.view.read (Elt F) g = gv) (v37 v46 v53 d0 d1 d2 d3 d4 : BitVec 32) (k : Fin T) (acc) :
    inv c X M O arg1 g gv k.val acc
    ⊢ wp frame (wpE (defs₀ (F := F)) 𝒱₀ (c : Thread nD τ) none) Set.univ (tripG arg1 harg1 v37 v46 v53 d0 d1 d2 d3 d4 k acc) (inv c X M O arg1 g gv (k.val + 1)) := by
  have hk := T_lt k
  unfold inv
  iintro ⟨%h, H⟩
  subst h
  rcases Nat.eq_zero_or_pos k.val with h0 | h0
  · iapply (zeroTrip c X M O arg1 harg1 g gv hg v37 v46 v53 d0 d1 d2 d3 d4 k h0); iexact H
  · by_cases h1 : k.val < 31
    · iapply (midTrip c X M O arg1 harg1 g gv hg v37 v46 v53 d0 d1 d2 d3 d4 k h0 h1); iexact H
    · by_cases h2 : k.val = 31
      · iapply (swapTrip c X M O arg1 harg1 g gv hg v37 v46 v53 d0 d1 d2 d3 d4 k h2); iexact H
      · iapply (lastTrip c X M O arg1 harg1 g gv hg v37 v46 v53 d0 d1 d2 d3 d4 k (by omega)); iexact H

/-- A slot at some contents. -/
abbrev xSlot (s : Fin 3) : sProp 𝕄 := iprop(∃ f, partP c (xs s) f)
abbrev sSlot (s : Fin 2) : sProp 𝕄 := iprop(∃ f, partP c (ss s) f)
abbrev cSlot (s : Fin 2) : sProp 𝕄 := iprop(∃ f, partP c (cs s) f)
abbrev oSlot (s : Fin 2) : sProp 𝕄 := iprop(∃ f, partP c (os s) f)

theorem sl3_0 : Ring.sl 3 0 = 0 := rfl
theorem sl3_1 : Ring.sl 3 (0 + 1) = 1 := rfl
theorem sl3_2 : Ring.sl 3 (0 + 2) = 2 := rfl
theorem sl2_0 : Ring.sl 2 0 = 0 := rfl
theorem sl2_1 : Ring.sl 2 1 = 1 := rfl
theorem bk_0 : Ring.bk 33 0 = 0 := rfl
theorem bk_1 : Ring.bk 33 (0 + 1) = 1 := rfl

/-- `x`'s ring at the loop's start, slot by slot. -/
theorem XR_start : XR c X 0 = iprop(bigSep (Ring.homeSet 2 0) (xHome c X) ∗ (∃ f, xFly c X 0 0 f) ∗ (∃ f, xFly c X 1 1 f) ∗ xSlot c 2 ∗ restP c (xc 2)) := by
  unfold XR; rw [xAt_fly c X (by omega : 0 < 33), xAt_fly c X (by omega : 0 + 1 < 33)]; rfl
/-- and at its end. -/
theorem XR_stop : XR c X 33 = iprop(bigSep Finset.univ (xHome c X) ∗ (xSlot c 0 ∗ restP c (xc 0)) ∗ (xSlot c 1 ∗ restP c (xc 1)) ∗ xSlot c 2 ∗ restP c (xc 2)) := by
  unfold XR; rw [show Ring.homeSet 2 33 = (Finset.univ : Finset (Fin 33)) from Ring.homeSet_last (NB := 33) (L := 2) 33 (le_refl _), xAt_free c X (by omega : ¬ 33 < 33), xAt_free c X (by omega : ¬ 33 + 1 < 33)]; rfl
theorem MR_start : MR c M 0 = iprop(MF c M 0 ∗ MI c M 1) := rfl
theorem MR_stop : MR c M 33 = iprop(MH c M 1 ∗ MI c M 0) := rfl
theorem OR_start : OR c O R 0 = iprop(bigSep Finset.univ (oHome c O) ∗ (oSlot c 0 ∗ restP c (oc 0)) ∗ (oSlot c 1 ∗ restP c (oc 1))) := by
  unfold OR; rw [if_pos rfl, show oAt c O R 0 = oHome c O from funext fun b => if_neg (Nat.not_lt_zero _)]; rfl
theorem OR_stop : OR c O R 33 = iprop(bigSep (Finset.univ.erase 32) (oHome c R) ∗ (∃ f, oFly c R 0 32 f) ∗ (oSlot c 1 ∗ restP c (oc 1))) := by
  unfold OR
  rw [if_neg (by omega), show oAt c O R 33 = oHome c R from funext fun b => if_pos b.isLt]; rfl

/-- The invariant at the loop's end, opened. -/
theorem inv_stop (acc) : inv c X M O arg1 g gv (Scf.trips k0_t1_loop.lb k0_t1_loop.ub k0_t1_loop.st) acc
    ⊢ iprop(⌜acc = accs 33⌝ ∗ partP c arg1 g ∗ (∃ W, owes (c : Thread nD τ) 0 W)
      ∗ (bigSep Finset.univ (xHome c X) ∗ (xSlot c 0 ∗ restP c (xc 0)) ∗ (xSlot c 1 ∗ restP c (xc 1)) ∗ xSlot c 2 ∗ restP c (xc 2))
      ∗ (MH c M 1 ∗ MI c M 0)
      ∗ (bigSep (Finset.univ.erase 32) (oHome c (OUT c X M gv)) ∗ (∃ f, oFly c (OUT c X M gv) 0 32 f) ∗ (oSlot c 1 ∗ restP c (oc 1)))) := by
  rw [show Scf.trips k0_t1_loop.lb k0_t1_loop.ub k0_t1_loop.st = 33 from T_eq]
  unfold inv resAt
  rw [XR_stop, MR_stop, OR_stop]

/-- The last row block beside the others. -/
theorem out_all : bigSep Finset.univ (oHome c R) = iprop(oHome c R 32 ∗ bigSep (Finset.univ.erase 32) (oHome c R)) := by
  conv_lhs => rw [← Finset.insert_erase (Finset.mem_univ (32 : Fin 33)), bigSep_insert (Finset.notMem_erase _ _)]
  rfl

/-- What the body is handed beside the staged row of `g`: `x`, the two modulation rows, the result, the rings, their semaphores at rest. -/
abbrev PRE : sProp 𝕄 :=
  iprop((xHome c X 0 ∗ xHome c X 1 ∗ bigSep (Ring.homeSet 2 0) (xHome c X))
    ∗ (shHome c M 0 ∗ scHome c M 0) ∗ (shHome c M 1 ∗ scHome c M 1) ∗ bigSep Finset.univ (oHome c O)
    ∗ (xSlot c 0 ∗ xSlot c 1 ∗ xSlot c 2) ∗ (sSlot c 0 ∗ sSlot c 1) ∗ (cSlot c 0 ∗ cSlot c 1) ∗ (oSlot c 0 ∗ oSlot c 1)
    ∗ (restP c (xc 0) ∗ restP c (xc 1) ∗ restP c (xc 2)) ∗ (restP c (shc 0) ∗ restP c (shc 1)) ∗ (restP c (scc 0) ∗ restP c (scc 1)) ∗ (restP c (oc 0) ∗ restP c (oc 1)))
/-- What it hands back. -/
abbrev POST : sProp 𝕄 :=
  iprop(bigSep Finset.univ (xHome c X)
    ∗ (shHome c M 0 ∗ scHome c M 0) ∗ (shHome c M 1 ∗ scHome c M 1) ∗ bigSep Finset.univ (oHome c O)
    ∗ (xSlot c 0 ∗ xSlot c 1 ∗ xSlot c 2) ∗ (sSlot c 0 ∗ sSlot c 1) ∗ (cSlot c 0 ∗ cSlot c 1) ∗ (oSlot c 0 ∗ oSlot c 1)
    ∗ (restP c (xc 0) ∗ restP c (xc 1) ∗ restP c (xc 2)) ∗ (restP c (shc 0) ∗ restP c (shc 1)) ∗ (restP c (scc 0) ∗ restP c (scc 1)) ∗ (restP c (oc 0) ∗ restP c (oc 1)))

/-- The body on the staging memref of `g`, everything else its own. -/
abbrev bodyG : Prog (TpuEff nD τ sig (Elt F) Λ₀ .tc) PUnit :=
  cc0_norm_mod xM (Memref.isWhole_whole _) arg1 harg1 mM (Memref.isWhole_whole _) oM (Memref.isWhole_whole _) xR (Memref.isWhole_whole _) cc0_scoped1
    sR (Memref.isWhole_whole _) cc0_scoped3 cR (Memref.isWhole_whole _) cc0_scoped5 oR (Memref.isWhole_whole _) cc0_scoped7

set_option backward.proofsInPublic true in
theorem bodyRun (hg : arg1.view.read (Elt F) g = gv) (W) (Q : PUnit → sProp 𝕄) :
    iprop((partP c arg1 g ∗ owes (c : Thread nD τ) 0 W ∗ PRE c X M O)
        ∗ ((partP c arg1 g ∗ (∃ W, owes (c : Thread nD τ) 0 W) ∗ POST c X M (OUT c X M gv)) -∗ Q ⟨⟩))
      ⊢ wp frame (wpE (defs₀ (F := F)) 𝒱₀ (c : Thread nD τ) none) Set.univ (bodyG arg1 harg1) Q := by
  iintro ⟨⟨HG, HW, ⟨Hx0, Hx1, Hxh⟩, ⟨Hsh0, Hsc0⟩, ⟨Hsh1, Hsc1⟩, Ho, ⟨⟨%x0, X0⟩, ⟨%x1, X1⟩, X2⟩, ⟨⟨%s0, S0⟩, S1⟩, ⟨⟨%c0, C0⟩, C1⟩, ⟨O0, O1⟩, ⟨xc0, xc1, xc2⟩, ⟨shc0, shc1⟩, ⟨scc0, scc1⟩, ⟨oc0, oc1⟩⟩, Hk⟩
  dsimp only [bodyG]
  sl_unfold [cc0_norm_mod]
  sl_exec
  ihave HR : (resAt c X M O arg1 g gv 0) $$ [HG HW Hxh xc0 xc1 X2 xc2 shc0 scc0 S1 C1 shc1 scc1 Hsh1 Hsc1 Ho O0 O1 oc0 oc1]
  · unfold resAt
    irw [XR_start]
    irw [MR_start]
    irw [OR_start]
    isplitl [HG]; · iexact HG
    isplitl [HW]; · iexists W; iexact HW
    isplitl [Hxh xc0 xc1 X2 xc2]
    · isplitl [Hxh]; · iexact Hxh
      isplitl [xc0]; · iexists x0; iexact xc0
      isplitl [xc1]; · iexists x1; iexact xc1
      isplitl [X2]; · iexact X2
      iexact xc2
    isplitl [shc0 scc0 S1 C1 shc1 scc1 Hsh1 Hsc1]
    · isplitl [shc0 scc0]
      · isplitl [shc0]; · iexists s0; iexact shc0
        iexists c0; iexact scc0
      isplitl [S1]; · iexact S1
      isplitl [C1]; · iexact C1
      isplitl [shc1]; · iexact shc1
      isplitl [scc1]; · iexact scc1
      isplitl [Hsh1]; · iexact Hsh1
      iexact Hsc1
    isplitl [Ho]; · iexact Ho
    isplitl [O0 oc0]
    · isplitl [O0]; · iexact O0
      iexact oc0
    isplitl [O1]; · iexact O1
    iexact oc1
  sl_for (inv c X M O arg1 g gv) $$ [HR]
  case region =>
    intro k acc
    exact trip c X M O arg1 harg1 g gv hg _ _ _ _ _ _ _ _ k acc
  · unfold inv
    isplitr; · ipureintro; rfl
    iexact HR
  iintro %acc HI
  ihave HI := (inv_stop c X M O arg1 g gv acc) $$ HI
  icases HI with ⟨%ha, HI⟩
  subst ha
  icases HI with ⟨HG, ⟨%W', HW⟩, ⟨Hx, ⟨X0, xc0⟩, ⟨X1, xc1⟩, X2, xc2⟩, ⟨⟨⟨%s1, S1⟩, ⟨%c1, C1⟩, shc1, scc1, Hsh1, Hsc1⟩, S0, C0, shc0, scc0, Hsh0, Hsc0⟩, Ho, ⟨%fo, HFo⟩, O1, oc1⟩
  have hc6 := chk6
  have hc7 := chk7
  sl_exec
  sl_step
  iapply Hk
  isplitl [HG]; · iexact HG
  isplitl [HW]; · iexists _; iexact HW
  isplitl [Hx]; · iexact Hx
  isplitl [Hsh0 Hsc0]
  · isplitl [Hsh0]; · iexact Hsh0
    iexact Hsc0
  isplitl [Hsh1 Hsc1]
  · isplitl [Hsh1]; · iexact Hsh1
    iexact Hsc1
  isplitl [Ho HFo_dst]
  · irw [out_all]
    isplitl [HFo_dst]; · iexact HFo_dst
    iexact Ho
  isplitl [X0 X1 X2]
  · isplitl [X0]; · iexact X0
    isplitl [X1]; · iexact X1
    iexact X2
  isplitl [S0 S1]
  · isplitl [S0]; · iexact S0
    iexists _; iexact S1
  isplitl [C0 C1]
  · isplitl [C0]; · iexact C0
    iexists _; iexact C1
  isplitl [HFo_src O1]
  · isplitl [HFo_src]; · iexists fo; iexact HFo_src
    iexact O1
  isplitl [xc0 xc1 xc2]
  · isplitl [xc0]; · iexact xc0
    isplitl [xc1]; · iexact xc1
    iexact xc2
  isplitl [shc0 shc1]
  · isplitl [shc0]; · iexact shc0
    iexact shc1
  isplitl [scc0 scc1]
  · isplitl [scc0]; · iexact scc0
    iexact scc1
  isplitl [HFo]; · iexact HFo
  iexact oc1
end Body

end Cert.Proof.Norm

end
-- ==== Proof.Parts.lean ====
/-
  Buffers held whole and held part by part: `x` and the result by row blocks, the modulation array as two rows' shift and scale
  beside the rest, the rings by slots.
-/
module

public import proofs.«01_k».proof.Proof.Body
public import proofs.«01_k».proof.Proof.Gen.KernelIdeal.Frame

@[expose] public section

set_option maxRecDepth 16384

noncomputable section

namespace Cert.Proof.Norm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## Which part an element is in -/

section Parts

theorem disjoint_of_key {ι α : Type} [DecidableEq α] (I : ι → Finset α) (κ : α → ι) (h : ∀ b y, y ∈ I b ↔ κ y = b) :
    ∀ b b' : ι, b ≠ b' → Disjoint (I b) (I b') := fun b b' hne =>
  Finset.disjoint_left.mpr fun y hy hy' => hne (((h b y).mp hy).symm.trans ((h b' y).mp hy'))
theorem cover_of_key {ι α : Type} [Fintype ι] [Fintype α] [DecidableEq α] (I : ι → Finset α) (κ : α → ι) (h : ∀ b y, y ∈ I b ↔ κ y = b) :
    (Finset.univ : Finset ι).biUnion I = Finset.univ := by
  ext y; simp only [Finset.mem_biUnion, Finset.mem_univ, true_and, iff_true]; exact ⟨κ y, (h _ y).mpr rfl⟩

abbrev Ix8448 := S8448x4096.Idx
abbrev BS (b : Fin 33) : Finset Ix8448 := (Rect.unit (s := S8448x4096) (blk b) S256x4096.size (blk_inb b)).set
abbrev XSS (s : Fin 3) : Finset S3x256x4096.Idx := (Rect.unit (s := S3x256x4096) (slot3 s) S1x256x4096.size (slot3_inb s)).set
abbrev OSS (s : Fin 2) : Finset S2x256x4096.Idx := (Rect.unit (s := S2x256x4096) (slot2 s) S1x256x4096.size (slot2_inb s)).set
abbrev RSS (s : Fin 2) : Finset S2x1x1x4096.Idx := (Rect.unit (s := S2x1x1x4096) (rowSlot s) S1x1x1x4096.size (rowSlot_inb s)).set
abbrev SHS (r : Fin 2) : Finset S8x1x12288.Idx := (Rect.unit (s := S8x1x12288) (shiftAt r) S1x1x4096.size (shiftAt_inb r)).set
abbrev SCS (r : Fin 2) : Finset S8x1x12288.Idx := (Rect.unit (s := S8x1x12288) (scaleAt r) S1x1x4096.size (scaleAt_inb r)).set

def bkey (y : Ix8448) : Fin 33 := ⟨(y 0).val / 256, by have h : (y 0).val < 8448 := (y 0).isLt; omega⟩
theorem mem_BS (b : Fin 33) (y : Ix8448) : y ∈ BS b ↔ bkey y = b := by
  rw [Rect.mem_set_unit, Fin.ext_iff]
  have h1 : (y 1).val < 4096 := (y 1).isLt
  show _ ↔ (y 0).val / 256 = b.val
  constructor
  · intro H; have a0 : 256 * b.val ≤ (y 0).val ∧ (y 0).val < 256 * b.val + 256 := H 0; omega
  · intro H i; fin_cases i
    · show 256 * b.val ≤ (y 0).val ∧ (y 0).val < 256 * b.val + 256; omega
    · show 0 ≤ (y 1).val ∧ (y 1).val < 0 + 4096; omega
def xkey (y : S3x256x4096.Idx) : Fin 3 := ⟨(y 0).val, (y 0).isLt⟩
theorem mem_XSS (s : Fin 3) (y : S3x256x4096.Idx) : y ∈ XSS s ↔ xkey y = s := by
  rw [Rect.mem_set_unit, Fin.ext_iff]
  have h1 : (y 1).val < 256 := (y 1).isLt
  have h2 : (y 2).val < 4096 := (y 2).isLt
  show _ ↔ (y 0).val = s.val
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 4096; omega
def okey (y : S2x256x4096.Idx) : Fin 2 := ⟨(y 0).val, (y 0).isLt⟩
theorem mem_OSS (s : Fin 2) (y : S2x256x4096.Idx) : y ∈ OSS s ↔ okey y = s := by
  rw [Rect.mem_set_unit, Fin.ext_iff]
  have h1 : (y 1).val < 256 := (y 1).isLt
  have h2 : (y 2).val < 4096 := (y 2).isLt
  show _ ↔ (y 0).val = s.val
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 4096; omega
def rkey (y : S2x1x1x4096.Idx) : Fin 2 := ⟨(y 0).val, (y 0).isLt⟩
theorem mem_RSS (s : Fin 2) (y : S2x1x1x4096.Idx) : y ∈ RSS s ↔ rkey y = s := by
  rw [Rect.mem_set_unit, Fin.ext_iff]
  have h1 : (y 1).val < 1 := (y 1).isLt
  have h2 : (y 2).val < 1 := (y 2).isLt
  have h3 : (y 3).val < 4096 := (y 3).isLt
  show _ ↔ (y 0).val = s.val
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1; omega
    · show 0 ≤ (y 2).val ∧ (y 2).val < 0 + 1; omega
    · show 0 ≤ (y 3).val ∧ (y 3).val < 0 + 4096; omega
theorem mem_SHS (r : Fin 2) (y : S8x1x12288.Idx) : y ∈ SHS r ↔ (y 0).val = r.val ∧ (y 2).val < 4096 := by
  rw [Rect.mem_set_unit]
  have h1 : (y 1).val < 1 := (y 1).isLt
  constructor
  · intro H
    have a0 : r.val ≤ (y 0).val ∧ (y 0).val < r.val + 1 := H 0
    have a2 : 0 ≤ (y 2).val ∧ (y 2).val < 0 + 4096 := H 2
    omega
  · intro H i; fin_cases i
    · show r.val ≤ (y 0).val ∧ (y 0).val < r.val + 1; omega
    · show 0 ≤ (y 1).val ∧ (y 1).val < 0 + 1; omega
    · show 0 ≤ (y 2).val ∧ (y 2).val < 0 + 4096; omega
theorem mem_SCS (r : Fin 2) (y : S8x1x12288.Idx) : y ∈ SCS r ↔ (y 0).val = r.val ∧ 4096 ≤ (y 2).val ∧ (y 2).val < 8192 := by
  rw [Rect.mem_set_unit]
  have h1 : (y 1).val < 1 := (y 1).isLt
  constructor
  · intro H
    have a0 : r.val ≤ (y 0).val ∧ (y 0).val < r.val + 1 := H 0
    have a2 : 4096 ≤ (y 2).val ∧ (y 2).val < 4096 + 4096 := H 2
    omega
  · intro H i; fin_cases i
    · show r.val ≤ (y 0).val ∧ (y 0).val < r.val + 1; omega
    · show 0 ≤ (y 1).val ∧ (y 1).val < 0 + 1; omega
    · show 4096 ≤ (y 2).val ∧ (y 2).val < 4096 + 4096; omega

/-- The modulation array in five: the first two rows' shift and scale, and the rest. -/
def mkey (y : S8x1x12288.Idx) : Fin 5 :=
  if (y 0).val = 0 ∧ (y 2).val < 4096 then 0
  else if (y 0).val = 0 ∧ 4096 ≤ (y 2).val ∧ (y 2).val < 8192 then 1
  else if (y 0).val = 1 ∧ (y 2).val < 4096 then 2
  else if (y 0).val = 1 ∧ 4096 ≤ (y 2).val ∧ (y 2).val < 8192 then 3
  else 4
abbrev MS (j : Fin 5) : Finset S8x1x12288.Idx := Finset.univ.filter (mkey · = j)
theorem mem_MS (j : Fin 5) (y : S8x1x12288.Idx) : y ∈ MS j ↔ mkey y = j := by simp
theorem MS_0 : MS 0 = SHS 0 := by
  ext y; rw [mem_MS, mem_SHS]; unfold mkey; show _ ↔ (y 0).val = 0 ∧ _; split_ifs <;> simp_all
theorem MS_1 : MS 1 = SCS 0 := by
  ext y; rw [mem_MS, mem_SCS]; unfold mkey; show _ ↔ (y 0).val = 0 ∧ _; split_ifs <;> simp <;> omega
theorem MS_2 : MS 2 = SHS 1 := by
  ext y; rw [mem_MS, mem_SHS]; unfold mkey; show _ ↔ (y 0).val = 1 ∧ _; split_ifs <;> simp <;> omega
theorem MS_3 : MS 3 = SCS 1 := by
  ext y; rw [mem_MS, mem_SCS]; unfold mkey; show _ ↔ (y 0).val = 1 ∧ _; split_ifs <;> simp <;> omega

/-! ## The parts' element sets -/

theorem xb_set (b : Fin 33) : (xb b).view.set = BS b := View.set_slice_whole _ _
theorem ob_set (b : Fin 33) : (ob b).view.set = BS b := View.set_slice_whole _ _
theorem sh_set (r : Fin 2) : (sh r).view.set = SHS r := View.set_slice_whole _ _
theorem sc_set (r : Fin 2) : (sc r).view.set = SCS r := View.set_slice_whole _ _
theorem xs_set (s : Fin 3) : (xs s).view.set = XSS s := (View.set_reshape _ _).trans (View.set_slice_whole _ _)
theorem ss_set (s : Fin 2) : (ss s).view.set = RSS s := (View.set_reshape _ _).trans (View.set_slice_whole _ _)
theorem cs_set (s : Fin 2) : (cs s).view.set = RSS s := (View.set_reshape _ _).trans (View.set_slice_whole _ _)
theorem os_set (s : Fin 2) : (os s).view.set = OSS s := (View.set_reshape _ _).trans (View.set_slice_whole _ _)

/-! ## Whole buffers and their parts -/

theorem bigSep_fin2 (Φ : Fin 2 → sProp 𝕄) : bigSep Finset.univ Φ = iprop(Φ 0 ∗ Φ 1) :=
  bigSep_univ_eq_bigSepL [(0 : Fin 2), (1 : Fin 2)] (by decide) (by decide) Φ
theorem bigSep_fin3 (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ
theorem bigSep_fin5 (Φ : Fin 5 → sProp 𝕄) : bigSep Finset.univ Φ = iprop(Φ 0 ∗ Φ 1 ∗ Φ 2 ∗ Φ 3 ∗ Φ 4) :=
  bigSep_univ_eq_bigSepL [(0 : Fin 5), (1 : Fin 5), (2 : Fin 5), (3 : Fin 5), (4 : Fin 5)] (by decide) (by decide) Φ

variable (c : Dev nD)

/-- `x` whole is its row blocks at home; -/
theorem x_whole (f : Buf (Elt F) ((c : Thread nD τ).loc main_arg0)) :
    (((c : Thread nD τ).loc main_arg0) ↦{fullShare} f : sProp 𝕄) = bigSep Finset.univ (xHome c f) := by
  rw [Ring.pointsTo_blocks (ℓ := (c : Thread nD τ).loc main_arg0) BS (disjoint_of_key BS bkey mem_BS) (cover_of_key BS bkey mem_BS)]
  exact bigSep_congr fun b _ => by rw [← xb_set]; rfl
/-- at the body's entry, blocks 0 and 1 apart from the rest. -/
theorem x_zero (X : Buf (Elt F) (xM.view.loc (c : Thread nD τ))) :
    bigSep Finset.univ (xHome c X) = iprop(xHome c X 0 ∗ xHome c X 1 ∗ bigSep (Ring.homeSet 2 0) (xHome c X)) := by
  have e : (Finset.univ : Finset (Fin 33)) = insert 0 (insert 1 (Ring.homeSet (NB := 33) 2 0)) := by
    ext b; simp only [Finset.mem_univ, Finset.mem_insert, Ring.mem_homeSet, true_iff, Fin.ext_iff]; have := b.isLt; omega
  conv_lhs => rw [e, bigSep_insert (by simp [Ring.mem_homeSet, Fin.ext_iff]), bigSep_insert (by simp [Ring.mem_homeSet])]
  rfl
theorem o_whole (f : Buf (Elt F) ((c : Thread nD τ).loc main_v2)) :
    (((c : Thread nD τ).loc main_v2) ↦{fullShare} f : sProp 𝕄) = bigSep Finset.univ (oHome c f) := by
  rw [Ring.pointsTo_blocks (ℓ := (c : Thread nD τ).loc main_v2) BS (disjoint_of_key BS bkey mem_BS) (cover_of_key BS bkey mem_BS)]
  exact bigSep_congr fun b _ => by rw [← ob_set]; rfl
/-- What is left of the modulation array. -/
abbrev mRest (M : Buf (Elt F) ((c : Thread nD τ).loc main_v1)) : sProp 𝕄 := ((c : Thread nD τ).loc main_v1) ↦[MS 4]{fullShare} M
theorem m_whole (f : Buf (Elt F) ((c : Thread nD τ).loc main_v1)) :
    (((c : Thread nD τ).loc main_v1) ↦{fullShare} f : sProp 𝕄) = iprop(shHome c f 0 ∗ scHome c f 0 ∗ shHome c f 1 ∗ scHome c f 1 ∗ mRest c f) := by
  rw [Ring.pointsTo_blocks (ℓ := (c : Thread nD τ).loc main_v1) MS (disjoint_of_key MS mkey mem_MS) (cover_of_key MS mkey mem_MS), bigSep_fin5]
  rw [MS_0, MS_1, MS_2, MS_3, ← sh_set, ← sc_set, ← sh_set, ← sc_set]; rfl

/-- A ring held whole at some contents is its slots, each at some contents, and back. -/
theorem xRing_split : iprop(∃ f : Buf (Elt F) ((c : Thread nD τ).loc cc0_scoped0), ((c : Thread nD τ).loc cc0_scoped0) ↦{fullShare} f)
      ⊢ (iprop(xSlot c 0 ∗ xSlot c 1 ∗ xSlot c 2) : sProp 𝕄) := by
  iintro ⟨%f, H⟩
  ihave H := (entails_of_eq ((Ring.pointsTo_blocks (Ix := Unit) (Name := ℕ) (U := UU nD τ) (Lvl := ℕ) (q := fullShare) (ℓ := (c : Thread nD τ).loc cc0_scoped0) XSS
    (disjoint_of_key XSS xkey mem_XSS) (cover_of_key XSS xkey mem_XSS) f).trans (bigSep_fin3 _))) $$ H
  unfold xSlot partP
  irw [xs_set 0]
  irw [xs_set 1]
  irw [xs_set 2]
  icases H with ⟨H0, H1, H2⟩
  isplitl [H0]; · iexists f; iexact H0
  isplitl [H1]; · iexists f; iexact H1
  iexists f; iexact H2
theorem xRing_join : (iprop(xSlot c 0 ∗ xSlot c 1 ∗ xSlot c 2) : sProp 𝕄)
      ⊢ iprop(∃ f : Buf (Elt F) ((c : Thread nD τ).loc cc0_scoped0), ((c : Thread nD τ).loc cc0_scoped0) ↦{fullShare} f) := by
  unfold xSlot partP
  rw [xs_set 0, xs_set 1, xs_set 2]
  iintro ⟨⟨%f0, H0⟩, H1, H2⟩
  iapply (Ring.pointsTo_blocks_join_exists (ℓ := (c : Thread nD τ).loc cc0_scoped0) XSS (disjoint_of_key XSS xkey mem_XSS) (cover_of_key XSS xkey mem_XSS) f0)
  irw [bigSep_fin3]
  isplitl [H0]; · iexists f0; iexact H0
  isplitl [H1]; · iexact H1
  iexact H2

/-- The same for a ring of two slots. -/
theorem two_split {ℓ : Loc nD τ sig} (I : Fin 2 → Finset (Idx ℓ)) (hd : ∀ b b', b ≠ b' → Disjoint (I b) (I b')) (hc : Finset.univ.biUnion I = Finset.univ) :
    iprop(∃ f : Buf (Elt F) ℓ, ℓ ↦{fullShare} f) ⊢ (iprop((∃ f : Buf (Elt F) ℓ, ℓ ↦[I 0]{fullShare} f) ∗ (∃ f : Buf (Elt F) ℓ, ℓ ↦[I 1]{fullShare} f)) : sProp 𝕄) := by
  iintro ⟨%f, H⟩
  ihave H := (entails_of_eq ((Ring.pointsTo_blocks (Ix := Unit) (Name := ℕ) (U := UU nD τ) (Lvl := ℕ) (q := fullShare) (ℓ := ℓ) I hd hc f).trans (bigSep_fin2 _))) $$ H
  icases H with ⟨H0, H1⟩
  isplitl [H0]; · iexists f; iexact H0
  iexists f; iexact H1
theorem two_join {ℓ : Loc nD τ sig} (I : Fin 2 → Finset (Idx ℓ)) (hd : ∀ b b', b ≠ b' → Disjoint (I b) (I b')) (hc : Finset.univ.biUnion I = Finset.univ) :
    (iprop((∃ f : Buf (Elt F) ℓ, ℓ ↦[I 0]{fullShare} f) ∗ (∃ f : Buf (Elt F) ℓ, ℓ ↦[I 1]{fullShare} f)) : sProp 𝕄) ⊢ iprop(∃ f : Buf (Elt F) ℓ, ℓ ↦{fullShare} f) := by
  iintro ⟨⟨%f0, H0⟩, H1⟩
  iapply (Ring.pointsTo_blocks_join_exists (ℓ := ℓ) I hd hc f0)
  irw [bigSep_fin2]
  isplitl [H0]; · iexists f0; iexact H0
  iexact H1
theorem RSS_d : ∀ b b' : Fin 2, b ≠ b' → Disjoint (RSS b) (RSS b') := disjoint_of_key RSS rkey mem_RSS
theorem RSS_c : (Finset.univ : Finset (Fin 2)).biUnion RSS = Finset.univ := cover_of_key RSS rkey mem_RSS
theorem OSS_d : ∀ b b' : Fin 2, b ≠ b' → Disjoint (OSS b) (OSS b') := disjoint_of_key OSS okey mem_OSS
theorem OSS_c : (Finset.univ : Finset (Fin 2)).biUnion OSS = Finset.univ := cover_of_key OSS okey mem_OSS

theorem sSlots : (iprop(sSlot c 0 ∗ sSlot c 1) : sProp 𝕄) = iprop((∃ f : Buf (Elt F) ((c : Thread nD τ).loc cc0_scoped2), ((c : Thread nD τ).loc cc0_scoped2) ↦[RSS 0]{fullShare} f)
    ∗ (∃ f : Buf (Elt F) ((c : Thread nD τ).loc cc0_scoped2), ((c : Thread nD τ).loc cc0_scoped2) ↦[RSS 1]{fullShare} f)) := by
  unfold sSlot partP; rw [ss_set 0, ss_set 1]; rfl
theorem cSlots : (iprop(cSlot c 0 ∗ cSlot c 1) : sProp 𝕄) = iprop((∃ f : Buf (Elt F) ((c : Thread nD τ).loc cc0_scoped4), ((c : Thread nD τ).loc cc0_scoped4) ↦[RSS 0]{fullShare} f)
    ∗ (∃ f : Buf (Elt F) ((c : Thread nD τ).loc cc0_scoped4), ((c : Thread nD τ).loc cc0_scoped4) ↦[RSS 1]{fullShare} f)) := by
  unfold cSlot partP; rw [cs_set 0, cs_set 1]; rfl
theorem oSlots : (iprop(oSlot c 0 ∗ oSlot c 1) : sProp 𝕄) = iprop((∃ f : Buf (Elt F) ((c : Thread nD τ).loc cc0_scoped6), ((c : Thread nD τ).loc cc0_scoped6) ↦[OSS 0]{fullShare} f)
    ∗ (∃ f : Buf (Elt F) ((c : Thread nD τ).loc cc0_scoped6), ((c : Thread nD τ).loc cc0_scoped6) ↦[OSS 1]{fullShare} f)) := by
  unfold oSlot partP; rw [os_set 0, os_set 1]; rfl

/-- The four rings, whole at some contents, are their slots, and back. -/
theorem rings_split : (Pipeline.scopedRest (Ix := Unit) (Name := ℕ) (U := UU nD τ) (Lvl := ℕ) (Val := Elt F) spec0 c : sProp 𝕄)
    ⊢ iprop((xSlot c 0 ∗ xSlot c 1 ∗ xSlot c 2) ∗ (sSlot c 0 ∗ sSlot c 1) ∗ (cSlot c 0 ∗ cSlot c 1) ∗ (oSlot c 0 ∗ oSlot c 1)) := by
  rw [scopedRest0_eq, sSlots, cSlots, oSlots]
  iintro ⟨H0, H2, H4, H6⟩
  isplitl [H0]; · iapply (xRing_split c); iexact H0
  isplitl [H2]; · iapply (two_split (ℓ := (c : Thread nD τ).loc cc0_scoped2) RSS RSS_d RSS_c); iexact H2
  isplitl [H4]; · iapply (two_split (ℓ := (c : Thread nD τ).loc cc0_scoped4) RSS RSS_d RSS_c); iexact H4
  iapply (two_split (ℓ := (c : Thread nD τ).loc cc0_scoped6) OSS OSS_d OSS_c); iexact H6
theorem rings_join : iprop((xSlot c 0 ∗ xSlot c 1 ∗ xSlot c 2) ∗ (sSlot c 0 ∗ sSlot c 1) ∗ (cSlot c 0 ∗ cSlot c 1) ∗ (oSlot c 0 ∗ oSlot c 1))
    ⊢ (Pipeline.scopedRest (Ix := Unit) (Name := ℕ) (U := UU nD τ) (Lvl := ℕ) (Val := Elt F) spec0 c : sProp 𝕄) := by
  rw [scopedRest0_eq, sSlots, cSlots, oSlots]
  iintro ⟨H0, H2, H4, H6⟩
  isplitl [H0]; · iapply (xRing_join c); iexact H0
  isplitl [H2]; · iapply (two_join (ℓ := (c : Thread nD τ).loc cc0_scoped2) RSS RSS_d RSS_c); iexact H2
  isplitl [H4]; · iapply (two_join (ℓ := (c : Thread nD τ).loc cc0_scoped4) RSS RSS_d RSS_c); iexact H4
  iapply (two_join (ℓ := (c : Thread nD τ).loc cc0_scoped6) OSS OSS_d OSS_c); iexact H6

/-! ## The kernel's semaphores -/

def osem : Fin 9 → SemLoc sig := fun
  | 0 => .dma (xc 0).sem | 1 => .dma (xc 1).sem | 2 => .dma (xc 2).sem
  | 3 => .dma (shc 0).sem | 4 => .dma (shc 1).sem
  | 5 => .dma (scc 0).sem | 6 => .dma (scc 1).sem
  | 7 => .dma (oc 0).sem | 8 => .dma (oc 1).sem
theorem ownSemFacts : Pipeline.OwnSemFacts spec0 osem := by decide
theorem ownSems0_eq : (Pipeline.ownSems0 (Ix := Unit) (Name := ℕ) (U := UU nD τ) (Lvl := ℕ) (Val := Elt F) (τ := τ) osem c : sProp 𝕄)
    = iprop(restP c (xc 0) ∗ restP c (xc 1) ∗ restP c (xc 2) ∗ restP c (shc 0) ∗ restP c (shc 1) ∗ restP c (scc 0) ∗ restP c (scc 1) ∗ restP c (oc 0) ∗ restP c (oc 1)) := by
  unfold Pipeline.ownSems0
  exact bigSep_univ_eq_bigSepL [(0 : Fin 9), 1, 2, 3, 4, 5, 6, 7, 8] (by decide) (by decide) _

end Parts

end Cert.Proof.Norm

end
-- ==== Proof.Run.lean ====
/-
  The run of the whole program: from any memory with every counter at zero it ends, faults nowhere, leaves its arguments as they
  were and every counter at zero again, and the result's array holds `OUT`.
-/
module

public import proofs.«01_k».proof.Proof.Parts
public import proofs.«01_k».proof.Proof.Gen.KernelIdeal.Points

@[expose] public section

set_option maxRecDepth 16384

noncomputable section

namespace Cert.Proof.Norm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Launch
variable (m : (ℓ : Loc nD τ sig) → Buf (Elt F) ℓ) (ρ : Dev nD → PrngReg)

/-- What the region finds: `x`, the modulation array (reshaped), the result's array, and the row of `g`. -/
abbrev X₀ (c : Dev nD) : Buf (Elt F) (xM.view.loc (c : Thread nD τ)) := V m c main_arg0
abbrev M₀ (c : Dev nD) : Buf (Elt F) (mM.view.loc (c : Thread nD τ)) := V m c main_v1
abbrev O₀ (c : Dev nD) : Buf (Elt F) (oM.view.loc (c : Thread nD τ)) := V m c main_v2
abbrev g₀ (c : Dev nD) (t : Fin cfg0.N) : Vec F S1x4096 .f32 := iblk m c 0 t
/-- What the result's array holds at the end. -/
abbrev out₀ (c : Dev nD) : Buf (Elt F) (oM.view.loc (c : Thread nD τ)) := OUT c (X₀ m c) (M₀ m c) (g₀ m c t0_0)

/-! ## The pipeline's proof data -/

/-- Everything the body holds beside its staged row, the result's array at `R`. -/
def Held (c : Dev nD) (R : Buf (Elt F) (oM.view.loc (c : Thread nD τ))) : sProp 𝕄 :=
  iprop(POST c (X₀ m c) (M₀ m c) R ∗ mRest c (M₀ m c))
/-- Before the one point the result's array is as the region finds it, after it it holds the result. -/
def Φ (c : Dev nD) (n : ℕ) : sProp 𝕄 := Held m c (if n = 0 then O₀ m c else out₀ m c)

def dats (_ : Fin 1) (c : Dev nD) : Dat τ (Elt F) Unit ℕ (UU nD τ) ℕ cfg0 c where
  A w := V m c (Pipeline.arrRef spec0 w)
  after w t := match w with
    | ⟨0, _⟩ => iblk m c 0 t
  Φ t := Φ m c t.val
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem after_w0 (c : Dev nD) (t : Fin cfg0.N) : (dats m 0 c).after 0 t = iblk m c 0 t := by dsimp only [dats]

/-- The body table's row is the kernel on the point's staging memref. -/
theorem prog_eq (t : Fin cfg0.N) : (defs₀ (F := F)) .tc cfg0.body (cfg0.bodyArgs t (cfg0.slots t)) = bodyG (st0_0 t) (hstage0_0 0) := by
  unfold defs₀; rw [Defs.onTc_tc]

set_option backward.isDefEq.respectTransparency.types false in
theorem body_obligation (c : Dev nD) : BodyObligation (dats (F := F) m 0 c) (defs₀ (F := F)) 𝒱₀ () Set.univ := fun t => by
  obtain rfl := fin_N0 t
  rw [bigSep_W0, bigSep_W0]
  dsimp only
  simp only [before_w0, after_w0]
  rw [show (dats m 0 c).Φ t0_0.castSucc = Held m c (O₀ m c) from rfl, show (dats m 0 c).Φ t0_0.succ = Held m c (out₀ m c) from rfl]
  unfold Dat.owesAt Pipeline.owesWithin
  rw [show (dats m 0 c).owed t0_0.castSucc = 0 from rfl, show (dats m 0 c).owed t0_0.succ = 0 from rfl]
  unfold owns Held
  iintro ⟨⟨⟨Hx, Hr⟩, Hm⟩, ⟨%W, -, HW⟩, ⟨%d0, %g0, %hg0, Hg⟩⟩
  ihave Hx := (entails_of_eq (x_zero c (X₀ m c))) $$ Hx
  sl_rw [prog_eq t0_0]
  iapply (bodyRun c (X₀ m c) (M₀ m c) (O₀ m c) (st0_0 t0_0) (hstage0_0 0) g0 (g₀ m c t0_0) hg0 W)
  isplitl [Hx Hr HW Hg]
  · isplitl [Hg]; · iexact Hg
    isplitl [HW]; · iexact HW
    isplitl [Hx]; · iexact Hx
    iexact Hr
  · iintro ⟨Hg, ⟨%W', HW⟩, HP⟩
    isplitl [HP Hm]
    · isplitl [HP]
      · iexact HP
      iexact Hm
    isplitl [HW]
    · iexists W'; isplitr; · ipureintro; exact fun _ _ => Or.inl trivial
      iexact HW
    iexists g0; isplitr; · ipureintro; exact hg0
    iexact Hg

/-! ## The run -/

/-- The two arguments that only the host reads. -/
abbrev hostArgs (c : Dev nD) : sProp 𝕄 :=
  iprop((((c : Thread nD τ).loc main_arg1) ↦{fullShare} V m c main_arg1) ∗ (((c : Thread nD τ).loc main_arg2) ↦{fullShare} V m c main_arg2))
def intoΦ (c : Dev nD) : sProp 𝕄 :=
  iprop((((c : Thread nD τ).loc main_arg0) ↦{fullShare} V m c main_arg0) ∗ (((c : Thread nD τ).loc main_v1) ↦{fullShare} V m c main_v1)
    ∗ (((c : Thread nD τ).loc main_v2) ↦{fullShare} V m c main_v2) ∗ Pipeline.ownSems0 osem c)
def outOfΦ (c : Dev nD) : sProp 𝕄 :=
  iprop((((c : Thread nD τ).loc main_arg0) ↦{fullShare} V m c main_arg0) ∗ (((c : Thread nD τ).loc main_v2) ↦{fullShare} out₀ m c))
def u₀ : UU nD τ := (initOf (Pipeline.cells cfgs cellOf_inj) (Pipeline.launchToks cfgs cellOf_inj), 1)
def QY (c : Dev nD) (s : MemSt nD τ sig (Elt F)) : Prop :=
  s.mem ((c : Thread nD τ).loc main_arg0) = V m c main_arg0 ∧ s.mem ((c : Thread nD τ).loc main_arg1) = V m c main_arg1
  ∧ s.mem ((c : Thread nD τ).loc main_arg2) = V m c main_arg2 ∧ s.mem ((c : Thread nD τ).loc main_v2) = out₀ m c
/-- The final states: arguments as they were, the result's array at the result, every counter at zero. -/
def Post : PUnit × MemSt nD τ sig (Elt F) → Prop := fun r =>
  (∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_v2) = out₀ m c) ∧ r.2.sem = fun _ => 0

/-- All that the region holds, whole buffer by whole buffer. -/
theorem held_eq (c : Dev nD) (R : Buf (Elt F) (oM.view.loc (c : Thread nD τ))) :
    iprop((((c : Thread nD τ).loc main_arg0) ↦{fullShare} V m c main_arg0) ∗ (((c : Thread nD τ).loc main_v1) ↦{fullShare} V m c main_v1)
      ∗ (((c : Thread nD τ).loc main_v2) ↦{fullShare} R) ∗ Pipeline.ownSems0 osem c ∗ Pipeline.scopedRest (Ix := Unit) (Name := ℕ) (U := UU nD τ) (Lvl := ℕ) (Val := Elt F) spec0 c)
      ⊢ (Held m c R : sProp 𝕄) := by
  rw [x_whole, m_whole, o_whole, ownSems0_eq]
  unfold Held
  iintro ⟨Hx, ⟨Hsh0, Hsc0, Hsh1, Hsc1, Hm⟩, Ho, ⟨x0, x1, x2, s0, s1, c0, c1, o0, o1⟩, HB⟩
  ihave HB := (rings_split c) $$ HB
  icases HB with ⟨HX, HS, HC, HO⟩
  isplitr [Hm]
  · isplitl [Hx]; · iexact Hx
    isplitl [Hsh0 Hsc0]
    · isplitl [Hsh0]; · iexact Hsh0
      iexact Hsc0
    isplitl [Hsh1 Hsc1]
    · isplitl [Hsh1]; · iexact Hsh1
      iexact Hsc1
    isplitl [Ho]; · iexact Ho
    isplitl [HX]; · iexact HX
    isplitl [HS]; · iexact HS
    isplitl [HC]; · iexact HC
    isplitl [HO]; · iexact HO
    isplitl [x0 x1 x2]
    · isplitl [x0]; · iexact x0
      isplitl [x1]; · iexact x1
      iexact x2
    isplitl [s0 s1]
    · isplitl [s0]; · iexact s0
      iexact s1
    isplitl [c0 c1]
    · isplitl [c0]; · iexact c0
      iexact c1
    isplitl [o0]; · iexact o0
    iexact o1
  iexact Hm
theorem held_out (c : Dev nD) (R : Buf (Elt F) (oM.view.loc (c : Thread nD τ))) :
    (Held m c R : sProp 𝕄) ⊢
    iprop(((((c : Thread nD τ).loc main_arg0) ↦{fullShare} V m c main_arg0) ∗ (((c : Thread nD τ).loc main_v2) ↦{fullShare} R))
      ∗ Pipeline.ownSems0 osem c ∗ Pipeline.scopedRest (Ix := Unit) (Name := ℕ) (U := UU nD τ) (Lvl := ℕ) (Val := Elt F) spec0 c) := by
  rw [x_whole, o_whole, ownSems0_eq]
  unfold Held
  iintro ⟨⟨Hx, -, -, Ho, HX, HS, HC, HO, ⟨x0, x1, x2⟩, ⟨s0, s1⟩, ⟨c0, c1⟩, o0, o1⟩, -⟩
  isplitl [Hx Ho]
  · isplitl [Hx]; · iexact Hx
    iexact Ho
  isplitl [x0 x1 x2 s0 s1 c0 c1 o0 o1]
  · isplitl [x0]; · iexact x0
    isplitl [x1]; · iexact x1
    isplitl [x2]; · iexact x2
    isplitl [s0]; · iexact s0
    isplitl [s1]; · iexact s1
    isplitl [c0]; · iexact c0
    isplitl [c1]; · iexact c1
    isplitl [o0]; · iexact o0
    iexact o1
  iapply (rings_join c)
  isplitl [HX]; · iexact HX
  isplitl [HS]; · iexact HS
  isplitl [HC]; · iexact HC
  iexact HO

set_option backward.isDefEq.respectTransparency.types false in
theorem run_main : θ_run defs (onTc (τ := τ) (main (F := F))) ⟨m, fun _ => 0, ρ⟩ (Post m) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := intoΦ m) (Y := outOfΦ m) (Z := hostArgs m)
    (hX := fun c => by
      rw [unscopedRest0_eq]
      unfold intoΦ
      iintro ⟨⟨Hx, H1, H2, Hm, Ho⟩, HS, -, -, -⟩; imodintro
      isplitl [Hx Hm Ho HS]
      · isplitl [Hx]; · iexact Hx
        isplitl [Hm]; · iexact Hm
        isplitl [Ho]; · iexact Ho
        iexact HS
      isplitl [H1]; · iexact H1
      iexact H2)
    (hin := fun c => by
      rw [show (dats m 0 c).Φ 0 = Held m c (O₀ m c) from rfl]
      refine .trans ?_ (held_eq m c (O₀ m c))
      unfold intoΦ
      iintro ⟨⟨Hx, Hm, Ho, HS⟩, HB⟩
      isplitl [Hx]; · iexact Hx
      isplitl [Hm]; · iexact Hm
      isplitl [Ho]; · iexact Ho
      isplitl [HS]; · iexact HS
      iexact HB)
    (hout := fun c => by
      rw [show (dats m 0 c).Φ (Fin.last cfg0.N) = Held m c (out₀ m c) from rfl]
      exact held_out m c (out₀ m c))
    (QY := QY m)
    (hY := fun c s' => by
      unfold outOfΦ
      iintro ⟨⟨H0, H3⟩, ⟨H1, H2⟩, HSI⟩
      icombine HSI H0 gives %h0
      icombine HSI H1 gives %h1
      icombine HSI H2 gives %h2
      icombine HSI H3 gives %h3
      imodintro
      isplitr
      · ipureintro
        exact ⟨Buf.eq_of_forall_mem_univ h0, Buf.eq_of_forall_mem_univ h1, Buf.eq_of_forall_mem_univ h2, Buf.eq_of_forall_mem_univ h3⟩
      iexact HSI)
    (hQ := fun _ hh hz => ⟨fun c => ⟨(hh c).2.1.trans (V_main_arg0 m c), (hh c).2.2.1.trans (V_main_arg1 m c), (hh c).2.2.2.1.trans (V_main_arg2 m c), (hh c).2.2.2.2⟩, hz⟩)

end Launch

end Cert.Proof.Norm

end
-- ==== Proof.Value.lean ====
/-
  The two programs compute one function over the extended reals: each element of the result is the normalised row of `x` at
  the element, times `g`, scaled and shifted by the modulation row of the element's class.
-/
module

public import proofs.«01_k».proof.Proof.Run
public import proofs.«01_k».proof.Proof.Gen.ReferenceIdeal.Read
public import Idealize.ShloMosaic.Lib.Pipeline.Value
public import Idealize.ShloMosaic.Lib.ValueIdx
public import Idealize.ShloMosaic.Lib.ValueIdxCore
public import Idealize.ShloMosaic.PureOps.Ideal.Laws

@[expose] public section

set_option maxRecDepth 16384

noncomputable section

namespace Cert.Proof.Norm

open Cert.KernelIdeal Cert.KernelIdeal.Gen
open Idealize.ShloMosaic Idealize.ShloMosaic.TcCoe Idealize.ShloMosaic.ValueIdx

/-- An element of the result, from its row of `x`, its element of `x`, of `g`, of the scale row and of the shift row. -/
def elem (x : Fin 4096 → EReal) (xi g sc sh : EReal) : EReal :=
  xi * Ideal.rsqrt (Ideal.div (∑ k, x k * x k) (Ideal.ofBits .f32 0x45800000#32) + Ideal.ofBits .f32 0x358637BD#32) * g
    * (Ideal.ofBits .f32 0x3F800000#32 + sc) + sh

/-- The body's payload at an element. -/
theorem pay_apply (x : Vec Ideal S1x256x4096 .f32) (gv : Vec Ideal S1x4096 .f32) (c s : Vec Ideal S1x1x4096 .f32) (p : Fin 256) (q : Fin 4096) :
    k0_pay1 (F := Ideal) x gv c s (ix2 p q)
      = elem (fun k => x (ix3 0 p k)) (x (ix3 0 p q)) (gv (ix2 0 q)) (c (ix3 0 0 q)) (s (ix3 0 0 q)) := by
  have hx : ∀ (p : Fin 256) (q : Fin 4096), shapeCast S256x4096 x shapeCasts_S1x256x4096_S256x4096 (ix2 p q) = x (ix3 0 p q) := fun p q =>
    (shapeCast_dropUnit_apply ![256, 4096] x shapeCasts_S1x256x4096_S256x4096 (ix2 p q)).trans
      (congrArg x (funext fun a => by match a with | ⟨0, _⟩ => rfl | ⟨1, _⟩ => rfl | ⟨2, _⟩ => rfl))
  have hg : ∀ (v : Vec Ideal S1x4096 .f32), broadcastTo S256x4096 v broadcasts_S1x4096_S256x4096 (ix2 p q) = v (ix2 0 q) := fun v =>
    broadcastTo_apply v broadcasts_S1x4096_S256x4096 (ix2 p q) (ix2 0 q) (fun a => by match a with | ⟨0, _⟩ => rfl | ⟨1, _⟩ => rfl)
  have hm : ∀ (v : Vec Ideal S1x1x4096 .f32), shapeCast S1x4096 v shapeCasts_S1x1x4096_S1x4096 (ix2 0 q) = v (ix3 0 0 q) := fun v =>
    (shapeCast_dropUnit_apply ![1, 4096] v shapeCasts_S1x1x4096_S1x4096 (ix2 0 q)).trans
      (congrArg v (funext fun a => by match a with | ⟨0, _⟩ => rfl | ⟨1, _⟩ => rfl | ⟨2, _⟩ => rfl))
  have hr : ∀ (v : Vec Ideal S256x1 .f32), broadcastTo S256x4096 v broadcasts_S256x1_S256x4096 (ix2 p q) = v (ix2 p 0) := fun v =>
    broadcastTo_apply v broadcasts_S256x1_S256x4096 (ix2 p q) (ix2 p 0) (fun a => by match a with | ⟨0, _⟩ => rfl | ⟨1, _⟩ => rfl)
  have hc : ∀ (v : Vec Ideal S256 .f32), shapeCast S256x1 v shapeCasts_S256_S256x1 (ix2 p 0) = v (ix1 p) := fun v =>
    shapeCast_apply v shapeCasts_S256_S256x1 (ix2 p 0) (ix1 p) (by simp [Shape.rowMajor, Shape.rowMajorPi_succ_val]; rfl)
  have hs : multiReduction (F := Ideal) .add [1] S256 (mulf (shapeCast S256x4096 x shapeCasts_S1x256x4096_S256x4096) (shapeCast S256x4096 x shapeCasts_S1x256x4096_S256x4096)) 0x00000000#32 reduces_S256x4096_S256 (.inl rfl) rfl (ix1 p)
      = ∑ k : Fin 4096, x (ix3 0 p k) * x (ix3 0 p k) := by
    refine (Ideal.multiReduction_add_single _ _ reduces_S256x4096_S256 _ _ (ix1 p)).trans (Finset.sum_congr rfl fun (k : Fin 4096) _ => ?_)
    rw [show reduces_S256x4096_S256.lift (ix1 p) k = (ix2 p k : S256x4096.Idx) from funext fun a => Fin.ext (by match a with | ⟨0, _⟩ => rfl | ⟨1, _⟩ => rfl), mulf_apply, hx]
  unfold k0_pay1 elem
  dsimp only
  rw [truncf_apply, addf_apply, mulf_apply, mulf_apply, mulf_apply, hg, hg, hg, hr, hx, hm, addf_apply, hm, shapeCast_self]
  show _ * Ideal.rsqrt (Ideal.div (shapeCast S256x1 _ shapeCasts_S256_S256x1 (ix2 p 0)) _ + _) * _ * (_ + _) + _ = _
  rw [hc, hs]
  rfl

/-! ## The reference -/

section Ref
open Cert.ReferenceIdeal.Read
variable (x : (⟨S8448x4096, .f32⟩ : BufTy).Contents (Elt Ideal)) (g : (⟨S4096, .f32⟩ : BufTy).Contents (Elt Ideal)) (w : (⟨S8x12288, .f32⟩ : BufTy).Contents (Elt Ideal))

/-- The result at a row and a column, the row's class read off its number. -/
def res (p : Fin 8448) (q : Fin 4096) (r : Fin 8) : EReal :=
  elem (fun k => x (ix2 p k)) (x (ix2 p q)) (g (ix1 q)) (w (ix2 r ⟨4096 + q.val, by omega⟩)) (w (ix2 r ⟨q.val, by omega⟩))

/-- A latent row of the reference. -/
theorem ref_lat (p : Fin 8192) (q : Fin 4096) : val_main_v26 (F := Ideal) x g w (ix2 p q) = res x g w ⟨p.val, by omega⟩ q 0 := by
  have hq := q.isLt
  have e1 : ∀ k, idx_main_v0 (idx_main_v3 (idx_main_v4 (idx_main_v10 (ix2 p q))) k) = ix2 ⟨p.val, by omega⟩ k :=
    fun k => funext fun a => by match a with | ⟨0, _⟩ => rfl | ⟨1, _⟩ => rfl
  have e2 : idx_main_v0 (ix2 p q) = ix2 ⟨p.val, by omega⟩ q := funext fun a => by match a with | ⟨0, _⟩ => rfl | ⟨1, _⟩ => rfl
  have e3 : idx_main_v12 (idx_main_v13 (ix2 p q)) = ix1 q := funext fun a => by match a with | ⟨0, _⟩ => rfl
  have e4 : idx_main_v17 (idx_main_v18 (idx_main_v19 (idx_main_v22 (ix2 p q)))) = ix2 0 ⟨4096 + q.val, by omega⟩ := funext fun a => by
    match a with
    | ⟨0, _⟩ => rfl
    | ⟨1, _⟩ => exact Fin.ext (show 4096 + q.val % 4096 = 4096 + q.val by omega)
  have e5 : idx_main_v15 (idx_main_v16 (idx_main_v24 (idx_main_v25 (ix2 p q)))) = ix2 0 ⟨q.val, by omega⟩ := funext fun a => by
    match a with
    | ⟨0, _⟩ => rfl
    | ⟨1, _⟩ => exact Fin.ext (show q.val % 4096 = q.val by omega)
  rw [val_main_v26_apply, val_main_v25_apply, val_main_v24_apply, val_main_v23_apply, val_main_v22_apply, val_main_v21_apply, val_main_v20_apply,
    val_main_cst_2_apply, val_main_v19_apply, val_main_v18_apply, val_main_v17_apply, val_main_v16_apply, val_main_v15_apply, val_main_v14_apply,
    val_main_v13_apply, val_main_v12_apply, val_main_v11_apply, val_main_v10_apply, val_main_v9_apply, val_main_v8_apply, val_main_v7_apply,
    val_main_cst_1_apply, val_main_v6_apply, val_main_v5_apply, val_main_cst_0_apply, val_main_v4_apply, val_main_v3_apply, val_main_cst_apply,
    val_main_v0_apply, e2, e3, e4, e5]
  simp only [val_main_v2_apply, val_main_v0_apply, e1]
  rw [show (FloatOps.ofBits .f32 0x00000000#32 : Ideal .f32) = (0 : EReal) from Ideal.ofBits_zero_f32]
  unfold res elem
  rw [← zero_add (∑ k : Fin 4096, x (ix2 _ k) * x (ix2 _ k))]
  rfl

/-- A context row of the reference. -/
theorem ref_ctx (p : Fin 256) (q : Fin 4096) : val_main_v51 (F := Ideal) x g w (ix2 p q) = res x g w ⟨8192 + p.val, by omega⟩ q 1 := by
  have hq := q.isLt
  have e1 : ∀ k, idx_main_v1 (idx_main_v28 (idx_main_v29 (idx_main_v35 (ix2 p q))) k) = ix2 ⟨8192 + p.val, by omega⟩ k :=
    fun k => funext fun a => by match a with | ⟨0, _⟩ => rfl | ⟨1, _⟩ => rfl
  have e2 : idx_main_v1 (ix2 p q) = ix2 ⟨8192 + p.val, by omega⟩ q := funext fun a => by match a with | ⟨0, _⟩ => rfl | ⟨1, _⟩ => rfl
  have e3 : idx_main_v37 (idx_main_v38 (ix2 p q)) = ix1 q := funext fun a => by match a with | ⟨0, _⟩ => rfl
  have e4 : idx_main_v42 (idx_main_v43 (idx_main_v44 (idx_main_v47 (ix2 p q)))) = ix2 1 ⟨4096 + q.val, by omega⟩ := funext fun a => by
    match a with
    | ⟨0, _⟩ => rfl
    | ⟨1, _⟩ => exact Fin.ext (show 4096 + q.val % 4096 = 4096 + q.val by omega)
  have e5 : idx_main_v40 (idx_main_v41 (idx_main_v49 (idx_main_v50 (ix2 p q)))) = ix2 1 ⟨q.val, by omega⟩ := funext fun a => by
    match a with
    | ⟨0, _⟩ => rfl
    | ⟨1, _⟩ => exact Fin.ext (show q.val % 4096 = q.val by omega)
  rw [val_main_v51_apply, val_main_v50_apply, val_main_v49_apply, val_main_v48_apply, val_main_v47_apply, val_main_v46_apply, val_main_v45_apply,
    val_main_cst_6_apply, val_main_v44_apply, val_main_v43_apply, val_main_v42_apply, val_main_v41_apply, val_main_v40_apply, val_main_v39_apply,
    val_main_v38_apply, val_main_v37_apply, val_main_v36_apply, val_main_v35_apply, val_main_v34_apply, val_main_v33_apply, val_main_v32_apply,
    val_main_cst_5_apply, val_main_v31_apply, val_main_v30_apply, val_main_cst_4_apply, val_main_v29_apply, val_main_v28_apply, val_main_cst_3_apply,
    val_main_v1_apply, e2, e3, e4, e5]
  simp only [val_main_v27_apply, val_main_v1_apply, e1]
  rw [show (FloatOps.ofBits .f32 0x00000000#32 : Ideal .f32) = (0 : EReal) from Ideal.ofBits_zero_f32]
  unfold res elem
  rw [← zero_add (∑ k : Fin 4096, x (ix2 _ k) * x (ix2 _ k))]
  rfl

/-- The latent rows above the context rows, read at an element. -/
theorem rows_apply (a : Cert.ReferenceIdeal.S8192x4096.Idx → EReal) (b : S256x4096.Idx → EReal) (h) (p : Fin 8448) (q : Fin 4096) :
    concatenate S8448x4096 0 [⟨Cert.ReferenceIdeal.S8192x4096, a⟩, ⟨S256x4096, b⟩] h (ix2 p q)
      = if hp : p.val < 8192 then a (ix2 ⟨p.val, hp⟩ q) else b (ix2 ⟨p.val - 8192, by omega⟩ q) := by
  by_cases hp : p.val < 8192
  · rw [dif_pos hp]
    exact concatenate_pair_apply_left (s₁ := Cert.ReferenceIdeal.S8192x4096) (s₂ := S256x4096) 0 a b h (ix2 p q) rfl (ix2 ⟨p.val, hp⟩ q)
      (fun b => by match b with | ⟨0, _⟩ => rfl | ⟨1, _⟩ => rfl)
  · rw [dif_neg hp]
    exact concatenate_pair_apply_right (s₁ := Cert.ReferenceIdeal.S8192x4096) (s₂ := S256x4096) 0 a b h (ix2 p q) rfl rfl (ix2 ⟨p.val - 8192, by omega⟩ q)
      (fun b => by match b with | ⟨0, _⟩ => exact fun h => absurd rfl h | ⟨1, _⟩ => exact fun _ => rfl)
      (Nat.sub_add_cancel (Nat.le_of_not_lt hp))

/-- The reference's result at an element. -/
theorem ref_apply (p : Fin 8448) (q : Fin 4096) : val_main_v53 (F := Ideal) x g w (ix2 p q) = res x g w p q (if p.val < 8192 then 0 else 1) := by
  rw [val_main_v53_apply]
  show val_main_v52 (F := Ideal) x g w (ix2 p q) = _
  refine (rows_apply _ _ _ p q).trans ?_
  by_cases hp : p.val < 8192
  · rw [dif_pos hp, if_pos hp, ref_lat]
  · rw [dif_neg hp, if_neg hp, ref_ctx]
    exact congrArg (fun p => res x g w p q 1) (Fin.ext (show 8192 + (p.val - 8192) = p.val by omega))

end Ref

/-! ## The kernel -/

section Ker
open Cert.ReferenceIdeal.Read
variable (m : (ℓ : Loc nD τ sig) → Buf (Elt Ideal) ℓ) (c : Dev nD)

theorem mods_at (r : Fin 8) (k : Fin 12288) : M₀ m c (ix3 r 0 k) = m ((c : Thread nD τ).loc main_arg2) (ix2 r k) := by
  have h : V m c main_v1 = shapeCast _ (m ((c : Thread nD τ).loc main_arg2)) shapeCasts_S8x12288_S8x1x12288 := by
    unfold V; after_results; rfl
  show V m c main_v1 (ix3 r 0 k) = _
  rw [h]
  refine shapeCast_apply _ _ _ (ix2 r k) ?_
  rw [Shape.rowMajor_val_two, Shape.rowMajor_val_three]
  show r.val * 12288 + k.val = (r.val * 1 + 0) * 12288 + k.val
  omega

theorem gain_at (q : Fin 4096) : g₀ m c t0_0 (ix2 0 q) = m ((c : Thread nD τ).loc main_arg1) (ix1 q) := by
  have h : V m c main_v0 = shapeCast _ (m ((c : Thread nD τ).loc main_arg1)) shapeCasts_S4096_S1x4096 := by
    unfold V; after_results; rfl
  have h' : g₀ m c t0_0 (ix2 0 q) = V m c main_v0 (ix2 0 q) := by
    show V m c main_v0 (((cfg0.win 0).blk t0_0).view.emb (ix2 0 q)) = _
    exact congrArg (V m c main_v0) (funext fun a => by match a with | ⟨0, _⟩ => rfl | ⟨1, _⟩ => exact Fin.ext (show 0 + 1 * q.val = q.val by omega))
  rw [h', h]
  exact (shapeCast_addUnit_apply ![4096] _ shapeCasts_S4096_S1x4096 (ix2 0 q)).trans (congrArg _ (funext fun a => by match a with | ⟨0, _⟩ => rfl))

/-- The kernel's result at an element. -/
theorem out_apply (p : Fin 8448) (q : Fin 4096) :
    out₀ m c (ix2 p q : S8448x4096.Idx)
      = res (m ((c : Thread nD τ).loc main_arg0)) (m ((c : Thread nD τ).loc main_arg1)) (m ((c : Thread nD τ).loc main_arg2)) p q (if p.val < 8192 then 0 else 1) := by
  have hp := p.isLt
  have hx : ∀ k : Fin 4096, xIn c (X₀ m c) (blkOf (ix2 p q)) (ix3 0 ⟨p.val % 256, Nat.mod_lt _ (by decide)⟩ k) = m ((c : Thread nD τ).loc main_arg0) (ix2 p k) := fun k => by
    unfold xIn
    refine (shapeCast_addUnit_apply ![256, 4096] _ cast_up _).trans ?_
    show X₀ m c ((xb (blkOf (ix2 p q))).view.emb _) = _
    refine (congrFun (V_main_arg0 m c) _).trans (congrArg (m ((c : Thread nD τ).loc main_arg0)) (funext fun a : Fin 2 => ?_))
    match a with
    | 0 => exact Fin.ext (show 256 * (p.val / 256) + 1 * (p.val % 256) = p.val by omega)
    | 1 => exact Fin.ext (show 0 + 1 * k.val = k.val by omega)
  have hc : ∀ r : Fin 2, (sc r).view.read (Elt Ideal) (M₀ m c) (ix3 0 0 q) = m ((c : Thread nD τ).loc main_arg2) (ix2 ⟨r.val, by omega⟩ ⟨4096 + q.val, by omega⟩) := fun r => by
    refine (congrArg (M₀ m c) (funext fun a : Fin 3 => ?_)).trans (mods_at m c ⟨r.val, by omega⟩ ⟨4096 + q.val, by omega⟩)
    match a with
    | 0 => exact Fin.ext (show r.val + 1 * 0 = r.val by omega)
    | 1 => rfl
    | 2 => exact Fin.ext (show 4096 + 1 * q.val = 4096 + q.val by omega)
  have hs : ∀ r : Fin 2, (sh r).view.read (Elt Ideal) (M₀ m c) (ix3 0 0 q) = m ((c : Thread nD τ).loc main_arg2) (ix2 ⟨r.val, by omega⟩ ⟨q.val, by omega⟩) := fun r => by
    refine (congrArg (M₀ m c) (funext fun a : Fin 3 => ?_)).trans (mods_at m c ⟨r.val, by omega⟩ ⟨q.val, by omega⟩)
    match a with
    | 0 => exact Fin.ext (show r.val + 1 * 0 = r.val by omega)
    | 1 => rfl
    | 2 => exact Fin.ext (show 0 + 1 * q.val = q.val by omega)
  have hj : inBlk (ix2 p q) = (ix2 ⟨p.val % 256, Nat.mod_lt _ (by decide)⟩ q : S256x4096.Idx) := funext fun a => by
    match a with
    | ⟨0, _⟩ => rfl
    | ⟨1, _⟩ => rfl
  have hr : (⟨(rowOf (blkOf (ix2 p q)).val).val, by omega⟩ : Fin 8) = if p.val < 8192 then 0 else 1 := by
    show (⟨(rowOf (p.val / 256)).val, _⟩ : Fin 8) = _
    unfold rowOf
    by_cases h : p.val < 8192
    · rw [if_pos h]; simp only [if_pos (show p.val / 256 < 32 by omega)]; rfl
    · rw [if_neg h]; simp only [if_neg (show ¬ p.val / 256 < 32 by omega)]; rfl
  show yBlk c (X₀ m c) (M₀ m c) (g₀ m c t0_0) (blkOf (ix2 p q)) (rowOf (blkOf (ix2 p q)).val) (inBlk (ix2 p q)) = _
  unfold yBlk res
  rw [hj, pay_apply, hc, hs, gain_at, hr]
  simp only [hx]

/-- The kernel's result is the reference's. -/
theorem out_eq : (out₀ m c : S8448x4096.Idx → EReal)
    = val_main_v53 (F := Ideal) (m ((c : Thread nD τ).loc main_arg0)) (m ((c : Thread nD τ).loc main_arg1)) (m ((c : Thread nD τ).loc main_arg2)) := by
  funext i
  rw [eq_ix2 i]
  exact (out_apply m c _ _).trans (ref_apply _ _ _ _ _).symm

end Ker

end Cert.Proof.Norm

end
-- ==== Proof.InProj.lean ====
/-
  The input projection's block product at an element, over the extended reals, and the two index facts of its proof that
  do not depend on which of the two weight arrays it reads.
-/
module

public import proofs.«01_k».proof.Proof.Gen.Kernel2Ideal.Value
public import Idealize.ShloMosaic.Lib.Pipeline.Value
public import Idealize.ShloMosaic.Lib.ValueIdx
public import Idealize.ShloMosaic.Lib.ValueIdxCore
public import Idealize.ShloMosaic.Lib.MatmulPlain
public import Idealize.ShloMosaic.PureOps.Ideal.Laws

@[expose] public section

set_option maxRecDepth 16384

noncomputable section

namespace Cert.Proof.InProj

open Cert.Kernel2Ideal Cert.Kernel2Ideal.Gen
open Idealize.ShloMosaic Idealize.ShloMosaic.TcCoe Idealize.ShloMosaic.ValueIdx

theorem zero2 : (![0, 0] : Fin 2 → Nat) = fun _ => 0 := funext fun a => by fin_cases a <;> rfl
theorem zero3 : (![0, 0, 0] : Fin 3 → Nat) = fun _ => 0 := funext fun a => by fin_cases a <;> rfl

/-- A plain product into zero, at an element. -/
theorem plain_zero {M K N : ℕ} (a : FVec Ideal ⟨2, ![M, K]⟩ .bf16) (b : FVec Ideal ⟨2, ![K, N]⟩ .bf16) (p : Fin M) (q : Fin N) :
    matmul (DotDims.plain M K N) none a b (constant ⟨2, ![M, N]⟩ .f32 0x00000000#32) (ix2 p q)
      = ∑ k : Fin K, (a (ix2 p k) * b (ix2 k q) : EReal) := by
  refine (Ideal.matmul_plain_apply none a b _ p q).trans ?_
  rw [show (constant (F := Ideal) ⟨2, ![M, N]⟩ .f32 0x00000000#32 (ix2 p q) : EReal) = 0 from Ideal.ofBits_zero_f32]
  exact zero_add _

/-- The payload of one block. -/
theorem pay_apply (w : Vec Ideal S1x4096x512 .f32) (h : Vec Ideal S1408x4096 .bf16) (p : Fin 1408) (q : Fin 512) :
    k0_pay1 (F := Ideal) w h (ix2 p q) = ∑ k : Fin 4096, (h (ix2 p k) * w (ix3 0 k q) : EReal) := by
  have hw : ∀ k : Fin 4096, shapeCast S4096x512 w shapeCasts_S1x4096x512_S4096x512 (ix2 k q) = w (ix3 0 k q) := fun k =>
    (shapeCast_dropUnit_apply ![4096, 512] w shapeCasts_S1x4096x512_S4096x512 (ix2 k q)).trans
      (congrArg w (funext fun a => by match a with | ⟨0, _⟩ => rfl | ⟨1, _⟩ => rfl | ⟨2, _⟩ => rfl))
  refine (plain_zero (M := 1408) (K := 4096) (N := 512) h (truncf .bf16 (shapeCast S4096x512 w shapeCasts_S1x4096x512_S4096x512) bitsLt_bf16_f32) p q).trans ?_
  refine Finset.sum_congr rfl fun k _ => ?_
  exact congrArg (h (ix2 p k) * · : EReal → EReal) (hw k)

end Cert.Proof.InProj

end
-- ==== Proof.In2.lean ====
/-
  The even layers' input projection: the blocks of the result are the blocks of one product, `h` by the first of the two
  weight matrices, and the reference's result is that product.
-/
module

public import proofs.«01_k».proof.Proof.InProj
public import proofs.«01_k».proof.Proof.Gen.Reference2Ideal.Read

@[expose] public section

set_option maxRecDepth 16384

noncomputable section

namespace Cert.Proof.In2

open Cert.Kernel2Ideal Cert.Kernel2Ideal.Gen Cert.Proof.InProj
open Idealize.ShloMosaic Idealize.ShloMosaic.TcCoe Idealize.ShloMosaic.ValueIdx Idealize.SL.Sem

/-- The product, at a row and a column. -/
def prod (h : S8448x4096.Idx → EReal) (w : S2x4096x13312.Idx → EReal) : S8448x13312.Idx → EReal := fun i =>
  ∑ k : Fin 4096, h (ix2 ⟨(i 0).val, (i 0).isLt⟩ k) * w (ix3 0 k ⟨(i 1).val, (i 1).isLt⟩)

theorem prod_at (h : S8448x4096.Idx → EReal) (w : S2x4096x13312.Idx → EReal) (i : S8448x13312.Idx) :
    prod h w i = ∑ k : Fin 4096, h (ix2 ⟨(i 0).val, (i 0).isLt⟩ k) * w (ix3 0 k ⟨(i 1).val, (i 1).isLt⟩) := rfl

variable (m : (ℓ : Loc nD τ sig) → Buf (Elt Ideal) ℓ) (ρ : Dev nD → PrngReg)

/-- Of the three windows at a point: the rows of `h` are the result's rows, the columns of the weights the result's columns. -/
theorem idx_facts : ∀ t : Fin cfg0.N, win0_0.index t (0 : Fin 2) = win0_2.index t (0 : Fin 2) ∧ win0_0.index t (1 : Fin 2) = 0
    ∧ win0_1.index t (0 : Fin 3) = 0 ∧ win0_1.index t (1 : Fin 3) = 0 ∧ win0_1.index t (2 : Fin 3) = win0_2.index t (1 : Fin 2) :=
  (by decide +kernel : ∀ t : Fin grid0.N, _)

/-- What a point writes back is its block of the product. -/
theorem flushed_eq (c : Dev nD) (t : Fin cfg0.N) :
    (dats m 0 c).flushed 2 t = ((cfg0.win 2).blk t).view.read (Elt Ideal)
      (prod (m ((c : Thread nD τ).loc main_arg0)) (m ((c : Thread nD τ).loc main_arg1))) := by
  obtain ⟨e0, e1, e2, e3, e4⟩ := idx_facts t
  rw [Value.flushed2]
  unfold out0_2
  rw [View.canon_unit_zero zero2, View.ld_unit_zero zero3, View.ld_unit_zero zero2]
  funext y
  have hy0 : (y 0).val < 1408 := (y 0).isLt
  have hy1 : (y 1).val < 512 := (y 1).isLt
  refine (show _ = k0_pay1 (F := Ideal) (iblk m c 1 t) (iblk m c 0 t) (ix2 ⟨(y 0).val, hy0⟩ ⟨(y 1).val, hy1⟩) from
    congrArg (k0_pay1 (F := Ideal) (iblk m c 1 t) (iblk m c 0 t)) (funext fun a => by match a with | ⟨0, _⟩ => rfl | ⟨1, _⟩ => rfl)).trans ?_
  refine (pay_apply _ _ _ _).trans (Eq.trans (Finset.sum_congr rfl fun k _ => ?_) (prod_at _ _ (((cfg0.win 2).blk t).view.emb y)).symm)
  refine congrArg₂ (fun a b : EReal => a * b) (congrArg (m ((c : Thread nD τ).loc main_arg0)) (funext fun a => Fin.ext ?_))
    (congrArg (m ((c : Thread nD τ).loc main_arg1)) (funext fun a => Fin.ext ?_))
  · match a with
    | ⟨0, _⟩ => show win0_0.index t (0 : Fin 2) * 1408 + 1 * (y 0).val = win0_2.index t (0 : Fin 2) * 1408 + 1 * (y 0).val; rw [e0]
    | ⟨1, _⟩ => show win0_0.index t (1 : Fin 2) * 4096 + 1 * k.val = k.val; rw [e1]; omega
  · match a with
    | ⟨0, _⟩ => show win0_1.index t (0 : Fin 3) * 1 + 1 * 0 = 0; rw [e2]
    | ⟨1, _⟩ => show win0_1.index t (1 : Fin 3) * 4096 + 1 * k.val = k.val; rw [e3]; omega
    | ⟨2, _⟩ => show win0_1.index t (2 : Fin 3) * 512 + 1 * (y 1).val = win0_2.index t (1 : Fin 2) * 512 + 1 * (y 1).val; rw [e4]

/-- The point of a block. -/
abbrev pt (q0 : Fin 6) (q1 : Fin 26) : Fin grid0.N := ⟨26 * q0.val + q1.val, lt_of_lt_of_eq (by omega) N_0.symm⟩
theorem pt_index (q0 : Fin 6) (q1 : Fin 26) : win0_2.index (pt q0 q1) = ![q0.val, q1.val] :=
  (by decide +kernel : ∀ (q0 : Fin 6) (q1 : Fin 26), win0_2.index (pt q0 q1) = ![q0.val, q1.val]) q0 q1

/-- Every element of the result is in some point's block. -/
theorem cover (i : S8448x13312.Idx) : ∃ t : Fin cfg0.N, (cfg0.win 2).flush t = true ∧ i ∈ ((cfg0.win 2).blk t).view.set := by
  have h0 : (i 0).val < 8448 := (i 0).isLt
  have h1 : (i 1).val < 13312 := (i 1).isLt
  have e := pt_index ⟨(i 0).val / 1408, by omega⟩ ⟨(i 1).val / 512, by omega⟩
  have e0 := congrFun e 0
  have e1 := congrFun e 1
  refine ⟨pt ⟨(i 0).val / 1408, by omega⟩ ⟨(i 1).val / 512, by omega⟩, flush0_2 _, ?_⟩
  rw [show ((cfg0.win 2).blk (pt ⟨(i 0).val / 1408, by omega⟩ ⟨(i 1).val / 512, by omega⟩)).view.set
    = ((View.whole main_v0).slice (win0_2.rect (pt ⟨(i 0).val / 1408, by omega⟩ ⟨(i 1).val / 512, by omega⟩))).set from rfl, View.set_slice_whole, Rect.mem_set_unit]
  intro a
  match a with
  | ⟨0, _⟩ =>
    show win0_2.index _ (0 : Fin 2) * 1408 ≤ (i 0).val ∧ (i 0).val < win0_2.index _ (0 : Fin 2) * 1408 + 1408
    rw [e0]
    show (i 0).val / 1408 * 1408 ≤ (i 0).val ∧ (i 0).val < (i 0).val / 1408 * 1408 + 1408
    omega
  | ⟨1, _⟩ =>
    show win0_2.index _ (1 : Fin 2) * 512 ≤ (i 1).val ∧ (i 1).val < win0_2.index _ (1 : Fin 2) * 512 + 512
    rw [e1]
    show (i 1).val / 512 * 512 ≤ (i 1).val ∧ (i 1).val < (i 1).val / 512 * 512 + 512
    omega

theorem final (c : Dev nD) : (dats m 0 c).arrAt 2 cfg0.N
    = prod (m ((c : Thread nD τ).loc main_arg0)) (m ((c : Thread nD τ).loc main_arg1)) :=
  (dats m 0 c).arrAt_eq_of_cover 2 _ (fun t _ => flushed_eq m c t) cover

open Cert.Reference2Ideal.Read in
/-- The reference's result is the product. -/
theorem ref_eq (h : (⟨S8448x4096, .bf16⟩ : BufTy).Contents (Elt Ideal)) (w : (⟨S2x4096x13312, .f32⟩ : BufTy).Contents (Elt Ideal)) :
    val_main_v4 (F := Ideal) h w = prod h w := by
  funext i
  have h1 : (i 1).val < 13312 := (i 1).isLt
  rw [val_main_v4_apply]
  refine (val_main_v3_apply h w i).trans (Finset.sum_congr rfl fun k _ => ?_)
  have hk := k.isLt
  rw [val_main_v2_apply, val_main_v1_apply]
  refine congrArg₂ (fun a b : EReal => a * b) (congrArg h (funext fun a => ?_)) (congrArg w (funext fun a => ?_))
  · match a with | ⟨0, _⟩ => rfl | ⟨1, _⟩ => rfl
  · match a with
    | ⟨0, _⟩ => rfl
    | ⟨1, _⟩ => exact Fin.ext (show (k.val * 13312 + (i 1).val) / 13312 % 4096 = k.val by omega)
    | ⟨2, _⟩ => exact Fin.ext (show (k.val * 13312 + (i 1).val) % 13312 = (i 1).val by omega)

end Cert.Proof.In2

end
-- ==== Proof.In3.lean ====
/-
  The odd layers' input projection: the blocks of the result are the blocks of one product, `h` by the second of the two
  weight matrices, and the reference's result is that product.
-/
module

public import proofs.«01_k».proof.Proof.InProj
public import proofs.«01_k».proof.Proof.Gen.Kernel3Ideal.Value
public import proofs.«01_k».proof.Proof.Gen.Reference3Ideal.Read

@[expose] public section

set_option maxRecDepth 16384

noncomputable section

namespace Cert.Proof.In3

open Cert.Kernel3Ideal Cert.Kernel3Ideal.Gen Cert.Proof.InProj
open Idealize.ShloMosaic Idealize.ShloMosaic.TcCoe Idealize.ShloMosaic.ValueIdx Idealize.SL.Sem

/-- The product, at a row and a column. -/
def prod (h : S8448x4096.Idx → EReal) (w : S2x4096x16384.Idx → EReal) : S8448x16384.Idx → EReal := fun i =>
  ∑ k : Fin 4096, h (ix2 ⟨(i 0).val, (i 0).isLt⟩ k) * w (ix3 1 k ⟨(i 1).val, (i 1).isLt⟩)

theorem prod_at (h : S8448x4096.Idx → EReal) (w : S2x4096x16384.Idx → EReal) (i : S8448x16384.Idx) :
    prod h w i = ∑ k : Fin 4096, h (ix2 ⟨(i 0).val, (i 0).isLt⟩ k) * w (ix3 1 k ⟨(i 1).val, (i 1).isLt⟩) := rfl

variable (m : (ℓ : Loc nD τ sig) → Buf (Elt Ideal) ℓ) (ρ : Dev nD → PrngReg)

/-- Of the three windows at a point: the rows of `h` are the result's rows, the columns of the weights the result's columns. -/
theorem idx_facts : ∀ t : Fin cfg0.N, win0_0.index t (0 : Fin 2) = win0_2.index t (0 : Fin 2) ∧ win0_0.index t (1 : Fin 2) = 0
    ∧ win0_1.index t (0 : Fin 3) = 1 ∧ win0_1.index t (1 : Fin 3) = 0 ∧ win0_1.index t (2 : Fin 3) = win0_2.index t (1 : Fin 2) :=
  (by decide +kernel : ∀ t : Fin grid0.N, _)

/-- What a point writes back is its block of the product. -/
theorem flushed_eq (c : Dev nD) (t : Fin cfg0.N) :
    (dats m 0 c).flushed 2 t = ((cfg0.win 2).blk t).view.read (Elt Ideal)
      (prod (m ((c : Thread nD τ).loc main_arg0)) (m ((c : Thread nD τ).loc main_arg1))) := by
  obtain ⟨e0, e1, e2, e3, e4⟩ := idx_facts t
  rw [Value.flushed2]
  unfold out0_2
  rw [View.canon_unit_zero zero2, View.ld_unit_zero zero3, View.ld_unit_zero zero2]
  funext y
  have hy0 : (y 0).val < 1408 := (y 0).isLt
  have hy1 : (y 1).val < 512 := (y 1).isLt
  refine (show _ = k0_pay1 (F := Ideal) (iblk m c 1 t) (iblk m c 0 t) (ix2 ⟨(y 0).val, hy0⟩ ⟨(y 1).val, hy1⟩) from
    congrArg (k0_pay1 (F := Ideal) (iblk m c 1 t) (iblk m c 0 t)) (funext fun a => by match a with | ⟨0, _⟩ => rfl | ⟨1, _⟩ => rfl)).trans ?_
  refine (pay_apply (iblk m c 1 t) (iblk m c 0 t) _ _).trans (Eq.trans (Finset.sum_congr rfl fun k _ => ?_) (prod_at _ _ (((cfg0.win 2).blk t).view.emb y)).symm)
  refine congrArg₂ (fun a b : EReal => a * b) (congrArg (m ((c : Thread nD τ).loc main_arg0)) (funext fun a => Fin.ext ?_))
    (congrArg (m ((c : Thread nD τ).loc main_arg1)) (funext fun a => Fin.ext ?_))
  · match a with
    | ⟨0, _⟩ => show win0_0.index t (0 : Fin 2) * 1408 + 1 * (y 0).val = win0_2.index t (0 : Fin 2) * 1408 + 1 * (y 0).val; rw [e0]
    | ⟨1, _⟩ => show win0_0.index t (1 : Fin 2) * 4096 + 1 * k.val = k.val; rw [e1]; omega
  · match a with
    | ⟨0, _⟩ => show win0_1.index t (0 : Fin 3) * 1 + 1 * 0 = 1; rw [e2]
    | ⟨1, _⟩ => show win0_1.index t (1 : Fin 3) * 4096 + 1 * k.val = k.val; rw [e3]; omega
    | ⟨2, _⟩ => show win0_1.index t (2 : Fin 3) * 512 + 1 * (y 1).val = win0_2.index t (1 : Fin 2) * 512 + 1 * (y 1).val; rw [e4]

/-- The point of a block. -/
abbrev pt (q0 : Fin 6) (q1 : Fin 32) : Fin grid0.N := ⟨32 * q0.val + q1.val, lt_of_lt_of_eq (by omega) N_0.symm⟩
theorem pt_index (q0 : Fin 6) (q1 : Fin 32) : win0_2.index (pt q0 q1) = ![q0.val, q1.val] :=
  (by decide +kernel : ∀ (q0 : Fin 6) (q1 : Fin 32), win0_2.index (pt q0 q1) = ![q0.val, q1.val]) q0 q1

/-- Every element of the result is in some point's block. -/
theorem cover (i : S8448x16384.Idx) : ∃ t : Fin cfg0.N, (cfg0.win 2).flush t = true ∧ i ∈ ((cfg0.win 2).blk t).view.set := by
  have h0 : (i 0).val < 8448 := (i 0).isLt
  have h1 : (i 1).val < 16384 := (i 1).isLt
  have e := pt_index ⟨(i 0).val / 1408, by omega⟩ ⟨(i 1).val / 512, by omega⟩
  have e0 := congrFun e 0
  have e1 := congrFun e 1
  refine ⟨pt ⟨(i 0).val / 1408, by omega⟩ ⟨(i 1).val / 512, by omega⟩, flush0_2 _, ?_⟩
  rw [show ((cfg0.win 2).blk (pt ⟨(i 0).val / 1408, by omega⟩ ⟨(i 1).val / 512, by omega⟩)).view.set
    = ((View.whole main_v0).slice (win0_2.rect (pt ⟨(i 0).val / 1408, by omega⟩ ⟨(i 1).val / 512, by omega⟩))).set from rfl, View.set_slice_whole, Rect.mem_set_unit]
  intro a
  match a with
  | ⟨0, _⟩ =>
    show win0_2.index _ (0 : Fin 2) * 1408 ≤ (i 0).val ∧ (i 0).val < win0_2.index _ (0 : Fin 2) * 1408 + 1408
    rw [e0]
    show (i 0).val / 1408 * 1408 ≤ (i 0).val ∧ (i 0).val < (i 0).val / 1408 * 1408 + 1408
    omega
  | ⟨1, _⟩ =>
    show win0_2.index _ (1 : Fin 2) * 512 ≤ (i 1).val ∧ (i 1).val < win0_2.index _ (1 : Fin 2) * 512 + 512
    rw [e1]
    show (i 1).val / 512 * 512 ≤ (i 1).val ∧ (i 1).val < (i 1).val / 512 * 512 + 512
    omega

theorem final (c : Dev nD) : (dats m 0 c).arrAt 2 cfg0.N
    = prod (m ((c : Thread nD τ).loc main_arg0)) (m ((c : Thread nD τ).loc main_arg1)) :=
  (dats m 0 c).arrAt_eq_of_cover 2 _ (fun t _ => flushed_eq m c t) cover

open Cert.Reference3Ideal.Read in
/-- The reference's result is the product. -/
theorem ref_eq (h : (⟨S8448x4096, .bf16⟩ : BufTy).Contents (Elt Ideal)) (w : (⟨S2x4096x16384, .f32⟩ : BufTy).Contents (Elt Ideal)) :
    val_main_v4 (F := Ideal) h w = prod h w := by
  funext i
  have h1 : (i 1).val < 16384 := (i 1).isLt
  rw [val_main_v4_apply]
  refine (val_main_v3_apply h w i).trans (Finset.sum_congr rfl fun k _ => ?_)
  have hk := k.isLt
  rw [val_main_v2_apply, val_main_v1_apply]
  refine congrArg₂ (fun a b : EReal => a * b) (congrArg h (funext fun a => ?_)) (congrArg w (funext fun a => ?_))
  · match a with | ⟨0, _⟩ => rfl | ⟨1, _⟩ => rfl
  · match a with
    | ⟨0, _⟩ => rfl
    | ⟨1, _⟩ => exact Fin.ext (show (k.val * 16384 + (i 1).val) / 16384 % 4096 = k.val by omega)
    | ⟨2, _⟩ => exact Fin.ext (show (k.val * 16384 + (i 1).val) % 16384 = (i 1).val by omega)

end Cert.Proof.In3

end
-- ==== Proof.OutProj.lean ====
/-
  The output projection's payload at an element, over the extended reals: the residual's element plus the gate's times the
  sum of the two half products, the gate's row chosen by whether the element's row is a latent or a context row. Stated for
  both row tiles, 512 and 768.
-/
module

public import proofs.«01_k».proof.Proof.InProj
public import proofs.«01_k».proof.Proof.Gen.Kernel4Ideal.Value
public import proofs.«01_k».proof.Proof.Gen.Kernel5Ideal.Value
public import Idealize.ShloMosaic.Lib.WordCmp
public import Idealize.ShloMosaic.Lib.Pointwise.ShapeOpsCore

@[expose] public section

set_option maxRecDepth 16384

noncomputable section

namespace Cert.Proof.OutProj

open Idealize.ShloMosaic hiding ix2 ix3
open Idealize.ShloMosaic.TcCoe Idealize.ShloMosaic.ValueIdx
open Cert.Proof.InProj

/-- An element of the result: from its residual, its gate, and the two halves of its row and of its column. -/
def elem (a1 w1 a2 w2 : Fin 2048 → EReal) (x g : EReal) : EReal := x + g * (∑ k, a1 k * w1 k + ∑ k, a2 k * w2 k)

/-- A sum over 4096 is the sum of its two halves. -/
theorem sum_halves (f : Fin 4096 → EReal) :
    ∑ k, f k = ∑ k : Fin 2048, f ⟨k.val, by omega⟩ + ∑ k : Fin 2048, f ⟨2048 + k.val, by omega⟩ :=
  (Fin.sum_univ_add (a := 2048) (b := 2048) f).trans rfl

/-- Whether a row is past the latent rows, as the kernel's words say it. -/
theorem past (T i p : ℕ) (h : i * T + p < 2 ^ 31) :
    IntOp.cmpi .sge (IntOp.addi (IntOp.muli (BitVec.ofNat 32 i) (BitVec.ofNat 32 T)) (BitVec.ofNat 32 p)) 8192#32
      = if 8192 ≤ i * T + p then 1#1 else 0#1 :=
  WordCmp.cmpi_sge_mul_add_ofNat (w := 32) i T p 8192 h (by norm_num)

/-- A choice by that word. -/
theorem choose (P : Prop) [Decidable P] (a b : EReal) : Scalar.select (if P then 1#1 else 0#1) a b = if P then a else b := by
  by_cases h : P
  · rw [if_pos h, if_pos h]; rfl
  · rw [if_neg h, if_neg h]; rfl

section Half
open Cert.Kernel4Ideal Cert.Kernel4Ideal.Gen

/-- A half of the weights, rounded, at an element. -/
theorem half_apply (w : Vec Ideal S1x2048x1024 .f32) (k : Fin 2048) (q : Fin 1024) : k0_pay1 (F := Ideal) w (ix2 k q) = w (ix3 0 k q) := by
  unfold k0_pay1
  rw [shapeCast_self]
  exact (shapeCast_dropUnit_apply ![2048, 1024] w shapeCasts_S1x2048x1024_S2048x1024 (ix2 k q)).trans
    (congrArg w (funext fun a => by match a with | ⟨0, _⟩ => rfl | ⟨1, _⟩ => rfl | ⟨2, _⟩ => rfl))

/-- The payload for row tiles of 512. -/
theorem pay512 (i : grid0.Coords) (a1 a2 : Vec Ideal S512x2048 .bf16) (w1 w2 : Vec Ideal S2048x1024 .bf16) (g1 g0 : Vec Ideal S1x1024 .f32)
    (x : Vec Ideal S512x1024 .f32) (p : Fin 512) (q : Fin 1024) :
    k0_pay3 (F := Ideal) i a1 w1 a2 w2 g1 g0 x (ix2 p q)
      = elem (fun k => a1 (ix2 p k)) (fun k => w1 (ix2 k q)) (fun k => a2 (ix2 p k)) (fun k => w2 (ix2 k q)) (x (ix2 p q))
          (if 8192 ≤ (i 1).val * 512 + p.val then g1 (ix2 0 q) else g0 (ix2 0 q)) := by
  have hi : (i 1).val < 16 := (i 1).isLt
  have hg : ∀ (v : Vec Ideal S1x1024 .f32), broadcastTo S512x1024 v broadcasts_S1x1024_S512x1024 (ix2 p q) = v (ix2 0 q) := fun v =>
    broadcastTo_apply v broadcasts_S1x1024_S512x1024 (ix2 p q) (ix2 0 q) (fun a => by match a with | ⟨0, _⟩ => rfl | ⟨1, _⟩ => rfl)
  have hm : ∀ (v : IVec S512x1 1), broadcastTo S512x1024 v broadcasts_S512x1_S512x1024 (ix2 p q) = v (ix2 p 0) := fun v =>
    broadcastTo_apply v broadcasts_S512x1_S512x1024 (ix2 p q) (ix2 p 0) (fun a => by match a with | ⟨0, _⟩ => rfl | ⟨1, _⟩ => rfl)
  have hd : ∀ (a : Vec Ideal S512x2048 .bf16) (w : Vec Ideal S2048x1024 .bf16),
      matmul (F := Ideal) dot_S512x2048_S2048x1024_S512x1024_1_0_0_1_n_n none a w (constant S512x1024 .f32 0x00000000#32) (ix2 p q)
        = ∑ k : Fin 2048, (a (ix2 p k) * w (ix2 k q) : EReal) := fun a w => plain_zero (M := 512) (K := 2048) (N := 1024) a w p q
  unfold k0_pay3 elem
  dsimp only
  rw [addf_apply, mulf_apply, addf_apply, select_apply, hd, hd, hg, hg, hm, shapeCast_self, shapeCast_self, shapeCast_self]
  refine congrArg (fun s : EReal => x (ix2 p q) + s * _) ?_
  refine Eq.trans (congrArg (fun b => Scalar.select b (g1 (ix2 0 q)) (g0 (ix2 0 q))) ?_) (choose _ _ _)
  have hio : iota .tc S512x1 32 [0] iota_S512x1_d0_w32 (ix2 p 0) = BitVec.ofNat 32 p.val := by
    rw [iota_apply]
    exact congrArg (BitVec.ofNat 32) (show 0 * 512 + p.val = p.val by omega)
  show IntOp.cmpi .sge (IntOp.addi _ (iota .tc S512x1 32 [0] iota_S512x1_d0_w32 (ix2 p 0))) _ = _
  rw [hio]
  exact past 512 (i 1).val p.val (by omega)

end Half

section Half
open Cert.Kernel5Ideal Cert.Kernel5Ideal.Gen

/-- The payload for row tiles of 768. -/
theorem pay768 (i : grid0.Coords) (a1 a2 : Vec Ideal S768x2048 .bf16) (w1 w2 : Vec Ideal S2048x1024 .bf16) (g1 g0 : Vec Ideal S1x1024 .f32)
    (x : Vec Ideal S768x1024 .f32) (p : Fin 768) (q : Fin 1024) :
    k0_pay3 (F := Ideal) i a1 w1 a2 w2 g1 g0 x (ix2 p q)
      = elem (fun k => a1 (ix2 p k)) (fun k => w1 (ix2 k q)) (fun k => a2 (ix2 p k)) (fun k => w2 (ix2 k q)) (x (ix2 p q))
          (if 8192 ≤ (i 1).val * 768 + p.val then g1 (ix2 0 q) else g0 (ix2 0 q)) := by
  have hi : (i 1).val < 11 := (i 1).isLt
  have hg : ∀ (v : Vec Ideal S1x1024 .f32), broadcastTo S768x1024 v broadcasts_S1x1024_S768x1024 (ix2 p q) = v (ix2 0 q) := fun v =>
    broadcastTo_apply v broadcasts_S1x1024_S768x1024 (ix2 p q) (ix2 0 q) (fun a => by match a with | ⟨0, _⟩ => rfl | ⟨1, _⟩ => rfl)
  have hm : ∀ (v : IVec S768x1 1), broadcastTo S768x1024 v broadcasts_S768x1_S768x1024 (ix2 p q) = v (ix2 p 0) := fun v =>
    broadcastTo_apply v broadcasts_S768x1_S768x1024 (ix2 p q) (ix2 p 0) (fun a => by match a with | ⟨0, _⟩ => rfl | ⟨1, _⟩ => rfl)
  have hd : ∀ (a : Vec Ideal S768x2048 .bf16) (w : Vec Ideal S2048x1024 .bf16),
      matmul (F := Ideal) dot_S768x2048_S2048x1024_S768x1024_1_0_0_1_n_n none a w (constant S768x1024 .f32 0x00000000#32) (ix2 p q)
        = ∑ k : Fin 2048, (a (ix2 p k) * w (ix2 k q) : EReal) := fun a w => plain_zero (M := 768) (K := 2048) (N := 1024) a w p q
  unfold k0_pay3 elem
  dsimp only
  rw [addf_apply, mulf_apply, addf_apply, select_apply, hd, hd, hg, hg, hm, shapeCast_self, shapeCast_self, shapeCast_self]
  refine congrArg (fun s : EReal => x (ix2 p q) + s * _) ?_
  refine Eq.trans (congrArg (fun b => Scalar.select b (g1 (ix2 0 q)) (g0 (ix2 0 q))) ?_) (choose _ _ _)
  have hio : iota .tc S768x1 32 [0] iota_S768x1_d0_w32 (ix2 p 0) = BitVec.ofNat 32 p.val := by
    rw [iota_apply]
    exact congrArg (BitVec.ofNat 32) (show 0 * 768 + p.val = p.val by omega)
  show IntOp.cmpi .sge (IntOp.addi _ (iota .tc S768x1 32 [0] iota_S768x1_d0_w32 (ix2 p 0))) _ = _
  rw [hio]
  exact past 768 (i 1).val p.val (by omega)

end Half

end Cert.Proof.OutProj

end
-- ==== Proof.Out4.lean ====
/-
  The last layer's output projection: its result is the residual stream's latent rows plus the gate's row times the product
  of the attention's output by the second of the two weight matrices, and so is the reference's. The kernel takes the
  product in two halves, each from a rounded copy of its half of a column block of the weights, made at the column block's
  first point and kept for the points after.
-/
module

public import proofs.«01_k».proof.Proof.OutProj
public import proofs.«01_k».proof.Proof.Gen.Reference4Ideal.Read
public import Idealize.ShloMosaic.Lib.Tactic

@[expose] public section

set_option maxRecDepth 16384

noncomputable section

namespace Cert.Proof.Out4

open Cert.Kernel4Ideal Cert.Kernel4Ideal.Gen Cert.Proof.InProj Cert.Proof.OutProj
open Idealize.ShloMosaic hiding ix2 ix3
open Idealize.ShloMosaic.TcCoe Idealize.ShloMosaic.ValueIdx Idealize.SL.Sem

variable (m : (ℓ : Loc nD τ sig) → Buf (Elt Ideal) ℓ) (ρ : Dev nD → PrngReg)

/-- The two rows of the gates' block. -/
abbrev gate0 (g : Vec Ideal S8x1024 .f32) : Vec Ideal S1x1024 .f32 := View.ld g (Rect.unit (s := S8x1024) ![0, 0] S1x1024.size inb_S8x1024_S1x1024_0_0)
abbrev gate1 (g : Vec Ideal S8x1024 .f32) : Vec Ideal S1x1024 .f32 := View.ld g (Rect.unit (s := S8x1024) ![1, 0] S1x1024.size inb_S8x1024_S1x1024_1_0)

/-- What a point leaves, of the weights' scratches it works with. -/
def left (c : Dev nD) (t : Fin cfg0.N) (w1 w2 : Vec Ideal S2048x1024 .bf16) : Vec Ideal S512x1024 .f32 :=
  k0_pay3 (F := Ideal) (grid0.coords t) (X0_0 m c t) w1 (X0_3 m c t) w2 (gate1 (iblk m c 5 t)) (gate0 (iblk m c 5 t)) (X0_4 m c t)

theorem first1 (c : Dev nD) (t : Fin cfg0.N) (h0 : t.val % 16 = 0) : (outsAt0 m c t.val t.isLt).2.1 = k0_pay1 (F := Ideal) (iblk m c 1 t) := by
  rw [outsAt0_A m c t h0]
  dsimp only
  unfold sout0_A_0
  rw [View.read_writes_eq_canon _ _ _ (fun y => scover0_A_0 (y := y) ..)]
  unfold kernelRun0_A
  dsimp only
  sl_unfold_words
  rw [View.canon_unit_zero zero2]
  simp only [View.readAt_eq_ld, (hs0_1 t).read_unread, View.ld_unit_zero (S := S1x2048x1024) zero3]

theorem first2 (c : Dev nD) (t : Fin cfg0.N) (h0 : t.val % 16 = 0) : (outsAt0 m c t.val t.isLt).2.2 = k0_pay2 (F := Ideal) (iblk m c 2 t) := by
  rw [outsAt0_A m c t h0]
  dsimp only
  unfold sout0_A_1
  rw [View.read_writes_eq_canon _ _ _ (fun y => scover0_A_1 (y := y) ..)]
  unfold kernelRun0_A
  dsimp only
  sl_unfold_words
  rw [View.canon_unit_zero zero2]
  simp only [View.readAt_eq_ld, (hs0_2 t).read_unread, View.ld_unit_zero (S := S1x2048x1024) zero3]

theorem first_out (c : Dev nD) (t : Fin cfg0.N) (h0 : t.val % 16 = 0) :
    (outsAt0 m c t.val t.isLt).1 = left m c t (k0_pay1 (F := Ideal) (iblk m c 1 t)) (k0_pay2 (F := Ideal) (iblk m c 2 t)) := by
  rw [outsAt0_A m c t h0]
  dsimp only
  unfold out0_A_6
  rw [View.read_writes_eq_canon _ _ _ (fun y => cover0_A_6 (y := y) ..)]
  unfold kernelRun0_A
  dsimp only
  sl_unfold_words
  rw [View.canon_unit_zero zero2]
  simp only [View.readAt_eq_ld, (hs0_0 t).read_unread, (hs0_1 t).read_unread, (hs0_2 t).read_unread, (hs0_3 t).read_unread, (hs0_4 t).read_unread,
    (hs0_5 t).read_unread, View.ld_unit_zero (S := S1x2048x1024) zero3, View.ld_unit_zero (S := S512x2048) zero2, View.ld_unit_zero (S := S512x1024) zero2,
    View.readCov_unit_zero (S := S2048x1024) _ zero2]
  rfl

theorem later_out (c : Dev nD) (n : ℕ) (hn : n + 1 < cfg0.N) (h0 : ¬(n + 1) % 16 = 0) :
    (outsAt0 m c (n + 1) hn).1 = left m c ⟨n + 1, hn⟩ (outsAt0 m c n (Nat.lt_of_succ_lt hn)).2.1 (outsAt0 m c n (Nat.lt_of_succ_lt hn)).2.2 := by
  refine (congrArg Prod.fst (outsAt0_B m c ⟨n + 1, hn⟩ h0)).trans ?_
  dsimp only
  unfold out0_B_6
  rw [View.read_writes_eq_canon _ _ _ (fun y => cover0_B_6 (y := y) ..)]
  unfold kernelRun0_B
  dsimp only
  rw [View.canon_unit_zero zero2]
  simp only [View.readAt_eq_ld, (hs0_0 ⟨n + 1, hn⟩).read_unread, (hs0_3 ⟨n + 1, hn⟩).read_unread, (hs0_4 ⟨n + 1, hn⟩).read_unread,
    (hs0_5 ⟨n + 1, hn⟩).read_unread, View.ld_unit_zero (S := S512x2048) zero2, View.ld_unit_zero (S := S512x1024) zero2,
    View.ld_unit_zero (S := S2048x1024) zero2, (Memref.isWhole_whole _).read_unread]
  rfl

theorem later1 (c : Dev nD) (n : ℕ) (hn : n + 1 < cfg0.N) (h0 : ¬(n + 1) % 16 = 0) :
    (outsAt0 m c (n + 1) hn).2.1 = (outsAt0 m c n (Nat.lt_of_succ_lt hn)).2.1 := by
  refine (congrArg (fun o => o.2.1) (outsAt0_B m c ⟨n + 1, hn⟩ h0)).trans ?_
  rfl

theorem later2 (c : Dev nD) (n : ℕ) (hn : n + 1 < cfg0.N) (h0 : ¬(n + 1) % 16 = 0) :
    (outsAt0 m c (n + 1) hn).2.2 = (outsAt0 m c n (Nat.lt_of_succ_lt hn)).2.2 := by
  refine (congrArg (fun o => o.2.2) (outsAt0_B m c ⟨n + 1, hn⟩ h0)).trans ?_
  rfl

/-! ## The blocks at an element -/

/-- The windows' blocks at a point. -/
theorem idx_facts : ∀ t : Fin cfg0.N,
    (win0_0.index t (0 : Fin 2) = t.val % 16 ∧ win0_0.index t (1 : Fin 2) = 0)
    ∧ (win0_1.index t (0 : Fin 3) = 1 ∧ win0_1.index t (1 : Fin 3) = 0 ∧ win0_1.index t (2 : Fin 3) = t.val / 16)
    ∧ (win0_2.index t (0 : Fin 3) = 1 ∧ win0_2.index t (1 : Fin 3) = 1 ∧ win0_2.index t (2 : Fin 3) = t.val / 16)
    ∧ (win0_3.index t (0 : Fin 2) = t.val % 16 ∧ win0_3.index t (1 : Fin 2) = 1)
    ∧ (win0_4.index t (0 : Fin 2) = t.val % 16 ∧ win0_4.index t (1 : Fin 2) = t.val / 16)
    ∧ (win0_5.index t (0 : Fin 2) = 0 ∧ win0_5.index t (1 : Fin 2) = 8 + t.val / 16)
    ∧ (win0_6.index t (0 : Fin 2) = t.val % 16 ∧ win0_6.index t (1 : Fin 2) = t.val / 16)
    ∧ (grid0.coords t 1).val = t.val % 16 :=
  (by decide +kernel : ∀ t : Fin grid0.N, _)

theorem quot (t : Fin cfg0.N) : t.val / 16 < 4 := by
  have := lt_of_lt_of_eq t.isLt (show cfg0.N = 64 from N_0); omega

abbrev rowAt (t : Fin cfg0.N) (p : Fin 512) : Fin 8448 := ⟨t.val % 16 * 512 + p.val, by omega⟩
abbrev colAt (t : Fin cfg0.N) (q : Fin 1024) : Fin 4096 := ⟨t.val / 16 * 1024 + q.val, by have := quot t; omega⟩

abbrev A (c : Dev nD) : S8448x4096.Idx → EReal := m ((c : Thread nD τ).loc main_arg0)
abbrev W (c : Dev nD) : S2x4096x4096.Idx → EReal := m ((c : Thread nD τ).loc main_arg1)
abbrev X (c : Dev nD) : S8448x4096.Idx → EReal := m ((c : Thread nD τ).loc main_arg2)
abbrev G (c : Dev nD) : S8x12288.Idx → EReal := m ((c : Thread nD τ).loc main_arg3)

theorem a1_at (c : Dev nD) (t : Fin cfg0.N) (p : Fin 512) (k : Fin 2048) :
    X0_0 m c t (ix2 p k) = A m c (ix2 (rowAt t p) ⟨k.val, by omega⟩) := by
  obtain ⟨⟨e0, e1⟩, -⟩ := idx_facts t
  unfold X0_0 Pipeline.Window.fill
  rw [dif_pos (moved0_0 t (ix2 p k))]
  refine congrArg (A m c) (funext fun a => Fin.ext ?_)
  match a with
  | ⟨0, _⟩ => show win0_0.index t (0 : Fin 2) * 512 + 1 * p.val = t.val % 16 * 512 + p.val; rw [e0]; omega
  | ⟨1, _⟩ => show win0_0.index t (1 : Fin 2) * 2048 + 1 * k.val = k.val; rw [e1]; omega

theorem a2_at (c : Dev nD) (t : Fin cfg0.N) (p : Fin 512) (k : Fin 2048) :
    X0_3 m c t (ix2 p k) = A m c (ix2 (rowAt t p) ⟨2048 + k.val, by omega⟩) := by
  obtain ⟨-, -, -, ⟨e0, e1⟩, -⟩ := idx_facts t
  unfold X0_3 Pipeline.Window.fill
  rw [dif_pos (moved0_3 t (ix2 p k))]
  refine congrArg (A m c) (funext fun a => Fin.ext ?_)
  match a with
  | ⟨0, _⟩ => show win0_3.index t (0 : Fin 2) * 512 + 1 * p.val = t.val % 16 * 512 + p.val; rw [e0]; omega
  | ⟨1, _⟩ => show win0_3.index t (1 : Fin 2) * 2048 + 1 * k.val = 2048 + k.val; rw [e1]; omega

theorem x_at (c : Dev nD) (t : Fin cfg0.N) (p : Fin 512) (q : Fin 1024) :
    X0_4 m c t (ix2 p q) = X m c (ix2 (rowAt t p) (colAt t q)) := by
  obtain ⟨-, -, -, -, ⟨e0, e1⟩, -⟩ := idx_facts t
  unfold X0_4 Pipeline.Window.fill
  rw [dif_pos (moved0_4 t (ix2 p q))]
  refine congrArg (X m c) (funext fun a => Fin.ext ?_)
  match a with
  | ⟨0, _⟩ => show win0_4.index t (0 : Fin 2) * 512 + 1 * p.val = t.val % 16 * 512 + p.val; rw [e0]; omega
  | ⟨1, _⟩ => show win0_4.index t (1 : Fin 2) * 1024 + 1 * q.val = t.val / 16 * 1024 + q.val; rw [e1]; omega

theorem w1_at (c : Dev nD) (t : Fin cfg0.N) (k : Fin 2048) (q : Fin 1024) :
    k0_pay1 (F := Ideal) (iblk m c 1 t) (ix2 k q) = W m c (ix3 1 ⟨k.val, by omega⟩ (colAt t q)) := by
  obtain ⟨-, ⟨e0, e1, e2⟩, -⟩ := idx_facts t
  refine (half_apply (iblk m c 1 t) k q).trans (congrArg (W m c) (funext fun a => Fin.ext ?_))
  match a with
  | ⟨0, _⟩ => show win0_1.index t (0 : Fin 3) * 1 + 1 * 0 = 1; rw [e0]
  | ⟨1, _⟩ => show win0_1.index t (1 : Fin 3) * 2048 + 1 * k.val = k.val; rw [e1]; omega
  | ⟨2, _⟩ => show win0_1.index t (2 : Fin 3) * 1024 + 1 * q.val = t.val / 16 * 1024 + q.val; rw [e2]; omega

theorem w2_at (c : Dev nD) (t : Fin cfg0.N) (k : Fin 2048) (q : Fin 1024) :
    k0_pay2 (F := Ideal) (iblk m c 2 t) (ix2 k q) = W m c (ix3 1 ⟨2048 + k.val, by omega⟩ (colAt t q)) := by
  obtain ⟨-, -, ⟨e0, e1, e2⟩, -⟩ := idx_facts t
  refine (half_apply (iblk m c 2 t) k q).trans (congrArg (W m c) (funext fun a => Fin.ext ?_))
  match a with
  | ⟨0, _⟩ => show win0_2.index t (0 : Fin 3) * 1 + 1 * 0 = 1; rw [e0]
  | ⟨1, _⟩ => show win0_2.index t (1 : Fin 3) * 2048 + 1 * k.val = 2048 + k.val; rw [e1]; omega
  | ⟨2, _⟩ => show win0_2.index t (2 : Fin 3) * 1024 + 1 * q.val = t.val / 16 * 1024 + q.val; rw [e2]; omega

theorem gate_at (c : Dev nD) (t : Fin cfg0.N) (q : Fin 1024) :
    gate0 (iblk m c 5 t) (ix2 0 q) = G m c (ix2 0 ⟨8192 + (colAt t q).val, by have := (colAt t q).isLt; omega⟩) := by
  obtain ⟨-, -, -, -, -, ⟨e0, e1⟩, -⟩ := idx_facts t
  refine congrArg (G m c) (funext fun a => Fin.ext ?_)
  match a with
  | ⟨0, _⟩ => show win0_5.index t (0 : Fin 2) * 8 + 1 * (0 + 1 * 0) = 0; rw [e0]
  | ⟨1, _⟩ => show win0_5.index t (1 : Fin 2) * 1024 + 1 * (0 + 1 * q.val) = 8192 + (t.val / 16 * 1024 + q.val); rw [e1]; omega

/-! ## The result -/

/-- The kept copies, after any point, are the halves of the point's column block. -/
theorem kept (c : Dev nD) : ∀ (n : ℕ) (hn : n < cfg0.N) (k : Fin 2048) (q : Fin 1024),
    (outsAt0 m c n hn).2.1 (ix2 k q) = W m c (ix3 1 ⟨k.val, by omega⟩ (colAt ⟨n, hn⟩ q))
    ∧ (outsAt0 m c n hn).2.2 (ix2 k q) = W m c (ix3 1 ⟨2048 + k.val, by omega⟩ (colAt ⟨n, hn⟩ q))
  | 0, hn, k, q => ⟨(congrFun (first1 m c ⟨0, hn⟩ rfl) (ix2 k q)).trans (w1_at m c ⟨0, hn⟩ k q),
      (congrFun (first2 m c ⟨0, hn⟩ rfl) (ix2 k q)).trans (w2_at m c ⟨0, hn⟩ k q)⟩
  | n + 1, hn, k, q => by
    by_cases h0 : (n + 1) % 16 = 0
    · exact ⟨(congrFun (first1 m c ⟨n + 1, hn⟩ h0) (ix2 k q)).trans (w1_at m c ⟨n + 1, hn⟩ k q),
        (congrFun (first2 m c ⟨n + 1, hn⟩ h0) (ix2 k q)).trans (w2_at m c ⟨n + 1, hn⟩ k q)⟩
    · obtain ⟨h1, h2⟩ := kept c n (Nat.lt_of_succ_lt hn) k q
      have e : colAt ⟨n, Nat.lt_of_succ_lt hn⟩ q = colAt ⟨n + 1, hn⟩ q := Fin.ext (show n / 16 * 1024 + q.val = (n + 1) / 16 * 1024 + q.val by omega)
      rw [e] at h1 h2
      exact ⟨(congrFun (later1 m c n hn h0) (ix2 k q)).trans h1, (congrFun (later2 m c n hn h0) (ix2 k q)).trans h2⟩

/-- The result at a row and a column. -/
def res (a : S8448x4096.Idx → EReal) (w : S2x4096x4096.Idx → EReal) (x : S8448x4096.Idx → EReal) (g : S8x12288.Idx → EReal)
    (p : Fin 8448) (q : Fin 4096) : EReal :=
  elem (fun k => a (ix2 p ⟨k.val, by omega⟩)) (fun k => w (ix3 1 ⟨k.val, by omega⟩ q))
    (fun k => a (ix2 p ⟨2048 + k.val, by omega⟩)) (fun k => w (ix3 1 ⟨2048 + k.val, by omega⟩ q)) (x (ix2 p q)) (g (ix2 0 ⟨8192 + q.val, by omega⟩))

/-- The result. -/
def out (a : S8448x4096.Idx → EReal) (w : S2x4096x4096.Idx → EReal) (x : S8448x4096.Idx → EReal) (g : S8x12288.Idx → EReal) : S8192x4096.Idx → EReal :=
  fun i => res a w x g ⟨(i 0).val, Nat.lt_trans (i 0).isLt (show 8192 < 8448 by decide)⟩ ⟨(i 1).val, (i 1).isLt⟩

theorem left_at (c : Dev nD) (t : Fin cfg0.N) (w1 w2 : Vec Ideal S2048x1024 .bf16) (p : Fin 512) (q : Fin 1024)
    (h1 : ∀ k : Fin 2048, w1 (ix2 k q) = W m c (ix3 1 ⟨k.val, by omega⟩ (colAt t q)))
    (h2 : ∀ k : Fin 2048, w2 (ix2 k q) = W m c (ix3 1 ⟨2048 + k.val, by omega⟩ (colAt t q))) :
    left m c t w1 w2 (ix2 p q) = res (A m c) (W m c) (X m c) (G m c) (rowAt t p) (colAt t q) := by
  obtain ⟨-, -, -, -, -, -, -, e⟩ := idx_facts t
  refine (pay512 _ _ _ _ _ _ _ _ p q).trans ?_
  rw [if_neg (by rw [e]; omega), gate_at, x_at, funext h1, funext h2, funext (a1_at m c t p), funext (a2_at m c t p)]
  rfl

/-- What any point leaves, at an element. -/
theorem point_at (c : Dev nD) : ∀ (n : ℕ) (hn : n < cfg0.N) (p : Fin 512) (q : Fin 1024),
    (outsAt0 m c n hn).1 (ix2 p q) = res (A m c) (W m c) (X m c) (G m c) (rowAt ⟨n, hn⟩ p) (colAt ⟨n, hn⟩ q)
  | 0, hn, p, q => (congrFun (first_out m c ⟨0, hn⟩ rfl) (ix2 p q)).trans (left_at m c ⟨0, hn⟩ _ _ p q (fun k => w1_at m c _ k q) (fun k => w2_at m c _ k q))
  | n + 1, hn, p, q => by
    by_cases h0 : (n + 1) % 16 = 0
    · exact (congrFun (first_out m c ⟨n + 1, hn⟩ h0) (ix2 p q)).trans (left_at m c ⟨n + 1, hn⟩ _ _ p q (fun k => w1_at m c _ k q) (fun k => w2_at m c _ k q))
    · have e : colAt ⟨n, Nat.lt_of_succ_lt hn⟩ q = colAt ⟨n + 1, hn⟩ q := Fin.ext (show n / 16 * 1024 + q.val = (n + 1) / 16 * 1024 + q.val by omega)
      exact (congrFun (later_out m c n hn h0) (ix2 p q)).trans (left_at m c ⟨n + 1, hn⟩ _ _ p q
        (fun k => e ▸ (kept m c n (Nat.lt_of_succ_lt hn) k q).1) (fun k => e ▸ (kept m c n (Nat.lt_of_succ_lt hn) k q).2))

theorem flushed_eq (c : Dev nD) (t : Fin cfg0.N) :
    (dats m 0 c).flushed 6 t = ((cfg0.win 6).blk t).view.read (Elt Ideal) (out (A m c) (W m c) (X m c) (G m c)) := by
  obtain ⟨-, -, -, -, -, -, ⟨e0, e1⟩, -⟩ := idx_facts t
  rw [Value.flushed6]
  funext y
  have hy0 : (y 0).val < 512 := (y 0).isLt
  have hy1 : (y 1).val < 1024 := (y 1).isLt
  refine (show _ = (outsAt0 m c t.val t.isLt).1 (ix2 ⟨(y 0).val, hy0⟩ ⟨(y 1).val, hy1⟩) from
    congrArg (outsAt0 m c t.val t.isLt).1 (funext fun a => by match a with | ⟨0, _⟩ => rfl | ⟨1, _⟩ => rfl)).trans ?_
  refine (point_at m c t.val t.isLt _ _).trans ?_
  refine congrArg₂ (res (A m c) (W m c) (X m c) (G m c)) (Fin.ext ?_) (Fin.ext ?_)
  · show t.val % 16 * 512 + (y 0).val = win0_6.index t (0 : Fin 2) * 512 + 1 * (y 0).val
    rw [e0]; omega
  · show t.val / 16 * 1024 + (y 1).val = win0_6.index t (1 : Fin 2) * 1024 + 1 * (y 1).val
    rw [e1]; omega

theorem final (c : Dev nD) : (dats m 0 c).arrAt 6 cfg0.N = out (A m c) (W m c) (X m c) (G m c) :=
  (dats m 0 c).arrAt_eq_of_cover 6 _ (fun t _ => flushed_eq m c t) fun i => (Value.covered_iff6 i).2
    ⟨Nat.zero_le _, (i 0).isLt, Nat.zero_le _, (i 1).isLt⟩

open Cert.Reference4Ideal.Read in
/-- The reference's result. -/
theorem ref_eq (a : (⟨S8448x4096, .bf16⟩ : BufTy).Contents (Elt Ideal)) (w : (⟨S2x4096x4096, .f32⟩ : BufTy).Contents (Elt Ideal))
    (x : (⟨S8448x4096, .f32⟩ : BufTy).Contents (Elt Ideal)) (g : (⟨S8x12288, .f32⟩ : BufTy).Contents (Elt Ideal)) :
    val_main_v11 (F := Ideal) a w x g = out a w x g := by
  funext i
  have h0 : (i 0).val < 8192 := (i 0).isLt
  have h1 : (i 1).val < 4096 := (i 1).isLt
  have hd : val_main_v4 (F := Ideal) a w i = ∑ k : Fin 4096, (a (ix2 ⟨(i 0).val, by omega⟩ k) * w (ix3 1 k ⟨(i 1).val, h1⟩) : EReal) := by
    refine (val_main_v4_apply a w i).trans (Finset.sum_congr rfl fun k _ => ?_)
    have hk := k.isLt
    rw [val_main_v1_apply, val_main_v0_apply, val_main_v3_apply, val_main_v2_apply]
    refine congrArg₂ (fun a b : EReal => a * b) (congrArg a (funext fun a => ?_)) (congrArg w (funext fun a => ?_))
    · match a with | ⟨0, _⟩ => rfl | ⟨1, _⟩ => rfl
    · match a with
      | ⟨0, _⟩ => rfl
      | ⟨1, _⟩ => exact Fin.ext (show (k.val * 4096 + (i 1).val) / 4096 % 4096 = k.val by omega)
      | ⟨2, _⟩ => exact Fin.ext (show (k.val * 4096 + (i 1).val) % 4096 = (i 1).val by omega)
  have hx : val_main_v5 (F := Ideal) x i = x (ix2 ⟨(i 0).val, by omega⟩ ⟨(i 1).val, h1⟩) :=
    (val_main_v5_apply x i).trans (congrArg x (funext fun a => by match a with | ⟨0, _⟩ => rfl | ⟨1, _⟩ => rfl))
  have hg : val_main_v9 (F := Ideal) g i = g (ix2 0 ⟨8192 + (i 1).val, by omega⟩) := by
    rw [val_main_v9_apply, val_main_v8_apply, val_main_v7_apply, val_main_v6_apply]
    refine congrArg g (funext fun a => ?_)
    match a with
    | ⟨0, _⟩ => rfl
    | ⟨1, _⟩ => first | rfl | exact Fin.ext (show 8192 + (i 1).val % 4096 = 8192 + (i 1).val by omega)
  rw [val_main_v11_apply, val_main_v10_apply, hx, hg, hd, sum_halves]
  rfl

end Cert.Proof.Out4

end
-- ==== Proof.Out5.lean ====
/-
  The even layers' output projection: its two halves' factors are two arrays, the long convolution's output and the
  attention's, and its rows are all the rows, the context rows with a gate of their own. The kernel's result and the
  reference's are both the residual stream plus the gate's row times the product of the two arrays, side by side, by the
  first of the two weight matrices.
-/
module

public import proofs.«01_k».proof.Proof.OutProj
public import proofs.«01_k».proof.Proof.Value
public import proofs.«01_k».proof.Proof.Gen.Reference5Ideal.Read
public import Idealize.ShloMosaic.Lib.Tactic

@[expose] public section

set_option maxRecDepth 16384

noncomputable section

namespace Cert.Proof.Out5

open Cert.Kernel5Ideal Cert.Kernel5Ideal.Gen Cert.Proof.InProj Cert.Proof.OutProj
open Idealize.ShloMosaic hiding ix2 ix3
open Idealize.ShloMosaic.TcCoe Idealize.ShloMosaic.ValueIdx Idealize.SL.Sem

variable (m : (ℓ : Loc nD τ sig) → Buf (Elt Ideal) ℓ) (ρ : Dev nD → PrngReg)

/-- The two rows of the gates' block. -/
abbrev gate0 (g : Vec Ideal S8x1024 .f32) : Vec Ideal S1x1024 .f32 := View.ld g (Rect.unit (s := S8x1024) ![0, 0] S1x1024.size inb_S8x1024_S1x1024_0_0)
abbrev gate1 (g : Vec Ideal S8x1024 .f32) : Vec Ideal S1x1024 .f32 := View.ld g (Rect.unit (s := S8x1024) ![1, 0] S1x1024.size inb_S8x1024_S1x1024_1_0)

/-- What a point leaves, of the weights' scratches it works with. -/
def left (c : Dev nD) (t : Fin cfg0.N) (w1 w2 : Vec Ideal S2048x1024 .bf16) : Vec Ideal S768x1024 .f32 :=
  k0_pay3 (F := Ideal) (grid0.coords t) (iblk m c 0 t) w1 (iblk m c 3 t) w2 (gate1 (iblk m c 5 t)) (gate0 (iblk m c 5 t)) (iblk m c 4 t)

theorem first1 (c : Dev nD) (t : Fin cfg0.N) (h0 : t.val % 11 = 0) : (outsAt0 m c t.val t.isLt).2.1 = k0_pay1 (F := Ideal) (iblk m c 1 t) := by
  rw [outsAt0_A m c t h0]
  dsimp only
  unfold sout0_A_0
  rw [View.read_writes_eq_canon _ _ _ (fun y => scover0_A_0 (y := y) ..)]
  unfold kernelRun0_A
  dsimp only
  sl_unfold_words
  rw [View.canon_unit_zero zero2]
  simp only [View.readAt_eq_ld, (hs0_1 t).read_unread, View.ld_unit_zero (S := S1x2048x1024) zero3]

theorem first2 (c : Dev nD) (t : Fin cfg0.N) (h0 : t.val % 11 = 0) : (outsAt0 m c t.val t.isLt).2.2 = k0_pay2 (F := Ideal) (iblk m c 2 t) := by
  rw [outsAt0_A m c t h0]
  dsimp only
  unfold sout0_A_1
  rw [View.read_writes_eq_canon _ _ _ (fun y => scover0_A_1 (y := y) ..)]
  unfold kernelRun0_A
  dsimp only
  sl_unfold_words
  rw [View.canon_unit_zero zero2]
  simp only [View.readAt_eq_ld, (hs0_2 t).read_unread, View.ld_unit_zero (S := S1x2048x1024) zero3]

theorem first_out (c : Dev nD) (t : Fin cfg0.N) (h0 : t.val % 11 = 0) :
    (outsAt0 m c t.val t.isLt).1 = left m c t (k0_pay1 (F := Ideal) (iblk m c 1 t)) (k0_pay2 (F := Ideal) (iblk m c 2 t)) := by
  rw [outsAt0_A m c t h0]
  dsimp only
  unfold out0_A_6
  rw [View.read_writes_eq_canon _ _ _ (fun y => cover0_A_6 (y := y) ..)]
  unfold kernelRun0_A
  dsimp only
  sl_unfold_words
  rw [View.canon_unit_zero zero2]
  simp only [View.readAt_eq_ld, (hs0_0 t).read_unread, (hs0_1 t).read_unread, (hs0_2 t).read_unread, (hs0_3 t).read_unread, (hs0_4 t).read_unread,
    (hs0_5 t).read_unread, View.ld_unit_zero (S := S1x2048x1024) zero3, View.ld_unit_zero (S := S768x2048) zero2, View.ld_unit_zero (S := S768x1024) zero2,
    View.readCov_unit_zero (S := S2048x1024) _ zero2]
  rfl

theorem later_out (c : Dev nD) (n : ℕ) (hn : n + 1 < cfg0.N) (h0 : ¬(n + 1) % 11 = 0) :
    (outsAt0 m c (n + 1) hn).1 = left m c ⟨n + 1, hn⟩ (outsAt0 m c n (Nat.lt_of_succ_lt hn)).2.1 (outsAt0 m c n (Nat.lt_of_succ_lt hn)).2.2 := by
  refine (congrArg Prod.fst (outsAt0_B m c ⟨n + 1, hn⟩ h0)).trans ?_
  dsimp only
  unfold out0_B_6
  rw [View.read_writes_eq_canon _ _ _ (fun y => cover0_B_6 (y := y) ..)]
  unfold kernelRun0_B
  dsimp only
  rw [View.canon_unit_zero zero2]
  simp only [View.readAt_eq_ld, (hs0_0 ⟨n + 1, hn⟩).read_unread, (hs0_3 ⟨n + 1, hn⟩).read_unread, (hs0_4 ⟨n + 1, hn⟩).read_unread,
    (hs0_5 ⟨n + 1, hn⟩).read_unread, View.ld_unit_zero (S := S768x2048) zero2, View.ld_unit_zero (S := S768x1024) zero2,
    View.ld_unit_zero (S := S2048x1024) zero2, (Memref.isWhole_whole _).read_unread]
  rfl

theorem later1 (c : Dev nD) (n : ℕ) (hn : n + 1 < cfg0.N) (h0 : ¬(n + 1) % 11 = 0) :
    (outsAt0 m c (n + 1) hn).2.1 = (outsAt0 m c n (Nat.lt_of_succ_lt hn)).2.1 := by
  refine (congrArg (fun o => o.2.1) (outsAt0_B m c ⟨n + 1, hn⟩ h0)).trans ?_
  rfl

theorem later2 (c : Dev nD) (n : ℕ) (hn : n + 1 < cfg0.N) (h0 : ¬(n + 1) % 11 = 0) :
    (outsAt0 m c (n + 1) hn).2.2 = (outsAt0 m c n (Nat.lt_of_succ_lt hn)).2.2 := by
  refine (congrArg (fun o => o.2.2) (outsAt0_B m c ⟨n + 1, hn⟩ h0)).trans ?_
  rfl

/-! ## The blocks at an element -/

/-- The windows' blocks at a point. -/
theorem idx_facts : ∀ t : Fin cfg0.N,
    (win0_0.index t (0 : Fin 2) = t.val % 11 ∧ win0_0.index t (1 : Fin 2) = 0)
    ∧ (win0_1.index t (0 : Fin 3) = 0 ∧ win0_1.index t (1 : Fin 3) = 0 ∧ win0_1.index t (2 : Fin 3) = t.val / 11)
    ∧ (win0_2.index t (0 : Fin 3) = 0 ∧ win0_2.index t (1 : Fin 3) = 1 ∧ win0_2.index t (2 : Fin 3) = t.val / 11)
    ∧ (win0_3.index t (0 : Fin 2) = t.val % 11 ∧ win0_3.index t (1 : Fin 2) = 0)
    ∧ (win0_4.index t (0 : Fin 2) = t.val % 11 ∧ win0_4.index t (1 : Fin 2) = t.val / 11)
    ∧ (win0_5.index t (0 : Fin 2) = 0 ∧ win0_5.index t (1 : Fin 2) = 8 + t.val / 11)
    ∧ (win0_6.index t (0 : Fin 2) = t.val % 11 ∧ win0_6.index t (1 : Fin 2) = t.val / 11)
    ∧ (grid0.coords t 1).val = t.val % 11 :=
  (by decide +kernel : ∀ t : Fin grid0.N, _)

theorem quot (t : Fin cfg0.N) : t.val / 11 < 4 := by
  have := lt_of_lt_of_eq t.isLt (show cfg0.N = 44 from N_0); omega

abbrev rowAt (t : Fin cfg0.N) (p : Fin 768) : Fin 8448 := ⟨t.val % 11 * 768 + p.val, by omega⟩
abbrev colAt (t : Fin cfg0.N) (q : Fin 1024) : Fin 4096 := ⟨t.val / 11 * 1024 + q.val, by have := quot t; omega⟩

abbrev H (c : Dev nD) : S8448x2048.Idx → EReal := m ((c : Thread nD τ).loc main_arg0)
abbrev A (c : Dev nD) : S8448x2048.Idx → EReal := m ((c : Thread nD τ).loc main_arg1)
abbrev W (c : Dev nD) : S2x4096x4096.Idx → EReal := m ((c : Thread nD τ).loc main_arg2)
abbrev X (c : Dev nD) : S8448x4096.Idx → EReal := m ((c : Thread nD τ).loc main_arg3)
abbrev G (c : Dev nD) : S8x12288.Idx → EReal := m ((c : Thread nD τ).loc main_arg4)

theorem a1_at (c : Dev nD) (t : Fin cfg0.N) (p : Fin 768) (k : Fin 2048) :
    iblk m c 0 t (ix2 p k) = H m c (ix2 (rowAt t p) k) := by
  obtain ⟨⟨e0, e1⟩, -⟩ := idx_facts t
  refine congrArg (H m c) (funext fun a => Fin.ext ?_)
  match a with
  | ⟨0, _⟩ => show win0_0.index t (0 : Fin 2) * 768 + 1 * p.val = t.val % 11 * 768 + p.val; rw [e0]; omega
  | ⟨1, _⟩ => show win0_0.index t (1 : Fin 2) * 2048 + 1 * k.val = k.val; rw [e1]; omega

theorem a2_at (c : Dev nD) (t : Fin cfg0.N) (p : Fin 768) (k : Fin 2048) :
    iblk m c 3 t (ix2 p k) = A m c (ix2 (rowAt t p) k) := by
  obtain ⟨-, -, -, ⟨e0, e1⟩, -⟩ := idx_facts t
  refine congrArg (A m c) (funext fun a => Fin.ext ?_)
  match a with
  | ⟨0, _⟩ => show win0_3.index t (0 : Fin 2) * 768 + 1 * p.val = t.val % 11 * 768 + p.val; rw [e0]; omega
  | ⟨1, _⟩ => show win0_3.index t (1 : Fin 2) * 2048 + 1 * k.val = k.val; rw [e1]; omega

theorem x_at (c : Dev nD) (t : Fin cfg0.N) (p : Fin 768) (q : Fin 1024) :
    iblk m c 4 t (ix2 p q) = X m c (ix2 (rowAt t p) (colAt t q)) := by
  obtain ⟨-, -, -, -, ⟨e0, e1⟩, -⟩ := idx_facts t
  refine congrArg (X m c) (funext fun a => Fin.ext ?_)
  match a with
  | ⟨0, _⟩ => show win0_4.index t (0 : Fin 2) * 768 + 1 * p.val = t.val % 11 * 768 + p.val; rw [e0]; omega
  | ⟨1, _⟩ => show win0_4.index t (1 : Fin 2) * 1024 + 1 * q.val = t.val / 11 * 1024 + q.val; rw [e1]; omega

theorem w1_at (c : Dev nD) (t : Fin cfg0.N) (k : Fin 2048) (q : Fin 1024) :
    k0_pay1 (F := Ideal) (iblk m c 1 t) (ix2 k q) = W m c (ix3 0 ⟨k.val, by omega⟩ (colAt t q)) := by
  obtain ⟨-, ⟨e0, e1, e2⟩, -⟩ := idx_facts t
  refine (half_apply (iblk m c 1 t) k q).trans (congrArg (W m c) (funext fun a => Fin.ext ?_))
  match a with
  | ⟨0, _⟩ => show win0_1.index t (0 : Fin 3) * 1 + 1 * 0 = 0; rw [e0]
  | ⟨1, _⟩ => show win0_1.index t (1 : Fin 3) * 2048 + 1 * k.val = k.val; rw [e1]; omega
  | ⟨2, _⟩ => show win0_1.index t (2 : Fin 3) * 1024 + 1 * q.val = t.val / 11 * 1024 + q.val; rw [e2]; omega

theorem w2_at (c : Dev nD) (t : Fin cfg0.N) (k : Fin 2048) (q : Fin 1024) :
    k0_pay2 (F := Ideal) (iblk m c 2 t) (ix2 k q) = W m c (ix3 0 ⟨2048 + k.val, by omega⟩ (colAt t q)) := by
  obtain ⟨-, -, ⟨e0, e1, e2⟩, -⟩ := idx_facts t
  refine (half_apply (iblk m c 2 t) k q).trans (congrArg (W m c) (funext fun a => Fin.ext ?_))
  match a with
  | ⟨0, _⟩ => show win0_2.index t (0 : Fin 3) * 1 + 1 * 0 = 0; rw [e0]
  | ⟨1, _⟩ => show win0_2.index t (1 : Fin 3) * 2048 + 1 * k.val = 2048 + k.val; rw [e1]; omega
  | ⟨2, _⟩ => show win0_2.index t (2 : Fin 3) * 1024 + 1 * q.val = t.val / 11 * 1024 + q.val; rw [e2]; omega

theorem gate0_at (c : Dev nD) (t : Fin cfg0.N) (q : Fin 1024) :
    gate0 (iblk m c 5 t) (ix2 0 q) = G m c (ix2 0 ⟨8192 + (colAt t q).val, by have := (colAt t q).isLt; omega⟩) := by
  obtain ⟨-, -, -, -, -, ⟨e0, e1⟩, -⟩ := idx_facts t
  refine congrArg (G m c) (funext fun a => Fin.ext ?_)
  match a with
  | ⟨0, _⟩ => show win0_5.index t (0 : Fin 2) * 8 + 1 * (0 + 1 * 0) = 0; rw [e0]
  | ⟨1, _⟩ => show win0_5.index t (1 : Fin 2) * 1024 + 1 * (0 + 1 * q.val) = 8192 + (t.val / 11 * 1024 + q.val); rw [e1]; omega

theorem gate1_at (c : Dev nD) (t : Fin cfg0.N) (q : Fin 1024) :
    gate1 (iblk m c 5 t) (ix2 0 q) = G m c (ix2 1 ⟨8192 + (colAt t q).val, by have := (colAt t q).isLt; omega⟩) := by
  obtain ⟨-, -, -, -, -, ⟨e0, e1⟩, -⟩ := idx_facts t
  refine congrArg (G m c) (funext fun a => Fin.ext ?_)
  match a with
  | ⟨0, _⟩ => show win0_5.index t (0 : Fin 2) * 8 + 1 * (1 + 1 * 0) = 1; rw [e0]
  | ⟨1, _⟩ => show win0_5.index t (1 : Fin 2) * 1024 + 1 * (0 + 1 * q.val) = 8192 + (t.val / 11 * 1024 + q.val); rw [e1]; omega

/-! ## The result -/

/-- The kept copies, after any point, are the halves of the point's column block. -/
theorem kept (c : Dev nD) : ∀ (n : ℕ) (hn : n < cfg0.N) (k : Fin 2048) (q : Fin 1024),
    (outsAt0 m c n hn).2.1 (ix2 k q) = W m c (ix3 0 ⟨k.val, by omega⟩ (colAt ⟨n, hn⟩ q))
    ∧ (outsAt0 m c n hn).2.2 (ix2 k q) = W m c (ix3 0 ⟨2048 + k.val, by omega⟩ (colAt ⟨n, hn⟩ q))
  | 0, hn, k, q => ⟨(congrFun (first1 m c ⟨0, hn⟩ rfl) (ix2 k q)).trans (w1_at m c ⟨0, hn⟩ k q),
      (congrFun (first2 m c ⟨0, hn⟩ rfl) (ix2 k q)).trans (w2_at m c ⟨0, hn⟩ k q)⟩
  | n + 1, hn, k, q => by
    by_cases h0 : (n + 1) % 11 = 0
    · exact ⟨(congrFun (first1 m c ⟨n + 1, hn⟩ h0) (ix2 k q)).trans (w1_at m c ⟨n + 1, hn⟩ k q),
        (congrFun (first2 m c ⟨n + 1, hn⟩ h0) (ix2 k q)).trans (w2_at m c ⟨n + 1, hn⟩ k q)⟩
    · obtain ⟨h1, h2⟩ := kept c n (Nat.lt_of_succ_lt hn) k q
      have e : colAt ⟨n, Nat.lt_of_succ_lt hn⟩ q = colAt ⟨n + 1, hn⟩ q := Fin.ext (show n / 11 * 1024 + q.val = (n + 1) / 11 * 1024 + q.val by omega)
      rw [e] at h1 h2
      exact ⟨(congrFun (later1 m c n hn h0) (ix2 k q)).trans h1, (congrFun (later2 m c n hn h0) (ix2 k q)).trans h2⟩

/-- The result at a row and a column: a latent row takes the first row of the gates, a context row the second. -/
def res (h a : S8448x2048.Idx → EReal) (w : S2x4096x4096.Idx → EReal) (x : S8448x4096.Idx → EReal) (g : S8x12288.Idx → EReal)
    (p : Fin 8448) (q : Fin 4096) : EReal :=
  elem (fun k => h (ix2 p k)) (fun k => w (ix3 0 ⟨k.val, by omega⟩ q)) (fun k => a (ix2 p k)) (fun k => w (ix3 0 ⟨2048 + k.val, by omega⟩ q))
    (x (ix2 p q)) (if 8192 ≤ p.val then g (ix2 1 ⟨8192 + q.val, by omega⟩) else g (ix2 0 ⟨8192 + q.val, by omega⟩))

/-- The result. -/
def out (h a : S8448x2048.Idx → EReal) (w : S2x4096x4096.Idx → EReal) (x : S8448x4096.Idx → EReal) (g : S8x12288.Idx → EReal) : S8448x4096.Idx → EReal :=
  fun i => res h a w x g ⟨(i 0).val, (i 0).isLt⟩ ⟨(i 1).val, (i 1).isLt⟩

theorem left_at (c : Dev nD) (t : Fin cfg0.N) (w1 w2 : Vec Ideal S2048x1024 .bf16) (p : Fin 768) (q : Fin 1024)
    (h1 : ∀ k : Fin 2048, w1 (ix2 k q) = W m c (ix3 0 ⟨k.val, by omega⟩ (colAt t q)))
    (h2 : ∀ k : Fin 2048, w2 (ix2 k q) = W m c (ix3 0 ⟨2048 + k.val, by omega⟩ (colAt t q))) :
    left m c t w1 w2 (ix2 p q) = res (H m c) (A m c) (W m c) (X m c) (G m c) (rowAt t p) (colAt t q) := by
  obtain ⟨-, -, -, -, -, -, -, e⟩ := idx_facts t
  refine (pay768 _ _ _ _ _ _ _ _ p q).trans ?_
  rw [e, gate0_at, gate1_at, x_at, funext h1, funext h2, funext (a1_at m c t p), funext (a2_at m c t p)]
  rfl

/-- What any point leaves, at an element. -/
theorem point_at (c : Dev nD) : ∀ (n : ℕ) (hn : n < cfg0.N) (p : Fin 768) (q : Fin 1024),
    (outsAt0 m c n hn).1 (ix2 p q) = res (H m c) (A m c) (W m c) (X m c) (G m c) (rowAt ⟨n, hn⟩ p) (colAt ⟨n, hn⟩ q)
  | 0, hn, p, q => (congrFun (first_out m c ⟨0, hn⟩ rfl) (ix2 p q)).trans (left_at m c ⟨0, hn⟩ _ _ p q (fun k => w1_at m c _ k q) (fun k => w2_at m c _ k q))
  | n + 1, hn, p, q => by
    by_cases h0 : (n + 1) % 11 = 0
    · exact (congrFun (first_out m c ⟨n + 1, hn⟩ h0) (ix2 p q)).trans (left_at m c ⟨n + 1, hn⟩ _ _ p q (fun k => w1_at m c _ k q) (fun k => w2_at m c _ k q))
    · have e : colAt ⟨n, Nat.lt_of_succ_lt hn⟩ q = colAt ⟨n + 1, hn⟩ q := Fin.ext (show n / 11 * 1024 + q.val = (n + 1) / 11 * 1024 + q.val by omega)
      exact (congrFun (later_out m c n hn h0) (ix2 p q)).trans (left_at m c ⟨n + 1, hn⟩ _ _ p q
        (fun k => e ▸ (kept m c n (Nat.lt_of_succ_lt hn) k q).1) (fun k => e ▸ (kept m c n (Nat.lt_of_succ_lt hn) k q).2))

theorem flushed_eq (c : Dev nD) (t : Fin cfg0.N) :
    (dats m 0 c).flushed 6 t = ((cfg0.win 6).blk t).view.read (Elt Ideal) (out (H m c) (A m c) (W m c) (X m c) (G m c)) := by
  obtain ⟨-, -, -, -, -, -, ⟨e0, e1⟩, -⟩ := idx_facts t
  rw [Value.flushed6]
  funext y
  have hy0 : (y 0).val < 768 := (y 0).isLt
  have hy1 : (y 1).val < 1024 := (y 1).isLt
  refine (show _ = (outsAt0 m c t.val t.isLt).1 (ix2 ⟨(y 0).val, hy0⟩ ⟨(y 1).val, hy1⟩) from
    congrArg (outsAt0 m c t.val t.isLt).1 (funext fun a => by match a with | ⟨0, _⟩ => rfl | ⟨1, _⟩ => rfl)).trans ?_
  refine (point_at m c t.val t.isLt _ _).trans ?_
  refine congrArg₂ (res (H m c) (A m c) (W m c) (X m c) (G m c)) (Fin.ext ?_) (Fin.ext ?_)
  · show t.val % 11 * 768 + (y 0).val = win0_6.index t (0 : Fin 2) * 768 + 1 * (y 0).val
    rw [e0]; omega
  · show t.val / 11 * 1024 + (y 1).val = win0_6.index t (1 : Fin 2) * 1024 + 1 * (y 1).val
    rw [e1]; omega

theorem final (c : Dev nD) : (dats m 0 c).arrAt 6 cfg0.N = out (H m c) (A m c) (W m c) (X m c) (G m c) :=
  (dats m 0 c).arrAt_eq_of_cover 6 _ (fun t _ => flushed_eq m c t) fun i => (Value.covered_iff6 i).2
    ⟨Nat.zero_le _, (i 0).isLt, Nat.zero_le _, (i 1).isLt⟩

/-! ## The reference -/

section Ref
open Cert.Reference5Ideal.Read
variable (h a : (⟨S8448x2048, .bf16⟩ : BufTy).Contents (Elt Ideal)) (w : (⟨S2x4096x4096, .f32⟩ : BufTy).Contents (Elt Ideal))
  (x : (⟨S8448x4096, .f32⟩ : BufTy).Contents (Elt Ideal)) (g : (⟨S8x12288, .f32⟩ : BufTy).Contents (Elt Ideal))

/-- The two arrays side by side, at an element of either. -/
theorem side_left (p : Fin 8448) (k : Fin 2048) : val_main_v0 (F := Ideal) h a (ix2 p ⟨k.val, by omega⟩) = h (ix2 p k) :=
  concatenate_pair_apply_left (t := S8448x4096) (s₁ := S8448x2048) (s₂ := S8448x2048) 1 h a _ (ix2 p ⟨k.val, by omega⟩) rfl (ix2 p k)
    (fun b => by match b with | ⟨0, _⟩ => rfl | ⟨1, _⟩ => rfl)
theorem side_right (p : Fin 8448) (k : Fin 2048) : val_main_v0 (F := Ideal) h a (ix2 p ⟨2048 + k.val, by omega⟩) = a (ix2 p k) :=
  concatenate_pair_apply_right (t := S8448x4096) (s₁ := S8448x2048) (s₂ := S8448x2048) 1 h a _ (ix2 p ⟨2048 + k.val, by omega⟩) rfl rfl (ix2 p k)
    (fun b => by match b with | ⟨0, _⟩ => exact fun _ => rfl | ⟨1, _⟩ => exact fun h => absurd rfl h)
    (Nat.add_comm _ _)

/-- The weights' first matrix. -/
theorem weight_at (k : Fin 4096) (q : Fin 4096) : val_main_v3 (F := Ideal) w (ix2 k q) = w (ix3 0 k q) := by
  have hk := k.isLt
  have hq := q.isLt
  rw [val_main_v3_apply, val_main_v2_apply]
  refine congrArg w (funext fun a => ?_)
  match a with
  | ⟨0, _⟩ => rfl
  | ⟨1, _⟩ => exact Fin.ext (show (k.val * 4096 + q.val) / 4096 % 4096 = k.val by omega)
  | ⟨2, _⟩ => exact Fin.ext (show (k.val * 4096 + q.val) % 4096 = q.val by omega)

theorem dot_at (p : Fin 8448) (q : Fin 4096) : val_main_v4 (F := Ideal) h a w (ix2 p q)
    = ∑ k : Fin 2048, (h (ix2 p k) * w (ix3 0 ⟨k.val, by omega⟩ q) : EReal) + ∑ k : Fin 2048, (a (ix2 p k) * w (ix3 0 ⟨2048 + k.val, by omega⟩ q) : EReal) := by
  have e : val_main_v4 (F := Ideal) h a w (ix2 p q) = ∑ k : Fin 4096, (val_main_v0 (F := Ideal) h a (ix2 p k) * w (ix3 0 k q) : EReal) := by
    refine (val_main_v4_apply h a w (ix2 p q)).trans (Finset.sum_congr rfl fun k _ => ?_)
    rw [val_main_v1_apply]
    refine congrArg₂ (fun a b : EReal => a * b) (congrArg (val_main_v0 (F := Ideal) h a) (funext fun a => ?_))
      ((congrArg (val_main_v3 (F := Ideal) w) (funext fun a => ?_)).trans (weight_at w k q))
    · match a with | ⟨0, _⟩ => rfl | ⟨1, _⟩ => rfl
    · match a with | ⟨0, _⟩ => rfl | ⟨1, _⟩ => rfl
  rw [e, sum_halves]
  refine congrArg₂ (fun a b : EReal => a + b) (Finset.sum_congr rfl fun k _ => ?_) (Finset.sum_congr rfl fun k _ => ?_)
  · rw [side_left]
  · rw [side_right]

theorem ref_lat (p : Fin 8192) (q : Fin 4096) : val_main_v12 (F := Ideal) h a w x g (ix2 p q) = res h a w x g ⟨p.val, by omega⟩ q := by
  have hx : val_main_v5 (F := Ideal) x (ix2 p q) = x (ix2 ⟨p.val, by omega⟩ q) :=
    (val_main_v5_apply x (ix2 p q)).trans (congrArg x (funext fun a => by match a with | ⟨0, _⟩ => rfl | ⟨1, _⟩ => rfl))
  have hg : val_main_v10 (F := Ideal) g (ix2 p q) = g (ix2 0 ⟨8192 + q.val, by omega⟩) := by
    rw [val_main_v10_apply, val_main_v8_apply, val_main_v7_apply, val_main_v6_apply]
    refine congrArg g (funext fun a => ?_)
    match a with
    | ⟨0, _⟩ => rfl
    | ⟨1, _⟩ => exact Fin.ext (show 8192 + q.val % 4096 = 8192 + q.val by have := q.isLt; omega)
  have hd : val_main_v9 (F := Ideal) h a w (ix2 p q) = val_main_v4 (F := Ideal) h a w (ix2 ⟨p.val, by omega⟩ q) :=
    (val_main_v9_apply h a w (ix2 p q)).trans (congrArg (val_main_v4 (F := Ideal) h a w) (funext fun a => by match a with | ⟨0, _⟩ => rfl | ⟨1, _⟩ => rfl))
  unfold res elem
  rw [val_main_v12_apply, val_main_v11_apply, hx, hg, hd, dot_at, if_neg (by have := p.isLt; show ¬8192 ≤ p.val; omega)]
  rfl

theorem ref_ctx (p : Fin 256) (q : Fin 4096) : val_main_v20 (F := Ideal) h a w x g (ix2 p q) = res h a w x g ⟨8192 + p.val, by omega⟩ q := by
  have hx : val_main_v13 (F := Ideal) x (ix2 p q) = x (ix2 ⟨8192 + p.val, by omega⟩ q) :=
    (val_main_v13_apply x (ix2 p q)).trans (congrArg x (funext fun a => by match a with | ⟨0, _⟩ => rfl | ⟨1, _⟩ => rfl))
  have hg : val_main_v18 (F := Ideal) g (ix2 p q) = g (ix2 1 ⟨8192 + q.val, by omega⟩) := by
    rw [val_main_v18_apply, val_main_v16_apply, val_main_v15_apply, val_main_v14_apply]
    refine congrArg g (funext fun a => ?_)
    match a with
    | ⟨0, _⟩ => rfl
    | ⟨1, _⟩ => exact Fin.ext (show 8192 + q.val % 4096 = 8192 + q.val by have := q.isLt; omega)
  have hd : val_main_v17 (F := Ideal) h a w (ix2 p q) = val_main_v4 (F := Ideal) h a w (ix2 ⟨8192 + p.val, by omega⟩ q) :=
    (val_main_v17_apply h a w (ix2 p q)).trans (congrArg (val_main_v4 (F := Ideal) h a w) (funext fun a => by match a with | ⟨0, _⟩ => rfl | ⟨1, _⟩ => rfl))
  unfold res elem
  rw [val_main_v20_apply, val_main_v19_apply, hx, hg, hd, dot_at, if_pos (by show 8192 ≤ 8192 + p.val; omega)]
  rfl

/-- The reference's result. -/
theorem ref_eq : val_main_v21 (F := Ideal) h a w x g = out h a w x g := by
  funext i
  refine (show _ = val_main_v21 (F := Ideal) h a w x g (ix2 ⟨(i 0).val, (i 0).isLt⟩ ⟨(i 1).val, (i 1).isLt⟩) from
    congrArg (val_main_v21 (F := Ideal) h a w x g) (funext fun a => by match a with | ⟨0, _⟩ => rfl | ⟨1, _⟩ => rfl)).trans ?_
  show _ = res h a w x g ⟨(i 0).val, (i 0).isLt⟩ ⟨(i 1).val, (i 1).isLt⟩
  refine (Norm.rows_apply _ _ _ _ _).trans ?_
  by_cases hp : (i 0).val < 8192
  · rw [dif_pos hp, ref_lat]
  · rw [dif_neg hp, ref_ctx]
    exact congrArg (fun p => res h a w x g p _) (Fin.ext (show 8192 + ((i 0).val - 8192) = (i 0).val by omega))

end Ref

end Cert.Proof.Out5

end
-- ==== Proof.Out6.lean ====
/-
  The first odd layer's output projection: both halves' factors are halves of the attention's output, and its rows are all
  the rows, the context rows with a gate of their own. The kernel's result and the reference's are both the residual stream
  plus the gate's row times the product by the first of the two weight matrices.
-/
module

public import proofs.«01_k».proof.Proof.OutProj
public import proofs.«01_k».proof.Proof.Value
public import proofs.«01_k».proof.Proof.Gen.Kernel6Ideal.Value
public import proofs.«01_k».proof.Proof.Gen.Reference6Ideal.Read
public import Idealize.ShloMosaic.Lib.Tactic

@[expose] public section

set_option maxRecDepth 16384

noncomputable section

namespace Cert.Proof.Out6

open Cert.Kernel6Ideal Cert.Kernel6Ideal.Gen Cert.Proof.InProj Cert.Proof.OutProj
open Idealize.ShloMosaic hiding ix2 ix3
open Idealize.ShloMosaic.TcCoe Idealize.ShloMosaic.ValueIdx Idealize.SL.Sem

variable (m : (ℓ : Loc nD τ sig) → Buf (Elt Ideal) ℓ) (ρ : Dev nD → PrngReg)

/-- The two rows of the gates' block. -/
abbrev gate0 (g : Vec Ideal S8x1024 .f32) : Vec Ideal S1x1024 .f32 := View.ld g (Rect.unit (s := S8x1024) ![0, 0] S1x1024.size inb_S8x1024_S1x1024_0_0)
abbrev gate1 (g : Vec Ideal S8x1024 .f32) : Vec Ideal S1x1024 .f32 := View.ld g (Rect.unit (s := S8x1024) ![1, 0] S1x1024.size inb_S8x1024_S1x1024_1_0)

/-- What a point leaves, of the weights' scratches it works with. -/
def left (c : Dev nD) (t : Fin cfg0.N) (w1 w2 : Vec Ideal S2048x1024 .bf16) : Vec Ideal S768x1024 .f32 :=
  k0_pay3 (F := Ideal) (grid0.coords t) (iblk m c 0 t) w1 (iblk m c 3 t) w2 (gate1 (iblk m c 5 t)) (gate0 (iblk m c 5 t)) (iblk m c 4 t)

theorem first1 (c : Dev nD) (t : Fin cfg0.N) (h0 : t.val % 11 = 0) : (outsAt0 m c t.val t.isLt).2.1 = k0_pay1 (F := Ideal) (iblk m c 1 t) := by
  rw [outsAt0_A m c t h0]
  dsimp only
  unfold sout0_A_0
  rw [View.read_writes_eq_canon _ _ _ (fun y => scover0_A_0 (y := y) ..)]
  unfold kernelRun0_A
  dsimp only
  sl_unfold_words
  rw [View.canon_unit_zero zero2]
  simp only [View.readAt_eq_ld, (hs0_1 t).read_unread, View.ld_unit_zero (S := S1x2048x1024) zero3]

theorem first2 (c : Dev nD) (t : Fin cfg0.N) (h0 : t.val % 11 = 0) : (outsAt0 m c t.val t.isLt).2.2 = k0_pay2 (F := Ideal) (iblk m c 2 t) := by
  rw [outsAt0_A m c t h0]
  dsimp only
  unfold sout0_A_1
  rw [View.read_writes_eq_canon _ _ _ (fun y => scover0_A_1 (y := y) ..)]
  unfold kernelRun0_A
  dsimp only
  sl_unfold_words
  rw [View.canon_unit_zero zero2]
  simp only [View.readAt_eq_ld, (hs0_2 t).read_unread, View.ld_unit_zero (S := S1x2048x1024) zero3]

theorem first_out (c : Dev nD) (t : Fin cfg0.N) (h0 : t.val % 11 = 0) :
    (outsAt0 m c t.val t.isLt).1 = left m c t (k0_pay1 (F := Ideal) (iblk m c 1 t)) (k0_pay2 (F := Ideal) (iblk m c 2 t)) := by
  rw [outsAt0_A m c t h0]
  dsimp only
  unfold out0_A_6
  rw [View.read_writes_eq_canon _ _ _ (fun y => cover0_A_6 (y := y) ..)]
  unfold kernelRun0_A
  dsimp only
  sl_unfold_words
  rw [View.canon_unit_zero zero2]
  simp only [View.readAt_eq_ld, (hs0_0 t).read_unread, (hs0_1 t).read_unread, (hs0_2 t).read_unread, (hs0_3 t).read_unread, (hs0_4 t).read_unread,
    (hs0_5 t).read_unread, View.ld_unit_zero (S := S1x2048x1024) zero3, View.ld_unit_zero (S := S768x2048) zero2, View.ld_unit_zero (S := S768x1024) zero2,
    View.readCov_unit_zero (S := S2048x1024) _ zero2]
  rfl

theorem later_out (c : Dev nD) (n : ℕ) (hn : n + 1 < cfg0.N) (h0 : ¬(n + 1) % 11 = 0) :
    (outsAt0 m c (n + 1) hn).1 = left m c ⟨n + 1, hn⟩ (outsAt0 m c n (Nat.lt_of_succ_lt hn)).2.1 (outsAt0 m c n (Nat.lt_of_succ_lt hn)).2.2 := by
  refine (congrArg Prod.fst (outsAt0_B m c ⟨n + 1, hn⟩ h0)).trans ?_
  dsimp only
  unfold out0_B_6
  rw [View.read_writes_eq_canon _ _ _ (fun y => cover0_B_6 (y := y) ..)]
  unfold kernelRun0_B
  dsimp only
  rw [View.canon_unit_zero zero2]
  simp only [View.readAt_eq_ld, (hs0_0 ⟨n + 1, hn⟩).read_unread, (hs0_3 ⟨n + 1, hn⟩).read_unread, (hs0_4 ⟨n + 1, hn⟩).read_unread,
    (hs0_5 ⟨n + 1, hn⟩).read_unread, View.ld_unit_zero (S := S768x2048) zero2, View.ld_unit_zero (S := S768x1024) zero2,
    View.ld_unit_zero (S := S2048x1024) zero2, (Memref.isWhole_whole _).read_unread]
  rfl

theorem later1 (c : Dev nD) (n : ℕ) (hn : n + 1 < cfg0.N) (h0 : ¬(n + 1) % 11 = 0) :
    (outsAt0 m c (n + 1) hn).2.1 = (outsAt0 m c n (Nat.lt_of_succ_lt hn)).2.1 := by
  refine (congrArg (fun o => o.2.1) (outsAt0_B m c ⟨n + 1, hn⟩ h0)).trans ?_
  rfl

theorem later2 (c : Dev nD) (n : ℕ) (hn : n + 1 < cfg0.N) (h0 : ¬(n + 1) % 11 = 0) :
    (outsAt0 m c (n + 1) hn).2.2 = (outsAt0 m c n (Nat.lt_of_succ_lt hn)).2.2 := by
  refine (congrArg (fun o => o.2.2) (outsAt0_B m c ⟨n + 1, hn⟩ h0)).trans ?_
  rfl

/-! ## The blocks at an element -/

/-- The windows' blocks at a point. -/
theorem idx_facts : ∀ t : Fin cfg0.N,
    (win0_0.index t (0 : Fin 2) = t.val % 11 ∧ win0_0.index t (1 : Fin 2) = 0)
    ∧ (win0_1.index t (0 : Fin 3) = 0 ∧ win0_1.index t (1 : Fin 3) = 0 ∧ win0_1.index t (2 : Fin 3) = t.val / 11)
    ∧ (win0_2.index t (0 : Fin 3) = 0 ∧ win0_2.index t (1 : Fin 3) = 1 ∧ win0_2.index t (2 : Fin 3) = t.val / 11)
    ∧ (win0_3.index t (0 : Fin 2) = t.val % 11 ∧ win0_3.index t (1 : Fin 2) = 1)
    ∧ (win0_4.index t (0 : Fin 2) = t.val % 11 ∧ win0_4.index t (1 : Fin 2) = t.val / 11)
    ∧ (win0_5.index t (0 : Fin 2) = 0 ∧ win0_5.index t (1 : Fin 2) = 8 + t.val / 11)
    ∧ (win0_6.index t (0 : Fin 2) = t.val % 11 ∧ win0_6.index t (1 : Fin 2) = t.val / 11)
    ∧ (grid0.coords t 1).val = t.val % 11 :=
  (by decide +kernel : ∀ t : Fin grid0.N, _)

theorem quot (t : Fin cfg0.N) : t.val / 11 < 4 := by
  have := lt_of_lt_of_eq t.isLt (show cfg0.N = 44 from N_0); omega

abbrev rowAt (t : Fin cfg0.N) (p : Fin 768) : Fin 8448 := ⟨t.val % 11 * 768 + p.val, by omega⟩
abbrev colAt (t : Fin cfg0.N) (q : Fin 1024) : Fin 4096 := ⟨t.val / 11 * 1024 + q.val, by have := quot t; omega⟩

abbrev A (c : Dev nD) : S8448x4096.Idx → EReal := m ((c : Thread nD τ).loc main_arg0)
abbrev W (c : Dev nD) : S2x4096x4096.Idx → EReal := m ((c : Thread nD τ).loc main_arg1)
abbrev X (c : Dev nD) : S8448x4096.Idx → EReal := m ((c : Thread nD τ).loc main_arg2)
abbrev G (c : Dev nD) : S8x12288.Idx → EReal := m ((c : Thread nD τ).loc main_arg3)

theorem a1_at (c : Dev nD) (t : Fin cfg0.N) (p : Fin 768) (k : Fin 2048) :
    iblk m c 0 t (ix2 p k) = A m c (ix2 (rowAt t p) ⟨k.val, by omega⟩) := by
  obtain ⟨⟨e0, e1⟩, -⟩ := idx_facts t
  refine congrArg (A m c) (funext fun a => Fin.ext ?_)
  match a with
  | ⟨0, _⟩ => show win0_0.index t (0 : Fin 2) * 768 + 1 * p.val = t.val % 11 * 768 + p.val; rw [e0]; omega
  | ⟨1, _⟩ => show win0_0.index t (1 : Fin 2) * 2048 + 1 * k.val = k.val; rw [e1]; omega

theorem a2_at (c : Dev nD) (t : Fin cfg0.N) (p : Fin 768) (k : Fin 2048) :
    iblk m c 3 t (ix2 p k) = A m c (ix2 (rowAt t p) ⟨2048 + k.val, by omega⟩) := by
  obtain ⟨-, -, -, ⟨e0, e1⟩, -⟩ := idx_facts t
  refine congrArg (A m c) (funext fun a => Fin.ext ?_)
  match a with
  | ⟨0, _⟩ => show win0_3.index t (0 : Fin 2) * 768 + 1 * p.val = t.val % 11 * 768 + p.val; rw [e0]; omega
  | ⟨1, _⟩ => show win0_3.index t (1 : Fin 2) * 2048 + 1 * k.val = 2048 + k.val; rw [e1]; omega

theorem x_at (c : Dev nD) (t : Fin cfg0.N) (p : Fin 768) (q : Fin 1024) :
    iblk m c 4 t (ix2 p q) = X m c (ix2 (rowAt t p) (colAt t q)) := by
  obtain ⟨-, -, -, -, ⟨e0, e1⟩, -⟩ := idx_facts t
  refine congrArg (X m c) (funext fun a => Fin.ext ?_)
  match a with
  | ⟨0, _⟩ => show win0_4.index t (0 : Fin 2) * 768 + 1 * p.val = t.val % 11 * 768 + p.val; rw [e0]; omega
  | ⟨1, _⟩ => show win0_4.index t (1 : Fin 2) * 1024 + 1 * q.val = t.val / 11 * 1024 + q.val; rw [e1]; omega

theorem w1_at (c : Dev nD) (t : Fin cfg0.N) (k : Fin 2048) (q : Fin 1024) :
    k0_pay1 (F := Ideal) (iblk m c 1 t) (ix2 k q) = W m c (ix3 0 ⟨k.val, by omega⟩ (colAt t q)) := by
  obtain ⟨-, ⟨e0, e1, e2⟩, -⟩ := idx_facts t
  refine (half_apply (iblk m c 1 t) k q).trans (congrArg (W m c) (funext fun a => Fin.ext ?_))
  match a with
  | ⟨0, _⟩ => show win0_1.index t (0 : Fin 3) * 1 + 1 * 0 = 0; rw [e0]
  | ⟨1, _⟩ => show win0_1.index t (1 : Fin 3) * 2048 + 1 * k.val = k.val; rw [e1]; omega
  | ⟨2, _⟩ => show win0_1.index t (2 : Fin 3) * 1024 + 1 * q.val = t.val / 11 * 1024 + q.val; rw [e2]; omega

theorem w2_at (c : Dev nD) (t : Fin cfg0.N) (k : Fin 2048) (q : Fin 1024) :
    k0_pay2 (F := Ideal) (iblk m c 2 t) (ix2 k q) = W m c (ix3 0 ⟨2048 + k.val, by omega⟩ (colAt t q)) := by
  obtain ⟨-, -, ⟨e0, e1, e2⟩, -⟩ := idx_facts t
  refine (half_apply (iblk m c 2 t) k q).trans (congrArg (W m c) (funext fun a => Fin.ext ?_))
  match a with
  | ⟨0, _⟩ => show win0_2.index t (0 : Fin 3) * 1 + 1 * 0 = 0; rw [e0]
  | ⟨1, _⟩ => show win0_2.index t (1 : Fin 3) * 2048 + 1 * k.val = 2048 + k.val; rw [e1]; omega
  | ⟨2, _⟩ => show win0_2.index t (2 : Fin 3) * 1024 + 1 * q.val = t.val / 11 * 1024 + q.val; rw [e2]; omega

theorem gate0_at (c : Dev nD) (t : Fin cfg0.N) (q : Fin 1024) :
    gate0 (iblk m c 5 t) (ix2 0 q) = G m c (ix2 0 ⟨8192 + (colAt t q).val, by have := (colAt t q).isLt; omega⟩) := by
  obtain ⟨-, -, -, -, -, ⟨e0, e1⟩, -⟩ := idx_facts t
  refine congrArg (G m c) (funext fun a => Fin.ext ?_)
  match a with
  | ⟨0, _⟩ => show win0_5.index t (0 : Fin 2) * 8 + 1 * (0 + 1 * 0) = 0; rw [e0]
  | ⟨1, _⟩ => show win0_5.index t (1 : Fin 2) * 1024 + 1 * (0 + 1 * q.val) = 8192 + (t.val / 11 * 1024 + q.val); rw [e1]; omega

theorem gate1_at (c : Dev nD) (t : Fin cfg0.N) (q : Fin 1024) :
    gate1 (iblk m c 5 t) (ix2 0 q) = G m c (ix2 1 ⟨8192 + (colAt t q).val, by have := (colAt t q).isLt; omega⟩) := by
  obtain ⟨-, -, -, -, -, ⟨e0, e1⟩, -⟩ := idx_facts t
  refine congrArg (G m c) (funext fun a => Fin.ext ?_)
  match a with
  | ⟨0, _⟩ => show win0_5.index t (0 : Fin 2) * 8 + 1 * (1 + 1 * 0) = 1; rw [e0]
  | ⟨1, _⟩ => show win0_5.index t (1 : Fin 2) * 1024 + 1 * (0 + 1 * q.val) = 8192 + (t.val / 11 * 1024 + q.val); rw [e1]; omega

/-! ## The result -/

/-- The kept copies, after any point, are the halves of the point's column block. -/
theorem kept (c : Dev nD) : ∀ (n : ℕ) (hn : n < cfg0.N) (k : Fin 2048) (q : Fin 1024),
    (outsAt0 m c n hn).2.1 (ix2 k q) = W m c (ix3 0 ⟨k.val, by omega⟩ (colAt ⟨n, hn⟩ q))
    ∧ (outsAt0 m c n hn).2.2 (ix2 k q) = W m c (ix3 0 ⟨2048 + k.val, by omega⟩ (colAt ⟨n, hn⟩ q))
  | 0, hn, k, q => ⟨(congrFun (first1 m c ⟨0, hn⟩ rfl) (ix2 k q)).trans (w1_at m c ⟨0, hn⟩ k q),
      (congrFun (first2 m c ⟨0, hn⟩ rfl) (ix2 k q)).trans (w2_at m c ⟨0, hn⟩ k q)⟩
  | n + 1, hn, k, q => by
    by_cases h0 : (n + 1) % 11 = 0
    · exact ⟨(congrFun (first1 m c ⟨n + 1, hn⟩ h0) (ix2 k q)).trans (w1_at m c ⟨n + 1, hn⟩ k q),
        (congrFun (first2 m c ⟨n + 1, hn⟩ h0) (ix2 k q)).trans (w2_at m c ⟨n + 1, hn⟩ k q)⟩
    · obtain ⟨h1, h2⟩ := kept c n (Nat.lt_of_succ_lt hn) k q
      have e : colAt ⟨n, Nat.lt_of_succ_lt hn⟩ q = colAt ⟨n + 1, hn⟩ q := Fin.ext (show n / 11 * 1024 + q.val = (n + 1) / 11 * 1024 + q.val by omega)
      rw [e] at h1 h2
      exact ⟨(congrFun (later1 m c n hn h0) (ix2 k q)).trans h1, (congrFun (later2 m c n hn h0) (ix2 k q)).trans h2⟩

/-- The result at a row and a column: a latent row takes the first row of the gates, a context row the second. -/
def res (a : S8448x4096.Idx → EReal) (w : S2x4096x4096.Idx → EReal) (x : S8448x4096.Idx → EReal) (g : S8x12288.Idx → EReal)
    (p : Fin 8448) (q : Fin 4096) : EReal :=
  elem (fun k => a (ix2 p ⟨k.val, by omega⟩)) (fun k => w (ix3 0 ⟨k.val, by omega⟩ q)) (fun k => a (ix2 p ⟨2048 + k.val, by omega⟩)) (fun k => w (ix3 0 ⟨2048 + k.val, by omega⟩ q))
    (x (ix2 p q)) (if 8192 ≤ p.val then g (ix2 1 ⟨8192 + q.val, by omega⟩) else g (ix2 0 ⟨8192 + q.val, by omega⟩))

/-- The result. -/
def out (a : S8448x4096.Idx → EReal) (w : S2x4096x4096.Idx → EReal) (x : S8448x4096.Idx → EReal) (g : S8x12288.Idx → EReal) : S8448x4096.Idx → EReal :=
  fun i => res a w x g ⟨(i 0).val, (i 0).isLt⟩ ⟨(i 1).val, (i 1).isLt⟩

theorem left_at (c : Dev nD) (t : Fin cfg0.N) (w1 w2 : Vec Ideal S2048x1024 .bf16) (p : Fin 768) (q : Fin 1024)
    (h1 : ∀ k : Fin 2048, w1 (ix2 k q) = W m c (ix3 0 ⟨k.val, by omega⟩ (colAt t q)))
    (h2 : ∀ k : Fin 2048, w2 (ix2 k q) = W m c (ix3 0 ⟨2048 + k.val, by omega⟩ (colAt t q))) :
    left m c t w1 w2 (ix2 p q) = res (A m c) (W m c) (X m c) (G m c) (rowAt t p) (colAt t q) := by
  obtain ⟨-, -, -, -, -, -, -, e⟩ := idx_facts t
  refine (pay768 _ _ _ _ _ _ _ _ p q).trans ?_
  rw [e, gate0_at, gate1_at, x_at, funext h1, funext h2, funext (a1_at m c t p), funext (a2_at m c t p)]
  rfl

/-- What any point leaves, at an element. -/
theorem point_at (c : Dev nD) : ∀ (n : ℕ) (hn : n < cfg0.N) (p : Fin 768) (q : Fin 1024),
    (outsAt0 m c n hn).1 (ix2 p q) = res (A m c) (W m c) (X m c) (G m c) (rowAt ⟨n, hn⟩ p) (colAt ⟨n, hn⟩ q)
  | 0, hn, p, q => (congrFun (first_out m c ⟨0, hn⟩ rfl) (ix2 p q)).trans (left_at m c ⟨0, hn⟩ _ _ p q (fun k => w1_at m c _ k q) (fun k => w2_at m c _ k q))
  | n + 1, hn, p, q => by
    by_cases h0 : (n + 1) % 11 = 0
    · exact (congrFun (first_out m c ⟨n + 1, hn⟩ h0) (ix2 p q)).trans (left_at m c ⟨n + 1, hn⟩ _ _ p q (fun k => w1_at m c _ k q) (fun k => w2_at m c _ k q))
    · have e : colAt ⟨n, Nat.lt_of_succ_lt hn⟩ q = colAt ⟨n + 1, hn⟩ q := Fin.ext (show n / 11 * 1024 + q.val = (n + 1) / 11 * 1024 + q.val by omega)
      exact (congrFun (later_out m c n hn h0) (ix2 p q)).trans (left_at m c ⟨n + 1, hn⟩ _ _ p q
        (fun k => e ▸ (kept m c n (Nat.lt_of_succ_lt hn) k q).1) (fun k => e ▸ (kept m c n (Nat.lt_of_succ_lt hn) k q).2))

theorem flushed_eq (c : Dev nD) (t : Fin cfg0.N) :
    (dats m 0 c).flushed 6 t = ((cfg0.win 6).blk t).view.read (Elt Ideal) (out (A m c) (W m c) (X m c) (G m c)) := by
  obtain ⟨-, -, -, -, -, -, ⟨e0, e1⟩, -⟩ := idx_facts t
  rw [Value.flushed6]
  funext y
  have hy0 : (y 0).val < 768 := (y 0).isLt
  have hy1 : (y 1).val < 1024 := (y 1).isLt
  refine (show _ = (outsAt0 m c t.val t.isLt).1 (ix2 ⟨(y 0).val, hy0⟩ ⟨(y 1).val, hy1⟩) from
    congrArg (outsAt0 m c t.val t.isLt).1 (funext fun a => by match a with | ⟨0, _⟩ => rfl | ⟨1, _⟩ => rfl)).trans ?_
  refine (point_at m c t.val t.isLt _ _).trans ?_
  refine congrArg₂ (res (A m c) (W m c) (X m c) (G m c)) (Fin.ext ?_) (Fin.ext ?_)
  · show t.val % 11 * 768 + (y 0).val = win0_6.index t (0 : Fin 2) * 768 + 1 * (y 0).val
    rw [e0]; omega
  · show t.val / 11 * 1024 + (y 1).val = win0_6.index t (1 : Fin 2) * 1024 + 1 * (y 1).val
    rw [e1]; omega

theorem final (c : Dev nD) : (dats m 0 c).arrAt 6 cfg0.N = out (A m c) (W m c) (X m c) (G m c) :=
  (dats m 0 c).arrAt_eq_of_cover 6 _ (fun t _ => flushed_eq m c t) fun i => (Value.covered_iff6 i).2
    ⟨Nat.zero_le _, (i 0).isLt, Nat.zero_le _, (i 1).isLt⟩

/-! ## The reference -/

section Ref
open Cert.Reference6Ideal.Read
variable (a : (⟨S8448x4096, .bf16⟩ : BufTy).Contents (Elt Ideal)) (w : (⟨S2x4096x4096, .f32⟩ : BufTy).Contents (Elt Ideal))
  (x : (⟨S8448x4096, .f32⟩ : BufTy).Contents (Elt Ideal)) (g : (⟨S8x12288, .f32⟩ : BufTy).Contents (Elt Ideal))

theorem dot_at (p : Fin 8448) (q : Fin 4096) : val_main_v3 (F := Ideal) a w (ix2 p q)
    = ∑ k : Fin 2048, (a (ix2 p ⟨k.val, by omega⟩) * w (ix3 0 ⟨k.val, by omega⟩ q) : EReal)
      + ∑ k : Fin 2048, (a (ix2 p ⟨2048 + k.val, by omega⟩) * w (ix3 0 ⟨2048 + k.val, by omega⟩ q) : EReal) := by
  have e : val_main_v3 (F := Ideal) a w (ix2 p q) = ∑ k : Fin 4096, (a (ix2 p k) * w (ix3 0 k q) : EReal) := by
    refine (val_main_v3_apply a w (ix2 p q)).trans (Finset.sum_congr rfl fun k _ => ?_)
    have hk := k.isLt
    have hq := q.isLt
    rw [val_main_v0_apply, val_main_v2_apply, val_main_v1_apply]
    refine congrArg₂ (fun a b : EReal => a * b) (congrArg a (funext fun a => ?_)) (congrArg w (funext fun a => ?_))
    · match a with | ⟨0, _⟩ => rfl | ⟨1, _⟩ => rfl
    · match a with
      | ⟨0, _⟩ => rfl
      | ⟨1, _⟩ => exact Fin.ext (show (k.val * 4096 + q.val) / 4096 % 4096 = k.val by omega)
      | ⟨2, _⟩ => exact Fin.ext (show (k.val * 4096 + q.val) % 4096 = q.val by omega)
  exact e.trans (sum_halves _)

theorem ref_lat (p : Fin 8192) (q : Fin 4096) : val_main_v11 (F := Ideal) a w x g (ix2 p q) = res a w x g ⟨p.val, by omega⟩ q := by
  have hx : val_main_v4 (F := Ideal) x (ix2 p q) = x (ix2 ⟨p.val, by omega⟩ q) :=
    (val_main_v4_apply x (ix2 p q)).trans (congrArg x (funext fun a => by match a with | ⟨0, _⟩ => rfl | ⟨1, _⟩ => rfl))
  have hg : val_main_v9 (F := Ideal) g (ix2 p q) = g (ix2 0 ⟨8192 + q.val, by omega⟩) := by
    rw [val_main_v9_apply, val_main_v7_apply, val_main_v6_apply, val_main_v5_apply]
    refine congrArg g (funext fun a => ?_)
    match a with
    | ⟨0, _⟩ => rfl
    | ⟨1, _⟩ => exact Fin.ext (show 8192 + q.val % 4096 = 8192 + q.val by have := q.isLt; omega)
  have hd : val_main_v8 (F := Ideal) a w (ix2 p q) = val_main_v3 (F := Ideal) a w (ix2 ⟨p.val, by omega⟩ q) :=
    (val_main_v8_apply a w (ix2 p q)).trans (congrArg (val_main_v3 (F := Ideal) a w) (funext fun a => by match a with | ⟨0, _⟩ => rfl | ⟨1, _⟩ => rfl))
  unfold res elem
  rw [val_main_v11_apply, val_main_v10_apply, hx, hg, hd, dot_at, if_neg (by have := p.isLt; show ¬8192 ≤ p.val; omega)]
  rfl

theorem ref_ctx (p : Fin 256) (q : Fin 4096) : val_main_v19 (F := Ideal) a w x g (ix2 p q) = res a w x g ⟨8192 + p.val, by omega⟩ q := by
  have hx : val_main_v12 (F := Ideal) x (ix2 p q) = x (ix2 ⟨8192 + p.val, by omega⟩ q) :=
    (val_main_v12_apply x (ix2 p q)).trans (congrArg x (funext fun a => by match a with | ⟨0, _⟩ => rfl | ⟨1, _⟩ => rfl))
  have hg : val_main_v17 (F := Ideal) g (ix2 p q) = g (ix2 1 ⟨8192 + q.val, by omega⟩) := by
    rw [val_main_v17_apply, val_main_v15_apply, val_main_v14_apply, val_main_v13_apply]
    refine congrArg g (funext fun a => ?_)
    match a with
    | ⟨0, _⟩ => rfl
    | ⟨1, _⟩ => exact Fin.ext (show 8192 + q.val % 4096 = 8192 + q.val by have := q.isLt; omega)
  have hd : val_main_v16 (F := Ideal) a w (ix2 p q) = val_main_v3 (F := Ideal) a w (ix2 ⟨8192 + p.val, by omega⟩ q) :=
    (val_main_v16_apply a w (ix2 p q)).trans (congrArg (val_main_v3 (F := Ideal) a w) (funext fun a => by match a with | ⟨0, _⟩ => rfl | ⟨1, _⟩ => rfl))
  unfold res elem
  rw [val_main_v19_apply, val_main_v18_apply, hx, hg, hd, dot_at, if_pos (by show 8192 ≤ 8192 + p.val; omega)]
  rfl

/-- The reference's result. -/
theorem ref_eq : val_main_v20 (F := Ideal) a w x g = out a w x g := by
  funext i
  refine (show _ = val_main_v20 (F := Ideal) a w x g (ix2 ⟨(i 0).val, (i 0).isLt⟩ ⟨(i 1).val, (i 1).isLt⟩) from
    congrArg (val_main_v20 (F := Ideal) a w x g) (funext fun a => by match a with | ⟨0, _⟩ => rfl | ⟨1, _⟩ => rfl)).trans ?_
  show _ = res a w x g ⟨(i 0).val, (i 0).isLt⟩ ⟨(i 1).val, (i 1).isLt⟩
  refine (Norm.rows_apply _ _ _ _ _).trans ?_
  by_cases hp : (i 0).val < 8192
  · rw [dif_pos hp, ref_lat]
  · rw [dif_neg hp, ref_ctx]
    exact congrArg (fun p => res a w x g p _) (Fin.ext (show 8192 + ((i 0).val - 8192) = (i 0).val by omega))

end Ref

end Cert.Proof.Out6

end
-- ==== Proof.Mods8.lean ====
/-
  The modulation's own projection: eight vectors of which the host sets the first two, passed through the gate `x σ(x)` and
  multiplied into every layer's weights, the layer's bias added. The reference lays the same eight vectors one above the
  other; both results are one function of the arguments.
-/
module

public import proofs.«01_k».proof.Proof.InProj
public import proofs.«01_k».proof.Proof.Gen.Kernel8Ideal.Value
public import proofs.«01_k».proof.Proof.Gen.Reference8Ideal.Read
public import Idealize.ShloMosaic.Lib.Routing.OpsSet
public import Idealize.ShloMosaic.Lib.ValueLayout
public import Idealize.ShloMosaic.Lib.Tactic

@[expose] public section

set_option maxRecDepth 16384
set_option backward.proofsInPublic true

noncomputable section

namespace Cert.Proof.Mods8

open Cert.Kernel8Ideal Cert.Kernel8Ideal.Gen Cert.Proof.InProj
open Idealize.ShloMosaic Idealize.ShloMosaic.TcCoe Idealize.ShloMosaic.ValueIdx Idealize.SL.Sem

/-! ## One row set in an array -/

section SetRow
open Idealize.ShloMosaic.Routing

/-- Where an element of the update lands: in the row that the index word names, in its own column. -/
theorem lands_row {R C : Nat} (d : ScatterDims ⟨2, ![R, C]⟩ ⟨1, ![1]⟩ ⟨1, ![C]⟩) (hiw : d.insertedWindowDims = [0])
    (hsd : d.scatterDimsToOperandDims = [0]) (idx : IVec ⟨1, ![1]⟩ 32) (k : Fin R) (hidx : (idx (ix1 0)).toInt = (k.val : Int))
    (c' c : Fin C) (r : Fin R) : d.resultIdx? (ix1 c') idx = some (ix2 r c) ↔ r = k ∧ c' = c := by
  have hm : (0 : Fin 2) ∈ d.scatterDimsToOperandDims := by rw [hsd]; exact List.mem_singleton.2 rfl
  have hkept : d.sKept = [1] := by
    show Shape.kept ⟨2, ![R, C]⟩ d.insertedWindowDims = _
    rw [hiw]
    rfl
  have hwin0 : d.window (ix1 c') 0 = 0 := by
    unfold ScatterDims.window
    rw [dif_neg fun h => (of_decide_eq_true (List.mem_filter.1 h).2) (by rw [hiw]; exact List.mem_singleton.2 rfl)]
  have hwin1 : d.window (ix1 c') 1 = c'.val := by
    unfold ScatterDims.window
    rw [dif_pos (by rw [hkept]; exact List.mem_singleton.2 rfl)]
    have q : ∀ X : Fin 1, (ix1 c' X).val = c'.val := fun X => by
      obtain rfl : X = 0 := Subsingleton.elim _ _
      rfl
    exact q _
  have hstart1 : d.start (ix1 c') idx 1 = 0 := by
    unfold ScatterDims.start
    rw [dif_neg fun h => by rw [hsd] at h; exact absurd (List.mem_singleton.1 h) (by decide : (1 : Fin 2) ≠ 0)]
  have hstart0 : d.start (ix1 c') idx 0 = (k.val : Int) := by
    unfold ScatterDims.start
    rw [dif_pos hm]
    have hsi : d.siIdx (ix1 c') ⟨d.scatterDimsToOperandDims.idxOf 0, List.idxOf_lt_length_iff.2 hm⟩ = ix1 (0 : Fin 1) := by
      funext b'
      match b' with
      | ⟨0, _⟩ => exact Subsingleton.elim (α := Fin 1) _ _
    rw [hsi, hidx]
  rw [Fin.ext_iff, Fin.ext_iff, resultIdx?_ix2, hstart0, hwin0, hstart1, hwin1]
  omega

/-- An array with row `k` set, at an element. -/
theorem set_row {α : Type} {R C : Nat} (d : ScatterDims ⟨2, ![R, C]⟩ ⟨1, ![1]⟩ ⟨1, ![C]⟩) (hiw : d.insertedWindowDims = [0])
    (hsd : d.scatterDimsToOperandDims = [0]) (x0 : Shape.Idx ⟨2, ![R, C]⟩ → α) (idx : IVec ⟨1, ![1]⟩ 32) (upd : Shape.Idx ⟨1, ![C]⟩ → α)
    (k : Fin R) (hidx : (idx (ix1 0)).toInt = (k.val : Int)) (r : Fin R) (c : Fin C) :
    Host.scatter d (fun _ b => b) x0 idx upd (ix2 r c) = if r = k then upd (ix1 c) else x0 (ix2 r c) := by
  have lands : ∀ j : Shape.Idx ⟨1, ![C]⟩, d.resultIdx? j idx = some (ix2 r c) → r = k ∧ j 0 = c := fun j hj =>
    (lands_row d hiw hsd idx k hidx (j 0) c r).1 ((congrArg (fun t => d.resultIdx? t idx) (eq_ix1 j).symm).trans hj)
  by_cases h : r = k
  · rw [if_pos h]
    exact scatter_set_hit d x0 idx upd _ _ (fun j hj => (congrArg upd (eq_ix1 j)).trans (congrArg (fun t => upd (ix1 t)) (lands j hj).2)) (ix1 c)
      ((lands_row d hiw hsd idx k hidx c c r).2 ⟨h, rfl⟩)
  · rw [if_neg h]
    exact scatter_set_miss d x0 idx upd _ fun j hj => h (lands j hj).1

end SetRow

/-! ## The result -/

/-- The eight vectors: the latent's, the context's, and six of zeros. -/
def vecs (x0 : S1x4096.Idx → EReal) (x1 : S4096.Idx → EReal) (r : Fin 8) (k : Fin 4096) : EReal :=
  if r = 1 then x1 (ix1 k) else if r = 0 then x0 (ix2 0 k) else Ideal.ofBits .f32 0x00000000#32

/-- The result at a layer, a vector and a column. -/
def mods (x0 : S1x4096.Idx → EReal) (x1 : S4096.Idx → EReal) (w : S4x4096x12288.Idx → EReal) (b : S4x12288.Idx → EReal)
    (l : Fin 4) (r : Fin 8) (n : Fin 12288) : EReal :=
  (∑ k : Fin 4096, vecs x0 x1 r k * Ideal.logistic (vecs x0 x1 r k) * w (ix3 l k n)) + b (ix2 l n)

def out (x0 : S1x4096.Idx → EReal) (x1 : S4096.Idx → EReal) (w : S4x4096x12288.Idx → EReal) (b : S4x12288.Idx → EReal) : S4x8x12288.Idx → EReal :=
  fun i => mods x0 x1 w b ⟨(i 0).val, (i 0).isLt⟩ ⟨(i 1).val, (i 1).isLt⟩ ⟨(i 2).val, (i 2).isLt⟩

/-- The body's payload at an element. -/
theorem pay_apply (s : Vec Ideal S8x4096 .f32) (w : Vec Ideal S1x4096x512 .f32) (b : Vec Ideal S1x1x512 .f32) (p : Fin 8) (q : Fin 512) :
    k0_pay1 (F := Ideal) s w b (ix3 0 p q)
      = (∑ k : Fin 4096, (s (ix2 p k) * Ideal.logistic (s (ix2 p k)) * w (ix3 0 k q) : EReal)) + b (ix3 0 0 q) := by
  have hw : ∀ k : Fin 4096, shapeCast S4096x512 w shapeCasts_S1x4096x512_S4096x512 (ix2 k q) = w (ix3 0 k q) := fun k =>
    (shapeCast_dropUnit_apply ![4096, 512] w shapeCasts_S1x4096x512_S4096x512 (ix2 k q)).trans
      (congrArg w (funext fun a => by match a with | ⟨0, _⟩ => rfl | ⟨1, _⟩ => rfl | ⟨2, _⟩ => rfl))
  have hb : broadcastTo S8x512 (shapeCast S1x512 b shapeCasts_S1x1x512_S1x512) broadcasts_S1x512_S8x512 (ix2 p q) = b (ix3 0 0 q) :=
    (broadcastTo_1b_ab_apply (a := 8) (b := 512) _ _ p q).trans ((shapeCast_dropUnit_apply ![1, 512] b shapeCasts_S1x1x512_S1x512 (ix2 0 q)).trans
      (congrArg b (funext fun a => by match a with | ⟨0, _⟩ => rfl | ⟨1, _⟩ => rfl | ⟨2, _⟩ => rfl)))
  unfold k0_pay1
  refine (shapeCast_ab_1ab_apply (a := 8) (b := 512) _ shapeCasts_S8x512_S1x8x512 0 p q).trans ?_
  rw [shapeCast_self]
  refine congrArg₂ (fun a b : EReal => a + b) ?_ hb
  refine (plain_zero (M := 8) (K := 4096) (N := 512) (truncf .bf16 (mulf s (logistic s)) bitsLt_bf16_f32)
    (truncf .bf16 (shapeCast S4096x512 w shapeCasts_S1x4096x512_S4096x512) bitsLt_bf16_f32) p q).trans ?_
  exact Finset.sum_congr rfl fun k _ => congrArg (s (ix2 p k) * Ideal.logistic (s (ix2 p k)) * · : EReal → EReal) (hw k)

/-! ## The arrays that the host prepares -/

variable (m : (ℓ : Loc nD τ sig) → Buf (Elt Ideal) ℓ) (ρ : Dev nD → PrngReg)

abbrev X0 (c : Dev nD) : S1x4096.Idx → EReal := m ((c : Thread nD τ).loc main_arg0)
abbrev X1 (c : Dev nD) : S4096.Idx → EReal := m ((c : Thread nD τ).loc main_arg1)
abbrev W (c : Dev nD) : S4x4096x12288.Idx → EReal := m ((c : Thread nD τ).loc main_arg2)
abbrev B (c : Dev nD) : S4x12288.Idx → EReal := m ((c : Thread nD τ).loc main_arg3)

def zeros : (⟨S8x4096, .f32⟩ : BufTy).Contents (Elt Ideal) := broadcastInDim S8x4096 ![] bcast_S_S8x4096 (constant (F := Ideal) S_ .f32 0x00000000#32)
def word (v : BitVec 32) : (⟨S1, .i32⟩ : BufTy).Contents (Elt Ideal) := broadcastInDim S1 ![] bcast_S_S1 (constantI S_ 32 v)
def first (x0 : (⟨S1x4096, .f32⟩ : BufTy).Contents (Elt Ideal)) : (⟨S8x4096, .f32⟩ : BufTy).Contents (Elt Ideal) :=
  Host.scatter scatter_S8x4096_S1_S4096_0_0_0_0 (fun _ b => b) zeros (word 0#32) (shapeCast S4096 x0 shapeCasts_S1x4096_S4096)

theorem V_vecs (c : Dev nD) : V m c main_v5
    = Host.scatter scatter_S8x4096_S1_S4096_0_0_0_0 (fun _ b => b) (first (X0 m c)) (word 1#32) (X1 m c) := by
  unfold V first zeros word
  simp only [hostOps0]
  after_results_simp <;> rfl

theorem V_bias (c : Dev nD) : V m c main_v6 = shapeCast S4x1x12288 (B m c) shapeCasts_S4x12288_S4x1x12288 := by
  unfold V
  simp only [hostOps0]
  after_results_simp <;> rfl

theorem V_w (c : Dev nD) : V m c main_arg2 = W m c := by
  unfold V
  simp only [hostOps0]
  after_results_simp <;> rfl

theorem word_at (v : BitVec 32) : word v (ix1 0) = v :=
  broadcastInDim_apply _ bcast_S_S1 (constantI S_ 32 v) (ix1 0) (fun a => a.elim0) (fun a => a.elim0)

theorem vecs_at (c : Dev nD) (r : Fin 8) (k : Fin 4096) : V m c main_v5 (ix2 r k) = vecs (X0 m c) (X1 m c) r k := by
  refine (congrFun (V_vecs m c) (ix2 r k)).trans ?_
  refine (set_row scatter_S8x4096_S1_S4096_0_0_0_0 rfl rfl _ (word 1#32) _ 1 (by rw [word_at]; decide) r k).trans ?_
  refine if_congr Iff.rfl rfl ?_
  refine (set_row scatter_S8x4096_S1_S4096_0_0_0_0 rfl rfl _ (word 0#32) _ 0 (by rw [word_at]; decide) r k).trans ?_
  refine if_congr Iff.rfl ?_ ?_
  · exact (shapeCast_dropUnit_apply ![4096] (X0 m c) shapeCasts_S1x4096_S4096 (ix1 k)).trans
      (congrArg (X0 m c) (funext fun a => by match a with | ⟨0, _⟩ => rfl | ⟨1, _⟩ => rfl))
  · exact broadcastInDim_apply _ bcast_S_S8x4096 (constant (F := Ideal) S_ .f32 0x00000000#32) (ix2 r k) (fun a => a.elim0) (fun a => a.elim0)

theorem bias_at (c : Dev nD) (l : Fin 4) (n : Fin 12288) : V m c main_v6 (ix3 l 0 n) = B m c (ix2 l n) := by
  refine (congrFun (V_bias m c) _).trans (shapeCast_apply _ _ _ (ix2 l n) ?_)
  rw [Shape.rowMajor_val_three, Shape.rowMajor_val_two]
  show l.val * 12288 + n.val = (l.val * 1 + 0) * 12288 + n.val
  omega

/-! ## The grid -/

theorem idx_facts : ∀ t : Fin cfg0.N, win0_0.index t (0 : Fin 2) = 0 ∧ win0_0.index t (1 : Fin 2) = 0
    ∧ win0_1.index t (0 : Fin 3) = win0_3.index t (0 : Fin 3) ∧ win0_1.index t (1 : Fin 3) = 0 ∧ win0_1.index t (2 : Fin 3) = win0_3.index t (2 : Fin 3)
    ∧ win0_2.index t (0 : Fin 3) = win0_3.index t (0 : Fin 3) ∧ win0_2.index t (1 : Fin 3) = 0 ∧ win0_2.index t (2 : Fin 3) = win0_3.index t (2 : Fin 3)
    ∧ win0_3.index t (1 : Fin 3) = 0 ∧ win0_3.index t (0 : Fin 3) < 4 ∧ win0_3.index t (2 : Fin 3) < 24 :=
  (by decide +kernel : ∀ t : Fin grid0.N, _)

/-- What a point writes back is its block of the result. -/
theorem flushed_eq (c : Dev nD) (t : Fin cfg0.N) :
    (dats m 0 c).flushed 3 t = ((cfg0.win 3).blk t).view.read (Elt Ideal) (out (X0 m c) (X1 m c) (W m c) (B m c)) := by
  obtain ⟨a0, a1, b0, b1, b2, c0, c1, c2, d1, l0, l2⟩ := idx_facts t
  rw [Value.flushed3]
  unfold out0_3
  rw [View.canon_unit_zero zero3, View.ld_unit_zero zero2, View.ld_unit_zero zero3, View.ld_unit_zero zero3]
  refine funext fun (y : S1x8x512.Idx) => ?_
  have hy0 : (y 0).val < 1 := (y 0).isLt
  have hy1 : (y 1).val < 8 := (y 1).isLt
  have hy2 : (y 2).val < 512 := (y 2).isLt
  have ey : y = ix3 0 ⟨(y 1).val, hy1⟩ ⟨(y 2).val, hy2⟩ := funext fun a => Fin.ext (by
    match a with
    | ⟨0, _⟩ => exact (show (y 0).val = 0 by omega)
    | ⟨1, _⟩ => rfl
    | ⟨2, _⟩ => rfl)
  refine (show _ = k0_pay1 (F := Ideal) (iblk m c 0 t) (iblk m c 1 t) (iblk m c 2 t) (ix3 0 ⟨(y 1).val, hy1⟩ ⟨(y 2).val, hy2⟩) from
    congrArg (k0_pay1 (F := Ideal) (iblk m c 0 t) (iblk m c 1 t) (iblk m c 2 t)) ey).trans ?_
  refine (pay_apply _ _ _ _ _).trans ?_
  have hv : ∀ k : Fin 4096, iblk m c 0 t (ix2 ⟨(y 1).val, hy1⟩ k) = vecs (X0 m c) (X1 m c) ⟨(y 1).val, hy1⟩ k := fun k =>
    (congrArg (V m c main_v5) (funext fun a => Fin.ext (by
      match a with
      | ⟨0, _⟩ => show win0_0.index t (0 : Fin 2) * 8 + 1 * (y 1).val = (y 1).val; rw [a0]; omega
      | ⟨1, _⟩ => show win0_0.index t (1 : Fin 2) * 4096 + 1 * k.val = k.val; rw [a1]; omega))).trans (vecs_at m c ⟨(y 1).val, hy1⟩ k)
  have hw : ∀ k : Fin 4096, iblk m c 1 t (ix3 0 k ⟨(y 2).val, hy2⟩)
      = W m c (ix3 ⟨win0_3.index t (0 : Fin 3), l0⟩ k ⟨win0_3.index t (2 : Fin 3) * 512 + (y 2).val, by omega⟩) := fun k =>
    (congrFun (V_w m c) _).trans (congrArg (W m c) (funext fun a => Fin.ext (by
      match a with
      | ⟨0, _⟩ => show win0_1.index t (0 : Fin 3) * 1 + 1 * 0 = win0_3.index t (0 : Fin 3); rw [b0]; omega
      | ⟨1, _⟩ => show win0_1.index t (1 : Fin 3) * 4096 + 1 * k.val = k.val; rw [b1]; omega
      | ⟨2, _⟩ => show win0_1.index t (2 : Fin 3) * 512 + 1 * (y 2).val = win0_3.index t (2 : Fin 3) * 512 + (y 2).val; rw [b2]; omega)))
  have hb : iblk m c 2 t (ix3 0 0 ⟨(y 2).val, hy2⟩)
      = B m c (ix2 ⟨win0_3.index t (0 : Fin 3), l0⟩ ⟨win0_3.index t (2 : Fin 3) * 512 + (y 2).val, by omega⟩) :=
    (congrArg (V m c main_v6) (funext fun a => Fin.ext (by
      match a with
      | ⟨0, _⟩ => show win0_2.index t (0 : Fin 3) * 1 + 1 * 0 = win0_3.index t (0 : Fin 3); rw [c0]; omega
      | ⟨1, _⟩ => show win0_2.index t (1 : Fin 3) * 1 + 1 * 0 = 0; rw [c1]
      | ⟨2, _⟩ => show win0_2.index t (2 : Fin 3) * 512 + 1 * (y 2).val = win0_3.index t (2 : Fin 3) * 512 + (y 2).val; rw [c2]; omega))).trans
      (bias_at m c ⟨win0_3.index t (0 : Fin 3), l0⟩ ⟨win0_3.index t (2 : Fin 3) * 512 + (y 2).val, by omega⟩)
  refine (show _ = mods (X0 m c) (X1 m c) (W m c) (B m c) ⟨win0_3.index t (0 : Fin 3), l0⟩ ⟨(y 1).val, hy1⟩
      ⟨win0_3.index t (2 : Fin 3) * 512 + (y 2).val, by omega⟩ from ?_).trans ?_
  · refine congrArg₂ (fun a b : EReal => a + b) (Finset.sum_congr rfl fun k _ => ?_) hb
    exact congrArg₂ (fun a b : EReal => a * Ideal.logistic a * b) (hv k) (hw k)
  · have e0 : (⟨win0_3.index t (0 : Fin 3), l0⟩ : Fin 4) = ⟨win0_3.index t (0 : Fin 3) * 1 + 1 * (y 0).val, by omega⟩ := Fin.ext (show win0_3.index t (0 : Fin 3) = win0_3.index t (0 : Fin 3) * 1 + 1 * (y 0).val by omega)
    have e1 : (⟨(y 1).val, hy1⟩ : Fin 8) = ⟨win0_3.index t (1 : Fin 3) * 8 + 1 * (y 1).val, by omega⟩ := Fin.ext (show (y 1).val = win0_3.index t (1 : Fin 3) * 8 + 1 * (y 1).val by omega)
    have e2 : (⟨win0_3.index t (2 : Fin 3) * 512 + (y 2).val, by omega⟩ : Fin 12288) = ⟨win0_3.index t (2 : Fin 3) * 512 + 1 * (y 2).val, by omega⟩ :=
      Fin.ext (show win0_3.index t (2 : Fin 3) * 512 + (y 2).val = win0_3.index t (2 : Fin 3) * 512 + 1 * (y 2).val by omega)
    rw [e0, e1, e2]
    rfl

/-- The point of a block. -/
abbrev pt (l : Fin 4) (j : Fin 24) : Fin grid0.N := ⟨24 * l.val + j.val, lt_of_lt_of_eq (by omega) N_0.symm⟩
theorem pt_index (l : Fin 4) (j : Fin 24) : win0_3.index (pt l j) = ![l.val, 0, j.val] :=
  (by decide +kernel : ∀ (l : Fin 4) (j : Fin 24), win0_3.index (pt l j) = ![l.val, 0, j.val]) l j

/-- Every element of the result is in some point's block. -/
theorem cover (i : S4x8x12288.Idx) : ∃ t : Fin cfg0.N, (cfg0.win 3).flush t = true ∧ i ∈ ((cfg0.win 3).blk t).view.set := by
  have h0 : (i 0).val < 4 := (i 0).isLt
  have h1 : (i 1).val < 8 := (i 1).isLt
  have h2 : (i 2).val < 12288 := (i 2).isLt
  have e := pt_index ⟨(i 0).val, h0⟩ ⟨(i 2).val / 512, by omega⟩
  have e0 := congrFun e 0
  have e1 := congrFun e 1
  have e2 := congrFun e 2
  refine ⟨pt ⟨(i 0).val, h0⟩ ⟨(i 2).val / 512, by omega⟩, flush0_3 _, ?_⟩
  rw [show ((cfg0.win 3).blk (pt ⟨(i 0).val, h0⟩ ⟨(i 2).val / 512, by omega⟩)).view.set
    = ((View.whole main_v7).slice (win0_3.rect (pt ⟨(i 0).val, h0⟩ ⟨(i 2).val / 512, by omega⟩))).set from rfl, View.set_slice_whole, Rect.mem_set_unit]
  intro a
  match a with
  | ⟨0, _⟩ =>
    show win0_3.index _ (0 : Fin 3) * 1 ≤ (i 0).val ∧ (i 0).val < win0_3.index _ (0 : Fin 3) * 1 + 1
    rw [e0]
    show (i 0).val * 1 ≤ (i 0).val ∧ (i 0).val < (i 0).val * 1 + 1
    omega
  | ⟨1, _⟩ =>
    show win0_3.index _ (1 : Fin 3) * 8 ≤ (i 1).val ∧ (i 1).val < win0_3.index _ (1 : Fin 3) * 8 + 8
    rw [e1]
    show 0 * 8 ≤ (i 1).val ∧ (i 1).val < 0 * 8 + 8
    omega
  | ⟨2, _⟩ =>
    show win0_3.index _ (2 : Fin 3) * 512 ≤ (i 2).val ∧ (i 2).val < win0_3.index _ (2 : Fin 3) * 512 + 512
    rw [e2]
    show (i 2).val / 512 * 512 ≤ (i 2).val ∧ (i 2).val < (i 2).val / 512 * 512 + 512
    omega

theorem final (c : Dev nD) : (dats m 0 c).arrAt 3 cfg0.N = out (X0 m c) (X1 m c) (W m c) (B m c) :=
  (dats m 0 c).arrAt_eq_of_cover 3 _ (fun t _ => flushed_eq m c t) cover

/-! ## The reference -/

section Ref
open Cert.Reference8Ideal.Read
variable (x0 : (⟨S1x4096, .f32⟩ : BufTy).Contents (Elt Ideal)) (x1 : (⟨S4096, .f32⟩ : BufTy).Contents (Elt Ideal))
  (w : (⟨S4x4096x12288, .f32⟩ : BufTy).Contents (Elt Ideal)) (b : (⟨S4x12288, .f32⟩ : BufTy).Contents (Elt Ideal))

theorem one_word : Ideal.ofBits .f32 0x3F800000#32 = (1 : EReal) := by
  simp [Ideal.ofBits, Ideal.ieee]
  rw [← EReal.coe_mul]
  norm_num

/-- The reference's eight vectors. -/
theorem ref_vecs (r : Fin 8) (k : Fin 4096) : val_main_v2 (F := Ideal) x0 x1 (ix2 r k) = vecs x0 x1 r k := by
  unfold val_main_v2 vecs
  by_cases h0 : r.val = 0
  · rw [if_neg fun h => by rw [h] at h0; exact absurd h0 (by decide), if_pos (Fin.ext h0)]
    refine concatenate_apply_piece (t := S8x4096) 0 _ _ (ix2 r k) 0 (by exact (by decide : 0 < 3)) S1x4096 x0 rfl rfl 0 rfl (ix2 0 k)
      (fun b => by match b with | ⟨0, _⟩ => exact fun h => absurd rfl h | ⟨1, _⟩ => exact fun _ => rfl) ?_
    exact h0.symm
  by_cases h1 : r.val = 1
  · rw [if_pos (Fin.ext h1)]
    refine (concatenate_apply_piece (t := S8x4096) 0 _ _ (ix2 r k) 1 (by exact (by decide : 1 < 3)) S1x4096 (val_main_v0 (F := Ideal) x1) rfl rfl 1 rfl (ix2 0 k)
      (fun b => by match b with | ⟨0, _⟩ => exact fun h => absurd rfl h | ⟨1, _⟩ => exact fun _ => rfl) h1.symm).trans ?_
    exact (val_main_v0_apply x1 _).trans (congrArg x1 (funext fun a => by match a with | ⟨0, _⟩ => rfl))
  · have hr := r.isLt
    rw [if_neg fun h => h1 (by rw [h]; rfl), if_neg fun h => h0 (by rw [h]; rfl)]
    refine (concatenate_apply_piece (t := S8x4096) 0 _ _ (ix2 r k) 2 (by exact (by decide : 2 < 3)) Cert.Reference8Ideal.S6x4096 (val_main_v1 (F := Ideal)) rfl rfl 2 rfl (ix2 ⟨r.val - 2, by omega⟩ k)
      (fun b => by match b with | ⟨0, _⟩ => exact fun h => absurd rfl h | ⟨1, _⟩ => exact fun _ => rfl) (show 2 + (r.val - 2) = r.val by omega)).trans ?_
    rw [val_main_v1_apply]
    rfl

theorem ref_gate (r : Fin 8) (k : Fin 4096) : val_main_v3 (F := Ideal) x0 x1 (ix2 r k)
    = (vecs x0 x1 r k * Ideal.logistic (vecs x0 x1 r k) : EReal) := by
  rw [val_main_v3_apply, val_main_call0_v5_apply, val_main_call0_v3_apply, val_main_call0_v1_apply, val_main_call0_v0_apply, ref_vecs,
    val_main_call0_v2_apply, val_main_call0_v4_apply]
  show vecs x0 x1 r k * Ideal.div (Ideal.ofBits .f32 0x3F800000#32) (Ideal.ofBits .f32 0x3F800000#32 + Ideal.exp (-vecs x0 x1 r k)) = _
  rw [one_word]
  rfl

/-- The reference's result. -/
theorem ref_eq : val_main_v8 (F := Ideal) x0 x1 w b = out x0 x1 w b := by
  funext i
  rw [val_main_v8_apply, val_main_v5_apply, val_main_v7_apply, val_main_v6_apply]
  refine congrArg₂ (fun a b : EReal => a + b) ?_ (congrArg b (funext fun a => by match a with | ⟨0, _⟩ => rfl | ⟨1, _⟩ => rfl))
  refine (val_main_v4_apply x0 x1 w _).trans (Finset.sum_congr rfl fun k _ => ?_)
  refine (mul_comm (G := EReal) _ _).trans (congrArg₂ (fun a b : EReal => a * b) ?_ (congrArg w (funext fun a => ?_)))
  · refine (congrArg (val_main_v3 (F := Ideal) x0 x1) (funext fun a => ?_)).trans (ref_gate x0 x1 ⟨(i 1).val, (i 1).isLt⟩ k)
    match a with | ⟨0, _⟩ => rfl | ⟨1, _⟩ => rfl
  · match a with | ⟨0, _⟩ => rfl | ⟨1, _⟩ => rfl | ⟨2, _⟩ => rfl

end Ref

end Cert.Proof.Mods8

end
-- ==== Proof.Join9.lean ====
/-
  The call that joins the latent rows and the context rows, and normalises and modulates them at once: the rows themselves,
  one result, and their normalised and modulated values, the other, each a block of the result at a point. The reference
  computes the latent rows and the context rows apart and lays them one above the other.
-/
module

public import proofs.«01_k».proof.Proof.Value
public import proofs.«01_k».proof.Proof.InProj
public import proofs.«01_k».proof.Proof.Gen.Kernel9Ideal.Value
public import proofs.«01_k».proof.Proof.Gen.Reference9Ideal.Read
public import Idealize.ShloMosaic.Lib.ValueLayout
public import Idealize.ShloMosaic.Lib.Tactic

@[expose] public section

set_option maxRecDepth 16384
set_option backward.proofsInPublic true

noncomputable section

namespace Cert.Proof.Join9

open Cert.Kernel9Ideal Cert.Kernel9Ideal.Gen
open Idealize.ShloMosaic Idealize.ShloMosaic.TcCoe Idealize.ShloMosaic.ValueIdx Idealize.SL.Sem
open Cert.Proof.Norm (elem)
open Cert.Proof.InProj (zero2)

/-! ## The results -/

/-- The rows, joined. -/
def rows (x : S8192x4096.Idx → EReal) (ctx : S256x4096.Idx → EReal) (p : Fin 8448) (q : Fin 4096) : EReal :=
  if hp : p.val < 8192 then x (ix2 ⟨p.val, hp⟩ q) else ctx (ix2 ⟨p.val - 8192, by omega⟩ q)

/-- The rows normalised and modulated, at a row and a column. -/
def res (x : S8192x4096.Idx → EReal) (ctx : S256x4096.Idx → EReal) (g : S4096.Idx → EReal) (w : S8x12288.Idx → EReal)
    (p : Fin 8448) (q : Fin 4096) : EReal :=
  elem (rows x ctx p) (rows x ctx p q) (g (ix1 q)) (w (ix2 (if p.val < 8192 then 0 else 1) ⟨4096 + q.val, by omega⟩))
    (w (ix2 (if p.val < 8192 then 0 else 1) ⟨q.val, by omega⟩))

def joined (x : S8192x4096.Idx → EReal) (ctx : S256x4096.Idx → EReal) : S8448x4096.Idx → EReal :=
  fun i => rows x ctx ⟨(i 0).val, (i 0).isLt⟩ ⟨(i 1).val, (i 1).isLt⟩
def out (x : S8192x4096.Idx → EReal) (ctx : S256x4096.Idx → EReal) (g : S4096.Idx → EReal) (w : S8x12288.Idx → EReal) : S8448x4096.Idx → EReal :=
  fun i => res x ctx g w ⟨(i 0).val, (i 0).isLt⟩ ⟨(i 1).val, (i 1).isLt⟩

/-- Which of two vectors a point takes. -/
abbrev pick {s : Shape} (i : grid0.Coords) (a b : Vec Ideal s .f32) : Vec Ideal s .f32 :=
  Scalar.select (Scalar.cmpi .sge (BitVec.ofNat 32 (i 0).val) 32#32) a b

theorem pick_latent {s : Shape} (i : grid0.Coords) (h : Scalar.cmpi .sge (BitVec.ofNat 32 (i 0).val) 32#32 = 0#1) (a b : Vec Ideal s .f32) :
    pick i a b = b := by
  unfold pick
  rw [h]
  rfl

theorem pick_context {s : Shape} (i : grid0.Coords) (h : Scalar.cmpi .sge (BitVec.ofNat 32 (i 0).val) 32#32 = 1#1) (a b : Vec Ideal s .f32) :
    pick i a b = a := by
  unfold pick
  rw [h]
  rfl

/-- The payload of the second store is the rows. -/
theorem pay1_eq (i : grid0.Coords) (a b : Vec Ideal S256x4096 .f32) : k0_pay1 (F := Ideal) i a b = pick i a b := rfl

/-- The payload of the first store, at an element. -/
theorem pay2_apply (i : grid0.Coords) (a b : Vec Ideal S256x4096 .f32) (gv sh1 sh0 sc1 sc0 : Vec Ideal S1x4096 .f32) (p : Fin 256) (q : Fin 4096) :
    k0_pay2 (F := Ideal) i a b gv sh1 sh0 sc1 sc0 (ix2 p q)
      = elem (fun k => pick i a b (ix2 p k)) (pick i a b (ix2 p q)) (gv (ix2 0 q)) (pick i sc1 sc0 (ix2 0 q)) (pick i sh1 sh0 (ix2 0 q)) := by
  unfold k0_pay2 elem
  rw [pay1_eq]
  dsimp only
  generalize hx : pick i a b = x
  have hg : ∀ (v : Vec Ideal S1x4096 .f32), broadcastTo S256x4096 v broadcasts_S1x4096_S256x4096 (ix2 p q) = v (ix2 0 q) := fun v =>
    broadcastTo_apply v broadcasts_S1x4096_S256x4096 (ix2 p q) (ix2 0 q) (fun a => by match a with | ⟨0, _⟩ => rfl | ⟨1, _⟩ => rfl)
  have hr : ∀ (v : Vec Ideal S256x1 .f32), broadcastTo S256x4096 v broadcasts_S256x1_S256x4096 (ix2 p q) = v (ix2 p 0) := fun v =>
    broadcastTo_apply v broadcasts_S256x1_S256x4096 (ix2 p q) (ix2 p 0) (fun a => by match a with | ⟨0, _⟩ => rfl | ⟨1, _⟩ => rfl)
  have hc : ∀ (v : Vec Ideal S256 .f32), shapeCast S256x1 v shapeCasts_S256_S256x1 (ix2 p 0) = v (ix1 p) := fun v =>
    shapeCast_apply v shapeCasts_S256_S256x1 (ix2 p 0) (ix1 p) (by simp [Shape.rowMajor, Shape.rowMajorPi_succ_val]; rfl)
  have hs : multiReduction (F := Ideal) .add [1] S256 (mulf x x) 0x00000000#32 reduces_S256x4096_S256 (.inl rfl) rfl (ix1 p)
      = ∑ k : Fin 4096, x (ix2 p k) * x (ix2 p k) := by
    refine (Ideal.multiReduction_add_single _ _ reduces_S256x4096_S256 _ _ (ix1 p)).trans (Finset.sum_congr rfl fun (k : Fin 4096) _ => ?_)
    rw [show reduces_S256x4096_S256.lift (ix1 p) k = (ix2 p k : S256x4096.Idx) from funext fun a => Fin.ext (by match a with | ⟨0, _⟩ => rfl | ⟨1, _⟩ => rfl), mulf_apply]
  rw [truncf_apply, addf_apply, mulf_apply, mulf_apply, mulf_apply, hg, hg, hg, hr, addf_apply, shapeCast_self]
  show _ * Ideal.rsqrt (Ideal.div (shapeCast S256x1 _ shapeCasts_S256_S256x1 (ix2 p 0)) _ + _) * _ * (_ + _) + _ = _
  rw [hc, hs]
  rfl

/-! ## The grid -/

variable (m : (ℓ : Loc nD τ sig) → Buf (Elt Ideal) ℓ) (ρ : Dev nD → PrngReg)

abbrev X (c : Dev nD) : S8192x4096.Idx → EReal := m ((c : Thread nD τ).loc main_arg0)
abbrev C (c : Dev nD) : S256x4096.Idx → EReal := m ((c : Thread nD τ).loc main_arg1)
abbrev G (c : Dev nD) : S4096.Idx → EReal := m ((c : Thread nD τ).loc main_arg2)
abbrev W (c : Dev nD) : S8x12288.Idx → EReal := m ((c : Thread nD τ).loc main_arg3)

theorem V_x (c : Dev nD) : V m c main_arg0 = X m c := by
  unfold V
  simp only [hostOps0]
  after_results_simp <;> rfl
theorem V_ctx (c : Dev nD) : V m c main_arg1 = C m c := by
  unfold V
  simp only [hostOps0]
  after_results_simp <;> rfl
theorem V_w (c : Dev nD) : V m c main_arg3 = W m c := by
  unfold V
  simp only [hostOps0]
  after_results_simp <;> rfl
theorem V_g (c : Dev nD) : V m c main_v0 = shapeCast S1x4096 (G m c) shapeCasts_S4096_S1x4096 := by
  unfold V
  simp only [hostOps0]
  after_results_simp <;> rfl

theorem g_at (c : Dev nD) (q : Fin 4096) : V m c main_v0 (ix2 0 q) = G m c (ix1 q) :=
  (congrFun (V_g m c) _).trans ((shapeCast_addUnit_apply ![4096] _ shapeCasts_S4096_S1x4096 (ix2 0 q)).trans
    (congrArg _ (funext fun a => by match a with | ⟨0, _⟩ => rfl)))

theorem idx_latent : ∀ t : Fin cfg0.N, t.val < 32 → Scalar.cmpi .sge (BitVec.ofNat 32 (grid0.coords t 0).val) 32#32 = 0#1
    ∧ win0_0.index t (0 : Fin 2) = t.val ∧ win0_0.index t (1 : Fin 2) = 0 :=
  (by decide +kernel : ∀ t : Fin grid0.N, t.val < 32 → _)
theorem idx_context : ∀ t : Fin cfg0.N, ¬ t.val < 32 → Scalar.cmpi .sge (BitVec.ofNat 32 (grid0.coords t 0).val) 32#32 = 1#1 ∧ t.val = 32 :=
  (by decide +kernel : ∀ t : Fin grid0.N, ¬ t.val < 32 → _)
theorem idx_facts : ∀ t : Fin cfg0.N, win0_1.index t (0 : Fin 2) = 0 ∧ win0_1.index t (1 : Fin 2) = 0
    ∧ win0_2.index t (0 : Fin 2) = 0 ∧ win0_2.index t (1 : Fin 2) = 0 ∧ win0_3.index t (0 : Fin 2) = 0 ∧ win0_3.index t (1 : Fin 2) = 0
    ∧ win0_4.index t (0 : Fin 2) = 0 ∧ win0_4.index t (1 : Fin 2) = 1 :=
  (by decide +kernel : ∀ t : Fin grid0.N, _)
theorem idx_outs : ∀ t : Fin cfg0.N, win0_5.index t = ![t.val, 0] ∧ win0_6.index t = ![t.val, 0] :=
  (by decide +kernel : ∀ t : Fin grid0.N, _)
theorem lt_N (t : Fin cfg0.N) : t.val < 33 := lt_of_lt_of_eq t.isLt N_0

/-- The rows that a point takes. -/
theorem rows_at (c : Dev nD) (t : Fin cfg0.N) (p : Fin 256) (q : Fin 4096) :
    pick (grid0.coords t) (iblk m c 1 t) (iblk m c 0 t) (ix2 p q)
      = rows (X m c) (C m c) ⟨t.val * 256 + p.val, by have := lt_N t; omega⟩ q := by
  obtain ⟨b0, b1, -⟩ := idx_facts t
  have ht := lt_N t
  by_cases h : t.val < 32
  · obtain ⟨e, a0, a1⟩ := idx_latent t h
    refine (congrFun (pick_latent _ e _ _) _).trans ?_
    unfold rows
    rw [dif_pos (show t.val * 256 + p.val < 8192 by omega)]
    refine (congrFun (V_x m c) _).trans (congrArg (X m c) (funext fun a => Fin.ext ?_))
    match a with
    | ⟨0, _⟩ => show win0_0.index t (0 : Fin 2) * 256 + 1 * p.val = t.val * 256 + p.val; rw [a0]; omega
    | ⟨1, _⟩ => show win0_0.index t (1 : Fin 2) * 4096 + 1 * q.val = q.val; rw [a1]; omega
  · obtain ⟨e, ht⟩ := idx_context t h
    refine (congrFun (pick_context _ e _ _) _).trans ?_
    unfold rows
    rw [dif_neg (show ¬ t.val * 256 + p.val < 8192 by omega)]
    refine (congrFun (V_ctx m c) _).trans (congrArg (C m c) (funext fun a => Fin.ext ?_))
    match a with
    | ⟨0, _⟩ => show win0_1.index t (0 : Fin 2) * 256 + 1 * p.val = t.val * 256 + p.val - 8192; rw [b0, ht]; omega
    | ⟨1, _⟩ => show win0_1.index t (1 : Fin 2) * 4096 + 1 * q.val = q.val; rw [b1]; omega

/-- The class of a point's rows. -/
theorem class_eq (t : Fin cfg0.N) (p : Fin 256) : (t.val * 256 + p.val < 8192) ↔ t.val < 32 := by omega

/-- The shift row that a point takes. -/
theorem shift_at (c : Dev nD) (t : Fin cfg0.N) (p : Fin 256) (q : Fin 4096) :
    pick (grid0.coords t) (View.ld (Val := Elt Ideal) (e' := .f32) (iblk m c 3 t) r0_2) (View.ld (Val := Elt Ideal) (e' := .f32) (iblk m c 3 t) r0_3) (ix2 0 q)
      = W m c (ix2 (if t.val * 256 + p.val < 8192 then 0 else 1) ⟨q.val, by omega⟩) := by
  obtain ⟨-, -, -, -, b0, b1, -⟩ := idx_facts t
  by_cases h : t.val < 32
  · rw [if_pos ((class_eq t p).2 h)]
    refine (congrFun (pick_latent _ (idx_latent t h).1 _ _) _).trans ?_
    refine (congrFun (V_w m c) _).trans (congrArg (W m c) (funext fun a => Fin.ext ?_))
    match a with
    | ⟨0, _⟩ => show win0_3.index t (0 : Fin 2) * 8 + 1 * (0 + 1 * 0) = 0; rw [b0]
    | ⟨1, _⟩ => show win0_3.index t (1 : Fin 2) * 4096 + 1 * (0 + 1 * q.val) = q.val; rw [b1]; omega
  · rw [if_neg fun e => h ((class_eq t p).1 e)]
    refine (congrFun (pick_context _ (idx_context t h).1 _ _) _).trans ?_
    refine (congrFun (V_w m c) _).trans (congrArg (W m c) (funext fun a => Fin.ext ?_))
    match a with
    | ⟨0, _⟩ => show win0_3.index t (0 : Fin 2) * 8 + 1 * (1 + 1 * 0) = 1; rw [b0]
    | ⟨1, _⟩ => show win0_3.index t (1 : Fin 2) * 4096 + 1 * (0 + 1 * q.val) = q.val; rw [b1]; omega

/-- The scale row that a point takes. -/
theorem scale_at (c : Dev nD) (t : Fin cfg0.N) (p : Fin 256) (q : Fin 4096) :
    pick (grid0.coords t) (View.ld (Val := Elt Ideal) (e' := .f32) (iblk m c 4 t) r0_2) (View.ld (Val := Elt Ideal) (e' := .f32) (iblk m c 4 t) r0_3) (ix2 0 q)
      = W m c (ix2 (if t.val * 256 + p.val < 8192 then 0 else 1) ⟨4096 + q.val, by omega⟩) := by
  obtain ⟨-, -, -, -, -, -, b0, b1⟩ := idx_facts t
  by_cases h : t.val < 32
  · rw [if_pos ((class_eq t p).2 h)]
    refine (congrFun (pick_latent _ (idx_latent t h).1 _ _) _).trans ?_
    refine (congrFun (V_w m c) _).trans (congrArg (W m c) (funext fun a => Fin.ext ?_))
    match a with
    | ⟨0, _⟩ => show win0_4.index t (0 : Fin 2) * 8 + 1 * (0 + 1 * 0) = 0; rw [b0]
    | ⟨1, _⟩ => show win0_4.index t (1 : Fin 2) * 4096 + 1 * (0 + 1 * q.val) = 4096 + q.val; rw [b1]; omega
  · rw [if_neg fun e => h ((class_eq t p).1 e)]
    refine (congrFun (pick_context _ (idx_context t h).1 _ _) _).trans ?_
    refine (congrFun (V_w m c) _).trans (congrArg (W m c) (funext fun a => Fin.ext ?_))
    match a with
    | ⟨0, _⟩ => show win0_4.index t (0 : Fin 2) * 8 + 1 * (1 + 1 * 0) = 1; rw [b0]
    | ⟨1, _⟩ => show win0_4.index t (1 : Fin 2) * 4096 + 1 * (0 + 1 * q.val) = 4096 + q.val; rw [b1]; omega

theorem gain_at (c : Dev nD) (t : Fin cfg0.N) (q : Fin 4096) : iblk m c 2 t (ix2 0 q) = G m c (ix1 q) := by
  obtain ⟨-, -, b0, b1, -⟩ := idx_facts t
  refine Eq.trans (congrArg (V m c main_v0) (funext fun a => Fin.ext ?_)) (g_at m c q)
  match a with
  | ⟨0, _⟩ => show win0_2.index t (0 : Fin 2) * 1 + 1 * 0 = 0; rw [b0]
  | ⟨1, _⟩ => show win0_2.index t (1 : Fin 2) * 4096 + 1 * q.val = q.val; rw [b1]; omega

/-- What a point writes back of the joined rows is its block of them. -/
theorem flushed6_eq (c : Dev nD) (t : Fin cfg0.N) :
    (dats m 0 c).flushed 6 t = ((cfg0.win 6).blk t).view.read (Elt Ideal) (joined (X m c) (C m c)) := by
  have e0 := congrFun (idx_outs t).2 0
  have e1 := congrFun (idx_outs t).2 1
  have ht := lt_N t
  rw [Value.flushed6]
  unfold out0_6
  rw [View.canon_unit_zero zero2, View.ld_unit_zero zero2, View.ld_unit_zero zero2, pay1_eq]
  refine funext fun (y : S256x4096.Idx) => ?_
  have hy0 : (y 0).val < 256 := (y 0).isLt
  have hy1 : (y 1).val < 4096 := (y 1).isLt
  refine (show _ = pick (grid0.coords t) (iblk m c 1 t) (iblk m c 0 t) (ix2 ⟨(y 0).val, hy0⟩ ⟨(y 1).val, hy1⟩) from
    congrArg (pick (grid0.coords t) (iblk m c 1 t) (iblk m c 0 t)) (funext fun a => by match a with | ⟨0, _⟩ => rfl | ⟨1, _⟩ => rfl)).trans ?_
  refine (rows_at m c t _ _).trans ?_
  refine (congrArg₂ (rows (X m c) (C m c)) (Fin.ext ?_) (Fin.ext ?_) :
    _ = rows (X m c) (C m c) ⟨win0_6.index t (0 : Fin 2) * 256 + 1 * (y 0).val, by rw [e0]; show t.val * 256 + _ < _; omega⟩
      ⟨win0_6.index t (1 : Fin 2) * 4096 + 1 * (y 1).val, by rw [e1]; show 0 * 4096 + _ < _; omega⟩)
  · show t.val * 256 + (y 0).val = win0_6.index t (0 : Fin 2) * 256 + 1 * (y 0).val
    rw [e0]
    show t.val * 256 + (y 0).val = t.val * 256 + 1 * (y 0).val
    omega
  · show (y 1).val = win0_6.index t (1 : Fin 2) * 4096 + 1 * (y 1).val
    rw [e1]
    show (y 1).val = 0 * 4096 + 1 * (y 1).val
    omega

/-- What a point writes back of the modulated rows is its block of them. -/
theorem flushed5_eq (c : Dev nD) (t : Fin cfg0.N) :
    (dats m 0 c).flushed 5 t = ((cfg0.win 5).blk t).view.read (Elt Ideal) (out (X m c) (C m c) (G m c) (W m c)) := by
  have e0 := congrFun (idx_outs t).1 0
  have e1 := congrFun (idx_outs t).1 1
  have ht := lt_N t
  rw [Value.flushed5]
  unfold out0_5
  rw [View.canon_unit_zero zero2, View.ld_unit_zero zero2, View.ld_unit_zero zero2, View.ld_unit_zero zero2]
  refine funext fun (y : S256x4096.Idx) => ?_
  have hy0 : (y 0).val < 256 := (y 0).isLt
  have hy1 : (y 1).val < 4096 := (y 1).isLt
  refine (show _ = k0_pay2 (F := Ideal) (grid0.coords t) (iblk m c 1 t) (iblk m c 0 t) (iblk m c 2 t) _ _ _ _ (ix2 ⟨(y 0).val, hy0⟩ ⟨(y 1).val, hy1⟩) from
    congrArg (k0_pay2 (F := Ideal) (grid0.coords t) (iblk m c 1 t) (iblk m c 0 t) (iblk m c 2 t) _ _ _ _)
      (funext fun a => by match a with | ⟨0, _⟩ => rfl | ⟨1, _⟩ => rfl)).trans ?_
  refine (pay2_apply _ _ _ _ _ _ _ _ _ _).trans ?_
  rw [funext fun k => rows_at m c t ⟨(y 0).val, hy0⟩ k, rows_at m c t ⟨(y 0).val, hy0⟩ ⟨(y 1).val, hy1⟩, gain_at m c t ⟨(y 1).val, hy1⟩]
  refine (congrArg₂ (elem (rows (X m c) (C m c) ⟨t.val * 256 + (y 0).val, by omega⟩)
    (rows (X m c) (C m c) ⟨t.val * 256 + (y 0).val, by omega⟩ ⟨(y 1).val, hy1⟩) (G m c (ix1 ⟨(y 1).val, hy1⟩)))
    (scale_at m c t ⟨(y 0).val, hy0⟩ ⟨(y 1).val, hy1⟩) (shift_at m c t ⟨(y 0).val, hy0⟩ ⟨(y 1).val, hy1⟩)).trans ?_
  refine (congrArg₂ (res (X m c) (C m c) (G m c) (W m c)) (Fin.ext ?_) (Fin.ext ?_) :
    res (X m c) (C m c) (G m c) (W m c) ⟨t.val * 256 + (y 0).val, by omega⟩ ⟨(y 1).val, hy1⟩
      = res (X m c) (C m c) (G m c) (W m c) ⟨win0_5.index t (0 : Fin 2) * 256 + 1 * (y 0).val, by rw [e0]; show t.val * 256 + _ < _; omega⟩
      ⟨win0_5.index t (1 : Fin 2) * 4096 + 1 * (y 1).val, by rw [e1]; show 0 * 4096 + _ < _; omega⟩)
  · show t.val * 256 + (y 0).val = win0_5.index t (0 : Fin 2) * 256 + 1 * (y 0).val
    rw [e0]
    show t.val * 256 + (y 0).val = t.val * 256 + 1 * (y 0).val
    omega
  · show (y 1).val = win0_5.index t (1 : Fin 2) * 4096 + 1 * (y 1).val
    rw [e1]
    show (y 1).val = 0 * 4096 + 1 * (y 1).val
    omega

/-- The point of a block. -/
abbrev pt (q : Fin 33) : Fin grid0.N := ⟨q.val, lt_of_lt_of_eq q.isLt N_0.symm⟩

/-- Every element of each result is in some point's block. -/
theorem cover5 (i : S8448x4096.Idx) : ∃ t : Fin cfg0.N, (cfg0.win 5).flush t = true ∧ i ∈ ((cfg0.win 5).blk t).view.set := by
  have h0 : (i 0).val < 8448 := (i 0).isLt
  have h1 : (i 1).val < 4096 := (i 1).isLt
  have e := (idx_outs (pt ⟨(i 0).val / 256, by omega⟩)).1
  have e0 := congrFun e 0
  have e1 := congrFun e 1
  refine ⟨pt ⟨(i 0).val / 256, by omega⟩, flush0_5 _, ?_⟩
  rw [show ((cfg0.win 5).blk (pt ⟨(i 0).val / 256, by omega⟩)).view.set
    = ((View.whole main_v1_0).slice (win0_5.rect (pt ⟨(i 0).val / 256, by omega⟩))).set from rfl, View.set_slice_whole, Rect.mem_set_unit]
  intro a
  match a with
  | ⟨0, _⟩ =>
    show win0_5.index _ (0 : Fin 2) * 256 ≤ (i 0).val ∧ (i 0).val < win0_5.index _ (0 : Fin 2) * 256 + 256
    rw [e0]
    show (i 0).val / 256 * 256 ≤ (i 0).val ∧ (i 0).val < (i 0).val / 256 * 256 + 256
    omega
  | ⟨1, _⟩ =>
    show win0_5.index _ (1 : Fin 2) * 4096 ≤ (i 1).val ∧ (i 1).val < win0_5.index _ (1 : Fin 2) * 4096 + 4096
    rw [e1]
    show 0 * 4096 ≤ (i 1).val ∧ (i 1).val < 0 * 4096 + 4096
    omega

theorem cover6 (i : S8448x4096.Idx) : ∃ t : Fin cfg0.N, (cfg0.win 6).flush t = true ∧ i ∈ ((cfg0.win 6).blk t).view.set := by
  have h0 : (i 0).val < 8448 := (i 0).isLt
  have h1 : (i 1).val < 4096 := (i 1).isLt
  have e := (idx_outs (pt ⟨(i 0).val / 256, by omega⟩)).2
  have e0 := congrFun e 0
  have e1 := congrFun e 1
  refine ⟨pt ⟨(i 0).val / 256, by omega⟩, flush0_6 _, ?_⟩
  rw [show ((cfg0.win 6).blk (pt ⟨(i 0).val / 256, by omega⟩)).view.set
    = ((View.whole main_v1_1).slice (win0_6.rect (pt ⟨(i 0).val / 256, by omega⟩))).set from rfl, View.set_slice_whole, Rect.mem_set_unit]
  intro a
  match a with
  | ⟨0, _⟩ =>
    show win0_6.index _ (0 : Fin 2) * 256 ≤ (i 0).val ∧ (i 0).val < win0_6.index _ (0 : Fin 2) * 256 + 256
    rw [e0]
    show (i 0).val / 256 * 256 ≤ (i 0).val ∧ (i 0).val < (i 0).val / 256 * 256 + 256
    omega
  | ⟨1, _⟩ =>
    show win0_6.index _ (1 : Fin 2) * 4096 ≤ (i 1).val ∧ (i 1).val < win0_6.index _ (1 : Fin 2) * 4096 + 4096
    rw [e1]
    show 0 * 4096 ≤ (i 1).val ∧ (i 1).val < 0 * 4096 + 4096
    omega

theorem final5 (c : Dev nD) : (dats m 0 c).arrAt 5 cfg0.N = out (X m c) (C m c) (G m c) (W m c) :=
  (dats m 0 c).arrAt_eq_of_cover 5 _ (fun t _ => flushed5_eq m c t) cover5
theorem final6 (c : Dev nD) : (dats m 0 c).arrAt 6 cfg0.N = joined (X m c) (C m c) :=
  (dats m 0 c).arrAt_eq_of_cover 6 _ (fun t _ => flushed6_eq m c t) cover6

/-! ## The reference -/

section Ref
open Cert.Reference9Ideal.Read
variable (x : (⟨S8192x4096, .f32⟩ : BufTy).Contents (Elt Ideal)) (ctx : (⟨S256x4096, .f32⟩ : BufTy).Contents (Elt Ideal))
  (g : (⟨S4096, .f32⟩ : BufTy).Contents (Elt Ideal)) (w : (⟨S8x12288, .f32⟩ : BufTy).Contents (Elt Ideal))

/-- A latent row of the reference. -/
theorem ref_lat (p : Fin 8192) (q : Fin 4096) : val_main_v24 (F := Ideal) x g w (ix2 p q)
    = elem (fun k => x (ix2 p k)) (x (ix2 p q)) (g (ix1 q)) (w (ix2 0 ⟨4096 + q.val, by omega⟩)) (w (ix2 0 ⟨q.val, by omega⟩)) := by
  have hq := q.isLt
  have e1 : ∀ k, idx_main_v1 (idx_main_v2 (idx_main_v8 (ix2 p q))) k = ix2 p k :=
    fun k => funext fun a => by match a with | ⟨0, _⟩ => rfl | ⟨1, _⟩ => rfl
  have e3 : idx_main_v10 (idx_main_v11 (ix2 p q)) = ix1 q := funext fun a => by match a with | ⟨0, _⟩ => rfl
  have e4 : idx_main_v15 (idx_main_v16 (idx_main_v17 (idx_main_v20 (ix2 p q)))) = ix2 0 ⟨4096 + q.val, by omega⟩ := funext fun a => by
    match a with
    | ⟨0, _⟩ => rfl
    | ⟨1, _⟩ => exact Fin.ext (show 4096 + q.val % 4096 = 4096 + q.val by omega)
  have e5 : idx_main_v13 (idx_main_v14 (idx_main_v22 (idx_main_v23 (ix2 p q)))) = ix2 0 ⟨q.val, by omega⟩ := funext fun a => by
    match a with
    | ⟨0, _⟩ => rfl
    | ⟨1, _⟩ => exact Fin.ext (show q.val % 4096 = q.val by omega)
  rw [val_main_v24_apply, val_main_v23_apply, val_main_v22_apply, val_main_v21_apply, val_main_v20_apply, val_main_v19_apply, val_main_v18_apply,
    val_main_cst_2_apply, val_main_v17_apply, val_main_v16_apply, val_main_v15_apply, val_main_v14_apply, val_main_v13_apply, val_main_v12_apply,
    val_main_v11_apply, val_main_v10_apply, val_main_v9_apply, val_main_v8_apply, val_main_v7_apply, val_main_v6_apply, val_main_v5_apply,
    val_main_cst_1_apply, val_main_v4_apply, val_main_v3_apply, val_main_cst_0_apply, val_main_v2_apply, val_main_v1_apply, val_main_cst_apply,
    e3, e4, e5]
  simp only [val_main_v0_apply, e1]
  rw [show (FloatOps.ofBits .f32 0x00000000#32 : Ideal .f32) = (0 : EReal) from Ideal.ofBits_zero_f32]
  unfold elem
  rw [← zero_add (∑ k : Fin 4096, x (ix2 _ k) * x (ix2 _ k))]
  rfl

/-- A context row of the reference. -/
theorem ref_ctx (p : Fin 256) (q : Fin 4096) : val_main_v49 (F := Ideal) ctx g w (ix2 p q)
    = elem (fun k => ctx (ix2 p k)) (ctx (ix2 p q)) (g (ix1 q)) (w (ix2 1 ⟨4096 + q.val, by omega⟩)) (w (ix2 1 ⟨q.val, by omega⟩)) := by
  have hq := q.isLt
  have e1 : ∀ k, idx_main_v26 (idx_main_v27 (idx_main_v33 (ix2 p q))) k = ix2 p k :=
    fun k => funext fun a => by match a with | ⟨0, _⟩ => rfl | ⟨1, _⟩ => rfl
  have e3 : idx_main_v35 (idx_main_v36 (ix2 p q)) = ix1 q := funext fun a => by match a with | ⟨0, _⟩ => rfl
  have e4 : idx_main_v40 (idx_main_v41 (idx_main_v42 (idx_main_v45 (ix2 p q)))) = ix2 1 ⟨4096 + q.val, by omega⟩ := funext fun a => by
    match a with
    | ⟨0, _⟩ => rfl
    | ⟨1, _⟩ => exact Fin.ext (show 4096 + q.val % 4096 = 4096 + q.val by omega)
  have e5 : idx_main_v38 (idx_main_v39 (idx_main_v47 (idx_main_v48 (ix2 p q)))) = ix2 1 ⟨q.val, by omega⟩ := funext fun a => by
    match a with
    | ⟨0, _⟩ => rfl
    | ⟨1, _⟩ => exact Fin.ext (show q.val % 4096 = q.val by omega)
  rw [val_main_v49_apply, val_main_v48_apply, val_main_v47_apply, val_main_v46_apply, val_main_v45_apply, val_main_v44_apply, val_main_v43_apply,
    val_main_cst_6_apply, val_main_v42_apply, val_main_v41_apply, val_main_v40_apply, val_main_v39_apply, val_main_v38_apply, val_main_v37_apply,
    val_main_v36_apply, val_main_v35_apply, val_main_v34_apply, val_main_v33_apply, val_main_v32_apply, val_main_v31_apply, val_main_v30_apply,
    val_main_cst_5_apply, val_main_v29_apply, val_main_v28_apply, val_main_cst_4_apply, val_main_v27_apply, val_main_v26_apply, val_main_cst_3_apply,
    e3, e4, e5]
  simp only [val_main_v25_apply, e1]
  rw [show (FloatOps.ofBits .f32 0x00000000#32 : Ideal .f32) = (0 : EReal) from Ideal.ofBits_zero_f32]
  unfold elem
  rw [← zero_add (∑ k : Fin 4096, ctx (ix2 _ k) * ctx (ix2 _ k))]
  rfl

/-- The reference's joined rows. -/
theorem ref_joined : val_main_v52 (F := Ideal) x ctx = joined x ctx := by
  funext i
  refine (show _ = val_main_v52 (F := Ideal) x ctx (ix2 ⟨(i 0).val, (i 0).isLt⟩ ⟨(i 1).val, (i 1).isLt⟩) from
    congrArg (val_main_v52 (F := Ideal) x ctx) (funext fun a => by match a with | ⟨0, _⟩ => rfl | ⟨1, _⟩ => rfl)).trans ?_
  exact Norm.rows_apply x ctx _ ⟨(i 0).val, (i 0).isLt⟩ ⟨(i 1).val, (i 1).isLt⟩

/-- The reference's modulated rows. -/
theorem ref_out : val_main_v51 (F := Ideal) x ctx g w = out x ctx g w := by
  funext i
  rw [val_main_v51_apply]
  refine (show _ = val_main_v50 (F := Ideal) x ctx g w (ix2 ⟨(i 0).val, (i 0).isLt⟩ ⟨(i 1).val, (i 1).isLt⟩) from
    congrArg (val_main_v50 (F := Ideal) x ctx g w) (funext fun a => by match a with | ⟨0, _⟩ => rfl | ⟨1, _⟩ => rfl)).trans ?_
  refine (Norm.rows_apply _ _ _ ⟨(i 0).val, (i 0).isLt⟩ ⟨(i 1).val, (i 1).isLt⟩).trans ?_
  unfold out res rows
  by_cases hp : (i 0).val < 8192
  · simp only [dif_pos hp, if_pos hp]
    exact ref_lat x g w _ _
  · simp only [dif_neg hp, if_neg hp]
    exact ref_ctx ctx g w _ _

end Ref

end Cert.Proof.Join9

end
-- ==== Proof.GqaMath.lean ====
/-
  Weighted averages over the extended reals, as attention takes them: the weights are positive reals, the values anything.
  A common factor of the weights cancels, so the average by 2 to the score, the average by 2 to the score less a running
  maximum, and the average by e to the natural score less its maximum are one number.
-/
module

public import Idealize.ShloMosaic.PureOps.Ideal
public import Idealize.ShloMosaic.PureOps.Ideal.Laws

@[expose] public section

noncomputable section

namespace Cert.Proof.GqaMath

open Idealize.ShloMosaic

/-- The average of the values by the weights. -/
def avg {n : ℕ} (v : Fin n → EReal) (e : Fin n → ℝ) : EReal := ∑ k, v k * ((e k / ∑ j, e j : ℝ) : EReal)

/-- A real factor that is not negative goes into a sum. -/
theorem sum_mul {n : ℕ} (f : Fin n → EReal) (c : ℝ) (hc : 0 ≤ c) : (∑ k, f k) * (c : EReal) = ∑ k, f k * (c : EReal) := by
  induction n with
  | zero => simp
  | succ n ih =>
    rw [Fin.sum_univ_castSucc, Fin.sum_univ_castSucc,
      EReal.right_distrib_of_nonneg_of_ne_top (EReal.coe_nonneg.mpr hc) (EReal.coe_ne_top c), ih]

theorem coe_sum {n : ℕ} (e : Fin n → ℝ) : ((∑ k, e k : ℝ) : EReal) = ∑ k, (e k : EReal) := by
  induction n with
  | zero => simp
  | succ n ih => rw [Fin.sum_univ_castSucc, Fin.sum_univ_castSucc, EReal.coe_add, ih]

/-- Scaling a weighted sum scales its weights. -/
theorem scale_sum {n : ℕ} (v : Fin n → EReal) (e : Fin n → ℝ) (c : ℝ) (hc : 0 ≤ c) :
    (c : EReal) * ∑ k, v k * (e k : EReal) = ∑ k, v k * ((e k * c : ℝ) : EReal) := by
  rw [mul_comm, sum_mul _ c hc]
  exact Finset.sum_congr rfl fun k _ => by rw [mul_assoc, ← EReal.coe_mul]

/-- A quotient by a positive real. -/
theorem div_pos (x : EReal) (c : ℝ) (hc : 0 < c) : Ideal.div x (c : EReal) = x * ((c⁻¹ : ℝ) : EReal) := by
  unfold Ideal.div
  rw [if_neg (by exact_mod_cast hc.ne'), EReal.coe_inv]

theorem div_coe (x c : ℝ) (hc : 0 < c) : Ideal.div (x : EReal) (c : EReal) = ((x / c : ℝ) : EReal) := by
  rw [div_pos _ _ hc, ← EReal.coe_mul, div_eq_mul_inv]

theorem sum_pos' {n : ℕ} [NeZero n] (e : Fin n → ℝ) (h : ∀ k, 0 < e k) : 0 < ∑ k, e k :=
  Finset.sum_pos (fun k _ => h k) ⟨0, Finset.mem_univ _⟩

/-- The weighted sum over the sum of the weights. -/
theorem quot_avg {n : ℕ} [NeZero n] (v : Fin n → EReal) (e : Fin n → ℝ) (h : ∀ k, 0 < e k) :
    Ideal.div (∑ k, v k * (e k : EReal)) (∑ k, (1 : EReal) * (e k : EReal)) = avg v e := by
  have hs := sum_pos' e h
  rw [show (∑ k, (1 : EReal) * (e k : EReal)) = ((∑ k, e k : ℝ) : EReal) from by rw [coe_sum]; simp]
  rw [div_pos _ _ hs, sum_mul _ _ (inv_nonneg.mpr hs.le)]
  exact Finset.sum_congr rfl fun k _ => by rw [mul_assoc, ← EReal.coe_mul, div_eq_mul_inv]

/-- The sum of the values each by its own quotient. -/
theorem sum_quot {n : ℕ} [NeZero n] (v : Fin n → EReal) (e : Fin n → ℝ) (h : ∀ k, 0 < e k) :
    ∑ k, v k * Ideal.div (e k : EReal) (0 + ∑ j, (e j : EReal)) = avg v e := by
  have hs := sum_pos' e h
  rw [zero_add, ← coe_sum]
  exact Finset.sum_congr rfl fun k _ => by rw [div_coe _ _ hs]

/-- A common factor of the weights cancels. -/
theorem avg_scale {n : ℕ} (v : Fin n → EReal) (e e' : Fin n → ℝ) (c : ℝ) (hc : 0 < c) (h : ∀ k, e' k = e k * c) :
    avg v e' = avg v e := by
  obtain rfl : e' = fun k => e k * c := funext h
  exact Finset.sum_congr rfl fun k _ => by
    rw [← Finset.sum_mul, mul_div_mul_right _ _ hc.ne']

/-! ## Powers -/

theorem exp2_sub (t m : ℝ) : Ideal.exp2 ((t : EReal) - (m : EReal)) = (((2 : ℝ) ^ t * (2 : ℝ) ^ (-m) : ℝ) : EReal) := by
  rw [← EReal.coe_sub, Ideal.exp2_coe]
  refine congrArg _ ?_
  show (2 : ℝ) ^ (t - m) = _
  rw [sub_eq_add_neg, Real.rpow_add (by norm_num)]

theorem exp_sub' (s m : ℝ) : Ideal.exp ((s : EReal) - (m : EReal)) = ((Real.exp s * Real.exp (-m) : ℝ) : EReal) := by
  rw [← EReal.coe_sub, Ideal.exp_coe, sub_eq_add_neg, Real.exp_add]

/-- 2 to a score in base 2 is e to the score. -/
theorem two_rpow (s : ℝ) : (2 : ℝ) ^ (s / Real.log 2) = Real.exp s := by
  have h : Real.log 2 ≠ 0 := (Real.log_pos (by norm_num)).ne'
  rw [Real.rpow_def_of_pos (by norm_num), mul_div_cancel₀ _ h]

theorem two_pos (t : ℝ) : 0 < (2 : ℝ) ^ t := Real.rpow_pos_of_pos (by norm_num) t

/-! ## Maxima -/

/-- A maximum taken from a start that is not ⊤ over reals is not ⊤. -/
theorem fold_ne_top {n : ℕ} (t : Fin n → EReal) (b : EReal) (hb : b ≠ ⊤) (h : ∀ k, t k ≠ ⊤) :
    (Finset.univ : Finset (Fin n)).fold max b t ≠ ⊤ := by
  rw [ne_eq, ← top_le_iff, Finset.le_fold_max]
  rintro (h' | ⟨k, -, h'⟩)
  · exact hb (top_le_iff.mp h')
  · exact h k (top_le_iff.mp h')

/-- The running maximum stays real. -/
theorem max_real (m : ℝ) (x : EReal) (hx : x ≠ ⊤) : ∃ r : ℝ, max (m : EReal) x = (r : EReal) := by
  induction x using EReal.rec with
  | bot => exact ⟨m, max_eq_left bot_le⟩
  | coe y => exact ⟨max m y, (EReal.coe_strictMono.monotone.map_max).symm⟩
  | top => exact absurd rfl hx

/-- The maximum of reals, at least one, is real. -/
theorem fold_real {n : ℕ} [NeZero n] (t : Fin n → ℝ) (b : EReal) (hb : b ≠ ⊤) :
    ∃ r : ℝ, (Finset.univ : Finset (Fin n)).fold max b (fun k => (t k : EReal)) = (r : EReal) := by
  have htop := fold_ne_top (fun k => (t k : EReal)) b hb fun k => EReal.coe_ne_top _
  have hbot : (Finset.univ : Finset (Fin n)).fold max b (fun k => (t k : EReal)) ≠ ⊥ := fun h => by
    have : (t 0 : EReal) ≤ (Finset.univ : Finset (Fin n)).fold max b (fun k => (t k : EReal)) :=
      (Finset.le_fold_max _).mpr (Or.inr ⟨0, Finset.mem_univ _, le_rfl⟩)
    rw [h, le_bot_iff] at this
    exact EReal.coe_ne_bot _ this
  exact ⟨_, (EReal.coe_toReal htop hbot).symm⟩

/-! ## One step of an accumulation, and two -/

/-- The accumulator's step with the exponentials taken whole. -/
def addStep {n : ℕ} (t v : Fin n → EReal) (a : EReal) : EReal := a + ∑ k, v k * Ideal.exp2 (t k)
/-- The running maximum's step. -/
def maxStep {n : ℕ} (t : Fin n → EReal) (m : EReal) : EReal := max m ((Finset.univ : Finset (Fin n)).fold max ⊥ t)
/-- The accumulator's step with the running maximum taken off, the older part brought to the new maximum. -/
def runStep {n : ℕ} (t v : Fin n → EReal) (m a : EReal) : EReal :=
  Ideal.exp2 (m - maxStep t m) * a + ∑ k, v k * Ideal.exp2 (t k - maxStep t m)

theorem addStep_real {n : ℕ} (t : Fin n → ℝ) (v : Fin n → EReal) (a : EReal) :
    addStep (fun k => (t k : EReal)) v a = a + ∑ k, v k * (((2 : ℝ) ^ t k : ℝ) : EReal) := rfl

theorem maxStep_real {n : ℕ} (t : Fin n → ℝ) (m : ℝ) : ∃ r : ℝ, maxStep (fun k => (t k : EReal)) (m : EReal) = (r : EReal) :=
  max_real m _ (fold_ne_top _ _ bot_ne_top fun k => EReal.coe_ne_top _)

/-- A step from real maximum to real maximum. -/
theorem runStep_real {n : ℕ} (t : Fin n → ℝ) (v : Fin n → EReal) (m r : ℝ) (hr : maxStep (fun k => (t k : EReal)) (m : EReal) = (r : EReal)) (a : EReal) :
    runStep (fun k => (t k : EReal)) v m a
      = (((2 : ℝ) ^ m * (2 : ℝ) ^ (-r) : ℝ) : EReal) * a + ∑ k, v k * (((2 : ℝ) ^ t k * (2 : ℝ) ^ (-r) : ℝ) : EReal) := by
  unfold runStep
  rw [hr, exp2_sub]
  exact congrArg _ (Finset.sum_congr rfl fun k _ => by rw [exp2_sub])

/-- One step from nothing: a weighted sum whose weights are 2 to the score, all by one positive factor. -/
theorem run_one {n : ℕ} (t : Fin n → ℝ) (m : ℝ) : ∃ c : ℝ, 0 < c ∧ ∀ v : Fin n → EReal,
    runStep (fun k => (t k : EReal)) v m 0 = ∑ k, v k * (((2 : ℝ) ^ t k * c : ℝ) : EReal) := by
  obtain ⟨r, hr⟩ := maxStep_real t m
  exact ⟨_, two_pos (-r), fun v => by rw [runStep_real t v m r hr, mul_zero, zero_add]⟩

/-- Two steps from nothing. -/
theorem run_two {n l : ℕ} (t : Fin n → ℝ) (u : Fin l → ℝ) (m : ℝ) : ∃ c : ℝ, 0 < c ∧ ∀ (v : Fin n → EReal) (w : Fin l → EReal),
    runStep (fun k => (u k : EReal)) w (maxStep (fun k => (t k : EReal)) m) (runStep (fun k => (t k : EReal)) v m 0)
      = ∑ k, v k * (((2 : ℝ) ^ t k * c : ℝ) : EReal) + ∑ k, w k * (((2 : ℝ) ^ u k * c : ℝ) : EReal) := by
  obtain ⟨r, hr⟩ := maxStep_real t m
  obtain ⟨q, hq⟩ := maxStep_real u r
  refine ⟨_, two_pos (-q), fun v w => ?_⟩
  rw [hr, runStep_real u w r q hq, runStep_real t v m r hr, mul_zero, zero_add,
    scale_sum _ _ _ (mul_pos (two_pos r) (two_pos (-q))).le]
  refine congrArg (· + _) (Finset.sum_congr rfl fun k _ => congrArg (v k * ·) (congrArg _ ?_))
  have h : (2 : ℝ) ^ (-r) * (2 : ℝ) ^ r = 1 := by rw [← Real.rpow_add (by norm_num)]; simp
  calc (2 : ℝ) ^ t k * (2 : ℝ) ^ (-r) * ((2 : ℝ) ^ r * (2 : ℝ) ^ (-q))
      = (2 : ℝ) ^ t k * ((2 : ℝ) ^ (-r) * (2 : ℝ) ^ r) * (2 : ℝ) ^ (-q) := by ring
    _ = (2 : ℝ) ^ t k * (2 : ℝ) ^ (-q) := by rw [h, mul_one]

end Cert.Proof.GqaMath

end
-- ==== Proof.GqaSteps.lean ====
/-
  What the attention kernel computes from one run of keys, at an element, over the extended reals. The four heads of a
  group are written out one after another in the kernel and all do the same, so each is brought to one of five functions
  first: a step of the accumulator with whole exponentials, over a half of the keys or over the last 256; a step with a
  running maximum, likewise; and the quotient written out.
-/
module

public import proofs.«01_k».proof.Proof.Gen.Kernel7Ideal.Skeleton
public import proofs.«01_k».proof.Proof.GqaMath
public import proofs.«01_k».proof.Proof.InProj
public import Idealize.ShloMosaic.Lib.ValueLayout

@[expose] public section

set_option maxRecDepth 65536

noncomputable section

namespace Cert.Proof.GqaSteps

open Cert.Kernel7Ideal Cert.Kernel7Ideal.Gen
open Idealize.ShloMosaic Idealize.ShloMosaic.ValueIdx
open Cert.Proof.GqaMath Cert.Proof.InProj

/-! ## For any number of keys -/

/-- A head's slab with its unit axis dropped. -/
theorem drop_at (a : Vec Ideal S1x144x256 .f32) (r : Fin 144) (p : Fin 256) :
    shapeCast S144x256 a shapeCasts_S1x144x256_S144x256 (ix2 r p) = a (ix3 0 r p) :=
  (shapeCast_dropUnit_apply ![144, 256] a shapeCasts_S1x144x256_S144x256 (ix2 r p)).trans
    (congrArg a (funext fun a => by match a with | ⟨0, _⟩ => rfl | ⟨1, _⟩ => rfl | ⟨2, _⟩ => rfl))

/-- A head's slab with its unit axis put back. -/
theorem add_at (a : FVec Ideal S144x256 .f32) (r : Fin 144) (p : Fin 256) :
    shapeCast S1x144x256 a shapeCasts_S144x256_S1x144x256 (ix3 0 r p) = a (ix2 r p) :=
  (shapeCast_addUnit_apply ![144, 256] a shapeCasts_S144x256_S1x144x256 (ix3 0 r p)).trans
    (congrArg a (funext fun a => by match a with | ⟨0, _⟩ => rfl | ⟨1, _⟩ => rfl))

theorem dropRow_at (m : Vec Ideal S1x1x256 .f32) (p : Fin 256) :
    shapeCast S1x256 m shapeCasts_S1x1x256_S1x256 (ix2 0 p) = m (ix3 0 0 p) :=
  (shapeCast_dropUnit_apply ![1, 256] m shapeCasts_S1x1x256_S1x256 (ix2 0 p)).trans
    (congrArg m (funext fun a => by match a with | ⟨0, _⟩ => rfl | ⟨1, _⟩ => rfl | ⟨2, _⟩ => rfl))

theorem addRow_at (m : FVec Ideal S1x256 .f32) (p : Fin 256) :
    shapeCast S1x1x256 m shapeCasts_S1x256_S1x1x256 (ix3 0 0 p) = m (ix2 0 p) :=
  (shapeCast_addUnit_apply ![1, 256] m shapeCasts_S1x256_S1x1x256 (ix3 0 0 p)).trans
    (congrArg m (funext fun a => by match a with | ⟨0, _⟩ => rfl | ⟨1, _⟩ => rfl))

/-- A cast to the same shape. -/
theorem cast_self {s : Shape} {α : Type} (x : s.Idx → α) (h : s.ShapeCasts s) : shapeCast s x h = x :=
  funext fun j => shapeCast_apply x h j j rfl

/-- The maximum of a column of scores and the one before it. -/
theorem max_at {N : ℕ} (T : FVec Ideal ⟨2, ![N, 256]⟩ .f32) (m : FVec Ideal S1x256 .f32)
    (h : Shape.Reduces ⟨2, ![N, 256]⟩ [0] S256) (p : Fin 256) :
    maximumf m (shapeCast S1x256 (multiReduction .maximumf [0] S256 T 0xFF800000#32 h (.inl rfl) rfl) shapeCasts_S256_S1x256) (ix2 0 p)
      = maxStep (fun k : Fin N => T (ix2 k p)) (m (ix2 0 p)) := by
  have e : shapeCast S1x256 (multiReduction .maximumf [0] S256 T 0xFF800000#32 h (.inl rfl) rfl) shapeCasts_S256_S1x256 (ix2 0 p)
      = (Finset.univ : Finset (Fin N)).fold max (⊥ : EReal) fun k => T (ix2 k p) := by
    refine (shapeCast_addUnit_apply ![256] _ shapeCasts_S256_S1x256 (ix2 0 p)).trans
      ((Ideal.multiReduction_maximumf_single T 0xFF800000#32 h (.inl rfl) rfl _).trans ?_)
    rw [show (FloatOps.ofBits (F := Ideal) .f32 0xFF800000#32 : EReal) = ⊥ from by simp [Ideal.ofBits, Ideal.ieee]]
    refine congrArg (fun f => Finset.univ.fold max (⊥ : EReal) f) (funext fun k => congrArg T (funext fun a => Fin.ext ?_))
    match a with
    | ⟨0, _⟩ => rfl
    | ⟨1, _⟩ => rfl
  show max (m (ix2 0 p)) _ = _
  rw [e]
  rfl

/-- The accumulator's step with whole exponentials. -/
theorem step_at {N : ℕ} (T : FVec Ideal ⟨2, ![N, 256]⟩ .f32) (vc : FVec Ideal ⟨2, ![144, N]⟩ .bf16) (a : Vec Ideal S1x144x256 .f32)
    (r : Fin 144) (p : Fin 256) :
    addf (shapeCast S144x256 a shapeCasts_S1x144x256_S144x256)
        (matmul (DotDims.plain 144 N 256) none vc (truncf .bf16 (exp2 T) bitsLt_bf16_f32) (constant S144x256 .f32 0x00000000#32)) (ix2 r p)
      = addStep (fun k : Fin N => T (ix2 k p)) (fun k => vc (ix2 r k)) (a (ix3 0 r p)) := by
  show (shapeCast S144x256 a shapeCasts_S1x144x256_S144x256 (ix2 r p) + matmul _ none vc _ _ (ix2 r p) : EReal) = _
  rw [drop_at]
  exact congrArg (a (ix3 0 r p) + · : EReal → EReal) (plain_zero vc _ r p)

/-- The accumulator's step with the maximum taken off. -/
theorem rstep_at {N : ℕ} (T : FVec Ideal ⟨2, ![N, 256]⟩ .f32) (vc : FVec Ideal ⟨2, ![144, N]⟩ .bf16) (m M : FVec Ideal S1x256 .f32)
    (a : Vec Ideal S1x144x256 .f32) (h : Shape.Broadcasts S1x256 ⟨2, ![N, 256]⟩) (r : Fin 144) (p : Fin 256) :
    addf (mulf (broadcastTo S144x256 (exp2 (subf m M)) broadcasts_S1x256_S144x256) (shapeCast S144x256 a shapeCasts_S1x144x256_S144x256))
        (matmul (DotDims.plain 144 N 256) none vc (truncf .bf16 (exp2 (subf T (broadcastTo ⟨2, ![N, 256]⟩ M h))) bitsLt_bf16_f32)
          (constant S144x256 .f32 0x00000000#32)) (ix2 r p)
      = Ideal.exp2 (m (ix2 0 p) - M (ix2 0 p)) * a (ix3 0 r p)
        + ∑ k : Fin N, vc (ix2 r k) * Ideal.exp2 (T (ix2 k p) - M (ix2 0 p)) := by
  show (broadcastTo S144x256 (exp2 (subf m M)) broadcasts_S1x256_S144x256 (ix2 r p)
    * shapeCast S144x256 a shapeCasts_S1x144x256_S144x256 (ix2 r p) + matmul _ none vc _ _ (ix2 r p) : EReal) = _
  rw [drop_at, broadcastTo_1b_ab_apply (a := 144) (b := 256)]
  refine congrArg (_ + · : EReal → EReal) ((plain_zero vc _ r p).trans (Finset.sum_congr rfl fun k _ => ?_))
  show (vc (ix2 r k) * Ideal.exp2 (T (ix2 k p) - broadcastTo ⟨2, ![N, 256]⟩ M h (ix2 k p)) : EReal) = _
  rw [broadcastTo_1b_ab_apply (a := N) (b := 256)]

/-! ## The kernel's steps -/

section
variable (kc : Vec Ideal S4224x128 .bf16) (vc : Vec Ideal S144x4224 .bf16) (q : Vec Ideal S128x256 .bf16)
  (m : Vec Ideal S1x1x256 .f32) (a : Vec Ideal S1x144x256 .f32) (r : Fin 144) (p : Fin 256)

/-- The score of key `k` for column `p`. -/
def score {N : ℕ} (kc : Vec Ideal ⟨2, ![N, 128]⟩ .bf16) (q : Vec Ideal S128x256 .bf16) (p : Fin 256) (k : Fin N) : EReal :=
  ∑ d : Fin 128, (kc (ix2 k d) * q (ix2 d p) : EReal)

theorem pay63_eq : k0_pay63 (k0_pay5 vc) (k0_pay6 kc q) a = k0_pay9 kc vc q a := rfl
theorem pay64_eq : k0_pay64 (k0_pay5 vc) (k0_pay7 kc q) a = k0_pay9 kc vc q a := rfl
theorem pay65_eq : k0_pay65 (k0_pay5 vc) (k0_pay8 kc q) a = k0_pay9 kc vc q a := rfl
theorem pay27_eq : k0_pay27 (k0_pay17 kc) (k0_pay18 vc) q m a = k0_pay22 kc vc q m a := rfl
theorem pay33_eq : k0_pay33 (k0_pay18 vc) (k0_pay30 m) (k0_pay31 (k0_pay17 kc) q m) (k0_pay32 (k0_pay17 kc) q m) a = k0_pay22 kc vc q m a := rfl
theorem pay70_eq : k0_pay70 (k0_pay38 (k0_pay17 kc) (k0_pay18 vc) q m a) = k0_pay22 kc vc q m a := rfl
theorem pay28_eq : k0_pay28 (k0_pay17 kc) q m = k0_pay23 kc q m := rfl
theorem pay34_eq : k0_pay34 (k0_pay31 (k0_pay17 kc) q m) = k0_pay23 kc q m := rfl
theorem pay71_eq : k0_pay71 (k0_pay37 (k0_pay17 kc) q m) = k0_pay23 kc q m := rfl

theorem pay19_apply (k : Fin 4224) : k0_pay19 kc q (ix2 k p) = score kc q p k := by
  unfold k0_pay19 k0_pay17
  dsimp only
  rw [cast_self, cast_self]
  exact plain_zero (M := 4224) (K := 128) (N := 256) kc q k p

theorem pay9_apply : k0_pay9 kc vc q a (ix3 0 r p) = addStep (score kc q p) (fun k => vc (ix2 r k)) (a (ix3 0 r p)) := by
  refine (add_at _ r p).trans ((step_at (N := 4224) (k0_pay19 kc q) (k0_pay5 vc) a r p).trans ?_)
  rw [show k0_pay5 vc = vc from cast_self _ _, funext fun k => pay19_apply kc q p k]

theorem pay21_apply : k0_pay21 kc q m (ix2 0 p) = maxStep (score kc q p) (m (ix3 0 0 p)) := by
  refine (max_at (N := 4224) (k0_pay19 kc q) (k0_pay20 m) reduces_S4224x256_S256 p).trans ?_
  rw [show k0_pay20 m (ix2 0 p) = m (ix3 0 0 p) from dropRow_at m p, funext fun k => pay19_apply kc q p k]

theorem pay23_apply : k0_pay23 kc q m (ix3 0 0 p) = maxStep (score kc q p) (m (ix3 0 0 p)) :=
  (addRow_at _ p).trans (pay21_apply kc q m p)

theorem pay22_apply : k0_pay22 kc vc q m a (ix3 0 r p)
    = runStep (score kc q p) (fun k => vc (ix2 r k)) (m (ix3 0 0 p)) (a (ix3 0 r p)) := by
  refine (add_at _ r p).trans ((rstep_at (N := 4224) (k0_pay19 kc q) (k0_pay18 vc) (k0_pay20 m) (k0_pay21 kc q m) a
    broadcasts_S1x256_S4224x256 r p).trans ?_)
  rw [show k0_pay18 vc = vc from cast_self _ _, pay21_apply, show k0_pay20 m (ix2 0 p) = m (ix3 0 0 p) from dropRow_at m p,
    funext fun k => congrArg (fun x : EReal => vc (ix2 r k) * Ideal.exp2 (x - _)) (pay19_apply kc q p k)]
  rfl

end

section
variable (kc : Vec Ideal S256x128 .bf16) (vc : Vec Ideal S144x256 .bf16) (q : Vec Ideal S128x256 .bf16)
  (m : Vec Ideal S1x1x256 .f32) (a : Vec Ideal S1x144x256 .f32) (r : Fin 144) (p : Fin 256)

theorem pay66_eq : k0_pay66 (k0_pay11 vc) (k0_pay12 kc q) (k0_pay16 a) = k0_pay15 kc vc q a := rfl
theorem pay67_eq : k0_pay67 (k0_pay11 vc) (k0_pay13 kc q) a = k0_pay15 kc vc q a := rfl
theorem pay68_eq : k0_pay68 (k0_pay11 vc) (k0_pay14 kc q) a = k0_pay15 kc vc q a := rfl
theorem pay49_eq : k0_pay49 (k0_pay40 vc) (k0_pay46 kc q) m a = k0_pay44 kc vc q m a := rfl
theorem pay56_eq : k0_pay56 (k0_pay40 vc) (k0_pay54 (k0_pay39 kc) q m) (k0_pay55 (k0_pay39 kc) q m) a = k0_pay44 kc vc q m a := rfl
theorem pay61_eq : k0_pay61 (k0_pay39 kc) (k0_pay40 vc) q m a = k0_pay44 kc vc q m a := rfl

theorem pay41_apply (k : Fin 256) : k0_pay41 kc q (ix2 k p) = score kc q p k := by
  unfold k0_pay41 k0_pay39
  dsimp only
  rw [cast_self, cast_self]
  exact plain_zero (M := 256) (K := 128) (N := 256) kc q k p

theorem pay15_apply : k0_pay15 kc vc q a (ix3 0 r p) = addStep (score kc q p) (fun k => vc (ix2 r k)) (a (ix3 0 r p)) := by
  refine (add_at _ r p).trans ((step_at (N := 256) (k0_pay41 kc q) (k0_pay11 vc) a r p).trans ?_)
  rw [show k0_pay11 vc = vc from cast_self _ _, funext fun k => pay41_apply kc q p k]

theorem pay43_apply : k0_pay43 kc q m (ix2 0 p) = maxStep (score kc q p) (m (ix3 0 0 p)) := by
  refine (max_at (N := 256) (k0_pay41 kc q) (k0_pay42 m) reduces_S256x256_S256 p).trans ?_
  rw [show k0_pay42 m (ix2 0 p) = m (ix3 0 0 p) from dropRow_at m p, funext fun k => pay41_apply kc q p k]

theorem pay44_apply : k0_pay44 kc vc q m a (ix3 0 r p)
    = runStep (score kc q p) (fun k => vc (ix2 r k)) (m (ix3 0 0 p)) (a (ix3 0 r p)) := by
  refine (add_at _ r p).trans ((rstep_at (N := 256) (k0_pay41 kc q) (k0_pay40 vc) (k0_pay42 m) (k0_pay43 kc q m) a
    broadcasts_S1x256_S256x256 r p).trans ?_)
  rw [show k0_pay40 vc = vc from cast_self _ _, pay43_apply, show k0_pay42 m (ix2 0 p) = m (ix3 0 0 p) from dropRow_at m p,
    funext fun k => congrArg (fun x : EReal => vc (ix2 r k) * Ideal.exp2 (x - _)) (pay41_apply kc q p k)]
  rfl

end

/-! ## What is written out -/

section
variable (a : Vec Ideal S1x144x256 .f32) (g : Vec Ideal S256x128 .bf16) (p : Fin 256) (d : Fin 128)

theorem pay1_eq : k0_pay1 (k0_pay74 a) g = k0_pay73 a g := rfl
theorem pay2_eq : k0_pay2 a g = k0_pay73 a g := rfl
theorem pay3_eq : k0_pay3 a g = k0_pay73 a g := rfl

theorem turn_at (x : FVec Ideal S128x256 .f32) : transpose S256x128 [1, 0] x transposes_S128x256_p1_0_S256x128 (ix2 p d) = x (ix2 d p) :=
  congrArg x (funext fun b => by match b with | ⟨0, _⟩ => rfl | ⟨1, _⟩ => rfl)

/-- The accumulator's row over its row of ones, times the gate. -/
theorem pay73_apply : k0_pay73 a g (ix2 p d)
    = Ideal.div (a (ix3 0 ⟨d.val, by omega⟩ p)) (a (ix3 0 128 p)) * (g (ix2 p d) * Ideal.logistic (g (ix2 p d))) := by
  have e1 : extractStridedSlice S128x256 ![0, 0] (shapeCast S144x256 a shapeCasts_S1x144x256_S144x256) slices_S144x256_o0_0_S128x256 (ix2 d p)
      = a (ix3 0 ⟨d.val, by omega⟩ p) := by
    rw [← drop_at a ⟨d.val, by omega⟩ p]
    refine congrArg (shapeCast S144x256 a shapeCasts_S1x144x256_S144x256) (funext fun x => Fin.ext ?_)
    match x with
    | ⟨0, _⟩ => exact Nat.zero_add _
    | ⟨1, _⟩ => exact Nat.zero_add _
  have e2 : extractStridedSlice S1x256 ![128, 0] (shapeCast S144x256 a shapeCasts_S1x144x256_S144x256) slices_S144x256_o128_0_S1x256 (ix2 0 p)
      = a (ix3 0 128 p) := by
    rw [← drop_at a 128 p]
    refine congrArg (shapeCast S144x256 a shapeCasts_S1x144x256_S144x256) (funext fun x => Fin.ext ?_)
    match x with
    | ⟨0, _⟩ => rfl
    | ⟨1, _⟩ => exact Nat.zero_add _
  unfold k0_pay73
  dsimp only
  refine congrArg₂ (· * · : EReal → EReal → EReal) ((turn_at p d _).trans ?_) rfl
  exact congrArg₂ Ideal.div e1 ((broadcastTo_1b_ab_apply (a := 128) (b := 256) _ _ d p).trans e2)

end

end Cert.Proof.GqaSteps

end
-- ==== Proof.GqaOuts.lean ====
/-
  What one call of the attention kernel's body leaves in its output block, at an element, over the extended reals: for
  each of the four ways the body runs (whole exponentials or a running maximum; a block of latent rows, which reads all
  8448 keys in two halves, or the block of context rows, which reads the last 256), the quotient of the accumulator's row by
  its row of weights, times the gate.
-/
module

public import proofs.«01_k».proof.Proof.Gen.Kernel7Ideal.Frame
public import proofs.«01_k».proof.Proof.GqaSteps
public import Idealize.ShloMosaic.Lib.Tactic

@[expose] public section

set_option maxRecDepth 65536
set_option maxHeartbeats 4000000

noncomputable section

namespace Cert.Proof.GqaOuts

open Cert.Kernel7Ideal Cert.Kernel7Ideal.Gen
open Idealize.ShloMosaic Idealize.ShloMosaic.TcCoe Idealize.ShloMosaic.ValueIdx
open Cert.Proof.GqaMath Cert.Proof.GqaSteps

/-! ## The values -/

def lo (k : Fin 4224) : Fin 8448 := ⟨k.val, by omega⟩
def hi (k : Fin 4224) : Fin 8448 := ⟨4224 + k.val, by omega⟩
def ctx (k : Fin 256) : Fin 8448 := ⟨8192 + k.val, by omega⟩

section
variable (x0 : Vec Ideal S512x256 .bf16) (x1 : Vec Ideal S8448x128 .bf16) (x2 : Vec Ideal S144x8448 .bf16) (x3 : Vec Ideal S256x512 .bf16)

/-- The score of a key for row `p` of the head that column `q` lies in. -/
def S (q : Fin 512) (p : Fin 256) (k : Fin 8448) : EReal :=
  ∑ d : Fin 128, (x1 (ix2 k d) * x0 (ix2 ⟨128 * (q.val / 128) + d.val, by omega⟩ p) : EReal)

def V (r : Fin 144) (k : Fin 8448) : EReal := x2 (ix2 r k)

/-- What the running maximum starts from. -/
def M0 : EReal := Ideal.ofBits .f32 0xF149F2CA#32

def accB (q : Fin 512) (p : Fin 256) (r : Fin 144) : EReal :=
  addStep (fun k => S x0 x1 q p (hi k)) (fun k => V x2 r (hi k)) (addStep (fun k => S x0 x1 q p (lo k)) (fun k => V x2 r (lo k)) 0)

def accC (q : Fin 512) (p : Fin 256) (r : Fin 144) : EReal :=
  runStep (fun k => S x0 x1 q p (hi k)) (fun k => V x2 r (hi k)) (maxStep (fun k => S x0 x1 q p (lo k)) M0)
    (runStep (fun k => S x0 x1 q p (lo k)) (fun k => V x2 r (lo k)) M0 0)

def accF (q : Fin 512) (p : Fin 256) (r : Fin 144) : EReal :=
  addStep (fun k => S x0 x1 q p (ctx k)) (fun k => V x2 r (ctx k)) 0

def accG (q : Fin 512) (p : Fin 256) (r : Fin 144) : EReal :=
  runStep (fun k => S x0 x1 q p (ctx k)) (fun k => V x2 r (ctx k)) M0 0

/-- The quotient of an accumulator's row by its row of weights, times the gate. -/
def gated (A : Fin 144 → EReal) (q : Fin 512) (p : Fin 256) : EReal :=
  Ideal.div (A ⟨q.val % 128, by omega⟩) (A 128) * (x3 (ix2 p q) * Ideal.logistic (x3 (ix2 p q)))

/-! ## Loads -/

/-- A box of a plane, at an element. -/
theorem ld_at {A B a b : ℕ} {e : EltTy} (X : (⟨2, ![A, B]⟩ : Shape).Idx → Elt Ideal e) (o o' : ℕ)
    (inb : ∀ x, (![o, o'] : Fin 2 → ℕ) x + (![a, b] : Fin 2 → ℕ) x ≤ (⟨2, ![A, B]⟩ : Shape).size x) (i : Fin a) (j : Fin b)
    (I : Fin A) (J : Fin B) (hI : I.val = o + i.val) (hJ : J.val = o' + j.val) :
    View.ld (Val := Elt Ideal) X (Rect.unit (s := ⟨2, ![A, B]⟩) ![o, o'] ![a, b] inb) (ix2 i j) = X (ix2 I J) :=
  congrArg X (funext fun x => Fin.ext (by
    match x with
    | ⟨0, _⟩ => exact (congrArg (o + ·) (Nat.one_mul _)).trans hI.symm
    | ⟨1, _⟩ => exact (congrArg (o' + ·) (Nat.one_mul _)).trans hJ.symm))

/-- The scores that a box of keys and a head's box of queries give. -/
theorem score_at {N : ℕ} (c o : ℕ) (ik : ∀ x, (![c, 0] : Fin 2 → ℕ) x + (![N, 128] : Fin 2 → ℕ) x ≤ S8448x128.size x)
    (iq : ∀ x, (![o, 0] : Fin 2 → ℕ) x + S128x256.size x ≤ S512x256.size x) (p : Fin 256) (q : Fin 512) (hq : 128 * (q.val / 128) = o)
    (f : Fin N → Fin 8448) (hf : ∀ k, (f k).val = c + k.val) :
    score (N := N) (View.ld (Val := Elt Ideal) (e' := .bf16) x1 (Rect.unit (s := S8448x128) ![c, 0] ![N, 128] ik))
        (View.ld (Val := Elt Ideal) (e' := .bf16) x0 (Rect.unit (s := S512x256) ![o, 0] S128x256.size iq)) p
      = fun k => S x0 x1 q p (f k) :=
  funext fun k => Finset.sum_congr rfl fun d _ => congrArg₂ (· * · : EReal → EReal → EReal)
    (ld_at (A := 8448) (B := 128) (e := .bf16) x1 c 0 ik k d (f k) d (hf k) (Nat.zero_add _).symm)
    (ld_at (A := 512) (B := 256) (e := .bf16) x0 o 0 iq d p _ p (congrArg (· + d.val) hq) (Nat.zero_add _).symm)

theorem val_at {N : ℕ} (c : ℕ) (iv : ∀ x, (![0, c] : Fin 2 → ℕ) x + (![144, N] : Fin 2 → ℕ) x ≤ S144x8448.size x) (r : Fin 144)
    (f : Fin N → Fin 8448) (hf : ∀ k, (f k).val = c + k.val) :
    (fun k : Fin N => View.ld (Val := Elt Ideal) (e' := .bf16) x2 (Rect.unit (s := S144x8448) ![0, c] ![144, N] iv) (ix2 r k))
      = fun k => V x2 r (f k) :=
  funext fun k => ld_at (A := 144) (B := 8448) (e := .bf16) x2 0 c iv r k r (f k) (Nat.zero_add _).symm (hf k)

/-- What is written out of an accumulator whose rows are known. -/
theorem out_at (a : Vec Ideal S1x144x256 .f32) (o : ℕ) (ig : ∀ x, (![0, o] : Fin 2 → ℕ) x + S256x128.size x ≤ S256x512.size x)
    (ho : o % 128 = 0) (A : Fin 144 → EReal) (p : Fin 256) (d : Fin 128) (q : Fin 512) (hq : q.val = o + d.val)
    (hA : ∀ r, a (ix3 0 r p) = A r) :
    k0_pay73 a (View.ld (Val := Elt Ideal) (e' := .bf16) x3 (Rect.unit (s := S256x512) ![0, o] S256x128.size ig)) (ix2 p d)
      = gated x3 A q p := by
  rw [pay73_apply, hA, hA]
  have e : View.ld (Val := Elt Ideal) (e' := .bf16) x3 (Rect.unit (s := S256x512) ![0, o] S256x128.size ig) (ix2 p d) = x3 (ix2 p q) :=
    ld_at (A := 256) (B := 512) (e := .bf16) x3 0 o ig p d p q (Nat.zero_add _).symm hq
  rw [e]
  unfold gated
  rw [show (⟨q.val % 128, by omega⟩ : Fin 144) = ⟨d.val, by omega⟩ from Fin.ext (by show q.val % 128 = d.val; omega)]

end

/-! ## The scratch, head by head -/

section
variable {sp : Space}

theorem slab_disj {n : ℕ} (a b : ℕ) (ia : ∀ x, (![a, 0, 0] : Fin 3 → ℕ) x + (![1, n, 256] : Fin 3 → ℕ) x ≤ (⟨3, ![4, n, 256]⟩ : Shape).size x)
    (ib : ∀ x, (![b, 0, 0] : Fin 3 → ℕ) x + (![1, n, 256] : Fin 3 → ℕ) x ≤ (⟨3, ![4, n, 256]⟩ : Shape).size x) (h : a ≠ b)
    (j : (⟨3, ![1, n, 256]⟩ : Shape).Idx) :
    (Rect.unit (s := ⟨3, ![4, n, 256]⟩) ![b, 0, 0] ![1, n, 256] ib).toLoadRect.idx j
      ∉ (Rect.unit (s := ⟨3, ![4, n, 256]⟩) ![a, 0, 0] ![1, n, 256] ia).set := by
  refine Rect.not_mem_set_of_axis _ _ 0 a 1 rfl rfl rfl ?_
  have hj : (j 0).val < 1 := (j 0).isLt
  show b + 1 * (j 0).val < a ∨ a + 1 ≤ b + 1 * (j 0).val
  omega

/-- A head's slab read after another head's was stored. -/
theorem slab_miss {n : ℕ} (v : View sig .tc sp ⟨3, ![4, n, 256]⟩ .f32) (f : v.ty.Contents (Elt Ideal)) (a b : ℕ)
    (ia : ∀ x, (![a, 0, 0] : Fin 3 → ℕ) x + (![1, n, 256] : Fin 3 → ℕ) x ≤ (⟨3, ![4, n, 256]⟩ : Shape).size x)
    (ib : ∀ x, (![b, 0, 0] : Fin 3 → ℕ) x + (![1, n, 256] : Fin 3 → ℕ) x ≤ (⟨3, ![4, n, 256]⟩ : Shape).size x) (h : a ≠ b)
    (w : (⟨3, ![1, n, 256]⟩ : Shape).Idx → Elt Ideal .f32) (L : List (View.Piece (Elt Ideal) ⟨3, ![4, n, 256]⟩ .f32)) :
    v.readAt (Elt Ideal) (Rect.unit (s := ⟨3, ![4, n, 256]⟩) ![b, 0, 0] ![1, n, 256] ib).toLoadRect
        (v.writes (Elt Ideal) f (⟨Rect.unit (s := ⟨3, ![4, n, 256]⟩) ![a, 0, 0] ![1, n, 256] ia, w⟩ :: L))
      = v.readAt (Elt Ideal) (Rect.unit (s := ⟨3, ![4, n, 256]⟩) ![b, 0, 0] ![1, n, 256] ib).toLoadRect (v.writes (Elt Ideal) f L) :=
  funext fun j => View.read_writes_cons_miss v f _ L _ (slab_disj a b ia ib h j)

/-- A head's slab read after it was stored. -/
theorem slab_hit {n : ℕ} (v : View sig .tc sp ⟨3, ![4, n, 256]⟩ .f32) (f : v.ty.Contents (Elt Ideal)) (a : ℕ)
    (ia ib : ∀ x, (![a, 0, 0] : Fin 3 → ℕ) x + (![1, n, 256] : Fin 3 → ℕ) x ≤ (⟨3, ![4, n, 256]⟩ : Shape).size x)
    (w : (⟨3, ![1, n, 256]⟩ : Shape).Idx → Elt Ideal .f32) (L : List (View.Piece (Elt Ideal) ⟨3, ![4, n, 256]⟩ .f32)) :
    v.readAt (Elt Ideal) (Rect.unit (s := ⟨3, ![4, n, 256]⟩) ![a, 0, 0] ![1, n, 256] ib).toLoadRect
        (v.writes (Elt Ideal) f (⟨Rect.unit (s := ⟨3, ![4, n, 256]⟩) ![a, 0, 0] ![1, n, 256] ia, w⟩ :: L)) = w :=
  funext fun j => by
    show v.read (Elt Ideal) (v.writes (Elt Ideal) f (⟨Rect.unit (s := ⟨3, ![4, n, 256]⟩) ![a, 0, 0] ![1, n, 256] ia, w⟩ :: L))
      ((Rect.unit (s := ⟨3, ![4, n, 256]⟩) ![a, 0, 0] ![1, n, 256] ia).emb j) = w j
    exact View.read_writes_cons_emb v f _ w L j

/-- A slab read after the whole scratch was filled with one value. -/
theorem slab_fill {n : ℕ} (v : View sig .tc sp ⟨3, ![4, n, 256]⟩ .f32) (f : v.ty.Contents (Elt Ideal)) (b : ℕ)
    (ib : ∀ x, (![b, 0, 0] : Fin 3 → ℕ) x + (![1, n, 256] : Fin 3 → ℕ) x ≤ (⟨3, ![4, n, 256]⟩ : Shape).size x)
    (iz : ∀ x, (![0, 0, 0] : Fin 3 → ℕ) x + (![4, n, 256] : Fin 3 → ℕ) x ≤ (⟨3, ![4, n, 256]⟩ : Shape).size x) (z : EReal)
    (w : (⟨3, ![4, n, 256]⟩ : Shape).Idx → Elt Ideal .f32) (hw : ∀ j, w j = z) (L : List (View.Piece (Elt Ideal) ⟨3, ![4, n, 256]⟩ .f32)) :
    v.readAt (Elt Ideal) (Rect.unit (s := ⟨3, ![4, n, 256]⟩) ![b, 0, 0] ![1, n, 256] ib).toLoadRect
        (v.writes (Elt Ideal) f (⟨Rect.unit (s := ⟨3, ![4, n, 256]⟩) ![0, 0, 0] ![4, n, 256] iz, w⟩ :: L)) = fun _ => z :=
  funext fun j => by
    have e : v.read (Elt Ideal) (v.writes (Elt Ideal) f (⟨Rect.unit (s := ⟨3, ![4, n, 256]⟩) ![0, 0, 0] ![4, n, 256] iz, w⟩ :: L))
        ((Rect.unit (s := ⟨3, ![4, n, 256]⟩) ![b, 0, 0] ![1, n, 256] ib).toLoadRect.idx j)
        = w ((Rect.unit (s := ⟨3, ![4, n, 256]⟩) ![b, 0, 0] ![1, n, 256] ib).toLoadRect.idx j) := by
      refine View.read_writes_cons_hit_of_coords v f (Rect.unit (s := ⟨3, ![4, n, 256]⟩) ![0, 0, 0] ![4, n, 256] iz) w L _ _ fun a => ?_
      match a with
      | ⟨0, _⟩ => exact ((Nat.zero_add _).trans (Nat.one_mul _)).symm
      | ⟨1, _⟩ => exact ((Nat.zero_add _).trans (Nat.one_mul _)).symm
      | ⟨2, _⟩ => exact ((Nat.zero_add _).trans (Nat.one_mul _)).symm
    exact e.trans (hw _)

theorem pay62_apply (j : S4x144x256.Idx) : (k0_pay62 (F := Ideal)) j = (0 : EReal) := Ideal.ofBits_zero_f32
theorem pay69_apply (j : S4x1x256.Idx) : (k0_pay69 (F := Ideal)) j = M0 := rfl

end

/-! ## The output block from its four stores -/

/-- A block stored head by head holds a value everywhere when each store holds it. -/
theorem four_at (w0 w1 w2 w3 : Vec Ideal S256x128 .bf16) (G : Fin 512 → Fin 256 → EReal)
    (h : ∀ (p : Fin 256) (d : Fin 128) (q : Fin 512), (q.val = 384 + d.val → w3 (ix2 p d) = G q p) ∧ (q.val = 256 + d.val → w2 (ix2 p d) = G q p)
      ∧ (q.val = 128 + d.val → w1 (ix2 p d) = G q p) ∧ (q.val = 0 + d.val → w0 (ix2 p d) = G q p)) (p : Fin 256) (q : Fin 512) :
    View.canon (Val := Elt Ideal) (e := .bf16) [⟨Rect.unit (s := S256x512) ![0, 384] S256x128.size inb_S256x512_S256x128_0_384, w3⟩,
      ⟨Rect.unit (s := S256x512) ![0, 256] S256x128.size inb_S256x512_S256x128_0_256, w2⟩,
      ⟨Rect.unit (s := S256x512) ![0, 128] S256x128.size inb_S256x512_S256x128_0_128, w1⟩,
      ⟨Rect.unit (s := S256x512) ![0, 0] S256x128.size inb_S256x512_S256x128_0_0, w0⟩] (ix2 p q) = G q p := by
  have hit : ∀ (o : ℕ) (i : ∀ x, (![0, o] : Fin 2 → ℕ) x + S256x128.size x ≤ S256x512.size x) (w : Vec Ideal S256x128 .bf16) (d : Fin 128)
      (_ : q.val = o + d.val) (L : List (View.Piece (Elt Ideal) S256x512 .bf16)),
      View.canon (Val := Elt Ideal) (e := .bf16) (⟨Rect.unit (s := S256x512) ![0, o] S256x128.size i, w⟩ :: L) (ix2 p q) = w (ix2 p d) := by
    intro o i w d hq L
    rw [show (ix2 p q : S256x512.Idx) = (Rect.unit (s := S256x512) ![0, o] S256x128.size i).emb (ix2 p d) from
      funext fun a => Fin.ext (by
        match a with
        | ⟨0, _⟩ => exact ((Nat.zero_add _).trans (Nat.one_mul _)).symm
        | ⟨1, _⟩ => exact hq.trans (congrArg (o + ·) (Nat.one_mul _).symm))]
    exact View.canon_cons_emb (Rect.unit (s := S256x512) ![0, o] S256x128.size i) w L _
  have miss : ∀ (o : ℕ) (i : ∀ x, (![0, o] : Fin 2 → ℕ) x + S256x128.size x ≤ S256x512.size x) (w : Vec Ideal S256x128 .bf16)
      (_ : q.val < o) (L : List (View.Piece (Elt Ideal) S256x512 .bf16)),
      View.canon (Val := Elt Ideal) (e := .bf16) (⟨Rect.unit (s := S256x512) ![0, o] S256x128.size i, w⟩ :: L) (ix2 p q)
        = View.canon (Val := Elt Ideal) (e := .bf16) L (ix2 p q) := fun o i w hq L =>
    View.canon_cons_of_not_mem _ L (Rect.not_mem_set_of_axis _ _ 1 o 128 rfl rfl rfl (Or.inl hq))
  by_cases h3 : 384 ≤ q.val
  · rw [hit 384 _ w3 ⟨q.val - 384, by omega⟩ (by show q.val = 384 + (q.val - 384); omega)]
    exact (h p _ q).1 (by show q.val = 384 + (q.val - 384); omega)
  rw [miss 384 _ w3 (by omega)]
  by_cases h2 : 256 ≤ q.val
  · rw [hit 256 _ w2 ⟨q.val - 256, by omega⟩ (by show q.val = 256 + (q.val - 256); omega)]
    exact (h p _ q).2.1 (by show q.val = 256 + (q.val - 256); omega)
  rw [miss 256 _ w2 (by omega)]
  by_cases h1 : 128 ≤ q.val
  · rw [hit 128 _ w1 ⟨q.val - 128, by omega⟩ (by show q.val = 128 + (q.val - 128); omega)]
    exact (h p _ q).2.2.1 (by show q.val = 128 + (q.val - 128); omega)
  rw [miss 128 _ w1 (by omega), hit 0 _ w0 ⟨q.val, by omega⟩ (Nat.zero_add _).symm]
  exact (h p _ q).2.2.2 (Nat.zero_add _).symm

/-! ## An accumulator's rows -/

/-- The queries of a head, and the boxes of keys and values that the steps read. -/
abbrev qB (x0 : Vec Ideal S512x256 .bf16) (o : ℕ) (iq : ∀ x, (![o, 0] : Fin 2 → ℕ) x + S128x256.size x ≤ S512x256.size x) : Vec Ideal S128x256 .bf16 :=
  View.ld (Val := Elt Ideal) (e' := .bf16) x0 (Rect.unit (s := S512x256) ![o, 0] S128x256.size iq)
abbrev kB {N : ℕ} (x1 : Vec Ideal S8448x128 .bf16) (o : ℕ) (ik : ∀ x, (![o, 0] : Fin 2 → ℕ) x + (![N, 128] : Fin 2 → ℕ) x ≤ S8448x128.size x) :
    Vec Ideal ⟨2, ![N, 128]⟩ .bf16 := View.ld (Val := Elt Ideal) (e' := .bf16) x1 (Rect.unit (s := S8448x128) ![o, 0] ![N, 128] ik)
abbrev vB {N : ℕ} (x2 : Vec Ideal S144x8448 .bf16) (o : ℕ) (iv : ∀ x, (![0, o] : Fin 2 → ℕ) x + (![144, N] : Fin 2 → ℕ) x ≤ S144x8448.size x) :
    Vec Ideal ⟨2, ![144, N]⟩ .bf16 := View.ld (Val := Elt Ideal) (e' := .bf16) x2 (Rect.unit (s := S144x8448) ![0, o] ![144, N] iv)

section
variable (x0 : Vec Ideal S512x256 .bf16) (x1 : Vec Ideal S8448x128 .bf16) (x2 : Vec Ideal S144x8448 .bf16) (o : ℕ)
  (iq : ∀ x, (![o, 0] : Fin 2 → ℕ) x + S128x256.size x ≤ S512x256.size x) (q : Fin 512) (p : Fin 256) (hq : 128 * (q.val / 128) = o) (r : Fin 144)
  {ik ik' : ∀ x, (![8192, 0] : Fin 2 → ℕ) x + (![256, 128] : Fin 2 → ℕ) x ≤ S8448x128.size x}
  {iv : ∀ x, (![0, 8192] : Fin 2 → ℕ) x + (![144, 256] : Fin 2 → ℕ) x ≤ S144x8448.size x}
  {i0 : ∀ x, (![0, 0] : Fin 2 → ℕ) x + (![4224, 128] : Fin 2 → ℕ) x ≤ S8448x128.size x}
  {i1 : ∀ x, (![4224, 0] : Fin 2 → ℕ) x + (![4224, 128] : Fin 2 → ℕ) x ≤ S8448x128.size x}
  {v0 : ∀ x, (![0, 0] : Fin 2 → ℕ) x + (![144, 4224] : Fin 2 → ℕ) x ≤ S144x8448.size x}
  {v1 : ∀ x, (![0, 4224] : Fin 2 → ℕ) x + (![144, 4224] : Fin 2 → ℕ) x ≤ S144x8448.size x}
include hq

theorem row_F : k0_pay15 (F := Ideal) (kB x1 8192 ik) (vB x2 8192 iv) (qB x0 o iq) (fun _ => (0 : EReal)) (ix3 0 r p) = accF x0 x1 x2 q p r := by
  rw [pay15_apply, score_at x0 x1 8192 o ik iq p q hq ctx fun _ => rfl, val_at x2 8192 iv r ctx fun _ => rfl]
  rfl

theorem row_G : k0_pay44 (F := Ideal) (kB x1 8192 ik) (vB x2 8192 iv) (qB x0 o iq) (fun _ => M0) (fun _ => (0 : EReal)) (ix3 0 r p) = accG x0 x1 x2 q p r := by
  rw [pay44_apply, score_at x0 x1 8192 o ik iq p q hq ctx fun _ => rfl, val_at x2 8192 iv r ctx fun _ => rfl]
  rfl

theorem row_B : k0_pay9 (F := Ideal) (kB x1 4224 i1) (vB x2 4224 v1) (qB x0 o iq) (k0_pay9 (kB x1 0 i0) (vB x2 0 v0) (qB x0 o iq) (fun _ => (0 : EReal))) (ix3 0 r p) = accB x0 x1 x2 q p r := by
  rw [pay9_apply, pay9_apply, score_at x0 x1 0 o i0 iq p q hq lo fun _ => (Nat.zero_add _).symm,
    val_at x2 0 v0 r lo fun _ => (Nat.zero_add _).symm, score_at x0 x1 4224 o i1 iq p q hq hi fun _ => rfl, val_at x2 4224 v1 r hi fun _ => rfl]
  rfl

theorem row_C : k0_pay22 (F := Ideal) (kB x1 4224 i1) (vB x2 4224 v1) (qB x0 o iq) (k0_pay23 (kB x1 0 i0) (qB x0 o iq) fun _ => M0) (k0_pay22 (kB x1 0 i0) (vB x2 0 v0) (qB x0 o iq) (fun _ => M0) (fun _ => (0 : EReal))) (ix3 0 r p)
    = accC x0 x1 x2 q p r := by
  rw [pay22_apply, pay22_apply, pay23_apply, score_at x0 x1 0 o i0 iq p q hq lo fun _ => (Nat.zero_add _).symm,
    val_at x2 0 v0 r lo fun _ => (Nat.zero_add _).symm, score_at x0 x1 4224 o i1 iq p q hq hi fun _ => rfl, val_at x2 4224 v1 r hi fun _ => rfl]
  rfl

end

/-! ## The four cases -/

section
variable (c : Dev nD) (i : grid0.Coords) (arg3 : Memref sig .tc .vmem S512x256 .bf16) (harg3 : arg3.IsWhole)
  (arg4 : Memref sig .tc .vmem S8448x128 .bf16) (harg4 : arg4.IsWhole) (arg5 : Memref sig .tc .vmem S144x8448 .bf16) (harg5 : arg5.IsWhole)
  (arg6 : Memref sig .tc .vmem S256x512 .bf16) (harg6 : arg6.IsWhole) (arg7 : Memref sig .tc .vmem S256x512 .bf16) (harg7 : arg7.IsWhole)
  (arg8 : Memref sig .tc .vmem S4x1x256 .f32) (harg8 : arg8.IsWhole) (arg9 : Memref sig .tc .vmem S4x144x256 .f32) (harg9 : arg9.IsWhole)
  (x0 : Vec Ideal S512x256 .bf16) (x1 : Vec Ideal S8448x128 .bf16) (x2 : Vec Ideal S144x8448 .bf16) (x3 : Vec Ideal S256x512 .bf16)
  (xt0 : TbBuf0 (F := Ideal) c tbM0_0) (p : Fin 256) (q : Fin 512)

theorem out_F (hc1 hc2 hc0 hc3) :
    out0_F_4 (F := Ideal) c i arg3 harg3 arg4 harg4 arg5 harg5 arg6 harg6 arg7 harg7 arg8 harg8 arg9 harg9 hc1 hc2 x0 x1 x2 x3 xt0 hc0 hc3
      (ix2 p q) = gated x3 (accF x0 x1 x2 q p) q p := by
  unfold out0_F_4
  rw [View.read_writes_eq_canon _ _ _ (fun y => cover0_F_4 (y := y) ..)]
  unfold kernelRun0_F
  dsimp only
  sl_unfold_words
  simp only [View.readCov]
  simp (disch := decide) only [slab_hit, slab_miss, slab_fill arg9.view _ _ _ _ 0 _ pay62_apply, pay66_eq, pay67_eq, pay68_eq, pay1_eq, pay2_eq, pay3_eq]
  simp only [View.readAt_eq_ld, harg3.read_unread, harg4.read_unread, harg5.read_unread, harg6.read_unread]
  exact four_at _ _ _ _ (fun q p => gated x3 (accF x0 x1 x2 q p) q p) (fun p d q =>
    ⟨fun e => out_at x3 _ 384 _ rfl _ p d q e fun r => row_F x0 x1 x2 384 _ q p (by omega) r,
     fun e => out_at x3 _ 256 _ rfl _ p d q e fun r => row_F x0 x1 x2 256 _ q p (by omega) r,
     fun e => out_at x3 _ 128 _ rfl _ p d q e fun r => row_F x0 x1 x2 128 _ q p (by omega) r,
     fun e => out_at x3 _ 0 _ rfl _ p d q e fun r => row_F x0 x1 x2 0 _ q p (by omega) r⟩) p q

theorem out_G (hc4 hc5 hc0 hc3) :
    out0_G_4 (F := Ideal) c i arg3 harg3 arg4 harg4 arg5 harg5 arg6 harg6 arg7 harg7 arg8 harg8 arg9 harg9 hc4 hc5 x0 x1 x2 x3 xt0 hc0 hc3
      (ix2 p q) = gated x3 (accG x0 x1 x2 q p) q p := by
  unfold out0_G_4
  rw [View.read_writes_eq_canon _ _ _ (fun y => cover0_G_4 (y := y) ..)]
  unfold kernelRun0_G
  dsimp only
  sl_unfold_words
  simp only [View.readCov]
  simp (disch := decide) only [slab_hit, slab_miss, slab_fill arg9.view _ _ _ _ 0 _ pay62_apply, slab_fill arg8.view _ _ _ _ M0 _ pay69_apply,
    pay49_eq, pay56_eq, pay61_eq, pay1_eq, pay2_eq, pay3_eq]
  simp only [View.readAt_eq_ld, harg3.read_unread, harg4.read_unread, harg5.read_unread, harg6.read_unread]
  exact four_at _ _ _ _ (fun q p => gated x3 (accG x0 x1 x2 q p) q p) (fun p d q =>
    ⟨fun e => out_at x3 _ 384 _ rfl _ p d q e fun r => row_G x0 x1 x2 384 _ q p (by omega) r,
     fun e => out_at x3 _ 256 _ rfl _ p d q e fun r => row_G x0 x1 x2 256 _ q p (by omega) r,
     fun e => out_at x3 _ 128 _ rfl _ p d q e fun r => row_G x0 x1 x2 128 _ q p (by omega) r,
     fun e => out_at x3 _ 0 _ rfl _ p d q e fun r => row_G x0 x1 x2 0 _ q p (by omega) r⟩) p q

theorem trips_B (hc X3 X4 X5 G) (n : ℕ) (hn : n = 2) :
    pb_k0_t1 (F := Ideal) Variants.none c none i tbM0_0 htbM0_0 arg3 harg3 arg4 harg4 arg5 harg5 arg6 harg6 arg7 harg7 arg8 harg8 arg9 harg9 hc
        X3 X4 X5 G n
      = tripL_k0_t1 (F := Ideal) Variants.none c none i tbM0_0 htbM0_0 arg3 harg3 arg4 harg4 arg5 harg5 arg6 harg6 arg7 harg7 arg8 harg8 arg9 harg9
          hc X3 X4 X5 ⟨1, by decide⟩ (arg9.view.writes (Elt Ideal) G
            (tripL_k0_t1 (F := Ideal) Variants.none c none i tbM0_0 htbM0_0 arg3 harg3 arg4 harg4 arg5 harg5 arg6 harg6 arg7 harg7 arg8 harg8
              arg9 harg9 hc X3 X4 X5 ⟨0, by decide⟩ G))
        ++ tripL_k0_t1 (F := Ideal) Variants.none c none i tbM0_0 htbM0_0 arg3 harg3 arg4 harg4 arg5 harg5 arg6 harg6 arg7 harg7 arg8 harg8
              arg9 harg9 hc X3 X4 X5 ⟨0, by decide⟩ G := by
  subst hn
  have h0 := pb_k0_t1_succ (F := Ideal) Variants.none c none i tbM0_0 htbM0_0 arg3 harg3 arg4 harg4 arg5 harg5 arg6 harg6 arg7 harg7 arg8 harg8
    arg9 harg9 hc X3 X4 X5 G ⟨0, by decide⟩
  refine (pb_k0_t1_succ (F := Ideal) Variants.none c none i tbM0_0 htbM0_0 arg3 harg3 arg4 harg4 arg5 harg5 arg6 harg6 arg7 harg7 arg8 harg8
    arg9 harg9 hc X3 X4 X5 G ⟨1, by decide⟩).trans ?_
  have h1 := h0.trans (List.append_nil _)
  exact congrArg (fun L => tripL_k0_t1 (F := Ideal) Variants.none c none i tbM0_0 htbM0_0 arg3 harg3 arg4 harg4 arg5 harg5 arg6 harg6 arg7 harg7
    arg8 harg8 arg9 harg9 hc X3 X4 X5 ⟨1, by decide⟩ (arg9.view.writes (Elt Ideal) G L) ++ L) h1

theorem out_B (hc1 hc2 hc0 hc3) :
    out0_B_4 (F := Ideal) c i arg3 harg3 arg4 harg4 arg5 harg5 arg6 harg6 arg7 harg7 arg8 harg8 arg9 harg9 hc1 hc2 x0 x1 x2 x3 xt0 hc0 hc3
      (ix2 p q) = gated x3 (accB x0 x1 x2 q p) q p := by
  unfold out0_B_4
  rw [View.read_writes_eq_canon _ _ _ (fun y => cover0_B_4 (y := y) ..)]
  unfold kernelRun0_B
  dsimp only
  sl_unfold_words
  simp only [View.readCov, View.writes_append]
  rw [trips_B (n := Scf.trips 0#32 (Scalar.addi 0#32 2#32) 1#32) (hn := by decide)]
  simp only [View.writes_append]
  unfold tripL_k0_t1 trip_k0_t1
  dsimp only
  sl_unfold_words
  simp (disch := decide) only [slab_hit, slab_miss, slab_fill arg9.view _ _ _ _ 0 _ pay62_apply, pay63_eq, pay64_eq, pay65_eq, pay1_eq, pay2_eq, pay3_eq]
  simp only [View.readAt_eq_ld, harg3.read_unread, harg4.read_unread, harg5.read_unread, harg6.read_unread]
  exact four_at _ _ _ _ (fun q p => gated x3 (accB x0 x1 x2 q p) q p) (fun p d q =>
    ⟨fun e => out_at x3 _ 384 _ rfl _ p d q e fun r => row_B x0 x1 x2 384 _ q p (by omega) r,
     fun e => out_at x3 _ 256 _ rfl _ p d q e fun r => row_B x0 x1 x2 256 _ q p (by omega) r,
     fun e => out_at x3 _ 128 _ rfl _ p d q e fun r => row_B x0 x1 x2 128 _ q p (by omega) r,
     fun e => out_at x3 _ 0 _ rfl _ p d q e fun r => row_B x0 x1 x2 0 _ q p (by omega) r⟩) p q

theorem trips_C (hc X3 X4 X5 G8 G9) (n : ℕ) (hn : n = 2) :
    (pb_k0_t2 (F := Ideal) Variants.none c none i tbM0_0 htbM0_0 arg3 harg3 arg4 harg4 arg5 harg5 arg6 harg6 arg7 harg7 arg8 harg8 arg9 harg9 hc X3 X4 X5 G8 G9 n).2
      = (tripL_k0_t2 (F := Ideal) Variants.none c none i tbM0_0 htbM0_0 arg3 harg3 arg4 harg4 arg5 harg5 arg6 harg6 arg7 harg7 arg8 harg8 arg9 harg9 hc X3 X4 X5 ⟨1, by decide⟩
            (arg8.view.writes (Elt Ideal) G8 (tripL_k0_t2 (F := Ideal) Variants.none c none i tbM0_0 htbM0_0 arg3 harg3 arg4 harg4 arg5 harg5 arg6 harg6 arg7 harg7 arg8 harg8 arg9 harg9 hc X3 X4 X5 ⟨0, by decide⟩ G8 G9).1)
            (arg9.view.writes (Elt Ideal) G9 (tripL_k0_t2 (F := Ideal) Variants.none c none i tbM0_0 htbM0_0 arg3 harg3 arg4 harg4 arg5 harg5 arg6 harg6 arg7 harg7 arg8 harg8 arg9 harg9 hc X3 X4 X5 ⟨0, by decide⟩ G8 G9).2)).2
        ++ (tripL_k0_t2 (F := Ideal) Variants.none c none i tbM0_0 htbM0_0 arg3 harg3 arg4 harg4 arg5 harg5 arg6 harg6 arg7 harg7 arg8 harg8 arg9 harg9 hc X3 X4 X5 ⟨0, by decide⟩ G8 G9).2 := by
  subst hn
  have h0 := pb_k0_t2_succ (F := Ideal) Variants.none c none i tbM0_0 htbM0_0 arg3 harg3 arg4 harg4 arg5 harg5 arg6 harg6 arg7 harg7 arg8 harg8 arg9 harg9 hc X3 X4 X5 G8 G9 ⟨0, by decide⟩
  refine (congrArg Prod.snd (pb_k0_t2_succ (F := Ideal) Variants.none c none i tbM0_0 htbM0_0 arg3 harg3 arg4 harg4 arg5 harg5 arg6 harg6 arg7 harg7 arg8 harg8 arg9 harg9 hc X3 X4 X5 G8 G9 ⟨1, by decide⟩)).trans ?_
  have h1 := h0.trans (congrArg₂ Prod.mk (List.append_nil _) (List.append_nil _))
  exact congrArg (fun L => (tripL_k0_t2 (F := Ideal) Variants.none c none i tbM0_0 htbM0_0 arg3 harg3 arg4 harg4 arg5 harg5 arg6 harg6 arg7 harg7 arg8 harg8 arg9 harg9 hc X3 X4 X5 ⟨1, by decide⟩
    (arg8.view.writes (Elt Ideal) G8 L.1) (arg9.view.writes (Elt Ideal) G9 L.2)).2 ++ L.2) h1

theorem out_C (hc4 hc5 hc0 hc3) :
    out0_C_4 (F := Ideal) c i arg3 harg3 arg4 harg4 arg5 harg5 arg6 harg6 arg7 harg7 arg8 harg8 arg9 harg9 hc4 hc5 x0 x1 x2 x3 xt0 hc0 hc3
      (ix2 p q) = gated x3 (accC x0 x1 x2 q p) q p := by
  unfold out0_C_4
  rw [View.read_writes_eq_canon _ _ _ (fun y => cover0_C_4 (y := y) ..)]
  unfold kernelRun0_C
  dsimp only
  sl_unfold_words
  simp only [View.readCov, View.writes_append]
  rw [trips_C (n := Scf.trips 0#32 (Scalar.addi 0#32 2#32) 1#32) (hn := by decide)]
  simp only [View.writes_append]
  unfold trip_k0_t2
  dsimp only
  sl_unfold_words
  simp (disch := decide) only [slab_hit, slab_miss, slab_fill arg9.view _ _ _ _ 0 _ pay62_apply, slab_fill arg8.view _ _ _ _ M0 _ pay69_apply,
    pay27_eq, pay33_eq, pay70_eq, pay28_eq, pay34_eq, pay71_eq, pay1_eq, pay2_eq, pay3_eq]
  simp only [View.readAt_eq_ld, harg3.read_unread, harg4.read_unread, harg5.read_unread, harg6.read_unread]
  exact four_at _ _ _ _ (fun q p => gated x3 (accC x0 x1 x2 q p) q p) (fun p d q =>
    ⟨fun e => out_at x3 _ 384 _ rfl _ p d q e fun r => row_C x0 x1 x2 384 _ q p (by omega) r,
     fun e => out_at x3 _ 256 _ rfl _ p d q e fun r => row_C x0 x1 x2 256 _ q p (by omega) r,
     fun e => out_at x3 _ 128 _ rfl _ p d q e fun r => row_C x0 x1 x2 128 _ q p (by omega) r,
     fun e => out_at x3 _ 0 _ rfl _ p d q e fun r => row_C x0 x1 x2 0 _ q p (by omega) r⟩) p q

end

end Cert.Proof.GqaOuts

end
-- ==== Proof.GqaAtt.lean ====
/-
  The attention as an average: over real scores, the kernel's quotient of two accumulators is the average of the values by
  the exponentials of the scores, in each of the four ways its body runs.
-/
module

public import proofs.«01_k».proof.Proof.GqaOuts

@[expose] public section

set_option maxRecDepth 65536
set_option backward.proofsInPublic true

noncomputable section

namespace Cert.Proof.GqaAtt

open Cert.Kernel7Ideal
open Idealize.ShloMosaic Idealize.ShloMosaic.ValueIdx
open Cert.Proof.GqaMath Cert.Proof.GqaSteps Cert.Proof.GqaOuts

/-! ## Constants -/

/-- One over the root of a head's 128 features. -/
def sc : ℝ := (Real.sqrt 128)⁻¹

theorem c128 : Ideal.ofBits .f32 0x43000000#32 = ((128 : ℝ) : EReal) := by
  simp [Ideal.ofBits, Ideal.ieee]
  rw [← EReal.coe_mul]
  norm_num
theorem c2 : Ideal.ofBits .f32 0x40000000#32 = ((2 : ℝ) : EReal) := by
  simp [Ideal.ofBits, Ideal.ieee]
  rw [← EReal.coe_mul]
  norm_num
theorem c1 : Ideal.ofBits .bf16 0x3F80#16 = (1 : EReal) := by
  simp [Ideal.ofBits, Ideal.ieee]
  rw [← EReal.coe_mul]
  norm_num
theorem c1f : Ideal.ofBits .f32 0x3F800000#32 = (1 : EReal) := by
  simp [Ideal.ofBits, Ideal.ieee]
  rw [← EReal.coe_mul]
  norm_num
theorem cbot : Ideal.ofBits .f32 0xFF800000#32 = (⊥ : EReal) := by
  simp [Ideal.ofBits, Ideal.ieee]

theorem rsqrt_128 : Ideal.rsqrt (Ideal.ofBits .f32 0x43000000#32) = (sc : EReal) := by
  rw [c128, Ideal.rsqrt_coe, if_neg (by norm_num), if_neg (by norm_num)]
  rfl

theorem log_2 : Ideal.log (Ideal.ofBits .f32 0x40000000#32) = ((Real.log 2 : ℝ) : EReal) := by
  rw [c2, Ideal.log_coe, if_neg (by norm_num)]

theorem M0_real : ∃ r : ℝ, M0 = (r : EReal) := by
  unfold M0
  simp only [Ideal.ofBits, Ideal.ieee]
  norm_num
  exact ⟨_, rfl⟩

/-! ## The attention -/

variable (q : S8448x16x128.Idx → EReal) (k : S8448x4x128.Idx → EReal) (u : S8448x13312.Idx → EReal)

/-- The score of key `j` for row `R` and the head of column `C`. -/
def score (R : Fin 8448) (C : Fin 2048) (j : Fin 8448) : ℝ :=
  (∑ d : Fin 128, (k (ix3 j ⟨C.val / 512, by omega⟩ d)).toReal * (q (ix3 R ⟨C.val / 128, by omega⟩ d)).toReal) * sc

/-- The value of key `j` in column `C`. -/
def val (C : Fin 2048) (j : Fin 8448) : EReal := u (ix2 j ⟨10752 + (128 * (C.val / 512) + C.val % 128), by omega⟩)

def gate (R : Fin 8448) (C : Fin 2048) : EReal := u (ix2 R ⟨11264 + C.val, by omega⟩)

/-- Latent rows attend to every key, context rows to the context's 256. -/
def att (R : Fin 8448) (C : Fin 2048) : EReal :=
  if R.val < 8192 then avg (val u C) (fun j => Real.exp (score q k R C j))
  else avg (fun j => val u C (ctx j)) (fun j => Real.exp (score q k R C (ctx j)))

def res (R : Fin 8448) (C : Fin 2048) : EReal := att q k u R C * (gate u R C * Ideal.logistic (gate u R C))

def out : S8448x2048.Idx → EReal := fun i => res q k u ⟨(i 0).val, (i 0).isLt⟩ ⟨(i 1).val, (i 1).isLt⟩

/-! ## The kernel's quotients -/

theorem sum_lohi {M : Type} [AddCommMonoid M] (f : Fin 8448 → M) : ∑ j, f j = ∑ j, f (lo j) + ∑ j, f (hi j) :=
  Fin.sum_univ_add (a := 4224) (b := 4224) f

section
variable (T : Fin 8448 → ℝ) (v : Fin 8448 → EReal)

theorem quot_F {n : ℕ} [NeZero n] (t : Fin n → ℝ) (v : Fin n → EReal) :
    Ideal.div (addStep (fun j => (t j : EReal)) v 0) (addStep (fun j => (t j : EReal)) (fun _ => 1) 0) = avg v (fun j => (2 : ℝ) ^ t j) := by
  rw [addStep_real, addStep_real, zero_add, zero_add]
  exact quot_avg v _ fun j => two_pos (t j)

theorem quot_G {n : ℕ} [NeZero n] (t : Fin n → ℝ) (v : Fin n → EReal) (m : ℝ) :
    Ideal.div (runStep (fun j => (t j : EReal)) v m 0) (runStep (fun j => (t j : EReal)) (fun _ => 1) m 0) = avg v (fun j => (2 : ℝ) ^ t j) := by
  obtain ⟨c, hc, h⟩ := run_one t m
  rw [h, h, quot_avg v _ fun j => mul_pos (two_pos (t j)) hc]
  exact avg_scale _ _ _ c hc fun _ => rfl

theorem quot_B :
    Ideal.div (addStep (fun j => (T (hi j) : EReal)) (fun j => v (hi j)) (addStep (fun j => (T (lo j) : EReal)) (fun j => v (lo j)) 0))
      (addStep (fun j => (T (hi j) : EReal)) (fun _ => 1) (addStep (fun j => (T (lo j) : EReal)) (fun _ => 1) 0))
    = avg v (fun j => (2 : ℝ) ^ T j) := by
  rw [addStep_real (fun j => T (hi j)), addStep_real (fun j => T (lo j)), addStep_real (fun j => T (hi j)), addStep_real (fun j => T (lo j)), zero_add, zero_add]
  rw [← quot_avg v _ fun j => two_pos (T j), sum_lohi, sum_lohi]

theorem quot_C (m : ℝ) :
    Ideal.div (runStep (fun j => (T (hi j) : EReal)) (fun j => v (hi j)) (maxStep (fun j => (T (lo j) : EReal)) m) (runStep (fun j => (T (lo j) : EReal)) (fun j => v (lo j)) m 0))
      (runStep (fun j => (T (hi j) : EReal)) (fun _ => 1) (maxStep (fun j => (T (lo j) : EReal)) m) (runStep (fun j => (T (lo j) : EReal)) (fun _ => 1) m 0))
    = avg v (fun j => (2 : ℝ) ^ T j) := by
  obtain ⟨c, hc, h⟩ := run_two (fun j => T (lo j)) (fun j => T (hi j)) m
  rw [h, h, ← avg_scale v _ (fun j => (2 : ℝ) ^ T j * c) c hc fun _ => rfl, ← quot_avg v _ fun j => mul_pos (two_pos (T j)) hc, sum_lohi, sum_lohi]

end

/-! ## A call of the body, at an element -/

section
variable (x0 : Vec Ideal S512x256 .bf16) (x1 : Vec Ideal S8448x128 .bf16) (x2 : Vec Ideal S144x8448 .bf16) (x3 : Vec Ideal S256x512 .bf16)
  (Q : Fin 512) (P : Fin 256) (R : Fin 8448) (C : Fin 2048)

/-- The kernel's score, of the scaled queries, is the score over the logarithm of two. -/
theorem S_real (hq : ∀ i, q i = ((q i).toReal : EReal)) (hk : ∀ i, k i = ((k i).toReal : EReal)) (j : Fin 8448)
    (h1 : ∀ d, x1 (ix2 j d) = k (ix3 j ⟨C.val / 512, by omega⟩ d))
    (h0 : ∀ d : Fin 128, x0 (ix2 ⟨128 * (Q.val / 128) + d.val, by omega⟩ P) = q (ix3 R ⟨C.val / 128, by omega⟩ d)
      * Ideal.div (Ideal.rsqrt (Ideal.ofBits .f32 0x43000000#32)) (Ideal.log (Ideal.ofBits .f32 0x40000000#32))) :
    S x0 x1 Q P j = ((score q k R C j / Real.log 2 : ℝ) : EReal) := by
  unfold S score
  rw [div_eq_mul_inv, mul_assoc, Finset.sum_mul, coe_sum]
  refine Finset.sum_congr rfl fun d _ => ?_
  rw [h1, h0, rsqrt_128, log_2, div_coe _ _ (Real.log_pos (by norm_num)), hq, hk, ← EReal.coe_mul, ← EReal.coe_mul]
  simp only [EReal.toReal_coe]
  rw [div_eq_mul_inv, mul_assoc]

variable (hS : ∀ j, S x0 x1 Q P j = ((score q k R C j / Real.log 2 : ℝ) : EReal))
  (hv : ∀ j, x2 (ix2 ⟨Q.val % 128, by omega⟩ j) = val u C j) (h1 : ∀ j, x2 (ix2 128 j) = 1) (hg : x3 (ix2 P Q) = gate u R C)
include hS hv h1 hg

theorem gated_B (hR : R.val < 8192) : gated x3 (accB x0 x1 x2 Q P) Q P = res q k u R C := by
  unfold gated accB res att V
  simp only [hS, hv, h1, hg]
  rw [quot_B (fun j => score q k R C j / Real.log 2) (val u C), if_pos hR]
  simp only [two_rpow]

theorem gated_C (hR : R.val < 8192) : gated x3 (accC x0 x1 x2 Q P) Q P = res q k u R C := by
  obtain ⟨m, hm⟩ := M0_real
  unfold gated accC res att V
  simp only [hS, hv, h1, hg, hm]
  rw [quot_C (fun j => score q k R C j / Real.log 2) (val u C), if_pos hR]
  simp only [two_rpow]

theorem gated_F (hR : ¬R.val < 8192) : gated x3 (accF x0 x1 x2 Q P) Q P = res q k u R C := by
  unfold gated accF res att V
  simp only [hS, hv, h1, hg]
  rw [quot_F (fun j => score q k R C (ctx j) / Real.log 2), if_neg hR]
  simp only [two_rpow]

theorem gated_G (hR : ¬R.val < 8192) : gated x3 (accG x0 x1 x2 Q P) Q P = res q k u R C := by
  obtain ⟨m, hm⟩ := M0_real
  unfold gated accG res att V
  simp only [hS, hv, h1, hg, hm]
  rw [quot_G (fun j => score q k R C (ctx j) / Real.log 2), if_neg hR]
  simp only [two_rpow]

end

end Cert.Proof.GqaAtt

end
-- ==== Proof.GqaHost.lean ====
/-
  The arrays that the host lays out for the attention kernel, at an element: the queries scaled and turned, a head's
  features in a row; the values turned, a group's 128 features above sixteen rows of ones; and the keys as a plane.
-/
module

public import proofs.«01_k».proof.Proof.GqaAtt
public import Idealize.ShloMosaic.Lib.Tactic

@[expose] public section

set_option maxRecDepth 65536

noncomputable section

namespace Cert.Proof.GqaHost

open Cert.Kernel7Ideal Cert.Kernel7Ideal.Gen
open Idealize.ShloMosaic Idealize.ShloMosaic.TcCoe Idealize.ShloMosaic.ValueIdx Idealize.SL.Sem

variable (m : (ℓ : Loc nD τ sig) → Buf (Elt Ideal) ℓ)

abbrev Qs (c : Dev nD) : S8448x16x128.Idx → EReal := m ((c : Thread nD τ).loc main_arg1)
abbrev Ks (c : Dev nD) : S8448x4x128.Idx → EReal := m ((c : Thread nD τ).loc main_arg2)
abbrev Us (c : Dev nD) : S8448x13312.Idx → EReal := m ((c : Thread nD τ).loc main_arg3)

/-- The queries' factor. -/
def factor : (⟨S_, .f32⟩ : BufTy).Contents (Elt Ideal) :=
  Host.divf (F := Ideal) (Host.rsqrt (constant S_ .f32 0x43000000#32)) (Host.log (constant S_ .f32 0x40000000#32))

def scaled (q : (⟨S8448x16x128, .f32⟩ : BufTy).Contents (Elt Ideal)) : (⟨S8448x16x128, .bf16⟩ : BufTy).Contents (Elt Ideal) :=
  truncf (F := Ideal) .bf16 (mulf q (broadcastInDim S8448x16x128 ![] bcast_S_S8448x16x128 factor)) bitsLt_bf16_f32

def turnedQ (q : (⟨S8448x16x128, .bf16⟩ : BufTy).Contents (Elt Ideal)) : (⟨S2048x8448, .bf16⟩ : BufTy).Contents (Elt Ideal) :=
  transpose S2048x8448 [1, 0] (shapeCast S8448x2048 q shapeCasts_S8448x16x128_S8448x2048) transposes_S8448x2048_S2048x8448_1_0

def turnedV (u : (⟨S8448x13312, .bf16⟩ : BufTy).Contents (Elt Ideal)) : (⟨S4x128x8448, .bf16⟩ : BufTy).Contents (Elt Ideal) :=
  transpose S4x128x8448 [1, 2, 0] (shapeCast S8448x4x128 (extractStridedSlice S8448x512 ![0, 10752] u slices_S8448x13312_S8448x512_0_10752)
    shapeCasts_S8448x512_S8448x4x128) transposes_S8448x4x128_S4x128x8448_1_2_0

def ones : (⟨S4x16x8448, .bf16⟩ : BufTy).Contents (Elt Ideal) :=
  broadcastInDim S4x16x8448 ![] bcast_S_S4x16x8448 (constant (F := Ideal) S_ .bf16 0x3F80#16)

def stacked (v : (⟨S4x128x8448, .bf16⟩ : BufTy).Contents (Elt Ideal)) : (⟨S4x144x8448, .bf16⟩ : BufTy).Contents (Elt Ideal) :=
  concatenate S4x144x8448 1 [⟨S4x128x8448, v⟩, ⟨S4x16x8448, ones⟩] concatenates_S4x128x8448_S4x16x8448_S4x144x8448_d1

theorem V_q (c : Dev nD) : V m c main_v7 = turnedQ (scaled (Qs m c)) := by
  unfold V turnedQ scaled factor
  simp only [hostOps0]
  after_results_simp <;> rfl

theorem V_v (c : Dev nD) : V m c main_v13 = shapeCast S576x8448 (stacked (turnedV (Us m c))) shapeCasts_S4x144x8448_S576x8448 := by
  unfold V stacked turnedV ones
  simp only [hostOps0]
  after_results_simp <;> rfl

theorem V_k (c : Dev nD) : V m c main_v14 = shapeCast S8448x512 (Ks m c) shapeCasts_S8448x4x128_S8448x512 := by
  unfold V
  simp only [hostOps0]
  after_results_simp <;> rfl

/-! ## At an element -/

theorem scaled_at (q : (⟨S8448x16x128, .f32⟩ : BufTy).Contents (Elt Ideal)) (i : S8448x16x128.Idx) :
    scaled q i = q i * Ideal.div (Ideal.rsqrt (Ideal.ofBits .f32 0x43000000#32)) (Ideal.log (Ideal.ofBits .f32 0x40000000#32)) := by
  show (q i * broadcastInDim S8448x16x128 ![] bcast_S_S8448x16x128 factor i : EReal) = _
  rw [broadcastInDim_apply _ bcast_S_S8448x16x128 factor i (fun a => a.elim0) (fun a => a.elim0)]
  rfl

theorem turnedQ_at (q : (⟨S8448x16x128, .bf16⟩ : BufTy).Contents (Elt Ideal)) (j : Fin 2048) (p : Fin 8448) :
    turnedQ q (ix2 j p) = q (ix3 p ⟨j.val / 128, by omega⟩ ⟨j.val % 128, by omega⟩) := by
  have hj := j.isLt
  unfold turnedQ
  refine (transpose_apply [1, 0] _ _ (ix2 j p) (ix2 p j) (fun b => match b with | ⟨0, _⟩ => rfl | ⟨1, _⟩ => rfl)).trans ?_
  refine shapeCast_apply _ _ (ix2 p j) _ ?_
  rw [Shape.rowMajor_val_three, Shape.rowMajor_val_two]
  show (p.val * 16 + j.val / 128) * 128 + j.val % 128 = p.val * 2048 + j.val
  omega

theorem turnedV_at (u : (⟨S8448x13312, .bf16⟩ : BufTy).Contents (Elt Ideal)) (g : Fin 4) (d : Fin 128) (k : Fin 8448) :
    turnedV u (ix3 g d k) = u (ix2 k ⟨10752 + (128 * g.val + d.val), by omega⟩) := by
  unfold turnedV
  refine (transpose_apply [1, 2, 0] _ _ (ix3 g d k) (ix3 k g d) (fun b => match b with | ⟨0, _⟩ => rfl | ⟨1, _⟩ => rfl | ⟨2, _⟩ => rfl)).trans ?_
  refine (shapeCast_apply _ _ (ix3 k g d) (ix2 k ⟨128 * g.val + d.val, by omega⟩) ?_).trans ?_
  · rw [Shape.rowMajor_val_three, Shape.rowMajor_val_two]
    show k.val * 512 + (128 * g.val + d.val) = (k.val * 4 + g.val) * 128 + d.val
    omega
  · exact extractStridedSlice_apply ![0, 10752] u slices_S8448x13312_S8448x512_0_10752 (ix2 k ⟨128 * g.val + d.val, by omega⟩) (ix2 k ⟨10752 + (128 * g.val + d.val), by omega⟩) (fun a => match a with
      | ⟨0, _⟩ => (Nat.zero_add _).symm
      | ⟨1, _⟩ => rfl)

theorem ones_at (i : S4x16x8448.Idx) : ones i = (1 : EReal) :=
  (broadcastInDim_apply _ bcast_S_S4x16x8448 (constant (F := Ideal) S_ .bf16 0x3F80#16) i (fun a => a.elim0) (fun a => a.elim0)).trans GqaAtt.c1

theorem stacked_feat (v : (⟨S4x128x8448, .bf16⟩ : BufTy).Contents (Elt Ideal)) (g : Fin 4) (d : Fin 128) (k : Fin 8448) :
    stacked v (ix3 g ⟨d.val, by omega⟩ k) = v (ix3 g d k) :=
  concatenate_pair_apply_left (t := S4x144x8448) (s₁ := S4x128x8448) (s₂ := S4x16x8448) 1 v ones _ (ix3 g ⟨d.val, by omega⟩ k) rfl (ix3 g d k)
    (fun b => by match b with | ⟨0, _⟩ => rfl | ⟨1, _⟩ => rfl | ⟨2, _⟩ => rfl)

theorem stacked_ones (v : (⟨S4x128x8448, .bf16⟩ : BufTy).Contents (Elt Ideal)) (g : Fin 4) (k : Fin 8448) :
    stacked v (ix3 g 128 k) = (1 : EReal) :=
  (concatenate_pair_apply_right (t := S4x144x8448) (s₁ := S4x128x8448) (s₂ := S4x16x8448) 1 v ones _ (ix3 g 128 k) rfl rfl (ix3 g 0 k)
    (fun b => by match b with | ⟨0, _⟩ => exact fun _ => rfl | ⟨1, _⟩ => exact fun h => absurd rfl h | ⟨2, _⟩ => exact fun _ => rfl)
    rfl).trans (ones_at _)

theorem q_at (c : Dev nD) (j : Fin 2048) (p : Fin 8448) : V m c main_v7 (ix2 j p)
    = Qs m c (ix3 p ⟨j.val / 128, by omega⟩ ⟨j.val % 128, by omega⟩)
      * Ideal.div (Ideal.rsqrt (Ideal.ofBits .f32 0x43000000#32)) (Ideal.log (Ideal.ofBits .f32 0x40000000#32)) :=
  (congrFun (V_q m c) (ix2 j p)).trans ((turnedQ_at _ j p).trans (scaled_at _ _))

theorem k_at (c : Dev nD) (k : Fin 8448) (g : Fin 4) (d : Fin 128) :
    V m c main_v14 (ix2 k ⟨128 * g.val + d.val, by omega⟩) = Ks m c (ix3 k g d) := by
  refine (congrFun (V_k m c) _).trans (shapeCast_apply _ _ _ (ix3 k g d) ?_)
  rw [Shape.rowMajor_val_three, Shape.rowMajor_val_two]
  show (k.val * 4 + g.val) * 128 + d.val = k.val * 512 + (128 * g.val + d.val)
  omega

theorem v_cast (c : Dev nD) (g : Fin 4) (r : Fin 144) (k : Fin 8448) :
    V m c main_v13 (ix2 ⟨144 * g.val + r.val, by omega⟩ k) = stacked (turnedV (Us m c)) (ix3 g r k) := by
  refine (congrFun (V_v m c) _).trans (shapeCast_apply _ _ _ (ix3 g r k) ?_)
  rw [Shape.rowMajor_val_three, Shape.rowMajor_val_two]
  show (g.val * 144 + r.val) * 8448 + k.val = (144 * g.val + r.val) * 8448 + k.val
  omega

theorem v_at (c : Dev nD) (g : Fin 4) (d : Fin 128) (k : Fin 8448) :
    V m c main_v13 (ix2 ⟨144 * g.val + d.val, by omega⟩ k) = Us m c (ix2 k ⟨10752 + (128 * g.val + d.val), by omega⟩) :=
  (v_cast m c g ⟨d.val, by omega⟩ k).trans ((stacked_feat _ g d k).trans (turnedV_at _ g d k))

theorem one_at (c : Dev nD) (g : Fin 4) (k : Fin 8448) :
    V m c main_v13 (ix2 ⟨144 * g.val + 128, by omega⟩ k) = (1 : EReal) :=
  (v_cast m c g 128 k).trans (stacked_ones _ g k)

end Cert.Proof.GqaHost

end
-- ==== Proof.GqaValue.lean ====
/-
  The attention kernel's result: its 132 blocks, 33 blocks of rows by 4 groups of heads, are read off the four ways the
  body runs; together they are the whole array, whose elements are the attention's averages times the gate.
-/
module

public import proofs.«01_k».proof.Proof.GqaHost
public import Idealize.ShloMosaic.Lib.Tactic

@[expose] public section

set_option maxRecDepth 65536
set_option maxHeartbeats 1000000

noncomputable section

namespace Cert.Proof.GqaValue

open Cert.Kernel7Ideal Cert.Kernel7Ideal.Gen
open Idealize.ShloMosaic Idealize.ShloMosaic.TcCoe Idealize.ShloMosaic.ValueIdx Idealize.SL.Sem
open Cert.Proof.GqaMath Cert.Proof.GqaSteps Cert.Proof.GqaOuts Cert.Proof.GqaAtt Cert.Proof.GqaHost

variable (m : (ℓ : Loc nD τ sig) → Buf (Elt Ideal) ℓ) (ρ : Dev nD → PrngReg) (hO : Ok m)

/-! ## The blocks at an element -/

/-- The windows' blocks at a point. -/
theorem idx_facts : ∀ t : Fin grid0.N,
    (cc0_transform_0 (grid0.coords t) 0 = t.val / 33 ∧ cc0_transform_0 (grid0.coords t) 1 = t.val % 33)
    ∧ (cc0_transform_1 (grid0.coords t) 0 = 0 ∧ cc0_transform_1 (grid0.coords t) 1 = t.val / 33)
    ∧ (cc0_transform_2 (grid0.coords t) 0 = t.val / 33 ∧ cc0_transform_2 (grid0.coords t) 1 = 0)
    ∧ (cc0_transform_3 (grid0.coords t) 0 = t.val % 33 ∧ cc0_transform_3 (grid0.coords t) 1 = 22 + t.val / 33)
    ∧ (cc0_transform_4 (grid0.coords t) 0 = t.val % 33 ∧ cc0_transform_4 (grid0.coords t) 1 = t.val / 33) := by
  decide +kernel

theorem quot (t : Fin grid0.N) : t.val / 33 < 4 := by
  have := lt_of_lt_of_eq t.isLt N_0; omega

abbrev rowAt (t : Fin grid0.N) (p : Fin 256) : Fin 8448 := ⟨t.val % 33 * 256 + p.val, by omega⟩
abbrev colAt (t : Fin grid0.N) (q : Fin 512) : Fin 2048 := ⟨t.val / 33 * 512 + q.val, by have := quot t; omega⟩
abbrev grp (t : Fin grid0.N) : Fin 4 := ⟨t.val / 33, quot t⟩

theorem blk0 (c : Dev nD) (t : Fin grid0.N) (j : Fin 512) (p : Fin 256) :
    iblk m hO c 0 t (ix2 j p) = V m c main_v7 (ix2 ⟨t.val / 33 * 512 + j.val, by have := quot t; omega⟩ (rowAt t p)) := by
  obtain ⟨⟨e0, e1⟩, -⟩ := idx_facts t
  refine congrArg (V m c main_v7) (funext fun a => Fin.ext ?_)
  match a with
  | ⟨0, _⟩ => show cc0_transform_0 (grid0.coords t) 0 * 512 + 1 * j.val = t.val / 33 * 512 + j.val; rw [e0]; omega
  | ⟨1, _⟩ => show cc0_transform_0 (grid0.coords t) 1 * 256 + 1 * p.val = t.val % 33 * 256 + p.val; rw [e1]; omega

theorem blk1 (c : Dev nD) (t : Fin grid0.N) (k : Fin 8448) (d : Fin 128) :
    iblk m hO c 1 t (ix2 k d) = Ks m c (ix3 k (grp t) d) := by
  obtain ⟨-, ⟨e0, e1⟩, -⟩ := idx_facts t
  refine (congrArg (V m c main_v14) (funext fun a => Fin.ext ?_)).trans (k_at m c k (grp t) d)
  match a with
  | ⟨0, _⟩ => show cc0_transform_1 (grid0.coords t) 0 * 8448 + 1 * k.val = k.val; rw [e0]; omega
  | ⟨1, _⟩ => show cc0_transform_1 (grid0.coords t) 1 * 128 + 1 * d.val = 128 * (t.val / 33) + d.val; rw [e1]; omega

theorem blk2 (c : Dev nD) (t : Fin grid0.N) (r : Fin 144) (k : Fin 8448) :
    iblk m hO c 2 t (ix2 r k) = V m c main_v13 (ix2 ⟨144 * (grp t).val + r.val, by have := quot t; omega⟩ k) := by
  obtain ⟨-, -, ⟨e0, e1⟩, -⟩ := idx_facts t
  refine congrArg (V m c main_v13) (funext fun a => Fin.ext ?_)
  match a with
  | ⟨0, _⟩ => show cc0_transform_2 (grid0.coords t) 0 * 144 + 1 * r.val = 144 * (t.val / 33) + r.val; rw [e0]; omega
  | ⟨1, _⟩ => show cc0_transform_2 (grid0.coords t) 1 * 8448 + 1 * k.val = k.val; rw [e1]; omega

theorem blk3 (c : Dev nD) (t : Fin grid0.N) (p : Fin 256) (q : Fin 512) :
    iblk m hO c 3 t (ix2 p q) = gate (Us m c) (rowAt t p) (colAt t q) := by
  obtain ⟨-, -, -, ⟨e0, e1⟩, -⟩ := idx_facts t
  refine (congrArg (V m c main_arg3) (funext fun a => Fin.ext ?_)).trans (congrFun (V_main_arg3 m c) (ix2 (rowAt t p) ⟨11264 + (colAt t q).val, by have := (colAt t q).isLt; omega⟩))
  match a with
  | ⟨0, _⟩ => show cc0_transform_3 (grid0.coords t) 0 * 256 + 1 * p.val = t.val % 33 * 256 + p.val; rw [e0]; omega
  | ⟨1, _⟩ => show cc0_transform_3 (grid0.coords t) 1 * 512 + 1 * q.val = 11264 + (t.val / 33 * 512 + q.val); rw [e1]; omega

/-! ## A point's block -/

/-- One of the two ways holds: with whole exponentials, or with a running maximum. -/
theorem flag (i : grid0.Coords) (w : BitVec 32) : (cond0_0 i w ∧ ¬cond0_3 i w) ∨ (¬cond0_0 i w ∧ cond0_3 i w) := by
  by_cases h : w = 0#32
  · subst h
    refine Or.inr ?_
    show ¬Scalar.cmpi .ne (Scalar.extui (Scalar.cmpi .ne 0#32 0#32)) 0#32 = 1#1 ∧ Scalar.cmpi .ne (Scalar.extui (Scalar.cmpi .eq 0#32 0#32)) 0#32 = 1#1
    decide
  · refine Or.inl ⟨?_, ?_⟩
    · show Scalar.cmpi .ne (Scalar.extui (Scalar.cmpi .ne w 0#32)) 0#32 = 1#1
      have e : Scalar.cmpi .ne w 0#32 = 1#1 := by
        show BitVec.ofBool (w != 0#32) = 1#1
        rw [bne_iff_ne.mpr h]; rfl
      rw [e]; decide
    · show ¬Scalar.cmpi .ne (Scalar.extui (Scalar.cmpi .eq w 0#32)) 0#32 = 1#1
      have e : Scalar.cmpi .eq w 0#32 = 0#1 := by
        show BitVec.ofBool (w == 0#32) = 0#1
        rw [beq_eq_false_iff_ne.mpr h]; rfl
      rw [e]; decide

variable (hq : ∀ (c : Dev nD) i, Qs m c i = ((Qs m c i).toReal : EReal)) (hk : ∀ (c : Dev nD) i, Ks m c i = ((Ks m c i).toReal : EReal))

section
variable (c : Dev nD) (t : Fin grid0.N) (P : Fin 256) (Q : Fin 512)

include hq hk in
theorem score_at (j : Fin 8448) : S (iblk m hO c 0 t) (iblk m hO c 1 t) Q P j
    = ((score (Qs m c) (Ks m c) (rowAt t P) (colAt t Q) j / Real.log 2 : ℝ) : EReal) := by
  have hQ := Q.isLt
  refine S_real (Qs m c) (Ks m c) _ _ Q P (rowAt t P) (colAt t Q) (hq c) (hk c) j (fun d => ?_) (fun d => ?_)
  · refine (blk1 m hO c t j d).trans (congrArg (fun g => Ks m c (ix3 j g d)) (Fin.ext ?_))
    show t.val / 33 = (t.val / 33 * 512 + Q.val) / 512
    omega
  · refine (blk0 m hO c t _ P).trans ((q_at m c _ _).trans ?_)
    refine congrArg (fun i => Qs m c i * _) (congrArg₂ (ix3 (rowAt t P)) (Fin.ext ?_) (Fin.ext ?_))
    · show (t.val / 33 * 512 + (128 * (Q.val / 128) + d.val)) / 128 = (t.val / 33 * 512 + Q.val) / 128
      omega
    · show (t.val / 33 * 512 + (128 * (Q.val / 128) + d.val)) % 128 = d.val
      omega

theorem value_at (j : Fin 8448) : iblk m hO c 2 t (ix2 ⟨Q.val % 128, by omega⟩ j) = GqaAtt.val (Us m c) (colAt t Q) j := by
  have hQ := Q.isLt
  refine (blk2 m hO c t _ j).trans ((v_at m c (grp t) ⟨Q.val % 128, by omega⟩ j).trans ?_)
  refine congrArg (fun i => Us m c (ix2 j i)) (Fin.ext ?_)
  show 10752 + (128 * (t.val / 33) + Q.val % 128) = 10752 + (128 * ((t.val / 33 * 512 + Q.val) / 512) + (t.val / 33 * 512 + Q.val) % 128)
  omega

theorem weight_at (j : Fin 8448) : iblk m hO c 2 t (ix2 128 j) = (1 : EReal) :=
  (blk2 m hO c t 128 j).trans (one_at m c (grp t) j)

include hq hk in
/-- What any point leaves, at an element. -/
theorem point_at : outsAt0 m hO c t.val t.isLt (ix2 P Q) = res (Qs m c) (Ks m c) (Us m c) (rowAt t P) (colAt t Q) := by
  have hP := P.isLt
  have hs := fun j => score_at m hO hq hk c t P Q j
  have hv := fun j => value_at m hO c t Q j
  have h1 := fun j => weight_at m hO c t j
  have hg := blk3 m hO c t P Q
  by_cases hx : t.val % 33 = 32
  · have hl : ¬t.val % 33 ≤ 31 := by omega
    have hR : ¬(rowAt t P).val < 8192 := by show ¬t.val % 33 * 256 + P.val < 8192; omega
    rcases flag (grid0.coords t) (tbM0_0.view.readAt (Elt Ideal) (Rect.unit (s := S1) ![0] S1.size inb_S1_S1_0).toLoadRect (tbl m 0) (Shape.Idx.first (numel1_S1.symm ▸ Nat.one_pos))) with ⟨h0, h3⟩ | ⟨h0, h3⟩
    · exact (congrFun (outsAt0_F m hO c t h0 hl hx h3) _).trans ((out_F ..).trans (gated_F _ _ _ _ _ _ _ Q P _ _ hs hv h1 hg hR))
    · exact (congrFun (outsAt0_G m hO c t h0 h3 hl hx) _).trans ((out_G ..).trans (gated_G _ _ _ _ _ _ _ Q P _ _ hs hv h1 hg hR))
  · have hl : t.val % 33 ≤ 31 := by omega
    have hR : (rowAt t P).val < 8192 := by show t.val % 33 * 256 + P.val < 8192; omega
    rcases flag (grid0.coords t) (tbM0_0.view.readAt (Elt Ideal) (Rect.unit (s := S1) ![0] S1.size inb_S1_S1_0).toLoadRect (tbl m 0) (Shape.Idx.first (numel1_S1.symm ▸ Nat.one_pos))) with ⟨h0, h3⟩ | ⟨h0, h3⟩
    · exact (congrFun (outsAt0_B m hO c t h0 hl hx h3) _).trans ((out_B ..).trans (gated_B _ _ _ _ _ _ _ Q P _ _ hs hv h1 hg hR))
    · exact (congrFun (outsAt0_C m hO c t h0 h3 hl hx) _).trans ((out_C ..).trans (gated_C _ _ _ _ _ _ _ Q P _ _ hs hv h1 hg hR))
end

/-! ## The result -/

include hq hk in
theorem flushed_eq (c : Dev nD) (t : Fin (cfgM m hO).N) :
    (dats m hO 0 c).flushed 4 t = (((cfgM m hO).win 4).blk t).view.read (Elt Ideal) (out (Qs m c) (Ks m c) (Us m c)) := by
  obtain ⟨-, -, -, -, ⟨e0, e1⟩⟩ := idx_facts t
  show ((cfgM m hO).win 4).cut (grid0.coords t) ((dats m hO 0 c).after 4 t) = _
  rw [after0_4]
  refine funext fun (y : S256x512.Idx) => ?_
  have hy0 : (y 0).val < 256 := (y 0).isLt
  have hy1 : (y 1).val < 512 := (y 1).isLt
  refine (show _ = outsAt0 m hO c t.val t.isLt (ix2 ⟨(y 0).val, hy0⟩ ⟨(y 1).val, hy1⟩) from
    congrArg (outsAt0 m hO c t.val t.isLt) (funext fun a => by match a with | ⟨0, _⟩ => rfl | ⟨1, _⟩ => rfl)).trans ?_
  refine (point_at m hO hq hk c t _ _).trans ?_
  refine congrArg₂ (res (Qs m c) (Ks m c) (Us m c)) (Fin.ext ?_) (Fin.ext ?_)
  · show t.val % 33 * 256 + (y 0).val = cc0_transform_4 (grid0.coords t) 0 * 256 + 1 * (y 0).val
    rw [e0]; omega
  · show t.val / 33 * 512 + (y 1).val = cc0_transform_4 (grid0.coords t) 1 * 512 + 1 * (y 1).val
    rw [e1]; omega

/-- An index lies in a point's block iff each coordinate is in the block's range. -/
theorem mem_blk (t : Fin (cfgM m hO).N) (i : S8448x2048.Idx) :
    i ∈ (((cfgM m hO).win 4).blk t).view.set ↔ ∀ a : Fin 2, cc0_transform_4 (grid0.coords t) a * S256x512.size a ≤ (i a).val
      ∧ (i a).val < cc0_transform_4 (grid0.coords t) a * S256x512.size a + S256x512.size a := by
  rw [show (((cfgM m hO).win 4).blk t).view.set = (((cfgM m hO).win 4).rect t).set from View.set_slice_whole _ _]
  exact Rect.mem_set_unit

theorem cover (i : S8448x2048.Idx) : ∃ t : Fin (cfgM m hO).N, ((cfgM m hO).win 4).flush t = true ∧ i ∈ (((cfgM m hO).win 4).blk t).view.set := by
  have h0 : (i 0).val < 8448 := (i 0).isLt
  have h1 : (i 1).val < 2048 := (i 1).isLt
  obtain ⟨t, ht⟩ : ∃ t : Fin grid0.N, t.val = (i 1).val / 512 * 33 + (i 0).val / 256 :=
    ⟨⟨(i 1).val / 512 * 33 + (i 0).val / 256, lt_of_lt_of_eq (by omega) N_0.symm⟩, rfl⟩
  obtain ⟨-, -, -, -, ⟨e0, e1⟩⟩ := idx_facts t
  refine ⟨t, flush0_4 _ t, (mem_blk m hO t i).2 fun a => ?_⟩
  match a with
  | ⟨0, _⟩ => show cc0_transform_4 (grid0.coords t) 0 * 256 ≤ (i 0).val ∧ (i 0).val < cc0_transform_4 (grid0.coords t) 0 * 256 + 256; rw [e0]; omega
  | ⟨1, _⟩ => show cc0_transform_4 (grid0.coords t) 1 * 512 ≤ (i 1).val ∧ (i 1).val < cc0_transform_4 (grid0.coords t) 1 * 512 + 512; rw [e1]; omega

include hq hk in
theorem final (c : Dev nD) : (dats m hO 0 c).arrAt 4 (cfgM m hO).N = out (Qs m c) (Ks m c) (Us m c) :=
  (dats m hO 0 c).arrAt_eq_of_cover 4 _ (fun t _ => flushed_eq m hO hq hk c t) (cover m hO)

include hO hq hk in
/-- The run: the result array, and the arguments kept. -/
theorem run : θ_run defs (onTc (τ := τ) (main (F := Ideal))) ⟨m, fun _ => 0, ρ⟩ (fun r => ∀ c : Dev nD,
    r.2.mem ((c.tc : Thread nD τ).loc main_v15) = out (Qs m c) (Ks m c) (Us m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun _ h c => ⟨((h c).1 4).trans (final m hO hq hk c),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).1 3).trans (((dats m hO 0 c).arrAt_in 3 rfl _).trans ((A_eq m hO c 3).trans (V_main_arg3 m c)))⟩) (run_main m ρ hO)

end Cert.Proof.GqaValue

end
-- ==== Proof.GqaRef.lean ====
/-
  The reference's attention, at an element: the softmax over finite scores, with the largest score taken off, averages the
  values by the exponentials of the scores; latent rows attend to every key and context rows to the context's, and the
  result is that average times the gate.
-/
module

public import proofs.«01_k».proof.Proof.GqaAtt
public import proofs.«01_k».proof.Proof.Gen.Reference7Ideal.Read
public import Idealize.ShloMosaic.Lib.Tactic

@[expose] public section

set_option maxRecDepth 65536
set_option backward.proofsInPublic true

noncomputable section

namespace Cert.Proof.GqaRef

open Cert.Reference7Ideal Cert.Reference7Ideal.Read
open Idealize.ShloMosaic Idealize.ShloMosaic.ValueIdx
open Cert.Proof.GqaMath Cert.Proof.GqaAtt
open Cert.Proof.GqaOuts (ctx)

variable (q : (⟨S8448x16x128, .f32⟩ : BufTy).Contents (Elt Ideal)) (k : (⟨S8448x4x128, .bf16⟩ : BufTy).Contents (Elt Ideal))
  (u : (⟨S8448x13312, .bf16⟩ : BufTy).Contents (Elt Ideal))

/-! ## The softmax -/

/-- The softmax over real scores with any real taken off, applied to the values. -/
theorem soft {n : ℕ} [NeZero n] (s : Fin n → ℝ) (v : Fin n → EReal) (M : ℝ) :
    ∑ j, v j * Ideal.div (Ideal.exp ((s j : EReal) - (M : EReal))) (0 + ∑ i, Ideal.exp ((s i : EReal) - (M : EReal))) = avg v (fun j => Real.exp (s j)) := by
  simp only [exp_sub']
  rw [sum_quot v _ fun j => mul_pos (Real.exp_pos _) (Real.exp_pos _)]
  exact avg_scale v _ _ _ (Real.exp_pos (-M)) fun _ => rfl

/-- The largest of real scores, from below every number. -/
theorem top_real {n : ℕ} [NeZero n] (f : Fin n → EReal) (h : ∀ j, f j = ((f j).toReal : EReal)) :
    ∃ M : ℝ, max (⊥ : EReal) ((Finset.univ : Finset (Fin n)).fold max ⊥ f) = (M : EReal) := by
  obtain ⟨M, hM⟩ := fold_real (fun j => (f j).toReal) ⊥ bot_ne_top
  exact ⟨M, by rw [funext h, hM]; exact max_eq_right bot_le⟩

theorem real_of {x : EReal} {r : ℝ} (h : x = (r : EReal)) : x = (x.toReal : EReal) := by rw [h, EReal.toReal_coe]

/-! ## Indices -/

theorem eq3 {a b c : ℕ} (i : (⟨3, ![a, b, c]⟩ : Shape).Idx) (x : Fin a) (y : Fin b) (z : Fin c)
    (h0 : (i 0).val = x.val) (h1 : (i 1).val = y.val) (h2 : (i 2).val = z.val) : i = ix3 x y z :=
  funext fun d => Fin.ext (by match d with | ⟨0, _⟩ => exact h0 | ⟨1, _⟩ => exact h1 | ⟨2, _⟩ => exact h2)

theorem key_at (i : S8448x4x128.Idx) : val_main_v1 (F := Ideal) k i = k i := rfl

theorem query_at (i : S8448x4x4x128.Idx) (R : Fin 8448) (H : Fin 16) (d : Fin 128) (h0 : (i 0).val = R.val)
    (h1 : 4 * (i 1).val + (i 2).val = H.val) (h3 : (i 3).val = d.val) : val_main_v0 (F := Ideal) q i = q (ix3 R H d) := by
  have hH := H.isLt
  have hd := d.isLt
  refine (val_main_v0_apply q i).trans (congrArg q (eq3 _ _ _ _ ?_ ?_ ?_))
  · show ((((i 0).val * 4 + (i 1).val) * 4 + (i 2).val) * 128 + (i 3).val) / 2048 = R.val
    omega
  · show ((((i 0).val * 4 + (i 1).val) * 4 + (i 2).val) * 128 + (i 3).val) / 128 % 16 = H.val
    omega
  · show ((((i 0).val * 4 + (i 1).val) * 4 + (i 2).val) * 128 + (i 3).val) % 128 = d.val
    omega

theorem value_at (i : S8448x4x128.Idx) (C : Fin 2048) (j : Fin 8448) (h0 : (i 0).val = j.val) (h1 : (i 1).val = C.val / 512)
    (h2 : (i 2).val = C.val % 128) : val_main_v4 (F := Ideal) u i = GqaAtt.val u C j := by
  have hC := C.isLt
  rw [val_main_v4_apply]
  show val_main_v2 (F := Ideal) u (idx_main_v4 i) = _
  rw [val_main_v2_apply]
  refine congrArg u (funext fun a => Fin.ext ?_)
  match a with
  | ⟨0, _⟩ => show (((i 0).val * 4 + (i 1).val) * 128 + (i 2).val) / 512 = j.val; omega
  | ⟨1, _⟩ => show 10752 + (((i 0).val * 4 + (i 1).val) * 128 + (i 2).val) % 512 = 10752 + (128 * (C.val / 512) + C.val % 128); omega

theorem score_of (hq : ∀ i, q i = ((q i).toReal : EReal)) (hk : ∀ i, k i = ((k i).toReal : EReal)) (R : Fin 8448) (C : Fin 2048) (j : Fin 8448)
    (f : Fin 128 → EReal) (hf : ∀ d, f d = k (ix3 j ⟨C.val / 512, by omega⟩ d) * q (ix3 R ⟨C.val / 128, by omega⟩ d)) :
    (∑ d, f d) * Ideal.rsqrt (Ideal.ofBits .f32 0x43000000#32) = (score q k R C j : EReal) := by
  unfold score
  rw [rsqrt_128, EReal.coe_mul, coe_sum]
  refine congrArg (· * (sc : EReal)) (Finset.sum_congr rfl fun d _ => ?_)
  rw [hf, hk, hq, ← EReal.coe_mul]
  simp only [EReal.toReal_coe]

variable (hq : ∀ i, q i = ((q i).toReal : EReal)) (hk : ∀ i, k i = ((k i).toReal : EReal))

/-! ## The latent rows -/

section Lat
include hq hk

theorem lat_score (i : S4x4x8192x8448.Idx) (R : Fin 8448) (C : Fin 2048) (j : Fin 8448) (hg : C.val / 512 = (i 0).val)
    (hh : C.val / 128 = 4 * (i 0).val + (i 1).val) (hR : R.val = (i 2).val) (hj : j.val = (i 3).val) :
    val_main_v10 (F := Ideal) q k i = (score q k R C j : EReal) := by
  rw [val_main_v10_apply, val_main_v7_apply, val_main_v6_apply, val_main_v9_apply]
  refine score_of q k hq hk R C j _ fun d => ?_
  refine congrArg₂ (fun a b : EReal => a * b) ?_ ?_
  · exact congrArg k (eq3 _ _ _ _ hj.symm hg.symm rfl)
  · rw [val_main_v5_apply]
    exact query_at q _ R _ d hR.symm hh.symm rfl

theorem lat_real (i : S4x4x8192x8448.Idx) : val_main_v10 (F := Ideal) q k i = ((val_main_v10 (F := Ideal) q k i).toReal : EReal) := by
  have h0 : (i 0).val < 4 := (i 0).isLt
  have h1 : (i 1).val < 4 := (i 1).isLt
  have h2 : (i 2).val < 8192 := (i 2).isLt
  exact real_of (lat_score q k hq hk i ⟨(i 2).val, by omega⟩ ⟨512 * (i 0).val + 128 * (i 1).val, by omega⟩ ⟨(i 3).val, (i 3).isLt⟩
    (show (512 * (i 0).val + 128 * (i 1).val) / 512 = (i 0).val by omega)
    (show (512 * (i 0).val + 128 * (i 1).val) / 128 = 4 * (i 0).val + (i 1).val by omega) rfl rfl)

theorem lat_max (i : S4x4x8192.Idx) : ∃ M : ℝ, val_main_v13 (F := Ideal) q k i = (M : EReal) := by
  have h := lat_real q k hq hk
  rw [val_main_v13_apply, val_main_v12_apply]
  unfold val_main_v11
  generalize val_main_v10 (F := Ideal) q k = y at h
  have e := Host.reduce_eq_fold_single (FloatOps.maximumf (F := Ideal) (φ := .f32)) y (val_main_cst_0 (F := Ideal)) Cert.Reference7Ideal.Gen.reducesTo_S4x4x8192x8448_S4x4x8192_d3
    (by decide : S4x4x8192x8448.Reduces [3] S4x4x8192) Cert.Reference7Ideal.Gen.h_S_ i
  obtain ⟨M, hM⟩ := top_real (n := 8448) (fun j => y ((by decide : S4x4x8192x8448.Reduces [3] S4x4x8192).lift i j)) fun j => h _
  refine ⟨M, (congrArg (max (Ideal.ofBits .f32 0xFF800000#32)) e).trans (Eq.trans ?_ hM)⟩
  show max (Ideal.ofBits .f32 0xFF800000#32) (Finset.univ.fold max (Ideal.ofBits .f32 0xFF800000#32) _) = _
  rw [cbot]
  rfl

theorem lat_att (i : S4x128x4x8192.Idx) (R : Fin 8448) (C : Fin 2048) (hg : C.val / 512 = (i 0).val) (hd : C.val % 128 = (i 1).val)
    (hh : C.val / 128 = 4 * (i 0).val + (i 2).val) (hR : R.val = (i 3).val) :
    val_main_v22 (F := Ideal) q k u i = avg (GqaAtt.val u C) (fun j => Real.exp (score q k R C j)) := by
  obtain ⟨M, hM⟩ := lat_max q k hq hk (ix3 ⟨(i 0).val, (i 0).isLt⟩ ⟨(i 2).val, (i 2).isLt⟩ ⟨(i 3).val, (i 3).isLt⟩)
  have he : ∀ (x : S4x4x8192x8448.Idx) (j : Fin 8448), (x 0).val = (i 0).val → (x 1).val = (i 2).val → (x 2).val = (i 3).val → (x 3).val = j.val →
      val_main_v17 (F := Ideal) q k x = Ideal.exp ((score q k R C j : EReal) - (M : EReal)) := by
    intro x j x0 x1 x2 x3
    rw [val_main_v17_apply, val_main_v16_apply, val_main_v15_apply, val_main_v14_apply]
    refine congrArg Ideal.exp (congrArg₂ (fun a b : EReal => a - b) (lat_score q k hq hk x R C j ?_ ?_ ?_ x3.symm)
      ((congrArg (val_main_v13 (F := Ideal) q k) (eq3 _ _ _ _ x0 x1 x2)).trans hM))
    · rw [hg, x0]
    · rw [hh, x0, x1]
    · rw [hR, x2]
  refine (val_main_v22_apply q k u i).trans (Eq.trans (Finset.sum_congr rfl fun j _ => ?_) (soft _ (GqaAtt.val u C) M))
  refine congrArg₂ (fun a b : EReal => a * b) (value_at u _ C j rfl hg.symm hd.symm) ?_
  rw [val_main_v21_apply, val_main_v20_apply, val_main_v19_apply, val_main_v18_apply]
  refine congrArg₂ Ideal.div (he _ j rfl rfl rfl rfl) (congrArg₂ (fun a b : EReal => a + b) ?_ (Finset.sum_congr rfl fun b _ => he _ b rfl rfl rfl rfl))
  exact Ideal.ofBits_zero_f32

theorem lat_at (p : Fin 8192) (C : Fin 2048) :
    val_main_v24 (F := Ideal) q k u (ix2 p C) = avg (GqaAtt.val u C) (fun j => Real.exp (score q k ⟨p.val, by omega⟩ C j)) := by
  have hC := C.isLt
  rw [val_main_v24_apply, val_main_v23_apply]
  refine lat_att q k u hq hk _ _ C ?_ ?_ ?_ ?_
  · show C.val / 512 = (p.val * 2048 + C.val) / 512 % 4
    omega
  · show C.val % 128 = (p.val * 2048 + C.val) % 128
    omega
  · show C.val / 128 = 4 * ((p.val * 2048 + C.val) / 512 % 4) + (p.val * 2048 + C.val) / 128 % 4
    omega
  · show p.val = (p.val * 2048 + C.val) / 2048
    omega

end Lat

/-! ## The context rows -/

section Ctx
include hq hk

theorem ctx_score (i : S4x4x256x256.Idx) (R : Fin 8448) (C : Fin 2048) (j : Fin 8448) (hg : C.val / 512 = (i 0).val)
    (hh : C.val / 128 = 4 * (i 0).val + (i 1).val) (hR : R.val = 8192 + (i 2).val) (hj : j.val = 8192 + (i 3).val) :
    val_main_v32 (F := Ideal) q k i = (score q k R C j : EReal) := by
  rw [val_main_v32_apply, val_main_v29_apply, val_main_v28_apply, val_main_v31_apply]
  refine score_of q k hq hk R C j _ fun d => ?_
  refine congrArg₂ (fun a b : EReal => a * b) ?_ ?_
  · rw [val_main_v26_apply]
    exact congrArg k (eq3 _ _ _ _ hj.symm hg.symm rfl)
  · rw [val_main_v25_apply]
    exact query_at q _ R _ d hR.symm hh.symm rfl

theorem ctx_real (i : S4x4x256x256.Idx) : val_main_v32 (F := Ideal) q k i = ((val_main_v32 (F := Ideal) q k i).toReal : EReal) := by
  have h0 : (i 0).val < 4 := (i 0).isLt
  have h1 : (i 1).val < 4 := (i 1).isLt
  have h2 : (i 2).val < 256 := (i 2).isLt
  have h3 : (i 3).val < 256 := (i 3).isLt
  exact real_of (ctx_score q k hq hk i ⟨8192 + (i 2).val, by omega⟩ ⟨512 * (i 0).val + 128 * (i 1).val, by omega⟩ ⟨8192 + (i 3).val, by omega⟩
    (show (512 * (i 0).val + 128 * (i 1).val) / 512 = (i 0).val by omega)
    (show (512 * (i 0).val + 128 * (i 1).val) / 128 = 4 * (i 0).val + (i 1).val by omega) rfl rfl)

theorem ctx_max (i : S4x4x256.Idx) : ∃ M : ℝ, val_main_v35 (F := Ideal) q k i = (M : EReal) := by
  have h := ctx_real q k hq hk
  rw [val_main_v35_apply, val_main_v34_apply]
  unfold val_main_v33
  generalize val_main_v32 (F := Ideal) q k = y at h
  have e := Host.reduce_eq_fold_single (FloatOps.maximumf (F := Ideal) (φ := .f32)) y (val_main_cst_4 (F := Ideal)) Cert.Reference7Ideal.Gen.reducesTo_S4x4x256x256_S4x4x256_d3
    (by decide : S4x4x256x256.Reduces [3] S4x4x256) Cert.Reference7Ideal.Gen.h_S_ i
  obtain ⟨M, hM⟩ := top_real (n := 256) (fun j => y ((by decide : S4x4x256x256.Reduces [3] S4x4x256).lift i j)) fun j => h _
  refine ⟨M, (congrArg (max (Ideal.ofBits .f32 0xFF800000#32)) e).trans (Eq.trans ?_ hM)⟩
  show max (Ideal.ofBits .f32 0xFF800000#32) (Finset.univ.fold max (Ideal.ofBits .f32 0xFF800000#32) _) = _
  rw [cbot]
  rfl

theorem ctx_att (i : S4x128x4x256.Idx) (R : Fin 8448) (C : Fin 2048) (hg : C.val / 512 = (i 0).val) (hd : C.val % 128 = (i 1).val)
    (hh : C.val / 128 = 4 * (i 0).val + (i 2).val) (hR : R.val = 8192 + (i 3).val) :
    val_main_v44 (F := Ideal) q k u i = avg (fun j => GqaAtt.val u C (ctx j)) (fun j => Real.exp (score q k R C (ctx j))) := by
  obtain ⟨M, hM⟩ := ctx_max q k hq hk (ix3 ⟨(i 0).val, (i 0).isLt⟩ ⟨(i 2).val, (i 2).isLt⟩ ⟨(i 3).val, (i 3).isLt⟩)
  have he : ∀ (x : S4x4x256x256.Idx) (j : Fin 256), (x 0).val = (i 0).val → (x 1).val = (i 2).val → (x 2).val = (i 3).val → (x 3).val = j.val →
      val_main_v39 (F := Ideal) q k x = Ideal.exp ((score q k R C (ctx j) : EReal) - (M : EReal)) := by
    intro x j x0 x1 x2 x3
    rw [val_main_v39_apply, val_main_v38_apply, val_main_v37_apply, val_main_v36_apply]
    refine congrArg Ideal.exp (congrArg₂ (fun a b : EReal => a - b) (ctx_score q k hq hk x R C (ctx j) ?_ ?_ ?_ (congrArg (8192 + ·) x3.symm))
      ((congrArg (val_main_v35 (F := Ideal) q k) (eq3 _ _ _ _ x0 x1 x2)).trans hM))
    · rw [hg, x0]
    · rw [hh, x0, x1]
    · rw [hR, x2]
  refine (val_main_v44_apply q k u i).trans (Eq.trans (Finset.sum_congr rfl fun j _ => ?_)
    (soft (fun j => score q k R C (ctx j)) (fun j => GqaAtt.val u C (ctx j)) M))
  refine congrArg₂ (fun a b : EReal => a * b) ((val_main_v27_apply u _).trans (value_at u _ C (ctx j) rfl hg.symm hd.symm)) ?_
  rw [val_main_v43_apply, val_main_v42_apply, val_main_v41_apply, val_main_v40_apply]
  refine congrArg₂ Ideal.div (he _ j rfl rfl rfl rfl) (congrArg₂ (fun a b : EReal => a + b) ?_ (Finset.sum_congr rfl fun b _ => he _ b rfl rfl rfl rfl))
  exact Ideal.ofBits_zero_f32

theorem ctx_at (p : Fin 256) (C : Fin 2048) : val_main_v46 (F := Ideal) q k u (ix2 p C)
    = avg (fun j => GqaAtt.val u C (ctx j)) (fun j => Real.exp (score q k ⟨8192 + p.val, by omega⟩ C (ctx j))) := by
  have hC := C.isLt
  rw [val_main_v46_apply, val_main_v45_apply]
  refine ctx_att q k u hq hk _ _ C ?_ ?_ ?_ ?_
  · show C.val / 512 = (p.val * 2048 + C.val) / 512 % 4
    omega
  · show C.val % 128 = (p.val * 2048 + C.val) % 128
    omega
  · show C.val / 128 = 4 * ((p.val * 2048 + C.val) / 512 % 4) + (p.val * 2048 + C.val) / 128 % 4
    omega
  · show 8192 + p.val = 8192 + (p.val * 2048 + C.val) / 2048
    omega

end Ctx

/-! ## The result -/

/-- The latent rows above the context rows, at an element. -/
theorem rows_apply (a : S8192x2048.Idx → EReal) (b : S256x2048.Idx → EReal) (h) (p : Fin 8448) (C : Fin 2048) :
    concatenate S8448x2048 0 [⟨S8192x2048, a⟩, ⟨S256x2048, b⟩] h (ix2 p C)
      = if hp : p.val < 8192 then a (ix2 ⟨p.val, hp⟩ C) else b (ix2 ⟨p.val - 8192, by omega⟩ C) := by
  by_cases hp : p.val < 8192
  · rw [dif_pos hp]
    exact concatenate_pair_apply_left (t := S8448x2048) (s₁ := S8192x2048) (s₂ := S256x2048) 0 a b h (ix2 p C) rfl (ix2 ⟨p.val, hp⟩ C)
      (fun b => by match b with | ⟨0, _⟩ => rfl | ⟨1, _⟩ => rfl)
  · rw [dif_neg hp]
    exact concatenate_pair_apply_right (t := S8448x2048) (s₁ := S8192x2048) (s₂ := S256x2048) 0 a b h (ix2 p C) rfl rfl (ix2 ⟨p.val - 8192, by omega⟩ C)
      (fun b => by match b with | ⟨0, _⟩ => exact fun h => absurd rfl h | ⟨1, _⟩ => exact fun _ => rfl)
      (Nat.sub_add_cancel (by omega))

theorem gate_at (R : Fin 8448) (C : Fin 2048) : val_main_v50 (F := Ideal) u (ix2 R C) = (gate u R C * Ideal.logistic (gate u R C) : EReal) := by
  have e : val_main_v49 (F := Ideal) u (ix2 R C) = gate u R C :=
    (val_main_v48_apply u (ix2 R C)).trans (congrArg u (funext fun a => by match a with | ⟨0, _⟩ => rfl | ⟨1, _⟩ => rfl))
  rw [val_main_v50_apply, val_main_call0_v5_apply, val_main_call0_v3_apply, val_main_call0_v1_apply, val_main_call0_v0_apply, e,
    val_main_call0_v2_apply, val_main_call0_v4_apply]
  show gate u R C * Ideal.div (Ideal.ofBits .f32 0x3F800000#32) (Ideal.ofBits .f32 0x3F800000#32 + Ideal.exp (-gate u R C)) = _
  rw [c1f]
  rfl

include hq hk in
/-- The reference's result. -/
theorem ref_eq : val_main_v52 (F := Ideal) q k u = out q k u := by
  funext i
  refine (show _ = val_main_v52 (F := Ideal) q k u (ix2 ⟨(i 0).val, (i 0).isLt⟩ ⟨(i 1).val, (i 1).isLt⟩) from
    congrArg (val_main_v52 (F := Ideal) q k u) (funext fun a => by match a with | ⟨0, _⟩ => rfl | ⟨1, _⟩ => rfl)).trans ?_
  show _ = res q k u ⟨(i 0).val, (i 0).isLt⟩ ⟨(i 1).val, (i 1).isLt⟩
  unfold res att
  refine congrArg₂ (fun a b : EReal => a * b) ?_ (gate_at u _ _)
  refine (rows_apply _ _ _ _ _).trans ?_
  by_cases hp : (i 0).val < 8192
  · rw [dif_pos hp, if_pos hp, lat_at q k u hq hk]
  · rw [dif_neg hp, if_neg hp, ctx_at q k u hq hk]
    have e : (⟨8192 + ((i 0).val - 8192), by have : (i 0).val < 8448 := (i 0).isLt; omega⟩ : Fin 8448) = ⟨(i 0).val, (i 0).isLt⟩ :=
      Fin.ext (show 8192 + ((i 0).val - 8192) = (i 0).val by omega)
    rw [e]

end Cert.Proof.GqaRef

end
-- ==== Proof.GqaPre.lean ====
/-
  What the precondition says: every query and every key is a real number.
-/
module

public import proofs.«01_k».proof.Pre_finite_scores
public import Idealize.ShloMosaic.Lib.ReduceAll
public import Idealize.ShloMosaic.PureOps.Ideal.Laws
public import Idealize.ShloMosaic.Lib.Tactic

@[expose] public section

set_option maxRecDepth 65536
set_option backward.proofsInPublic true

noncomputable section

namespace Cert.Proof.GqaPre

open Idealize.ShloMosaic Cert.Pre_finite_scores

theorem ctop : Ideal.ofBits .f32 0x7F800000#32 = (⊤ : EReal) := by
  simp [Ideal.ofBits, Ideal.ieee]

/-- A number whose size is below the top is real. -/
theorem real_of_abs (x : EReal) (h : Ideal.cmp .olt (max x (-x)) (Ideal.ofBits .f32 0x7F800000#32) = 1#1) : x = (x.toReal : EReal) := by
  rw [ctop] at h
  have lt : max x (-x) < ⊤ := by
    by_contra hn
    simp [Ideal.cmp, hn] at h
  refine (EReal.coe_toReal (ne_of_lt (lt_of_le_of_lt (le_max_left _ _) lt)) fun hb => ?_).symm
  rw [hb, EReal.neg_bot] at lt
  exact absurd (lt_of_le_of_lt (le_max_right _ _) lt) (lt_irrefl _)

instance facts : Facts := ⟨by decide, by decide, by decide, by decide, by decide, by decide⟩

instance : Subsingleton S_.Idx := ⟨fun _ _ => funext fun a => a.elim0⟩

theorem reals (a0 : IVec S1 32) (q : FVec Ideal S8448x16x128 .f32) (k : FVec Ideal S8448x4x128 .bf16) (u : FVec Ideal S8448x13312 .bf16)
    (h : fn (F := Ideal) a0 q k u = fun _ => 1#1) :
    (∀ i, (q i : EReal) = ((EReal.toReal (q i) : ℝ) : EReal)) ∧ ∀ i, (k i : EReal) = ((EReal.toReal (k i) : ℝ) : EReal) := by
  have h0 := congrFun h (Shape.Idx.first Facts.h_S_)
  dsimp only [fn] at h0
  obtain ⟨hq, hk⟩ := IntOp.andi_eq_one.1 h0
  exact ⟨fun i => real_of_abs (q i) (Host.reduce_andi_all _ _ _ _ _ hq i), fun i => real_of_abs (k i) (Host.reduce_andi_all _ _ _ _ _ hk i)⟩

end Cert.Proof.GqaPre

end
-- ==== Proof.PrepBody10.lean ====
/-
  The call that normalises the queries and keys of a head and turns them by their positions: its stores' payloads are one
  function of a head's block, read here at an element, and the blocks of the two results from their stores.
-/
module

public import proofs.«01_k».proof.Proof.Value
public import proofs.«01_k».proof.Proof.Gen.Kernel10Ideal.Value
public import Idealize.ShloMosaic.Lib.ValueLayout
public import Idealize.ShloMosaic.Lib.KernelVsHost
public import Idealize.ShloMosaic.Lib.Tactic

@[expose] public section

set_option maxRecDepth 16384
set_option backward.proofsInPublic true

noncomputable section

namespace Cert.Proof.PrepBody10

open Cert.Kernel10Ideal Cert.Kernel10Ideal.Gen
open Idealize.ShloMosaic Idealize.ShloMosaic.TcCoe Idealize.ShloMosaic.ValueIdx Idealize.SL.Sem

/-! ## The values of a head -/

/-- A head's row, normalised, at a lane. -/
def nrm (x g : Fin 128 → EReal) (d : Fin 128) : EReal :=
  x d * Ideal.rsqrt (Ideal.div (∑ k : Fin 128, x k * x k) (Ideal.ofBits .f32 0x43000000#32) + Ideal.ofBits .f32 0x358637BD#32) * g d

/-- The lane that a lane is turned with: 32 ahead in the first half of a 64, 32 behind in the second. -/
def mate (d : Fin 128) : Fin 128 := if d.val % 64 < 32 then ⟨(d.val + 32) % 128, Nat.mod_lt _ (by decide)⟩ else ⟨(d.val + 96) % 128, Nat.mod_lt _ (by decide)⟩

/-- A head's row, normalised and turned, at a lane. -/
def turn (x g : Fin 128 → EReal) (c s : EReal) (d : Fin 128) : EReal := nrm x g d * c + nrm x g (mate d) * s

/-! ## The payloads -/

section
variable (c s : Vec Ideal S768x128 .f32) (x : Vec Ideal S768x128 .bf16) (g : Vec Ideal S1x128 .f32)

/-- The turned block of a head. -/
def blockV : FVec Ideal S768x128 .f32 :=
  addf (mulf (k0_pay5 x g) (k0_pay2 c)) (mulf (select (k0_pay4) (dynamicRotate 1 96#32 none (k0_pay5 x g) rotates_S768x128_d1)
    (dynamicRotate 1 32#32 none (k0_pay5 x g) rotates_S768x128_d1)) (k0_pay3 s))
/-- What a query head stores, transposed; what a key head stores. -/
def qPay : FVec Ideal S128x768 .bf16 := truncf .bf16 (transpose S128x768 [1, 0] (blockV c s x g) transposes_S768x128_p1_0_S128x768) bitsLt_bf16_f32
def kPay : FVec Ideal S768x128 .bf16 := truncf .bf16 (blockV c s x g) bitsLt_bf16_f32

theorem h0_eq : k0_pay6 (F := Ideal) (k0_pay2 c) (k0_pay3 s) (k0_pay4) (k0_pay5 x g) 96#32 = qPay c s x g := rfl
theorem h1_eq : k0_pay7 (F := Ideal) (k0_pay2 c) (k0_pay3 s) (k0_pay4) x g = qPay c s x g := rfl
theorem h2_eq : k0_pay11 (F := Ideal) (k0_pay2 c) (k0_pay3 s) (k0_pay4) (k0_pay8 x) (k0_pay9 g) (k0_pay10 x) = qPay c s x g := rfl
theorem h3_eq : k0_pay12 (F := Ideal) (k0_pay2 c) (k0_pay3 s) (k0_pay4) x g = qPay c s x g := rfl
theorem h4_eq : k0_pay13 (F := Ideal) (k0_pay2 c) (k0_pay3 s) (k0_pay4) x g = qPay c s x g := rfl
theorem h5_eq : k0_pay17 (F := Ideal) (k0_pay2 c) (k0_pay3 s) (k0_pay4) (k0_pay14 x) (k0_pay15 g) (k0_pay16 x) = qPay c s x g := rfl
theorem h6_eq : k0_pay18 (F := Ideal) (k0_pay2 c) (k0_pay3 s) (k0_pay4) x g = qPay c s x g := rfl
theorem h7_eq : k0_pay20 (F := Ideal) (k0_pay2 c) (k0_pay3 s) (k0_pay4) (k0_pay19 x) g = qPay c s x g := rfl
theorem h8_eq : k0_pay23 (F := Ideal) (k0_pay2 c) (k0_pay3 s) (k0_pay21 x g) (k0_pay22 (k0_pay4) x g) = qPay c s x g := rfl
theorem h9_eq : k0_pay24 (F := Ideal) (k0_pay2 c) (k0_pay3 s) (k0_pay4) x g = qPay c s x g := rfl
theorem h10_eq : k0_pay29 (F := Ideal) (k0_pay2 c) (k0_pay3 s) (k0_pay4) (k0_pay25 x) (k0_pay26 g) (k0_pay27 x) (k0_pay28) = qPay c s x g := rfl
theorem h11_eq : k0_pay30 (F := Ideal) (k0_pay2 c) (k0_pay3 s) (k0_pay4) x g = qPay c s x g := rfl
theorem h12_eq : k0_pay31 (F := Ideal) (k0_pay2 c) (k0_pay3 s) (k0_pay4) x g = qPay c s x g := rfl
theorem h13_eq : k0_pay33 (F := Ideal) (k0_pay2 c) (k0_pay3 s) (k0_pay4) (k0_pay32 x g) = qPay c s x g := rfl
theorem h14_eq : k0_pay34 (F := Ideal) (k0_pay2 c) (k0_pay3 s) (k0_pay4) x g = qPay c s x g := rfl
theorem h15_eq : k0_pay38 (F := Ideal) (k0_pay2 c) (k0_pay3 s) (k0_pay4) (k0_pay35 x) (k0_pay36 g) (k0_pay37 x) = qPay c s x g := rfl
theorem k0_eq : k0_pay39 (F := Ideal) (k0_pay2 c) (k0_pay3 s) (k0_pay4) g x = kPay c s x g := rfl
theorem k1_eq : k0_pay42 (F := Ideal) (k0_pay2 c) (k0_pay3 s) (k0_pay4) g x = kPay c s x g := rfl
theorem k2_eq : k0_pay46 (F := Ideal) (k0_pay2 c) (k0_pay3 s) (k0_pay4) g x = kPay c s x g := rfl
theorem k3_eq : k0_pay49 (F := Ideal) (k0_pay2 c) (k0_pay3 s) (k0_pay4) g x = kPay c s x g := rfl

variable (p : Fin 768) (d : Fin 128)

theorem pay5_apply : k0_pay5 (F := Ideal) x g (ix2 p d) = nrm (fun k => x (ix2 p k)) (fun k => g (ix2 0 k)) d := by
  unfold k0_pay5 nrm
  dsimp only
  have hg : ∀ (v : Vec Ideal S1x128 .f32), broadcastTo S768x128 v broadcasts_S1x128_S768x128 (ix2 p d) = v (ix2 0 d) := fun v =>
    broadcastTo_apply v broadcasts_S1x128_S768x128 (ix2 p d) (ix2 0 d) (fun a => by match a with | ⟨0, _⟩ => rfl | ⟨1, _⟩ => rfl)
  have hr : ∀ (v : Vec Ideal S768x1 .f32), broadcastTo S768x128 v broadcasts_S768x1_S768x128 (ix2 p d) = v (ix2 p 0) := fun v =>
    broadcastTo_apply v broadcasts_S768x1_S768x128 (ix2 p d) (ix2 p 0) (fun a => by match a with | ⟨0, _⟩ => rfl | ⟨1, _⟩ => rfl)
  have hc : ∀ (v : Vec Ideal S768 .f32), shapeCast S768x1 v shapeCasts_S768_S768x1 (ix2 p 0) = v (ix1 p) := fun v =>
    shapeCast_apply v shapeCasts_S768_S768x1 (ix2 p 0) (ix1 p) (by simp [Shape.rowMajor, Shape.rowMajorPi_succ_val]; rfl)
  have hs : ∀ (y : FVec Ideal S768x128 .f32), multiReduction (F := Ideal) .add [1] S768 (mulf y y) 0x00000000#32 reduces_S768x128_S768 (.inl rfl) rfl (ix1 p)
      = ∑ k : Fin 128, y (ix2 p k) * y (ix2 p k) := fun y => by
    refine (Ideal.multiReduction_add_single _ _ reduces_S768x128_S768 _ _ (ix1 p)).trans (Finset.sum_congr rfl fun (k : Fin 128) _ => ?_)
    rw [show reduces_S768x128_S768.lift (ix1 p) k = (ix2 p k : S768x128.Idx) from funext fun a => Fin.ext (by match a with | ⟨0, _⟩ => rfl | ⟨1, _⟩ => rfl), mulf_apply]
  rw [mulf_apply, mulf_apply, hg, hr, shapeCast_self]
  show _ * Ideal.rsqrt (Ideal.div (shapeCast S768x1 _ shapeCasts_S768_S768x1 (ix2 p 0)) _ + _) * _ = _
  rw [hc, hs]
  rfl

theorem pay4_apply : k0_pay4 (ix2 p d) = if d.val % 64 < 32 then 1#1 else 0#1 := by
  have h : ∀ d : Fin 128, IntOp.cmpi .slt (Scalar.select
      (IntOp.andi (IntOp.xori (IntOp.cmpi .slt (IntOp.remsi .vector (BitVec.ofNat 32 (0 * 128 + d.val)) 64#32) 0#32) (Scalar.cmpi .slt 64#32 0#32))
        (IntOp.cmpi .ne (IntOp.remsi .vector (BitVec.ofNat 32 (0 * 128 + d.val)) 64#32) 0#32))
      (IntOp.addi (IntOp.remsi .vector (BitVec.ofNat 32 (0 * 128 + d.val)) 64#32) 64#32) (IntOp.remsi .vector (BitVec.ofNat 32 (0 * 128 + d.val)) 64#32)) 32#32
        = if d.val % 64 < 32 then 1#1 else 0#1 := by decide +kernel
  exact h d

theorem blockV_apply : blockV c s x g (ix2 p d) = turn (fun k => x (ix2 p k)) (fun k => g (ix2 0 k)) (c (ix2 p d)) (s (ix2 p d)) d := by
  have hd := d.isLt
  unfold blockV turn
  rw [addf_apply, mulf_apply, mulf_apply, pay5_apply, select_apply, pay4_apply,
    dynamicRotate_apply 1 96#32 _ _ (ix2 p d) (ix2 p ⟨(d.val + 32) % 128, Nat.mod_lt _ (by decide)⟩) (fun b => by
      match b with
      | ⟨0, _⟩ => rfl
      | ⟨1, _⟩ => show (d.val + 32) % 128 = (d.val + 128 - 96 % 128) % 128; omega),
    dynamicRotate_apply 1 32#32 _ _ (ix2 p d) (ix2 p ⟨(d.val + 96) % 128, Nat.mod_lt _ (by decide)⟩) (fun b => by
      match b with
      | ⟨0, _⟩ => rfl
      | ⟨1, _⟩ => show (d.val + 96) % 128 = (d.val + 128 - 32 % 128) % 128; omega), pay5_apply, pay5_apply,
    show k0_pay2 c = c from shapeCast_self _ _, show k0_pay3 s = s from shapeCast_self _ _]
  unfold mate
  by_cases h : d.val % 64 < 32
  · rw [if_pos h, if_pos h]; rfl
  · rw [if_neg h, if_neg h]; rfl

theorem kPay_apply : kPay c s x g (ix2 p d) = turn (fun k => x (ix2 p k)) (fun k => g (ix2 0 k)) (c (ix2 p d)) (s (ix2 p d)) d :=
  blockV_apply c s x g p d
theorem qPay_apply : qPay c s x g (ix2 d p) = turn (fun k => x (ix2 p k)) (fun k => g (ix2 0 k)) (c (ix2 p d)) (s (ix2 p d)) d :=
  (transpose_apply [1, 0] (blockV c s x g) transposes_S768x128_p1_0_S128x768 (ix2 d p) (ix2 p d)
    (fun a => by match a with | ⟨0, _⟩ => rfl | ⟨1, _⟩ => rfl)).trans (blockV_apply c s x g p d)

end

/-! ## The blocks of the two results -/

section
variable (x0 : Vec Ideal S768x2048 .bf16) (x1 : Vec Ideal S768x512 .bf16) (x3 : Vec Ideal S1x2560 .f32) (x4 x5 : Vec Ideal S768x128 .f32)

/-- The queries' block at a column of the head's rows, lane `d` of the head that starts at column `o`. -/
def qAt (o : ℕ) (ho : o + 128 ≤ 2048) (d : Fin 128) (p : Fin 768) : EReal :=
  turn (fun k => x0 (ix2 p ⟨o + k.val, by omega⟩)) (fun k => x3 (ix2 0 ⟨o + k.val, by omega⟩)) (x4 (ix2 p d)) (x5 (ix2 p d)) d
/-- The keys' block likewise; their gains lie after the queries'. -/
def kAt (o : ℕ) (ho : o + 128 ≤ 512) (d : Fin 128) (p : Fin 768) : EReal :=
  turn (fun k => x1 (ix2 p ⟨o + k.val, by omega⟩)) (fun k => x3 (ix2 0 ⟨2048 + o + k.val, by omega⟩)) (x4 (ix2 p d)) (x5 (ix2 p d)) d

def qBlk : S2048x768.Idx → EReal := fun y =>
  have hy : (y 0).val < 2048 := (y 0).isLt
  qAt x0 x3 x4 x5 (128 * ((y 0).val / 128)) (by omega) ⟨(y 0).val % 128, Nat.mod_lt _ (by decide)⟩ ⟨(y 1).val, (y 1).isLt⟩
def kBlk : S768x512.Idx → EReal := fun y =>
  have hy : (y 1).val < 512 := (y 1).isLt
  kAt x1 x3 x4 x5 (128 * ((y 1).val / 128)) (by omega) ⟨(y 1).val % 128, Nat.mod_lt _ (by decide)⟩ ⟨(y 0).val, (y 0).isLt⟩

theorem qAt_congr {o o' : ℕ} {ho ho'} {d d' : Fin 128} {p p' : Fin 768} (e1 : o = o') (e2 : d = d') (e3 : p = p') :
    qAt x0 x3 x4 x5 o ho d p = qAt x0 x3 x4 x5 o' ho' d' p' := by subst e1 e2 e3; rfl
theorem kAt_congr {o o' : ℕ} {ho ho'} {d d' : Fin 128} {p p' : Fin 768} (e1 : o = o') (e2 : d = d') (e3 : p = p') :
    kAt x1 x3 x4 x5 o ho d p = kAt x1 x3 x4 x5 o' ho' d' p' := by subst e1 e2 e3; rfl

/-- A query head's store holds its part of the block. -/
theorem qPiece (h o : ℕ) (hh : o = 128 * h) (ho : h < 16)
    (i4 : ∀ a, (![0, 0] : Fin 2 → ℕ) a + S768x128.size a ≤ S768x128.size a) (i0 : ∀ a, (![0, o] : Fin 2 → ℕ) a + S768x128.size a ≤ S768x2048.size a)
    (i3 : ∀ a, (![0, o] : Fin 2 → ℕ) a + S1x128.size a ≤ S1x2560.size a) (iy : ∀ a, (![o, 0] : Fin 2 → ℕ) a + S128x768.size a ≤ S2048x768.size a)
    (w : Vec Ideal S128x768 .bf16)
    (hw : w = qPay (View.ld (Val := Elt Ideal) (e' := .f32) x4 (Rect.unit (s := S768x128) ![0, 0] S768x128.size i4))
      (View.ld (Val := Elt Ideal) (e' := .f32) x5 (Rect.unit (s := S768x128) ![0, 0] S768x128.size i4))
      (View.ld (Val := Elt Ideal) (e' := .bf16) x0 (Rect.unit (s := S768x2048) ![0, o] S768x128.size i0))
      (View.ld (Val := Elt Ideal) (e' := .f32) x3 (Rect.unit (s := S1x2560) ![0, o] S1x128.size i3))) (y : S128x768.Idx) :
    w y = qBlk x0 x3 x4 x5 ((Rect.unit (s := S2048x768) ![o, 0] S128x768.size iy).emb y) := by
  have h0 : (y 0).val < 128 := (y 0).isLt
  have h1 : (y 1).val < 768 := (y 1).isLt
  subst hw
  have ey : y = (ix2 ⟨(y 0).val, h0⟩ ⟨(y 1).val, h1⟩ : S128x768.Idx) := funext fun a => by match a with | ⟨0, _⟩ => rfl | ⟨1, _⟩ => rfl
  refine (congrArg _ ey).trans ((qPay_apply _ _ _ _ ⟨(y 1).val, h1⟩ ⟨(y 0).val, h0⟩).trans ?_)
  rw [View.ld_unit_zero (show (![0, 0] : Fin 2 → ℕ) = fun _ => 0 from funext fun a => by match a with | ⟨0, _⟩ => rfl | ⟨1, _⟩ => rfl),
    View.ld_unit_zero (show (![0, 0] : Fin 2 → ℕ) = fun _ => 0 from funext fun a => by match a with | ⟨0, _⟩ => rfl | ⟨1, _⟩ => rfl)]
  have e0 : ∀ k : Fin 128, View.ld (Val := Elt Ideal) (e' := .bf16) x0 (Rect.unit (s := S768x2048) ![0, o] S768x128.size i0) (ix2 ⟨(y 1).val, h1⟩ k)
      = x0 (ix2 ⟨(y 1).val, h1⟩ ⟨o + k.val, by omega⟩) := fun k => congrArg x0 (funext fun a => Fin.ext (by
    match a with
    | ⟨0, _⟩ => show 0 + 1 * (y 1).val = (y 1).val; omega
    | ⟨1, _⟩ => show o + 1 * k.val = o + k.val; omega))
  have e3 : ∀ k : Fin 128, View.ld (Val := Elt Ideal) (e' := .f32) x3 (Rect.unit (s := S1x2560) ![0, o] S1x128.size i3) (ix2 0 k)
      = x3 (ix2 0 ⟨o + k.val, by omega⟩) := fun k => congrArg x3 (funext fun a => Fin.ext (by
    match a with
    | ⟨0, _⟩ => show 0 + 1 * 0 = 0; omega
    | ⟨1, _⟩ => show o + 1 * k.val = o + k.val; omega))
  rw [funext e0, funext e3]
  refine (show _ = qAt x0 x3 x4 x5 o (by omega) ⟨(y 0).val, h0⟩ ⟨(y 1).val, h1⟩ from rfl).trans ?_
  refine qAt_congr x0 x3 x4 x5 (ho' := by show 128 * ((o + 1 * (y 0).val) / 128) + 128 ≤ 2048; omega) ?_ (Fin.ext ?_) (Fin.ext ?_)
  · show o = 128 * ((o + 1 * (y 0).val) / 128); omega
  · show (y 0).val = (o + 1 * (y 0).val) % 128; omega
  · show (y 1).val = 0 + 1 * (y 1).val; omega

/-- A key head's store likewise. -/
theorem kPiece (h o o' : ℕ) (hh : o = 128 * h) (ho : h < 4) (ho' : o' = 2048 + o)
    (i4 : ∀ a, (![0, 0] : Fin 2 → ℕ) a + S768x128.size a ≤ S768x128.size a) (i1 : ∀ a, (![0, o] : Fin 2 → ℕ) a + S768x128.size a ≤ S768x512.size a)
    (i3 : ∀ a, (![0, o'] : Fin 2 → ℕ) a + S1x128.size a ≤ S1x2560.size a)
    (w : Vec Ideal S768x128 .bf16)
    (hw : w = kPay (View.ld (Val := Elt Ideal) (e' := .f32) x4 (Rect.unit (s := S768x128) ![0, 0] S768x128.size i4))
      (View.ld (Val := Elt Ideal) (e' := .f32) x5 (Rect.unit (s := S768x128) ![0, 0] S768x128.size i4))
      (View.ld (Val := Elt Ideal) (e' := .bf16) x1 (Rect.unit (s := S768x512) ![0, o] S768x128.size i1))
      (View.ld (Val := Elt Ideal) (e' := .f32) x3 (Rect.unit (s := S1x2560) ![0, o'] S1x128.size i3))) (y : S768x128.Idx) :
    w y = kBlk x1 x3 x4 x5 ((Rect.unit (s := S768x512) ![0, o] S768x128.size i1).emb y) := by
  have h0 : (y 0).val < 768 := (y 0).isLt
  have h1 : (y 1).val < 128 := (y 1).isLt
  subst hw ho'
  have ey : y = (ix2 ⟨(y 0).val, h0⟩ ⟨(y 1).val, h1⟩ : S768x128.Idx) := funext fun a => by match a with | ⟨0, _⟩ => rfl | ⟨1, _⟩ => rfl
  refine (congrArg _ ey).trans ((kPay_apply _ _ _ _ ⟨(y 0).val, h0⟩ ⟨(y 1).val, h1⟩).trans ?_)
  rw [View.ld_unit_zero (show (![0, 0] : Fin 2 → ℕ) = fun _ => 0 from funext fun a => by match a with | ⟨0, _⟩ => rfl | ⟨1, _⟩ => rfl),
    View.ld_unit_zero (show (![0, 0] : Fin 2 → ℕ) = fun _ => 0 from funext fun a => by match a with | ⟨0, _⟩ => rfl | ⟨1, _⟩ => rfl)]
  have e1 : ∀ k : Fin 128, View.ld (Val := Elt Ideal) (e' := .bf16) x1 (Rect.unit (s := S768x512) ![0, o] S768x128.size i1) (ix2 ⟨(y 0).val, h0⟩ k)
      = x1 (ix2 ⟨(y 0).val, h0⟩ ⟨o + k.val, by omega⟩) := fun k => congrArg x1 (funext fun a => Fin.ext (by
    match a with
    | ⟨0, _⟩ => show 0 + 1 * (y 0).val = (y 0).val; omega
    | ⟨1, _⟩ => show o + 1 * k.val = o + k.val; omega))
  have e3 : ∀ k : Fin 128, View.ld (Val := Elt Ideal) (e' := .f32) x3 (Rect.unit (s := S1x2560) ![0, 2048 + o] S1x128.size i3) (ix2 0 k)
      = x3 (ix2 0 ⟨2048 + o + k.val, by omega⟩) := fun k => congrArg x3 (funext fun a => Fin.ext (by
    match a with
    | ⟨0, _⟩ => show 0 + 1 * 0 = 0; omega
    | ⟨1, _⟩ => show 2048 + o + 1 * k.val = 2048 + o + k.val; omega))
  rw [funext e1, funext e3]
  refine (show _ = kAt x1 x3 x4 x5 o (by omega) ⟨(y 1).val, h1⟩ ⟨(y 0).val, h0⟩ from rfl).trans ?_
  refine kAt_congr x1 x3 x4 x5 (ho' := by show 128 * ((o + 1 * (y 1).val) / 128) + 128 ≤ 512; omega) ?_ (Fin.ext ?_) (Fin.ext ?_)
  · show o = 128 * ((o + 1 * (y 1).val) / 128); omega
  · show (y 1).val = (o + 1 * (y 1).val) % 128; omega
  · show (y 0).val = 0 + 1 * (y 0).val; omega

variable
  (c : Dev nD) (i : grid0.Coords) (arg2 : Memref sig .tc .vmem S768x2048 .bf16) (harg2 : arg2.IsWhole)
  (arg3 : Memref sig .tc .vmem S768x512 .bf16) (harg3 : arg3.IsWhole) (arg4 : Memref sig .tc .vmem S768x512 .bf16) (harg4 : arg4.IsWhole)
  (arg5 : Memref sig .tc .vmem S1x2560 .f32) (harg5 : arg5.IsWhole) (arg6 : Memref sig .tc .vmem S768x128 .f32) (harg6 : arg6.IsWhole)
  (arg7 : Memref sig .tc .vmem S768x128 .f32) (harg7 : arg7.IsWhole) (arg8 : Memref sig .tc .vmem S2048x768 .bf16) (harg8 : arg8.IsWhole)
  (arg9 : Memref sig .tc .vmem S768x512 .bf16) (harg9 : arg9.IsWhole) (arg10 : Memref sig .tc .vmem S576x768 .bf16) (harg10 : arg10.IsWhole)
  (x2 : Vec Ideal S768x512 .bf16)

theorem out6_eq : out0_A_6 (F := Ideal) c i arg2 harg2 arg3 harg3 arg4 harg4 arg5 harg5 arg6 harg6 arg7 harg7 arg8 harg8 arg9 harg9 arg10 harg10
    x0 x1 x2 x3 x4 x5 = qBlk x0 x3 x4 x5 := by
  funext y
  have hc := cover0_A_6 (F := Ideal) c i arg2 harg2 arg3 harg3 arg4 harg4 arg5 harg5 arg6 harg6 arg7 harg7 arg8 harg8 arg9 harg9 arg10 harg10 x0 x1 x2 x3 x4 x5 y
  unfold out0_A_6
  rw [View.read_writes_eq_canon _ _ _ (fun y => cover0_A_6 (y := y) ..)]
  refine View.canon_apply_of_pieces (Val := Elt Ideal) (e := .bf16) (qBlk x0 x3 x4 x5) _ ?_ y hc
  unfold kernelRun0_A
  dsimp only
  sl_unfold_words
  simp only [View.readAt_eq_ld, harg2.read_unread, harg3.read_unread, harg4.read_unread, harg5.read_unread, harg6.read_unread, harg7.read_unread]
  refine List.forall_mem_cons.2 ⟨fun y => qPiece x0 x3 x4 x5 15 1920 rfl (by decide) inb_S768x128_S768x128_0_0 inb_S768x2048_S768x128_0_1920 inb_S1x2560_S1x128_0_1920 inb_S2048x768_S128x768_1920_0 _ (h15_eq _ _ _ _) y, ?_⟩
  refine List.forall_mem_cons.2 ⟨fun y => qPiece x0 x3 x4 x5 14 1792 rfl (by decide) inb_S768x128_S768x128_0_0 inb_S768x2048_S768x128_0_1792 inb_S1x2560_S1x128_0_1792 inb_S2048x768_S128x768_1792_0 _ (h14_eq _ _ _ _) y, ?_⟩
  refine List.forall_mem_cons.2 ⟨fun y => qPiece x0 x3 x4 x5 13 1664 rfl (by decide) inb_S768x128_S768x128_0_0 inb_S768x2048_S768x128_0_1664 inb_S1x2560_S1x128_0_1664 inb_S2048x768_S128x768_1664_0 _ (h13_eq _ _ _ _) y, ?_⟩
  refine List.forall_mem_cons.2 ⟨fun y => qPiece x0 x3 x4 x5 12 1536 rfl (by decide) inb_S768x128_S768x128_0_0 inb_S768x2048_S768x128_0_1536 inb_S1x2560_S1x128_0_1536 inb_S2048x768_S128x768_1536_0 _ (h12_eq _ _ _ _) y, ?_⟩
  refine List.forall_mem_cons.2 ⟨fun y => qPiece x0 x3 x4 x5 11 1408 rfl (by decide) inb_S768x128_S768x128_0_0 inb_S768x2048_S768x128_0_1408 inb_S1x2560_S1x128_0_1408 inb_S2048x768_S128x768_1408_0 _ (h11_eq _ _ _ _) y, ?_⟩
  refine List.forall_mem_cons.2 ⟨fun y => qPiece x0 x3 x4 x5 10 1280 rfl (by decide) inb_S768x128_S768x128_0_0 inb_S768x2048_S768x128_0_1280 inb_S1x2560_S1x128_0_1280 inb_S2048x768_S128x768_1280_0 _ (h10_eq _ _ _ _) y, ?_⟩
  refine List.forall_mem_cons.2 ⟨fun y => qPiece x0 x3 x4 x5 9 1152 rfl (by decide) inb_S768x128_S768x128_0_0 inb_S768x2048_S768x128_0_1152 inb_S1x2560_S1x128_0_1152 inb_S2048x768_S128x768_1152_0 _ (h9_eq _ _ _ _) y, ?_⟩
  refine List.forall_mem_cons.2 ⟨fun y => qPiece x0 x3 x4 x5 8 1024 rfl (by decide) inb_S768x128_S768x128_0_0 inb_S768x2048_S768x128_0_1024 inb_S1x2560_S1x128_0_1024 inb_S2048x768_S128x768_1024_0 _ (h8_eq _ _ _ _) y, ?_⟩
  refine List.forall_mem_cons.2 ⟨fun y => qPiece x0 x3 x4 x5 7 896 rfl (by decide) inb_S768x128_S768x128_0_0 inb_S768x2048_S768x128_0_896 inb_S1x2560_S1x128_0_896 inb_S2048x768_S128x768_896_0 _ (h7_eq _ _ _ _) y, ?_⟩
  refine List.forall_mem_cons.2 ⟨fun y => qPiece x0 x3 x4 x5 6 768 rfl (by decide) inb_S768x128_S768x128_0_0 inb_S768x2048_S768x128_0_768 inb_S1x2560_S1x128_0_768 inb_S2048x768_S128x768_768_0 _ (h6_eq _ _ _ _) y, ?_⟩
  refine List.forall_mem_cons.2 ⟨fun y => qPiece x0 x3 x4 x5 5 640 rfl (by decide) inb_S768x128_S768x128_0_0 inb_S768x2048_S768x128_0_640 inb_S1x2560_S1x128_0_640 inb_S2048x768_S128x768_640_0 _ (h5_eq _ _ _ _) y, ?_⟩
  refine List.forall_mem_cons.2 ⟨fun y => qPiece x0 x3 x4 x5 4 512 rfl (by decide) inb_S768x128_S768x128_0_0 inb_S768x2048_S768x128_0_512 inb_S1x2560_S1x128_0_512 inb_S2048x768_S128x768_512_0 _ (h4_eq _ _ _ _) y, ?_⟩
  refine List.forall_mem_cons.2 ⟨fun y => qPiece x0 x3 x4 x5 3 384 rfl (by decide) inb_S768x128_S768x128_0_0 inb_S768x2048_S768x128_0_384 inb_S1x2560_S1x128_0_384 inb_S2048x768_S128x768_384_0 _ (h3_eq _ _ _ _) y, ?_⟩
  refine List.forall_mem_cons.2 ⟨fun y => qPiece x0 x3 x4 x5 2 256 rfl (by decide) inb_S768x128_S768x128_0_0 inb_S768x2048_S768x128_0_256 inb_S1x2560_S1x128_0_256 inb_S2048x768_S128x768_256_0 _ (h2_eq _ _ _ _) y, ?_⟩
  refine List.forall_mem_cons.2 ⟨fun y => qPiece x0 x3 x4 x5 1 128 rfl (by decide) inb_S768x128_S768x128_0_0 inb_S768x2048_S768x128_0_128 inb_S1x2560_S1x128_0_128 inb_S2048x768_S128x768_128_0 _ (h1_eq _ _ _ _) y, ?_⟩
  refine List.forall_mem_cons.2 ⟨fun y => qPiece x0 x3 x4 x5 0 0 rfl (by decide) inb_S768x128_S768x128_0_0 inb_S768x2048_S768x128_0_0 inb_S1x2560_S1x128_0_0 inb_S2048x768_S128x768_0_0 _ (h0_eq _ _ _ _) y, ?_⟩
  exact List.forall_mem_nil _

theorem out7_eq : out0_A_7 (F := Ideal) c i arg2 harg2 arg3 harg3 arg4 harg4 arg5 harg5 arg6 harg6 arg7 harg7 arg8 harg8 arg9 harg9 arg10 harg10
    x0 x1 x2 x3 x4 x5 = kBlk x1 x3 x4 x5 := by
  funext y
  have hc := cover0_A_7 (F := Ideal) c i arg2 harg2 arg3 harg3 arg4 harg4 arg5 harg5 arg6 harg6 arg7 harg7 arg8 harg8 arg9 harg9 arg10 harg10 x0 x1 x2 x3 x4 x5 y
  unfold out0_A_7
  rw [View.read_writes_eq_canon _ _ _ (fun y => cover0_A_7 (y := y) ..)]
  refine View.canon_apply_of_pieces (Val := Elt Ideal) (e := .bf16) (kBlk x1 x3 x4 x5) _ ?_ y hc
  unfold kernelRun0_A
  dsimp only
  sl_unfold_words
  simp only [View.readAt_eq_ld, harg2.read_unread, harg3.read_unread, harg4.read_unread, harg5.read_unread, harg6.read_unread, harg7.read_unread]
  refine List.forall_mem_cons.2 ⟨fun y => kPiece x1 x3 x4 x5 3 384 2432 rfl (by decide) rfl inb_S768x128_S768x128_0_0 inb_S768x512_S768x128_0_384 inb_S1x2560_S1x128_0_2432 _ (k3_eq _ _ _ _) y, ?_⟩
  refine List.forall_mem_cons.2 ⟨fun y => kPiece x1 x3 x4 x5 2 256 2304 rfl (by decide) rfl inb_S768x128_S768x128_0_0 inb_S768x512_S768x128_0_256 inb_S1x2560_S1x128_0_2304 _ (k2_eq _ _ _ _) y, ?_⟩
  refine List.forall_mem_cons.2 ⟨fun y => kPiece x1 x3 x4 x5 1 128 2176 rfl (by decide) rfl inb_S768x128_S768x128_0_0 inb_S768x512_S768x128_0_128 inb_S1x2560_S1x128_0_2176 _ (k1_eq _ _ _ _) y, ?_⟩
  refine List.forall_mem_cons.2 ⟨fun y => kPiece x1 x3 x4 x5 0 0 2048 rfl (by decide) rfl inb_S768x128_S768x128_0_0 inb_S768x512_S768x128_0_0 inb_S1x2560_S1x128_0_2048 _ (k0_eq _ _ _ _) y, ?_⟩
  exact List.forall_mem_nil _

end

end Cert.Proof.PrepBody10
end
-- ==== Proof.PrepRef10.lean ====
/-
  The call that normalises the queries and keys of a head and turns them by their positions, in the reference: each head's
  row normalised, its first 64 lanes turned by the position's row and its last 64 by its column, the context rows left as
  they are; the two results read at an element as the kernel's form of the same values.
-/
module

public import proofs.«01_k».proof.Proof.PrepBody10
public import proofs.«01_k».proof.Proof.Mods8
public import proofs.«01_k».proof.Proof.Gen.Reference10Ideal.Read

@[expose] public section

set_option maxRecDepth 16384
set_option backward.proofsInPublic true

noncomputable section

namespace Cert.Proof.PrepRef10

open Cert.Reference10Ideal Cert.Reference10Ideal.Read
open Idealize.ShloMosaic Idealize.ShloMosaic.TcCoe Idealize.ShloMosaic.ValueIdx Idealize.SL.Sem
open Cert.Proof.PrepBody10 (nrm mate turn)

/-! ## The results -/

/-- The cosine and the sine of a position's angle, at a row and a frequency. -/
abbrev cs (pos : S8192.Idx → BitVec 32) : S8192x32.Idx → EReal := val_main_v46 (F := Ideal) pos
abbrev sn (pos : S8192.Idx → BitVec 32) : S8192x32.Idx → EReal := val_main_v48 (F := Ideal) pos

/-- The frequency of a lane. -/
abbrev fr (d : Fin 128) : Fin 32 := ⟨d.val % 32, Nat.mod_lt _ (by decide)⟩

/-- The table of cosines, and that of sines with their signs: the context rows are turned by nothing. -/
def tabC (pr pc : S8192.Idx → BitVec 32) (p : Fin 8448) (d : Fin 128) : EReal :=
  if hp : p.val < 8192 then (if d.val < 64 then cs pr else cs pc) (ix2 ⟨p.val, hp⟩ (fr d)) else 1
def tabS (pr pc : S8192.Idx → BitVec 32) (p : Fin 8448) (d : Fin 128) : EReal :=
  if hp : p.val < 8192 then
    (if d.val < 32 then fun j => -sn pr j else if d.val < 64 then sn pr else if d.val < 96 then fun j => -sn pc j else sn pc) (ix2 ⟨p.val, hp⟩ (fr d))
  else 0

/-- A row's head that starts at column `o`, normalised and turned, at a lane. -/
def res (u : S8448x13312.Idx → EReal) (g : S128.Idx → EReal) (pr pc : S8192.Idx → BitVec 32) (o : ℕ) (ho : o + 128 ≤ 13312) (p : Fin 8448) (d : Fin 128) : EReal :=
  turn (fun k => u (ix2 p ⟨o + k.val, by omega⟩)) (fun k => g (ix1 k)) (tabC pr pc p d) (tabS pr pc p d) d

theorem res_congr (u : S8448x13312.Idx → EReal) (g : S128.Idx → EReal) (pr pc : S8192.Idx → BitVec 32) {o o' : ℕ} {ho ho'} {p p' : Fin 8448} {d d' : Fin 128}
    (e1 : o = o') (e2 : p = p') (e3 : d = d') : res u g pr pc o ho p d = res u g pr pc o' ho' p' d' := by subst e1 e2 e3; rfl

/-- The queries, transposed, and the keys. -/
def outQ (u : S8448x13312.Idx → EReal) (g : S128.Idx → EReal) (pr pc : S8192.Idx → BitVec 32) : S2048x8448.Idx → EReal := fun i =>
  have h : (i 0).val < 2048 := (i 0).isLt
  res u g pr pc (8192 + 128 * ((i 0).val / 128)) (by omega) ⟨(i 1).val, (i 1).isLt⟩ ⟨(i 0).val % 128, Nat.mod_lt _ (by decide)⟩
def outK (u : S8448x13312.Idx → EReal) (g : S128.Idx → EReal) (pr pc : S8192.Idx → BitVec 32) : S8448x512.Idx → EReal := fun i =>
  have h : (i 1).val < 512 := (i 1).isLt
  res u g pr pc (10240 + 128 * ((i 1).val / 128)) (by omega) ⟨(i 0).val, (i 0).isLt⟩ ⟨(i 1).val % 128, Nat.mod_lt _ (by decide)⟩

/-! ## Arrays joined -/

/-- Four arrays of 32 lanes side by side, the context rows below. -/
theorem cat_at {H : ℕ} (a b c d : (⟨3, ![8192, H, 32]⟩ : Shape).Idx → EReal) (e : (⟨3, ![256, H, 128]⟩ : Shape).Idx → EReal)
    (h1 : Shape.Concatenates [⟨3, ![8192, H, 32]⟩, ⟨3, ![8192, H, 32]⟩] ⟨3, ![8192, H, 64]⟩ 2)
    (h2 : Shape.Concatenates [⟨3, ![8192, H, 64]⟩, ⟨3, ![8192, H, 64]⟩] ⟨3, ![8192, H, 128]⟩ 2)
    (h3 : Shape.Concatenates [⟨3, ![8192, H, 128]⟩, ⟨3, ![256, H, 128]⟩] ⟨3, ![8448, H, 128]⟩ 0)
    (P : Fin 8448) (h : Fin H) (j : Fin 128) :
    concatenate (⟨3, ![8448, H, 128]⟩ : Shape) 0 [⟨⟨3, ![8192, H, 128]⟩, concatenate (⟨3, ![8192, H, 128]⟩ : Shape) 2
        [⟨⟨3, ![8192, H, 64]⟩, concatenate (⟨3, ![8192, H, 64]⟩ : Shape) 2 [⟨⟨3, ![8192, H, 32]⟩, a⟩, ⟨⟨3, ![8192, H, 32]⟩, b⟩] h1⟩,
         ⟨⟨3, ![8192, H, 64]⟩, concatenate (⟨3, ![8192, H, 64]⟩ : Shape) 2 [⟨⟨3, ![8192, H, 32]⟩, c⟩, ⟨⟨3, ![8192, H, 32]⟩, d⟩] h1⟩] h2⟩,
        ⟨⟨3, ![256, H, 128]⟩, e⟩] h3 (ix3 P h j)
      = if hP : P.val < 8192 then (if j.val < 32 then a else if j.val < 64 then b else if j.val < 96 then c else d) (ix3 ⟨P.val, hP⟩ h (fr j))
        else e (ix3 ⟨P.val - 8192, by omega⟩ h j) := by
  have hj := j.isLt
  have pair : ∀ (x y : (⟨3, ![8192, H, 32]⟩ : Shape).Idx → EReal) (p : Fin 8192) (q : Fin 64),
      concatenate (⟨3, ![8192, H, 64]⟩ : Shape) 2 [⟨⟨3, ![8192, H, 32]⟩, x⟩, ⟨⟨3, ![8192, H, 32]⟩, y⟩] h1 (ix3 p h q)
        = (if q.val < 32 then x else y) (ix3 p h ⟨q.val % 32, Nat.mod_lt _ (by decide)⟩) := fun x y p q => by
    have hq := q.isLt
    by_cases hl : q.val < 32
    · rw [if_pos hl]
      exact concatenate_pair_apply_left (t := ⟨3, ![8192, H, 64]⟩) (s₁ := ⟨3, ![8192, H, 32]⟩) (s₂ := ⟨3, ![8192, H, 32]⟩) 2 x y h1 (ix3 p h q) rfl
        (ix3 p h ⟨q.val % 32, Nat.mod_lt _ (by decide)⟩) (fun b => by
          match b with
          | ⟨0, _⟩ => rfl
          | ⟨1, _⟩ => rfl
          | ⟨2, _⟩ => show q.val % 32 = q.val; omega)
    · rw [if_neg hl]
      exact concatenate_pair_apply_right (t := ⟨3, ![8192, H, 64]⟩) (s₁ := ⟨3, ![8192, H, 32]⟩) (s₂ := ⟨3, ![8192, H, 32]⟩) 2 x y h1 (ix3 p h q) rfl rfl
        (ix3 p h ⟨q.val % 32, Nat.mod_lt _ (by decide)⟩)
        (fun b => by match b with | ⟨0, _⟩ => exact fun _ => rfl | ⟨1, _⟩ => exact fun _ => rfl | ⟨2, _⟩ => exact fun h => absurd rfl h)
        (show q.val % 32 + 32 = q.val by omega)
  by_cases hP : P.val < 8192
  · rw [dif_pos hP]
    refine (concatenate_pair_apply_left (t := ⟨3, ![8448, H, 128]⟩) (s₁ := ⟨3, ![8192, H, 128]⟩) (s₂ := ⟨3, ![256, H, 128]⟩) 0 _ e h3 (ix3 P h j) rfl
      (ix3 ⟨P.val, hP⟩ h j) (fun b => by match b with | ⟨0, _⟩ => rfl | ⟨1, _⟩ => rfl | ⟨2, _⟩ => rfl)).trans ?_
    by_cases hl : j.val < 64
    · refine (concatenate_pair_apply_left (t := ⟨3, ![8192, H, 128]⟩) (s₁ := ⟨3, ![8192, H, 64]⟩) (s₂ := ⟨3, ![8192, H, 64]⟩) 2 _ _ h2 (ix3 ⟨P.val, hP⟩ h j) rfl
        (ix3 ⟨P.val, hP⟩ h ⟨j.val, hl⟩) (fun b => by match b with | ⟨0, _⟩ => rfl | ⟨1, _⟩ => rfl | ⟨2, _⟩ => rfl)).trans ((pair a b _ _).trans ?_)
      by_cases hq : j.val < 32
      · rw [if_pos hq, if_pos (show (⟨j.val, hl⟩ : Fin 64).val < 32 from hq)]
      · rw [if_neg hq, if_pos hl, if_neg (show ¬ (⟨j.val, hl⟩ : Fin 64).val < 32 from hq)]
    · refine (concatenate_pair_apply_right (t := ⟨3, ![8192, H, 128]⟩) (s₁ := ⟨3, ![8192, H, 64]⟩) (s₂ := ⟨3, ![8192, H, 64]⟩) 2 _ _ h2 (ix3 ⟨P.val, hP⟩ h j) rfl rfl
        (ix3 ⟨P.val, hP⟩ h ⟨j.val - 64, by omega⟩)
        (fun b => by match b with | ⟨0, _⟩ => exact fun _ => rfl | ⟨1, _⟩ => exact fun _ => rfl | ⟨2, _⟩ => exact fun h => absurd rfl h)
        (show j.val - 64 + 64 = j.val by omega)).trans ((pair c d _ _).trans ?_)
      have e : (⟨(j.val - 64) % 32, Nat.mod_lt _ (by decide)⟩ : Fin 32) = fr j := Fin.ext (show (j.val - 64) % 32 = j.val % 32 by omega)
      by_cases hq : j.val < 96
      · rw [if_neg (show ¬ j.val < 32 by omega), if_neg hl, if_pos hq, if_pos (show (⟨j.val - 64, by omega⟩ : Fin 64).val < 32 by show j.val - 64 < 32; omega)]
        exact congrArg c (congrArg (ix3 _ h) e)
      · rw [if_neg (show ¬ j.val < 32 by omega), if_neg hl, if_neg hq, if_neg (show ¬ (⟨j.val - 64, by omega⟩ : Fin 64).val < 32 by show ¬ j.val - 64 < 32; omega)]
        exact congrArg d (congrArg (ix3 _ h) e)
  · rw [dif_neg hP]
    exact concatenate_pair_apply_right (t := ⟨3, ![8448, H, 128]⟩) (s₁ := ⟨3, ![8192, H, 128]⟩) (s₂ := ⟨3, ![256, H, 128]⟩) 0 _ e h3 (ix3 P h j) rfl rfl
      (ix3 ⟨P.val - 8192, by omega⟩ h j)
      (fun b => by match b with | ⟨0, _⟩ => exact fun h => absurd rfl h | ⟨1, _⟩ => exact fun _ => rfl | ⟨2, _⟩ => exact fun _ => rfl)
      (Nat.sub_add_cancel (Nat.le_of_not_lt hP))

/-- The reference's four parts and its context rows are the turned row. -/
theorem turn_eq (x g : Fin 128 → EReal) (pr pc : S8192.Idx → BitVec 32) (P : Fin 8448) (j : Fin 128) (v : EReal)
    (ha : ∀ (hP : P.val < 8192), j.val < 32 → v = nrm x g ⟨0 + (0 + (fr j).val), by omega⟩ * cs pr (ix2 ⟨P.val, hP⟩ (fr j))
      - nrm x g ⟨0 + (32 + (fr j).val), by omega⟩ * sn pr (ix2 ⟨P.val, hP⟩ (fr j)))
    (hb : ∀ (hP : P.val < 8192), ¬ j.val < 32 → j.val < 64 → v = nrm x g ⟨0 + (0 + (fr j).val), by omega⟩ * sn pr (ix2 ⟨P.val, hP⟩ (fr j))
      + nrm x g ⟨0 + (32 + (fr j).val), by omega⟩ * cs pr (ix2 ⟨P.val, hP⟩ (fr j)))
    (hc : ∀ (hP : P.val < 8192), ¬ j.val < 64 → j.val < 96 → v = nrm x g ⟨64 + (0 + (fr j).val), by omega⟩ * cs pc (ix2 ⟨P.val, hP⟩ (fr j))
      - nrm x g ⟨64 + (32 + (fr j).val), by omega⟩ * sn pc (ix2 ⟨P.val, hP⟩ (fr j)))
    (hd : ∀ (hP : P.val < 8192), ¬ j.val < 96 → v = nrm x g ⟨64 + (0 + (fr j).val), by omega⟩ * sn pc (ix2 ⟨P.val, hP⟩ (fr j))
      + nrm x g ⟨64 + (32 + (fr j).val), by omega⟩ * cs pc (ix2 ⟨P.val, hP⟩ (fr j)))
    (he : ¬ P.val < 8192 → v = nrm x g j) : v = turn x g (tabC pr pc P j) (tabS pr pc P j) j := by
  have hj := j.isLt
  unfold turn tabC tabS
  by_cases hP : P.val < 8192
  · rw [dif_pos hP, dif_pos hP]
    by_cases h1 : j.val < 32
    · rw [if_pos (by omega), if_pos h1, ha hP h1, mul_neg, sub_eq_add_neg]
      rw [show (⟨0 + (0 + (fr j).val), by omega⟩ : Fin 128) = j from Fin.ext (show 0 + (0 + j.val % 32) = j.val by omega),
        show (⟨0 + (32 + (fr j).val), by omega⟩ : Fin 128) = mate j from Fin.ext (by
          unfold mate; rw [if_pos (by omega)]; show 0 + (32 + j.val % 32) = (j.val + 32) % 128; omega)]
    · by_cases h2 : j.val < 64
      · rw [if_pos h2, if_neg h1, if_pos h2, hb hP h1 h2, add_comm]
        rw [show (⟨0 + (32 + (fr j).val), by omega⟩ : Fin 128) = j from Fin.ext (show 0 + (32 + j.val % 32) = j.val by omega),
          show (⟨0 + (0 + (fr j).val), by omega⟩ : Fin 128) = mate j from Fin.ext (by
            unfold mate; rw [if_neg (by omega)]; show 0 + (0 + j.val % 32) = (j.val + 96) % 128; omega)]
      · by_cases h3 : j.val < 96
        · rw [if_neg h2, if_neg h1, if_neg h2, if_pos h3, hc hP h2 h3, mul_neg, sub_eq_add_neg]
          rw [show (⟨64 + (0 + (fr j).val), by omega⟩ : Fin 128) = j from Fin.ext (show 64 + (0 + j.val % 32) = j.val by omega),
            show (⟨64 + (32 + (fr j).val), by omega⟩ : Fin 128) = mate j from Fin.ext (by
              unfold mate; rw [if_pos (by omega)]; show 64 + (32 + j.val % 32) = (j.val + 32) % 128; omega)]
        · rw [if_neg h2, if_neg h1, if_neg h2, if_neg h3, hd hP h3, add_comm]
          rw [show (⟨64 + (32 + (fr j).val), by omega⟩ : Fin 128) = j from Fin.ext (show 64 + (32 + j.val % 32) = j.val by omega),
            show (⟨64 + (0 + (fr j).val), by omega⟩ : Fin 128) = mate j from Fin.ext (by
              unfold mate; rw [if_neg (by omega)]; show 64 + (0 + j.val % 32) = (j.val + 96) % 128; omega)]
  · rw [dif_neg hP, dif_neg hP, he hP, mul_one, mul_zero, add_zero]

variable (u : (⟨S8448x13312, .bf16⟩ : BufTy).Contents (Elt Ideal)) (g : (⟨S128, .f32⟩ : BufTy).Contents (Elt Ideal))
  (pr pc : (⟨S8192, .i32⟩ : BufTy).Contents (Elt Ideal))

/-! ## The queries -/

theorem norm_q (P : Fin 8448) (h : Fin 16) (d : Fin 128) : val_main_v15 (F := Ideal) u g (ix3 P h d)
    = nrm (fun k => u (ix2 P ⟨8192 + 128 * h.val + k.val, by omega⟩)) (fun k => g (ix1 k)) d := by
  have e1 : ∀ k : Fin 128, idx_main_v0 (idx_main_v2 (ix3 P h k)) = ix2 P ⟨8192 + 128 * h.val + k.val, by omega⟩ := fun k => funext fun a => Fin.ext (by
    match a with
    | ⟨0, _⟩ => show ((P.val * 16 + h.val) * 128 + k.val) / 2048 = P.val; omega
    | ⟨1, _⟩ => show 8192 + ((P.val * 16 + h.val) * 128 + k.val) % 2048 = 8192 + 128 * h.val + k.val; omega)
  have e2 : ∀ k : Fin 128, val_main_v2 (F := Ideal) u (ix3 P h k) = u (ix2 P ⟨8192 + 128 * h.val + k.val, by omega⟩) := fun k => by
    rw [val_main_v2_apply, val_main_v1_apply, val_main_v0_apply, e1]
    rfl
  have e3 : ∀ k, idx_main_v4 (idx_main_v5 (idx_main_v11 (ix3 P h d))) k = ix3 P h k :=
    fun k => funext fun a => by match a with | ⟨0, _⟩ => rfl | ⟨1, _⟩ => rfl | ⟨2, _⟩ => rfl
  have e4 : idx_main_v13 (idx_main_v14 (ix3 P h d)) = ix1 d := funext fun a => by match a with | ⟨0, _⟩ => rfl
  rw [val_main_v15_apply, val_main_v14_apply, val_main_v13_apply, val_main_v12_apply, val_main_v11_apply, val_main_v10_apply, val_main_v9_apply,
    val_main_v8_apply, val_main_cst_1_apply, val_main_v7_apply, val_main_v6_apply, val_main_cst_0_apply, val_main_v5_apply, val_main_v4_apply, val_main_cst_apply,
    e4, e2]
  simp only [val_main_v3_apply, e3, e2]
  rw [show (FloatOps.ofBits .f32 0x00000000#32 : Ideal .f32) = (0 : EReal) from Ideal.ofBits_zero_f32]
  unfold nrm
  rw [← zero_add (∑ k : Fin 128, u (ix2 P _) * u (ix2 P _))]
  rfl

theorem q_a (p : Fin 8192) (h : Fin 16) (k : Fin 32) : val_main_v56 (F := Ideal) u g pr (ix3 p h k)
    = (val_main_v15 (F := Ideal) u g (ix3 ⟨p.val, by omega⟩ h ⟨0 + (0 + k.val), by omega⟩) * cs pr (ix2 p k)
      - val_main_v15 (F := Ideal) u g (ix3 ⟨p.val, by omega⟩ h ⟨0 + (32 + k.val), by omega⟩) * sn pr (ix2 p k) : EReal) := by
  rw [val_main_v56_apply, val_main_v53_apply, val_main_v50_apply, val_main_v39_apply, val_main_v32_apply, val_main_v52_apply, val_main_v47_apply,
    val_main_v55_apply, val_main_v51_apply, val_main_v39_apply, val_main_v32_apply, val_main_v54_apply, val_main_v49_apply]
  refine congrArg₂ (fun a b : EReal => a - b) (congrArg₂ (fun a b : EReal => a * b) (congrArg (val_main_v15 u g) ?_) (congrArg (cs pr) ?_))
    (congrArg₂ (fun a b : EReal => a * b) (congrArg (val_main_v15 u g) ?_) (congrArg (sn pr) ?_))
  · exact funext fun a => Fin.ext (by match a with | ⟨0, _⟩ => rfl | ⟨1, _⟩ => rfl | ⟨2, _⟩ => show k.val = 0 + (0 + k.val); omega)
  · exact funext fun a => by match a with | ⟨0, _⟩ => rfl | ⟨1, _⟩ => rfl
  · exact funext fun a => Fin.ext (by match a with | ⟨0, _⟩ => rfl | ⟨1, _⟩ => rfl | ⟨2, _⟩ => show 32 + k.val = 0 + (32 + k.val); omega)
  · exact funext fun a => by match a with | ⟨0, _⟩ => rfl | ⟨1, _⟩ => rfl

theorem q_b (p : Fin 8192) (h : Fin 16) (k : Fin 32) : val_main_v61 (F := Ideal) u g pr (ix3 p h k)
    = (val_main_v15 (F := Ideal) u g (ix3 ⟨p.val, by omega⟩ h ⟨0 + (0 + k.val), by omega⟩) * sn pr (ix2 p k)
      + val_main_v15 (F := Ideal) u g (ix3 ⟨p.val, by omega⟩ h ⟨0 + (32 + k.val), by omega⟩) * cs pr (ix2 p k) : EReal) := by
  rw [val_main_v61_apply, val_main_v58_apply, val_main_v50_apply, val_main_v39_apply, val_main_v32_apply, val_main_v57_apply, val_main_v49_apply,
    val_main_v60_apply, val_main_v51_apply, val_main_v39_apply, val_main_v32_apply, val_main_v59_apply, val_main_v47_apply]
  refine congrArg₂ (fun a b : EReal => a + b) (congrArg₂ (fun a b : EReal => a * b) (congrArg (val_main_v15 u g) ?_) (congrArg (sn pr) ?_))
    (congrArg₂ (fun a b : EReal => a * b) (congrArg (val_main_v15 u g) ?_) (congrArg (cs pr) ?_))
  · exact funext fun a => Fin.ext (by match a with | ⟨0, _⟩ => rfl | ⟨1, _⟩ => rfl | ⟨2, _⟩ => show k.val = 0 + (0 + k.val); omega)
  · exact funext fun a => by match a with | ⟨0, _⟩ => rfl | ⟨1, _⟩ => rfl
  · exact funext fun a => Fin.ext (by match a with | ⟨0, _⟩ => rfl | ⟨1, _⟩ => rfl | ⟨2, _⟩ => show 32 + k.val = 0 + (32 + k.val); omega)
  · exact funext fun a => by match a with | ⟨0, _⟩ => rfl | ⟨1, _⟩ => rfl

theorem q_c (p : Fin 8192) (h : Fin 16) (k : Fin 32) : val_main_v80 (F := Ideal) u g pc (ix3 p h k)
    = (val_main_v15 (F := Ideal) u g (ix3 ⟨p.val, by omega⟩ h ⟨64 + (0 + k.val), by omega⟩) * cs pc (ix2 p k)
      - val_main_v15 (F := Ideal) u g (ix3 ⟨p.val, by omega⟩ h ⟨64 + (32 + k.val), by omega⟩) * sn pc (ix2 p k) : EReal) := by
  rw [val_main_v80_apply, val_main_v77_apply, val_main_v74_apply, val_main_v63_apply, val_main_v32_apply, val_main_v76_apply, val_main_v71_apply,
    val_main_v79_apply, val_main_v75_apply, val_main_v63_apply, val_main_v32_apply, val_main_v78_apply, val_main_v73_apply]
  refine congrArg₂ (fun a b : EReal => a - b) (congrArg₂ (fun a b : EReal => a * b) (congrArg (val_main_v15 u g) ?_) (congrArg (cs pc) ?_))
    (congrArg₂ (fun a b : EReal => a * b) (congrArg (val_main_v15 u g) ?_) (congrArg (sn pc) ?_))
  · exact funext fun a => Fin.ext (by match a with | ⟨0, _⟩ => rfl | ⟨1, _⟩ => rfl | ⟨2, _⟩ => show 64 + k.val = 64 + (0 + k.val); omega)
  · exact funext fun a => by match a with | ⟨0, _⟩ => rfl | ⟨1, _⟩ => rfl
  · exact funext fun a => Fin.ext (by match a with | ⟨0, _⟩ => rfl | ⟨1, _⟩ => rfl | ⟨2, _⟩ => rfl)
  · exact funext fun a => by match a with | ⟨0, _⟩ => rfl | ⟨1, _⟩ => rfl

theorem q_d (p : Fin 8192) (h : Fin 16) (k : Fin 32) : val_main_v85 (F := Ideal) u g pc (ix3 p h k)
    = (val_main_v15 (F := Ideal) u g (ix3 ⟨p.val, by omega⟩ h ⟨64 + (0 + k.val), by omega⟩) * sn pc (ix2 p k)
      + val_main_v15 (F := Ideal) u g (ix3 ⟨p.val, by omega⟩ h ⟨64 + (32 + k.val), by omega⟩) * cs pc (ix2 p k) : EReal) := by
  rw [val_main_v85_apply, val_main_v82_apply, val_main_v74_apply, val_main_v63_apply, val_main_v32_apply, val_main_v81_apply, val_main_v73_apply,
    val_main_v84_apply, val_main_v75_apply, val_main_v63_apply, val_main_v32_apply, val_main_v83_apply, val_main_v71_apply]
  refine congrArg₂ (fun a b : EReal => a + b) (congrArg₂ (fun a b : EReal => a * b) (congrArg (val_main_v15 u g) ?_) (congrArg (sn pc) ?_))
    (congrArg₂ (fun a b : EReal => a * b) (congrArg (val_main_v15 u g) ?_) (congrArg (cs pc) ?_))
  · exact funext fun a => Fin.ext (by match a with | ⟨0, _⟩ => rfl | ⟨1, _⟩ => rfl | ⟨2, _⟩ => show 64 + k.val = 64 + (0 + k.val); omega)
  · exact funext fun a => by match a with | ⟨0, _⟩ => rfl | ⟨1, _⟩ => rfl
  · exact funext fun a => Fin.ext (by match a with | ⟨0, _⟩ => rfl | ⟨1, _⟩ => rfl | ⟨2, _⟩ => rfl)
  · exact funext fun a => by match a with | ⟨0, _⟩ => rfl | ⟨1, _⟩ => rfl

/-- A query of the reference at a row, a head and a lane. -/
theorem q_at (P : Fin 8448) (h : Fin 16) (j : Fin 128) : val_main_v89 (F := Ideal) u g pr pc (ix3 P h j)
    = res u g pr pc (8192 + 128 * h.val) (by omega) P j := by
  unfold val_main_v89 val_main_v87 val_main_v62 val_main_v86 res
  refine (cat_at _ _ _ _ _ _ _ _ P h j).trans ?_
  refine turn_eq _ _ pr pc P j _ ?_ ?_ ?_ ?_ ?_
  · intro hP h1
    rw [dif_pos hP, if_pos h1, q_a, norm_q, norm_q]
  · intro hP h1 h2
    rw [dif_pos hP, if_neg h1, if_pos h2, q_b, norm_q, norm_q]
  · intro hP h2 h3
    rw [dif_pos hP, if_neg (by omega), if_neg h2, if_pos h3, q_c, norm_q, norm_q]
  · intro hP h3
    rw [dif_pos hP, if_neg (by omega), if_neg (by omega), if_neg h3, q_d, norm_q, norm_q]
  · intro hP
    rw [dif_neg hP, val_main_v88_apply, show idx_main_v88 (ix3 (⟨P.val - 8192, by omega⟩ : Fin 256) h j) = ix3 P h j from funext fun a => Fin.ext (by
      match a with
      | ⟨0, _⟩ => show 8192 + (P.val - 8192) = P.val; omega
      | ⟨1, _⟩ => rfl
      | ⟨2, _⟩ => rfl), norm_q]

/-! ## The keys -/

theorem norm_k (P : Fin 8448) (h : Fin 4) (d : Fin 128) : val_main_v31 (F := Ideal) u g (ix3 P h d)
    = nrm (fun k => u (ix2 P ⟨10240 + 128 * h.val + k.val, by omega⟩)) (fun k => g (ix1 k)) d := by
  have e1 : ∀ k : Fin 128, idx_main_v16 (idx_main_v18 (ix3 P h k)) = ix2 P ⟨10240 + 128 * h.val + k.val, by omega⟩ := fun k => funext fun a => Fin.ext (by
    match a with
    | ⟨0, _⟩ => show ((P.val * 4 + h.val) * 128 + k.val) / 512 = P.val; omega
    | ⟨1, _⟩ => show 10240 + ((P.val * 4 + h.val) * 128 + k.val) % 512 = 10240 + 128 * h.val + k.val; omega)
  have e2 : ∀ k : Fin 128, val_main_v18 (F := Ideal) u (ix3 P h k) = u (ix2 P ⟨10240 + 128 * h.val + k.val, by omega⟩) := fun k => by
    rw [val_main_v18_apply, val_main_v17_apply, val_main_v16_apply, e1]
    rfl
  have e3 : ∀ k, idx_main_v20 (idx_main_v21 (idx_main_v27 (ix3 P h d))) k = ix3 P h k :=
    fun k => funext fun a => by match a with | ⟨0, _⟩ => rfl | ⟨1, _⟩ => rfl | ⟨2, _⟩ => rfl
  have e4 : idx_main_v29 (idx_main_v30 (ix3 P h d)) = ix1 d := funext fun a => by match a with | ⟨0, _⟩ => rfl
  rw [val_main_v31_apply, val_main_v30_apply, val_main_v29_apply, val_main_v28_apply, val_main_v27_apply, val_main_v26_apply, val_main_v25_apply,
    val_main_v24_apply, val_main_cst_4_apply, val_main_v23_apply, val_main_v22_apply, val_main_cst_3_apply, val_main_v21_apply, val_main_v20_apply, val_main_cst_2_apply,
    e4, e2]
  simp only [val_main_v19_apply, e3, e2]
  rw [show (FloatOps.ofBits .f32 0x00000000#32 : Ideal .f32) = (0 : EReal) from Ideal.ofBits_zero_f32]
  unfold nrm
  rw [← zero_add (∑ k : Fin 128, u (ix2 P _) * u (ix2 P _))]
  rfl

theorem k_a (p : Fin 8192) (h : Fin 4) (k : Fin 32) : val_main_v114 (F := Ideal) u g pr (ix3 p h k)
    = (val_main_v31 (F := Ideal) u g (ix3 ⟨p.val, by omega⟩ h ⟨0 + (0 + k.val), by omega⟩) * cs pr (ix2 p k)
      - val_main_v31 (F := Ideal) u g (ix3 ⟨p.val, by omega⟩ h ⟨0 + (32 + k.val), by omega⟩) * sn pr (ix2 p k) : EReal) := by
  rw [val_main_v114_apply, val_main_v111_apply, val_main_v108_apply, val_main_v97_apply, val_main_v90_apply, val_main_v110_apply, val_main_v105_apply,
    val_main_v113_apply, val_main_v109_apply, val_main_v97_apply, val_main_v90_apply, val_main_v112_apply, val_main_v107_apply]
  refine congrArg₂ (fun a b : EReal => a - b) (congrArg₂ (fun a b : EReal => a * b) (congrArg (val_main_v31 u g) ?_) (congrArg (cs pr) ?_))
    (congrArg₂ (fun a b : EReal => a * b) (congrArg (val_main_v31 u g) ?_) (congrArg (sn pr) ?_))
  · exact funext fun a => Fin.ext (by match a with | ⟨0, _⟩ => rfl | ⟨1, _⟩ => rfl | ⟨2, _⟩ => show k.val = 0 + (0 + k.val); omega)
  · exact funext fun a => by match a with | ⟨0, _⟩ => rfl | ⟨1, _⟩ => rfl
  · exact funext fun a => Fin.ext (by match a with | ⟨0, _⟩ => rfl | ⟨1, _⟩ => rfl | ⟨2, _⟩ => show 32 + k.val = 0 + (32 + k.val); omega)
  · exact funext fun a => by match a with | ⟨0, _⟩ => rfl | ⟨1, _⟩ => rfl

theorem k_b (p : Fin 8192) (h : Fin 4) (k : Fin 32) : val_main_v119 (F := Ideal) u g pr (ix3 p h k)
    = (val_main_v31 (F := Ideal) u g (ix3 ⟨p.val, by omega⟩ h ⟨0 + (0 + k.val), by omega⟩) * sn pr (ix2 p k)
      + val_main_v31 (F := Ideal) u g (ix3 ⟨p.val, by omega⟩ h ⟨0 + (32 + k.val), by omega⟩) * cs pr (ix2 p k) : EReal) := by
  rw [val_main_v119_apply, val_main_v116_apply, val_main_v108_apply, val_main_v97_apply, val_main_v90_apply, val_main_v115_apply, val_main_v107_apply,
    val_main_v118_apply, val_main_v109_apply, val_main_v97_apply, val_main_v90_apply, val_main_v117_apply, val_main_v105_apply]
  refine congrArg₂ (fun a b : EReal => a + b) (congrArg₂ (fun a b : EReal => a * b) (congrArg (val_main_v31 u g) ?_) (congrArg (sn pr) ?_))
    (congrArg₂ (fun a b : EReal => a * b) (congrArg (val_main_v31 u g) ?_) (congrArg (cs pr) ?_))
  · exact funext fun a => Fin.ext (by match a with | ⟨0, _⟩ => rfl | ⟨1, _⟩ => rfl | ⟨2, _⟩ => show k.val = 0 + (0 + k.val); omega)
  · exact funext fun a => by match a with | ⟨0, _⟩ => rfl | ⟨1, _⟩ => rfl
  · exact funext fun a => Fin.ext (by match a with | ⟨0, _⟩ => rfl | ⟨1, _⟩ => rfl | ⟨2, _⟩ => show 32 + k.val = 0 + (32 + k.val); omega)
  · exact funext fun a => by match a with | ⟨0, _⟩ => rfl | ⟨1, _⟩ => rfl

theorem k_c (p : Fin 8192) (h : Fin 4) (k : Fin 32) : val_main_v138 (F := Ideal) u g pc (ix3 p h k)
    = (val_main_v31 (F := Ideal) u g (ix3 ⟨p.val, by omega⟩ h ⟨64 + (0 + k.val), by omega⟩) * cs pc (ix2 p k)
      - val_main_v31 (F := Ideal) u g (ix3 ⟨p.val, by omega⟩ h ⟨64 + (32 + k.val), by omega⟩) * sn pc (ix2 p k) : EReal) := by
  rw [val_main_v138_apply, val_main_v135_apply, val_main_v132_apply, val_main_v121_apply, val_main_v90_apply, val_main_v134_apply, val_main_v129_apply,
    val_main_v137_apply, val_main_v133_apply, val_main_v121_apply, val_main_v90_apply, val_main_v136_apply, val_main_v131_apply]
  refine congrArg₂ (fun a b : EReal => a - b) (congrArg₂ (fun a b : EReal => a * b) (congrArg (val_main_v31 u g) ?_) (congrArg (cs pc) ?_))
    (congrArg₂ (fun a b : EReal => a * b) (congrArg (val_main_v31 u g) ?_) (congrArg (sn pc) ?_))
  · exact funext fun a => Fin.ext (by match a with | ⟨0, _⟩ => rfl | ⟨1, _⟩ => rfl | ⟨2, _⟩ => show 64 + k.val = 64 + (0 + k.val); omega)
  · exact funext fun a => by match a with | ⟨0, _⟩ => rfl | ⟨1, _⟩ => rfl
  · exact funext fun a => Fin.ext (by match a with | ⟨0, _⟩ => rfl | ⟨1, _⟩ => rfl | ⟨2, _⟩ => rfl)
  · exact funext fun a => by match a with | ⟨0, _⟩ => rfl | ⟨1, _⟩ => rfl

theorem k_d (p : Fin 8192) (h : Fin 4) (k : Fin 32) : val_main_v143 (F := Ideal) u g pc (ix3 p h k)
    = (val_main_v31 (F := Ideal) u g (ix3 ⟨p.val, by omega⟩ h ⟨64 + (0 + k.val), by omega⟩) * sn pc (ix2 p k)
      + val_main_v31 (F := Ideal) u g (ix3 ⟨p.val, by omega⟩ h ⟨64 + (32 + k.val), by omega⟩) * cs pc (ix2 p k) : EReal) := by
  rw [val_main_v143_apply, val_main_v140_apply, val_main_v132_apply, val_main_v121_apply, val_main_v90_apply, val_main_v139_apply, val_main_v131_apply,
    val_main_v142_apply, val_main_v133_apply, val_main_v121_apply, val_main_v90_apply, val_main_v141_apply, val_main_v129_apply]
  refine congrArg₂ (fun a b : EReal => a + b) (congrArg₂ (fun a b : EReal => a * b) (congrArg (val_main_v31 u g) ?_) (congrArg (sn pc) ?_))
    (congrArg₂ (fun a b : EReal => a * b) (congrArg (val_main_v31 u g) ?_) (congrArg (cs pc) ?_))
  · exact funext fun a => Fin.ext (by match a with | ⟨0, _⟩ => rfl | ⟨1, _⟩ => rfl | ⟨2, _⟩ => show 64 + k.val = 64 + (0 + k.val); omega)
  · exact funext fun a => by match a with | ⟨0, _⟩ => rfl | ⟨1, _⟩ => rfl
  · exact funext fun a => Fin.ext (by match a with | ⟨0, _⟩ => rfl | ⟨1, _⟩ => rfl | ⟨2, _⟩ => rfl)
  · exact funext fun a => by match a with | ⟨0, _⟩ => rfl | ⟨1, _⟩ => rfl

/-- A key of the reference at a row, a head and a lane. -/
theorem k_at (P : Fin 8448) (h : Fin 4) (j : Fin 128) : val_main_v147 (F := Ideal) u g pr pc (ix3 P h j)
    = res u g pr pc (10240 + 128 * h.val) (by omega) P j := by
  unfold val_main_v147 val_main_v145 val_main_v120 val_main_v144 res
  refine (cat_at _ _ _ _ _ _ _ _ P h j).trans ?_
  refine turn_eq _ _ pr pc P j _ ?_ ?_ ?_ ?_ ?_
  · intro hP h1
    rw [dif_pos hP, if_pos h1, k_a, norm_k, norm_k]
  · intro hP h1 h2
    rw [dif_pos hP, if_neg h1, if_pos h2, k_b, norm_k, norm_k]
  · intro hP h2 h3
    rw [dif_pos hP, if_neg (by omega), if_neg h2, if_pos h3, k_c, norm_k, norm_k]
  · intro hP h3
    rw [dif_pos hP, if_neg (by omega), if_neg (by omega), if_neg h3, k_d, norm_k, norm_k]
  · intro hP
    rw [dif_neg hP, val_main_v146_apply, show idx_main_v146 (ix3 (⟨P.val - 8192, by omega⟩ : Fin 256) h j) = ix3 P h j from funext fun a => Fin.ext (by
      match a with
      | ⟨0, _⟩ => show 8192 + (P.val - 8192) = P.val; omega
      | ⟨1, _⟩ => rfl
      | ⟨2, _⟩ => rfl), norm_k]

/-! ## The two results -/

theorem ref_q : val_main_v150 (F := Ideal) u g pr pc = outQ u g pr pc := by
  funext i
  have h0 : (i 0).val < 2048 := (i 0).isLt
  have h1 : (i 1).val < 8448 := (i 1).isLt
  rw [val_main_v150_apply, val_main_v149_apply, val_main_v148_apply]
  refine (congrArg (val_main_v89 (F := Ideal) u g pr pc) (show _ = ix3 (⟨(i 1).val, h1⟩ : Fin 8448) (⟨(i 0).val / 128, by omega⟩ : Fin 16) (⟨(i 0).val % 128, by omega⟩ : Fin 128) from
    funext fun a => Fin.ext (by
      match a with
      | ⟨0, _⟩ => show ((i 1).val * 2048 + (i 0).val) / 2048 = (i 1).val; omega
      | ⟨1, _⟩ => show ((i 1).val * 2048 + (i 0).val) / 128 % 16 = (i 0).val / 128; omega
      | ⟨2, _⟩ => show ((i 1).val * 2048 + (i 0).val) % 128 = (i 0).val % 128; omega))).trans ((q_at u g pr pc _ _ _).trans ?_)
  rfl

theorem ref_k : val_main_v152 (F := Ideal) u g pr pc = outK u g pr pc := by
  funext i
  have h0 : (i 0).val < 8448 := (i 0).isLt
  have h1 : (i 1).val < 512 := (i 1).isLt
  rw [val_main_v152_apply, val_main_v151_apply]
  refine (congrArg (val_main_v147 (F := Ideal) u g pr pc) (show _ = ix3 (⟨(i 0).val, h0⟩ : Fin 8448) (⟨(i 1).val / 128, by omega⟩ : Fin 4) (⟨(i 1).val % 128, by omega⟩ : Fin 128) from
    funext fun a => Fin.ext (by
      match a with
      | ⟨0, _⟩ => show ((i 0).val * 512 + (i 1).val) / 512 = (i 0).val; omega
      | ⟨1, _⟩ => show ((i 0).val * 512 + (i 1).val) / 128 % 4 = (i 1).val / 128; omega
      | ⟨2, _⟩ => show ((i 0).val * 512 + (i 1).val) % 128 = (i 1).val % 128; omega))).trans ((k_at u g pr pc _ _ _).trans ?_)
  rfl

end Cert.Proof.PrepRef10
end
-- ==== Proof.Prep10.lean ====
/-
  The call that normalises the queries and keys of a head and turns them by their positions: the tables and gains that the
  host prepares, read at an element; what each point of the grid writes back; and that the two results are the reference's.
-/
module

public import proofs.«01_k».proof.Proof.PrepBody10
public import proofs.«01_k».proof.Proof.PrepRef10
public import proofs.«01_k».proof.Proof.InProj

@[expose] public section

set_option maxRecDepth 16384
set_option backward.proofsInPublic true

noncomputable section

namespace Cert.Proof.Prep10

open Cert.Kernel10Ideal Cert.Kernel10Ideal.Gen
open Idealize.ShloMosaic Idealize.ShloMosaic.TcCoe Idealize.ShloMosaic.ValueIdx Idealize.SL.Sem
open Cert.Proof.PrepBody10 (nrm mate turn qAt kAt qBlk kBlk out6_eq out7_eq)
open Cert.Proof.PrepRef10 (cs sn fr tabC tabS res res_congr outQ outK)

/-! ## Arrays joined -/

/-- Four arrays of 32 lanes side by side, the context rows below. -/
theorem tab_at (a b c d : S8192x32.Idx → EReal) (e : S256x128.Idx → EReal)
    (h1 : Shape.Concatenates [S8192x32, S8192x32, S8192x32, S8192x32] S8192x128 1) (h2 : Shape.Concatenates [S8192x128, S256x128] S8448x128 0)
    (P : Fin 8448) (j : Fin 128) :
    concatenate S8448x128 0 [⟨S8192x128, concatenate S8192x128 1 [⟨S8192x32, a⟩, ⟨S8192x32, b⟩, ⟨S8192x32, c⟩, ⟨S8192x32, d⟩] h1⟩, ⟨S256x128, e⟩] h2 (ix2 P j)
      = if hP : P.val < 8192 then (if j.val < 32 then a else if j.val < 64 then b else if j.val < 96 then c else d) (ix2 ⟨P.val, hP⟩ (fr j))
        else e (ix2 ⟨P.val - 8192, by omega⟩ j) := by
  have hj := j.isLt
  by_cases hP : P.val < 8192
  · rw [dif_pos hP]
    refine (concatenate_pair_apply_left (t := S8448x128) (s₁ := S8192x128) (s₂ := S256x128) 0 _ e h2 (ix2 P j) rfl (ix2 ⟨P.val, hP⟩ j)
      (fun b => by match b with | ⟨0, _⟩ => rfl | ⟨1, _⟩ => rfl)).trans ?_
    by_cases q1 : j.val < 32
    · rw [if_pos q1]
      exact concatenate_apply_piece (t := S8192x128) 1 _ _ (ix2 ⟨P.val, hP⟩ j) 0 (by exact (by decide : 0 < 4)) S8192x32 a rfl rfl 0 rfl (ix2 ⟨P.val, hP⟩ (fr j))
        (fun b => by match b with | ⟨0, _⟩ => exact fun _ => rfl | ⟨1, _⟩ => exact fun h => absurd rfl h) (show 0 + j.val % 32 = j.val by omega)
    by_cases q2 : j.val < 64
    · rw [if_neg q1, if_pos q2]
      exact concatenate_apply_piece (t := S8192x128) 1 _ _ (ix2 ⟨P.val, hP⟩ j) 1 (by exact (by decide : 1 < 4)) S8192x32 b rfl rfl 32 rfl (ix2 ⟨P.val, hP⟩ (fr j))
        (fun b => by match b with | ⟨0, _⟩ => exact fun _ => rfl | ⟨1, _⟩ => exact fun h => absurd rfl h) (show 32 + j.val % 32 = j.val by omega)
    by_cases q3 : j.val < 96
    · rw [if_neg q1, if_neg q2, if_pos q3]
      exact concatenate_apply_piece (t := S8192x128) 1 _ _ (ix2 ⟨P.val, hP⟩ j) 2 (by exact (by decide : 2 < 4)) S8192x32 c rfl rfl 64 rfl (ix2 ⟨P.val, hP⟩ (fr j))
        (fun b => by match b with | ⟨0, _⟩ => exact fun _ => rfl | ⟨1, _⟩ => exact fun h => absurd rfl h) (show 64 + j.val % 32 = j.val by omega)
    · rw [if_neg q1, if_neg q2, if_neg q3]
      exact concatenate_apply_piece (t := S8192x128) 1 _ _ (ix2 ⟨P.val, hP⟩ j) 3 (by exact (by decide : 3 < 4)) S8192x32 d rfl rfl 96 rfl (ix2 ⟨P.val, hP⟩ (fr j))
        (fun b => by match b with | ⟨0, _⟩ => exact fun _ => rfl | ⟨1, _⟩ => exact fun h => absurd rfl h) (show 96 + j.val % 32 = j.val by omega)
  · rw [dif_neg hP]
    exact concatenate_pair_apply_right (t := S8448x128) (s₁ := S8192x128) (s₂ := S256x128) 0 _ e h2 (ix2 P j) rfl rfl (ix2 ⟨P.val - 8192, by omega⟩ j)
      (fun b => by match b with | ⟨0, _⟩ => exact fun h => absurd rfl h | ⟨1, _⟩ => exact fun _ => rfl) (Nat.sub_add_cancel (Nat.le_of_not_lt hP))

/-- A head's gains laid out for all the heads. -/
theorem tile_at {H N : ℕ} (x : S128.Idx → EReal) (h1 : S128.ShapeCasts S1x128) (h2 : S1x128.BroadcastsInDim ⟨2, ![H, 128]⟩ ![0, 1])
    (h3 : (⟨2, ![H, 128]⟩ : Shape).ShapeCasts ⟨1, ![N]⟩) (n : Fin N) (hn : n.val / 128 < H) :
    shapeCast ⟨1, ![N]⟩ (broadcastInDim ⟨2, ![H, 128]⟩ ![0, 1] h2 (shapeCast S1x128 x h1)) h3 (ix1 n) = x (ix1 ⟨n.val % 128, Nat.mod_lt _ (by decide)⟩) := by
  refine (shapeCast_apply _ h3 (ix1 n) (ix2 ⟨n.val / 128, hn⟩ ⟨n.val % 128, Nat.mod_lt _ (by decide)⟩) (by
    rewrite [Shape.rowMajor_val_two, Shape.rowMajor_val_one]
    show n.val / 128 * 128 + n.val % 128 = n.val
    omega)).trans ?_
  refine (broadcastInDim_apply _ h2 _ _ (ix2 0 ⟨n.val % 128, Nat.mod_lt _ (by decide)⟩) (fun a => match a with
    | ⟨0, _⟩ => by show 0 = if (1 : ℕ) = 1 then 0 else n.val / 128; rw [if_pos rfl]
    | ⟨1, _⟩ => by show n.val % 128 = if (128 : ℕ) = 1 then 0 else n.val % 128; rw [if_neg (by decide)])).trans ?_
  exact shapeCast_apply x h1 _ (ix1 ⟨n.val % 128, Nat.mod_lt _ (by decide)⟩) (by
    rewrite [Shape.rowMajor_val_two, Shape.rowMajor_val_one]
    show n.val % 128 = 0 * 128 + n.val % 128
    omega)

/-! ## The arrays that the host prepares -/

variable (m : (ℓ : Loc nD τ sig) → Buf (Elt Ideal) ℓ) (ρ : Dev nD → PrngReg)

abbrev U (c : Dev nD) : S8448x13312.Idx → EReal := m ((c : Thread nD τ).loc main_arg0)
abbrev GQ (c : Dev nD) : S128.Idx → EReal := m ((c : Thread nD τ).loc main_arg1)
abbrev GK (c : Dev nD) : S128.Idx → EReal := m ((c : Thread nD τ).loc main_arg2)
abbrev PR (c : Dev nD) : S8192.Idx → BitVec 32 := m ((c : Thread nD τ).loc main_arg3)
abbrev PC (c : Dev nD) : S8192.Idx → BitVec 32 := m ((c : Thread nD τ).loc main_arg4)

theorem V_u (c : Dev nD) : V m c main_arg0 = U m c := by
  unfold V
  simp only [hostOps0]
  after_results_simp <;> rfl

theorem V_cos (c : Dev nD) : V m c main_v31 = concatenate S8448x128 0 [⟨S8192x128, concatenate S8192x128 1
      [⟨S8192x32, cs (PR m c)⟩, ⟨S8192x32, cs (PR m c)⟩, ⟨S8192x32, cs (PC m c)⟩, ⟨S8192x32, cs (PC m c)⟩]
      concatenates_S8192x32_S8192x32_S8192x32_S8192x32_S8192x128_d1⟩,
    ⟨S256x128, fun _ => Ideal.ofBits .f32 0x3F800000#32⟩] concatenates_S8192x128_S256x128_S8448x128_d0 := by
  unfold V
  simp only [hostOps0]
  after_results_simp <;> rfl

theorem V_sin (c : Dev nD) : V m c main_v33 = concatenate S8448x128 0 [⟨S8192x128, concatenate S8192x128 1
      [⟨S8192x32, fun j => -sn (PR m c) j⟩, ⟨S8192x32, sn (PR m c)⟩, ⟨S8192x32, fun j => -sn (PC m c) j⟩, ⟨S8192x32, sn (PC m c)⟩]
      concatenates_S8192x32_S8192x32_S8192x32_S8192x32_S8192x128_d1⟩,
    ⟨S256x128, fun _ => Ideal.ofBits .f32 0x00000000#32⟩] concatenates_S8192x128_S256x128_S8448x128_d0 := by
  unfold V
  simp only [hostOps0]
  after_results_simp <;> rfl

theorem V_gain (c : Dev nD) : V m c main_v41 = broadcastInDim S1x2560 ![1] bcast_S2560_S1x2560_1 (concatenate S2560 0
    [⟨S2048, shapeCast S2048 (broadcastInDim S16x128 ![0, 1] bcast_S1x128_S16x128_0_1 (shapeCast S1x128 (GQ m c) shapeCasts_S128_S1x128)) shapeCasts_S16x128_S2048⟩,
     ⟨S512, shapeCast S512 (broadcastInDim S4x128 ![0, 1] bcast_S1x128_S4x128_0_1 (shapeCast S1x128 (GK m c) shapeCasts_S128_S1x128)) shapeCasts_S4x128_S512⟩]
    concatenates_S2048_S512_S2560_d0) := by
  unfold V
  simp only [hostOps0]
  after_results_simp <;> rfl

theorem cos_at (c : Dev nD) (P : Fin 8448) (j : Fin 128) : V m c main_v31 (ix2 P j) = tabC (PR m c) (PC m c) P j := by
  have hj := j.isLt
  refine (congrFun (V_cos m c) _).trans ((tab_at _ _ _ _ _ _ _ P j).trans ?_)
  unfold tabC
  by_cases hP : P.val < 8192
  · rw [dif_pos hP, dif_pos hP]
    by_cases q1 : j.val < 32
    · rw [if_pos q1, if_pos (by omega)]
    by_cases q2 : j.val < 64
    · rw [if_neg q1, if_pos q2, if_pos q2]
    · rw [if_neg q1, if_neg q2, if_neg q2, ite_self]
  · rw [dif_neg hP, dif_neg hP]
    exact Cert.Proof.Mods8.one_word

theorem sin_at (c : Dev nD) (P : Fin 8448) (j : Fin 128) : V m c main_v33 (ix2 P j) = tabS (PR m c) (PC m c) P j := by
  refine (congrFun (V_sin m c) _).trans ((tab_at _ _ _ _ _ _ _ P j).trans ?_)
  unfold tabS
  by_cases hP : P.val < 8192
  · rw [dif_pos hP, dif_pos hP]
  · rw [dif_neg hP, dif_neg hP]
    exact Ideal.ofBits_zero_f32

theorem gain_row (c : Dev nD) (n : Fin 2560) : V m c main_v41 (ix2 0 n)
    = (if n.val < 2048 then GQ m c else GK m c) (ix1 ⟨n.val % 128, Nat.mod_lt _ (by decide)⟩) := by
  have hn := n.isLt
  refine (congrFun (V_gain m c) _).trans ?_
  refine (broadcastInDim_apply _ bcast_S2560_S1x2560_1 _ (ix2 0 n) (ix1 n) (fun a => match a with
    | ⟨0, _⟩ => by show n.val = if (2560 : ℕ) = 1 then 0 else n.val; rw [if_neg (by decide)])).trans ?_
  by_cases h : n.val < 2048
  · rw [if_pos h]
    refine (concatenate_pair_apply_left (t := S2560) (s₁ := S2048) (s₂ := S512) 0 _ _ concatenates_S2048_S512_S2560_d0 (ix1 n) rfl (ix1 ⟨n.val, h⟩)
      (fun b => by match b with | ⟨0, _⟩ => rfl)).trans ?_
    exact tile_at (H := 16) (N := 2048) (GQ m c) _ _ _ ⟨n.val, h⟩ (show n.val / 128 < 16 by omega)
  · rw [if_neg h]
    refine (concatenate_pair_apply_right (t := S2560) (s₁ := S2048) (s₂ := S512) 0 _ _ concatenates_S2048_S512_S2560_d0 (ix1 n) rfl rfl (ix1 ⟨n.val - 2048, by omega⟩)
      (fun b => by match b with | ⟨0, _⟩ => exact fun h => absurd rfl h) (show n.val - 2048 + 2048 = n.val by omega)).trans ?_
    refine (tile_at (H := 4) (N := 512) (GK m c) _ _ _ ⟨n.val - 2048, by omega⟩ (show (n.val - 2048) / 128 < 4 by omega)).trans ?_
    exact congrArg (GK m c) (congrArg ix1 (Fin.ext (show (n.val - 2048) % 128 = n.val % 128 by omega)))

/-! ## The grid -/

theorem idx_facts : ∀ t : Fin cfg0.N, win0_0.index t = ![t.val, 4] ∧ win0_1.index t = ![t.val, 20] ∧ win0_3.index t = ![0, 0]
    ∧ win0_4.index t = ![t.val, 0] ∧ win0_5.index t = ![t.val, 0] ∧ win0_6.index t = ![0, t.val] ∧ win0_7.index t = ![t.val, 0] :=
  (by decide +kernel : ∀ t : Fin grid0.N, _)
theorem lt_N (t : Fin cfg0.N) : t.val < 11 := lt_of_lt_of_eq t.isLt N_0

/-- A row of a point's blocks. -/
abbrev rowAt (t : Fin cfg0.N) (p : Fin 768) : Fin 8448 := ⟨t.val * 768 + p.val, by have := lt_N t; omega⟩

theorem q_at (c : Dev nD) (t : Fin cfg0.N) (p : Fin 768) (n : Fin 2048) : X0_0 m c t (ix2 p n) = U m c (ix2 (rowAt t p) ⟨8192 + n.val, by omega⟩) := by
  have e0 := congrFun (idx_facts t).1 0
  have e1 := congrFun (idx_facts t).1 1
  unfold X0_0 Pipeline.Window.fill
  rw [dif_pos (moved0_0 t (ix2 p n))]
  refine (congrFun (V_u m c) _).trans (congrArg (U m c) (funext fun a => Fin.ext ?_))
  match a with
  | ⟨0, _⟩ => show win0_0.index t (0 : Fin 2) * 768 + 1 * p.val = t.val * 768 + p.val; rw [e0]; show t.val * 768 + 1 * p.val = _; omega
  | ⟨1, _⟩ => show win0_0.index t (1 : Fin 2) * 2048 + 1 * n.val = 8192 + n.val; rw [e1]; show 4 * 2048 + 1 * n.val = _; omega

theorem k_at (c : Dev nD) (t : Fin cfg0.N) (p : Fin 768) (n : Fin 512) : iblk m c 1 t (ix2 p n) = U m c (ix2 (rowAt t p) ⟨10240 + n.val, by omega⟩) := by
  have e0 := congrFun (idx_facts t).2.1 0
  have e1 := congrFun (idx_facts t).2.1 1
  refine (congrFun (V_u m c) _).trans (congrArg (U m c) (funext fun a => Fin.ext ?_))
  match a with
  | ⟨0, _⟩ => show win0_1.index t (0 : Fin 2) * 768 + 1 * p.val = t.val * 768 + p.val; rw [e0]; show t.val * 768 + 1 * p.val = _; omega
  | ⟨1, _⟩ => show win0_1.index t (1 : Fin 2) * 512 + 1 * n.val = 10240 + n.val; rw [e1]; show 20 * 512 + 1 * n.val = _; omega

theorem gain_at (c : Dev nD) (t : Fin cfg0.N) (n : Fin 2560) : iblk m c 3 t (ix2 0 n)
    = (if n.val < 2048 then GQ m c else GK m c) (ix1 ⟨n.val % 128, Nat.mod_lt _ (by decide)⟩) := by
  have e0 := congrFun (idx_facts t).2.2.1 0
  have e1 := congrFun (idx_facts t).2.2.1 1
  refine Eq.trans (congrArg (V m c main_v41) (funext fun a => Fin.ext ?_)) (gain_row m c n)
  match a with
  | ⟨0, _⟩ => show win0_3.index t (0 : Fin 2) * 1 + 1 * 0 = 0; rw [e0]; rfl
  | ⟨1, _⟩ => show win0_3.index t (1 : Fin 2) * 2560 + 1 * n.val = n.val; rw [e1]; show 0 * 2560 + 1 * n.val = _; omega

theorem cosb_at (c : Dev nD) (t : Fin cfg0.N) (p : Fin 768) (d : Fin 128) : iblk m c 4 t (ix2 p d) = tabC (PR m c) (PC m c) (rowAt t p) d := by
  have e0 := congrFun (idx_facts t).2.2.2.1 0
  have e1 := congrFun (idx_facts t).2.2.2.1 1
  refine Eq.trans (congrArg (V m c main_v31) (funext fun a => Fin.ext ?_)) (cos_at m c (rowAt t p) d)
  match a with
  | ⟨0, _⟩ => show win0_4.index t (0 : Fin 2) * 768 + 1 * p.val = t.val * 768 + p.val; rw [e0]; show t.val * 768 + 1 * p.val = _; omega
  | ⟨1, _⟩ => show win0_4.index t (1 : Fin 2) * 128 + 1 * d.val = d.val; rw [e1]; show 0 * 128 + 1 * d.val = _; omega

theorem sinb_at (c : Dev nD) (t : Fin cfg0.N) (p : Fin 768) (d : Fin 128) : iblk m c 5 t (ix2 p d) = tabS (PR m c) (PC m c) (rowAt t p) d := by
  have e0 := congrFun (idx_facts t).2.2.2.2.1 0
  have e1 := congrFun (idx_facts t).2.2.2.2.1 1
  refine Eq.trans (congrArg (V m c main_v33) (funext fun a => Fin.ext ?_)) (sin_at m c (rowAt t p) d)
  match a with
  | ⟨0, _⟩ => show win0_5.index t (0 : Fin 2) * 768 + 1 * p.val = t.val * 768 + p.val; rw [e0]; show t.val * 768 + 1 * p.val = _; omega
  | ⟨1, _⟩ => show win0_5.index t (1 : Fin 2) * 128 + 1 * d.val = d.val; rw [e1]; show 0 * 128 + 1 * d.val = _; omega

/-- A point's query at a lane of a head. -/
theorem qAt_eq (c : Dev nD) (t : Fin cfg0.N) (h : ℕ) (hh : h < 16) (d : Fin 128) (p : Fin 768) :
    qAt (X0_0 m c t) (iblk m c 3 t) (iblk m c 4 t) (iblk m c 5 t) (128 * h) (by omega) d p
      = res (U m c) (GQ m c) (PR m c) (PC m c) (8192 + 128 * h) (by omega) (rowAt t p) d := by
  unfold qAt res
  rw [cosb_at, sinb_at]
  refine congrArg₂ (fun a b => turn a b _ _ d) (funext fun k => ?_) (funext fun k => ?_)
  · refine (q_at m c t p _).trans (congrArg (U m c) (congrArg (ix2 _) (Fin.ext ?_)))
    show 8192 + (128 * h + k.val) = 8192 + 128 * h + k.val
    omega
  · rw [gain_at, if_pos (show 128 * h + k.val < 2048 by omega)]
    exact congrArg (GQ m c) (congrArg ix1 (Fin.ext (show (128 * h + k.val) % 128 = k.val by omega)))

/-- A point's key at a lane of a head. -/
theorem kAt_eq (c : Dev nD) (t : Fin cfg0.N) (h : ℕ) (hh : h < 4) (d : Fin 128) (p : Fin 768) :
    kAt (iblk m c 1 t) (iblk m c 3 t) (iblk m c 4 t) (iblk m c 5 t) (128 * h) (by omega) d p
      = res (U m c) (GK m c) (PR m c) (PC m c) (10240 + 128 * h) (by omega) (rowAt t p) d := by
  unfold kAt res
  rw [cosb_at, sinb_at]
  refine congrArg₂ (fun a b => turn a b _ _ d) (funext fun k => ?_) (funext fun k => ?_)
  · refine (k_at m c t p _).trans (congrArg (U m c) (congrArg (ix2 _) (Fin.ext ?_)))
    show 10240 + (128 * h + k.val) = 10240 + 128 * h + k.val
    omega
  · rw [gain_at, if_neg (show ¬ 2048 + 128 * h + k.val < 2048 by omega)]
    exact congrArg (GK m c) (congrArg ix1 (Fin.ext (show (2048 + 128 * h + k.val) % 128 = k.val by omega)))

/-- A block that is written back whole. -/
theorem cut6 (G : S2048x768.Idx → EReal) (t : Fin cfg0.N) (y : S2048x768.Idx) :
    (cfg0.win 6).cut (grid0.coords t) G y = G (ix2 ⟨(y 0).val, (y 0).isLt⟩ ⟨(y 1).val, (y 1).isLt⟩) :=
  congrArg G (funext fun a => by match a with | ⟨0, _⟩ => rfl | ⟨1, _⟩ => rfl)
theorem cut7 (G : S768x512.Idx → EReal) (t : Fin cfg0.N) (y : S768x512.Idx) :
    (cfg0.win 7).cut (grid0.coords t) G y = G (ix2 ⟨(y 0).val, (y 0).isLt⟩ ⟨(y 1).val, (y 1).isLt⟩) :=
  congrArg G (funext fun a => by match a with | ⟨0, _⟩ => rfl | ⟨1, _⟩ => rfl)

/-- What a point writes back of the queries is its block of them. -/
theorem flushed6_eq (c : Dev nD) (t : Fin cfg0.N) :
    (dats m 0 c).flushed 6 t = ((cfg0.win 6).blk t).view.read (Elt Ideal) (outQ (U m c) (GQ m c) (PR m c) (PC m c)) := by
  have e0 := congrFun (idx_facts t).2.2.2.2.2.1 0
  have e1 := congrFun (idx_facts t).2.2.2.2.2.1 1
  have ht := lt_N t
  rw [Value.flushed6_A, out6_eq]
  refine funext fun (y : S2048x768.Idx) => ?_
  have hy0 : (y 0).val < 2048 := (y 0).isLt
  have hy1 : (y 1).val < 768 := (y 1).isLt
  refine (cut6 _ t y).trans ?_
  refine (qAt_eq m c t ((y 0).val / 128) (by omega) ⟨(y 0).val % 128, _⟩ ⟨(y 1).val, hy1⟩).trans ?_
  have i0 : win0_6.index t (0 : Fin 2) * 2048 + 1 * (y 0).val = (y 0).val := by rw [e0]; show 0 * 2048 + 1 * (y 0).val = _; omega
  have i1 : win0_6.index t (1 : Fin 2) * 768 + 1 * (y 1).val = t.val * 768 + (y 1).val := by rw [e1]; show t.val * 768 + 1 * (y 1).val = _; omega
  refine (res_congr _ _ _ _ ?_ (Fin.ext ?_) (Fin.ext ?_) : _ = res (U m c) (GQ m c) (PR m c) (PC m c)
    (8192 + 128 * ((win0_6.index t (0 : Fin 2) * 2048 + 1 * (y 0).val) / 128)) (by rw [i0]; omega)
    ⟨win0_6.index t (1 : Fin 2) * 768 + 1 * (y 1).val, by rw [i1]; omega⟩
    ⟨(win0_6.index t (0 : Fin 2) * 2048 + 1 * (y 0).val) % 128, Nat.mod_lt _ (by decide)⟩)
  · rw [i0]
  · exact i1.symm
  · show (y 0).val % 128 = (win0_6.index t (0 : Fin 2) * 2048 + 1 * (y 0).val) % 128
    rw [i0]

/-- What a point writes back of the keys is its block of them. -/
theorem flushed7_eq (c : Dev nD) (t : Fin cfg0.N) :
    (dats m 0 c).flushed 7 t = ((cfg0.win 7).blk t).view.read (Elt Ideal) (outK (U m c) (GK m c) (PR m c) (PC m c)) := by
  have e0 : win0_7.index t (0 : Fin 2) = t.val := congrFun (idx_facts t).2.2.2.2.2.2 0
  have e1 : win0_7.index t (1 : Fin 2) = 0 := congrFun (idx_facts t).2.2.2.2.2.2 1
  have ht := lt_N t
  rw [Value.flushed7_A, out7_eq]
  refine funext fun (y : S768x512.Idx) => ?_
  have hy0 : (y 0).val < 768 := (y 0).isLt
  have hy1 : (y 1).val < 512 := (y 1).isLt
  refine (cut7 _ t y).trans ?_
  refine (kAt_eq m c t ((y 1).val / 128) (by omega) ⟨(y 1).val % 128, _⟩ ⟨(y 0).val, hy0⟩).trans ?_
  have i0 : win0_7.index t (0 : Fin 2) * 768 + 1 * (y 0).val = t.val * 768 + (y 0).val := by rw [e0, one_mul]
  have i1 : win0_7.index t (1 : Fin 2) * 512 + 1 * (y 1).val = (y 1).val := by rw [e1, zero_mul, zero_add, one_mul]
  refine (res_congr _ _ _ _ ?_ (Fin.ext ?_) (Fin.ext ?_) : _ = res (U m c) (GK m c) (PR m c) (PC m c)
    (10240 + 128 * ((win0_7.index t (1 : Fin 2) * 512 + 1 * (y 1).val) / 128)) (by rw [i1]; omega)
    ⟨win0_7.index t (0 : Fin 2) * 768 + 1 * (y 0).val, by rw [i0]; omega⟩
    ⟨(win0_7.index t (1 : Fin 2) * 512 + 1 * (y 1).val) % 128, Nat.mod_lt _ (by decide)⟩)
  · rw [i1]
  · exact i0.symm
  · show (y 1).val % 128 = (win0_7.index t (1 : Fin 2) * 512 + 1 * (y 1).val) % 128
    rw [i1]

/-- The point of a block. -/
abbrev pt (q : Fin 11) : Fin grid0.N := ⟨q.val, lt_of_lt_of_eq q.isLt N_0.symm⟩

/-- Every element of each result is in some point's block. -/
theorem cover6 (i : S2048x8448.Idx) : ∃ t : Fin cfg0.N, (cfg0.win 6).flush t = true ∧ i ∈ ((cfg0.win 6).blk t).view.set := by
  have h0 : (i 0).val < 2048 := (i 0).isLt
  have h1 : (i 1).val < 8448 := (i 1).isLt
  have e := (idx_facts (pt ⟨(i 1).val / 768, by omega⟩)).2.2.2.2.2.1
  have e0 := congrFun e 0
  have e1 := congrFun e 1
  refine ⟨pt ⟨(i 1).val / 768, by omega⟩, flush0_6 _, ?_⟩
  rw [show ((cfg0.win 6).blk (pt ⟨(i 1).val / 768, by omega⟩)).view.set
    = ((View.whole main_v42_0).slice (win0_6.rect (pt ⟨(i 1).val / 768, by omega⟩))).set from rfl, View.set_slice_whole, Rect.mem_set_unit]
  intro a
  match a with
  | ⟨0, _⟩ =>
    show win0_6.index _ (0 : Fin 2) * 2048 ≤ (i 0).val ∧ (i 0).val < win0_6.index _ (0 : Fin 2) * 2048 + 2048
    rw [e0]
    show 0 * 2048 ≤ (i 0).val ∧ (i 0).val < 0 * 2048 + 2048
    omega
  | ⟨1, _⟩ =>
    show win0_6.index _ (1 : Fin 2) * 768 ≤ (i 1).val ∧ (i 1).val < win0_6.index _ (1 : Fin 2) * 768 + 768
    rw [e1]
    show (i 1).val / 768 * 768 ≤ (i 1).val ∧ (i 1).val < (i 1).val / 768 * 768 + 768
    omega

theorem cover7 (i : S8448x512.Idx) : ∃ t : Fin cfg0.N, (cfg0.win 7).flush t = true ∧ i ∈ ((cfg0.win 7).blk t).view.set := by
  have h0 : (i 0).val < 8448 := (i 0).isLt
  have h1 : (i 1).val < 512 := (i 1).isLt
  have e := (idx_facts (pt ⟨(i 0).val / 768, by omega⟩)).2.2.2.2.2.2
  have e0 := congrFun e 0
  have e1 := congrFun e 1
  refine ⟨pt ⟨(i 0).val / 768, by omega⟩, flush0_7 _, ?_⟩
  rw [show ((cfg0.win 7).blk (pt ⟨(i 0).val / 768, by omega⟩)).view.set
    = ((View.whole main_v42_1).slice (win0_7.rect (pt ⟨(i 0).val / 768, by omega⟩))).set from rfl, View.set_slice_whole, Rect.mem_set_unit]
  intro a
  match a with
  | ⟨0, _⟩ =>
    show win0_7.index _ (0 : Fin 2) * 768 ≤ (i 0).val ∧ (i 0).val < win0_7.index _ (0 : Fin 2) * 768 + 768
    rw [e0]
    show (i 0).val / 768 * 768 ≤ (i 0).val ∧ (i 0).val < (i 0).val / 768 * 768 + 768
    omega
  | ⟨1, _⟩ =>
    show win0_7.index _ (1 : Fin 2) * 512 ≤ (i 1).val ∧ (i 1).val < win0_7.index _ (1 : Fin 2) * 512 + 512
    rw [e1]
    show 0 * 512 ≤ (i 1).val ∧ (i 1).val < 0 * 512 + 512
    omega

theorem final6 (c : Dev nD) : (dats m 0 c).arrAt 6 cfg0.N = outQ (U m c) (GQ m c) (PR m c) (PC m c) :=
  (dats m 0 c).arrAt_eq_of_cover 6 _ (fun t _ => flushed6_eq m c t) cover6
theorem final7 (c : Dev nD) : (dats m 0 c).arrAt 7 cfg0.N = outK (U m c) (GK m c) (PR m c) (PC m c) :=
  (dats m 0 c).arrAt_eq_of_cover 7 _ (fun t _ => flushed7_eq m c t) cover7

end Cert.Proof.Prep10
end
-- ==== Proof.lean ====
/-
  The claims of the certificate, proved. The norm-and-modulate call: its run is `Norm.run_main` (Proof/Run.lean), over any
  float values, and its result is the reference's by `Norm.out_eq` (Proof/Value.lean). The two input projections
  (`In2`, `In3`) and the three output projections (`Out4`, `Out5`, `Out6`): `final` is what the kernel leaves and
  `ref_eq` is what the reference leaves, the same function of the arguments. The grouped attention: the kernel leaves
  `GqaAtt.out` (`GqaValue.run`) and so does the reference (`GqaRef.ref_eq`), where the queries and keys are real numbers
  (`GqaPre.reals`). The modulation's own projection (`Mods8`) and the call that joins, normalises and modulates the rows
  (`Join9`, two results): `final` and `ref_eq`, and `final5`, `final6`, `ref_out`, `ref_joined`, as above. The call that
  normalises and turns the queries and keys (two results): `Prep10.final6` and `Prep10.final7`, and `PrepRef10.ref_q` and
  `PrepRef10.ref_k`.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Reference2Ideal.Run
public import proofs.«01_k».proof.Proof.Gen.Kernel3
public import proofs.«01_k».proof.Proof.Gen.Kernel3Ideal
public import proofs.«01_k».proof.Proof.Gen.Reference3Ideal.Run
public import proofs.«01_k».proof.Proof.Gen.Kernel4
public import proofs.«01_k».proof.Proof.Gen.Kernel4Ideal
public import proofs.«01_k».proof.Proof.Gen.Reference4Ideal.Run
public import proofs.«01_k».proof.Proof.Gen.Kernel5
public import proofs.«01_k».proof.Proof.Gen.Kernel5Ideal
public import proofs.«01_k».proof.Proof.Gen.Reference5Ideal.Run
public import proofs.«01_k».proof.Proof.Gen.Kernel6
public import proofs.«01_k».proof.Proof.Gen.Kernel6Ideal
public import proofs.«01_k».proof.Proof.Gen.Reference6Ideal.Run
public import proofs.«01_k».proof.Proof.Value
public import proofs.«01_k».proof.Proof.In2
public import proofs.«01_k».proof.Proof.In3
public import proofs.«01_k».proof.Proof.Out4
public import proofs.«01_k».proof.Proof.Out5
public import proofs.«01_k».proof.Proof.Out6
public import Idealize.ShloMosaic.Adequacy
public import Idealize.ShloMosaic.Init
public import proofs.«01_k».proof.Proof.Gen.Kernel7
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Mods8
public import proofs.«01_k».proof.Proof.Join9
public import proofs.«01_k».proof.Proof.GqaValue
public import proofs.«01_k».proof.Proof.GqaRef
public import proofs.«01_k».proof.Proof.GqaPre
public import proofs.«01_k».proof.Proof.PrepRef10
public import proofs.«01_k».proof.Proof.Prep10

@[expose] public section

set_option maxRecDepth 16384

noncomputable section

namespace Cert.Proof

open Idealize.ShloMosaic Idealize.ShloMosaic.TcCoe Idealize.SL.Sem

theorem frame_kernelIdeal : Cert.quiescent_KernelIdeal := fun m ρ _ =>
  (θ_run Cert.KernelIdeal.defs _ _).mono (fun _ h => ⟨fun c => ⟨(h.1 c).1, (h.1 c).2.1, (h.1 c).2.2.1⟩, h.2⟩) (Norm.run_main (F := Ideal) m ρ)

/-- The two programs have one text, so one body table … -/
theorem bodies_eq : Cert.Kernel.defs₀ (F := Bits) = Cert.KernelIdeal.defs₀ := by
  unfold Cert.Kernel.defs₀ Cert.KernelIdeal.defs₀
  refine congrArg Defs.onTc (funext fun l => funext fun a => ?_)
  match l with
  | 0 => rfl
theorem defs_eq : Cert.Kernel.defs (F := Bits) = Cert.KernelIdeal.defs := congrArg (Pipeline.defs Cert.KernelIdeal.pcfgs) bodies_eq

/-- … and one run. -/
theorem frame_kernel : Cert.quiescent_Kernel := by
  intro m ρ _
  rw [defs_eq]
  exact (θ_run Cert.KernelIdeal.defs _ _).mono (fun _ h => ⟨fun c => ⟨(h.1 c).1, (h.1 c).2.1, (h.1 c).2.2.1⟩, h.2⟩) (Norm.run_main (F := Bits) m ρ)

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic : Cert.algebraic_KernelIdeal_ReferenceIdeal := fun m ρ m' ρ' _ hag =>
  ⟨fun c => Norm.out₀ m c,
    (θ_run Cert.KernelIdeal.defs _ _).mono (fun _ h c => ⟨(h.1 c).2.2.2, (h.1 c).1, (h.1 c).2.1, (h.1 c).2.2.1⟩) (Norm.run_main (F := Ideal) m ρ),
    (θ_run Cert.ReferenceIdeal.defs _ _).mono (fun _ h c => ⟨by
      refine (h c).1.trans ((Cert.ReferenceIdeal.Read.val_main_v53_eq _ _ _).trans ?_)
      rw [(hag c).1, (hag c).2.1, (hag c).2.2]
      exact (Norm.out_eq m c).symm, (h c).2⟩) (Cert.ReferenceIdeal.Value.run (F := Ideal) m' ρ')⟩

/-! ## The even layers' input projection -/

theorem frame_kernel2Ideal : Cert.quiescent_Kernel2Ideal := fun m ρ _ => Cert.Kernel2Ideal.Gen.frame m ρ

theorem bodies2_eq : Cert.Kernel2.defs₀ (F := Bits) = Cert.Kernel2Ideal.defs₀ := by
  unfold Cert.Kernel2.defs₀ Cert.Kernel2Ideal.defs₀
  refine congrArg Defs.onTc (funext fun l => funext fun a => ?_)
  match l with
  | 0 => rfl
theorem defs2_eq : Cert.Kernel2.defs (F := Bits) = Cert.Kernel2Ideal.defs := congrArg (Pipeline.defs Cert.Kernel2Ideal.pcfgs) bodies2_eq

theorem frame_kernel2 : Cert.quiescent_Kernel2 := by
  intro m ρ _
  rw [defs2_eq]
  exact Cert.Kernel2Ideal.Gen.frame (F := Bits) m ρ

theorem frame_reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic2 : Cert.algebraic_Kernel2Ideal_Reference2Ideal := fun m ρ m' ρ' _ hag =>
  ⟨fun c => In2.prod (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg1)),
    (θ_run Cert.Kernel2Ideal.defs _ _).mono (fun _ h c => ⟨(h c).1.trans (In2.final m c), (h c).2⟩) (Cert.Kernel2Ideal.Value.run_blocks (F := Ideal) m ρ),
    (θ_run Cert.Reference2Ideal.defs _ _).mono (fun _ h c => ⟨by
      refine (h c).1.trans ((Cert.Reference2Ideal.Read.val_main_v4_eq _ _).trans ?_)
      rw [(hag c).1, (hag c).2]
      exact In2.ref_eq _ _, (h c).2⟩) (Cert.Reference2Ideal.Value.run (F := Ideal) m' ρ')⟩

/-! ## The odd layers' input projection -/

theorem frame_kernel3Ideal : Cert.quiescent_Kernel3Ideal := fun m ρ _ => Cert.Kernel3Ideal.Gen.frame m ρ

theorem bodies3_eq : Cert.Kernel3.defs₀ (F := Bits) = Cert.Kernel3Ideal.defs₀ := by
  unfold Cert.Kernel3.defs₀ Cert.Kernel3Ideal.defs₀
  refine congrArg Defs.onTc (funext fun l => funext fun a => ?_)
  match l with
  | 0 => rfl
theorem defs3_eq : Cert.Kernel3.defs (F := Bits) = Cert.Kernel3Ideal.defs := congrArg (Pipeline.defs Cert.Kernel3Ideal.pcfgs) bodies3_eq

theorem frame_kernel3 : Cert.quiescent_Kernel3 := by
  intro m ρ _
  rw [defs3_eq]
  exact Cert.Kernel3Ideal.Gen.frame (F := Bits) m ρ

theorem frame_reference3Ideal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic3 : Cert.algebraic_Kernel3Ideal_Reference3Ideal := fun m ρ m' ρ' _ hag =>
  ⟨fun c => In3.prod (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)),
    (θ_run Cert.Kernel3Ideal.defs _ _).mono (fun _ h c => ⟨(h c).1.trans (In3.final m c), (h c).2⟩) (Cert.Kernel3Ideal.Value.run_blocks (F := Ideal) m ρ),
    (θ_run Cert.Reference3Ideal.defs _ _).mono (fun _ h c => ⟨by
      refine (h c).1.trans ((Cert.Reference3Ideal.Read.val_main_v4_eq _ _).trans ?_)
      rw [(hag c).1, (hag c).2]
      exact In3.ref_eq _ _, (h c).2⟩) (Cert.Reference3Ideal.Value.run (F := Ideal) m' ρ')⟩

/-! ## The last layer's output projection -/

theorem frame_kernel4Ideal : Cert.quiescent_Kernel4Ideal := fun m ρ _ => Cert.Kernel4Ideal.Gen.frame m ρ

theorem bodies4_eq : Cert.Kernel4.defs₀ (F := Bits) = Cert.Kernel4Ideal.defs₀ := by
  unfold Cert.Kernel4.defs₀ Cert.Kernel4Ideal.defs₀
  refine congrArg Defs.onTc (funext fun l => funext fun a => ?_)
  match l with
  | 0 => rfl
theorem defs4_eq : Cert.Kernel4.defs (F := Bits) = Cert.Kernel4Ideal.defs := congrArg (Pipeline.defs Cert.Kernel4Ideal.pcfgs) bodies4_eq

theorem frame_kernel4 : Cert.quiescent_Kernel4 := by
  intro m ρ _
  rw [defs4_eq]
  exact Cert.Kernel4Ideal.Gen.frame (F := Bits) m ρ

theorem frame_reference4Ideal : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic4 : Cert.algebraic_Kernel4Ideal_Reference4Ideal := fun m ρ m' ρ' _ hag =>
  ⟨fun c => Out4.out (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2)) (m ((c : Thread Cert.Kernel4Ideal.nD Cert.Kernel4Ideal.τ).loc Cert.Kernel4Ideal.main_arg3)),
    (θ_run Cert.Kernel4Ideal.defs _ _).mono (fun _ h c => ⟨(h c).1.trans (Out4.final m c), (h c).2⟩) (Cert.Kernel4Ideal.Value.run_blocks (F := Ideal) m ρ),
    (θ_run Cert.Reference4Ideal.defs _ _).mono (fun _ h c => ⟨by
      refine (h c).1.trans ((Cert.Reference4Ideal.Read.val_main_v11_eq _ _ _ _).trans ?_)
      rw [(hag c).1, (hag c).2.1, (hag c).2.2.1, (hag c).2.2.2]
      exact Out4.ref_eq _ _ _ _, (h c).2⟩) (Cert.Reference4Ideal.Value.run (F := Ideal) m' ρ')⟩

/-! ## The even layers' output projection -/

theorem frame_kernel5Ideal : Cert.quiescent_Kernel5Ideal := fun m ρ _ => Cert.Kernel5Ideal.Gen.frame m ρ

theorem bodies5_eq : Cert.Kernel5.defs₀ (F := Bits) = Cert.Kernel5Ideal.defs₀ := by
  unfold Cert.Kernel5.defs₀ Cert.Kernel5Ideal.defs₀
  refine congrArg Defs.onTc (funext fun l => funext fun a => ?_)
  match l with
  | 0 => rfl
theorem defs5_eq : Cert.Kernel5.defs (F := Bits) = Cert.Kernel5Ideal.defs := congrArg (Pipeline.defs Cert.Kernel5Ideal.pcfgs) bodies5_eq

theorem frame_kernel5 : Cert.quiescent_Kernel5 := by
  intro m ρ _
  rw [defs5_eq]
  exact Cert.Kernel5Ideal.Gen.frame (F := Bits) m ρ

theorem frame_reference5Ideal : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic5 : Cert.algebraic_Kernel5Ideal_Reference5Ideal := fun m ρ m' ρ' _ hag =>
  ⟨fun c => Out5.out (m ((c : Thread Cert.Kernel5Ideal.nD Cert.Kernel5Ideal.τ).loc Cert.Kernel5Ideal.main_arg0)) (m ((c : Thread Cert.Kernel5Ideal.nD Cert.Kernel5Ideal.τ).loc Cert.Kernel5Ideal.main_arg1)) (m ((c : Thread Cert.Kernel5Ideal.nD Cert.Kernel5Ideal.τ).loc Cert.Kernel5Ideal.main_arg2)) (m ((c : Thread Cert.Kernel5Ideal.nD Cert.Kernel5Ideal.τ).loc Cert.Kernel5Ideal.main_arg3)) (m ((c : Thread Cert.Kernel5Ideal.nD Cert.Kernel5Ideal.τ).loc Cert.Kernel5Ideal.main_arg4)),
    (θ_run Cert.Kernel5Ideal.defs _ _).mono (fun _ h c => ⟨(h c).1.trans (Out5.final m c), (h c).2⟩) (Cert.Kernel5Ideal.Value.run_blocks (F := Ideal) m ρ),
    (θ_run Cert.Reference5Ideal.defs _ _).mono (fun _ h c => ⟨by
      refine (h c).1.trans ((Cert.Reference5Ideal.Read.val_main_v21_eq _ _ _ _ _).trans ?_)
      rw [(hag c).1, (hag c).2.1, (hag c).2.2.1, (hag c).2.2.2.1, (hag c).2.2.2.2]
      exact Out5.ref_eq _ _ _ _ _, (h c).2⟩) (Cert.Reference5Ideal.Value.run (F := Ideal) m' ρ')⟩

/-! ## The first odd layer's output projection -/

theorem frame_kernel6Ideal : Cert.quiescent_Kernel6Ideal := fun m ρ _ => Cert.Kernel6Ideal.Gen.frame m ρ

theorem bodies6_eq : Cert.Kernel6.defs₀ (F := Bits) = Cert.Kernel6Ideal.defs₀ := by
  unfold Cert.Kernel6.defs₀ Cert.Kernel6Ideal.defs₀
  refine congrArg Defs.onTc (funext fun l => funext fun a => ?_)
  match l with
  | 0 => rfl
theorem defs6_eq : Cert.Kernel6.defs (F := Bits) = Cert.Kernel6Ideal.defs := congrArg (Pipeline.defs Cert.Kernel6Ideal.pcfgs) bodies6_eq

theorem frame_kernel6 : Cert.quiescent_Kernel6 := by
  intro m ρ _
  rw [defs6_eq]
  exact Cert.Kernel6Ideal.Gen.frame (F := Bits) m ρ

theorem frame_reference6Ideal : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic6 : Cert.algebraic_Kernel6Ideal_Reference6Ideal := fun m ρ m' ρ' _ hag =>
  ⟨fun c => Out6.out (m ((c : Thread Cert.Kernel6Ideal.nD Cert.Kernel6Ideal.τ).loc Cert.Kernel6Ideal.main_arg0)) (m ((c : Thread Cert.Kernel6Ideal.nD Cert.Kernel6Ideal.τ).loc Cert.Kernel6Ideal.main_arg1)) (m ((c : Thread Cert.Kernel6Ideal.nD Cert.Kernel6Ideal.τ).loc Cert.Kernel6Ideal.main_arg2)) (m ((c : Thread Cert.Kernel6Ideal.nD Cert.Kernel6Ideal.τ).loc Cert.Kernel6Ideal.main_arg3)),
    (θ_run Cert.Kernel6Ideal.defs _ _).mono (fun _ h c => ⟨(h c).1.trans (Out6.final m c), (h c).2⟩) (Cert.Kernel6Ideal.Value.run_blocks (F := Ideal) m ρ),
    (θ_run Cert.Reference6Ideal.defs _ _).mono (fun _ h c => ⟨by
      refine (h c).1.trans ((Cert.Reference6Ideal.Read.val_main_v20_eq _ _ _ _).trans ?_)
      rw [(hag c).1, (hag c).2.1, (hag c).2.2.1, (hag c).2.2.2]
      exact Out6.ref_eq _ _ _ _, (h c).2⟩) (Cert.Reference6Ideal.Value.run (F := Ideal) m' ρ')⟩

/-! ## The grouped attention -/

theorem frame_kernel7Ideal : Cert.quiescent_Kernel7Ideal := fun m ρ _ => Cert.Kernel7Ideal.Gen.frame m ρ trivial

theorem frame_kernel7Ideal_pre : Cert.quiescent_Kernel7Ideal_pre_finite_scores := fun m ρ _ => Cert.Kernel7Ideal.Gen.frame m ρ trivial

theorem bodies7_eq : Cert.Kernel7.defs₀ (F := Bits) = Cert.Kernel7Ideal.defs₀ := by
  unfold Cert.Kernel7.defs₀ Cert.Kernel7Ideal.defs₀
  refine congrArg Defs.onTc (funext fun l => funext fun a => ?_)
  match l with
  | 0 => rfl
theorem defs7_eq : Cert.Kernel7.defs (F := Bits) = Cert.Kernel7Ideal.defs := congrArg (Pipeline.defs Cert.Kernel7Ideal.pcfgs) bodies7_eq

set_option maxHeartbeats 4000000 in
theorem frame_kernel7 : Cert.quiescent_Kernel7 := by
  intro m ρ _
  rw [defs7_eq]
  exact Cert.Kernel7Ideal.Gen.frame (F := Bits) m ρ trivial

theorem frame_reference7Ideal : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem frame_reference7Ideal_pre : Cert.quiescent_Reference7Ideal_pre_finite_scores := fun m ρ _ => frame_reference7Ideal m ρ trivial

theorem algebraic7 : Cert.algebraic_Kernel7Ideal_Reference7Ideal_pre_finite_scores := fun m ρ m' ρ' hpre hag =>
  have hr := fun c => GqaPre.reals _ _ _ _ (hpre c)
  ⟨fun c => GqaAtt.out (GqaHost.Qs m c) (GqaHost.Ks m c) (GqaHost.Us m c),
    GqaValue.run m ρ trivial (fun c => (hr c).1) (fun c => (hr c).2),
    (θ_run Cert.Reference7Ideal.defs _ _).mono (fun _ h c => ⟨by
      refine (h c).1.trans ((Cert.Reference7Ideal.Read.val_main_v52_eq _ _).trans ?_)
      rw [(hag c).2.1, (hag c).2.2.1, (hag c).2.2.2]
      exact GqaRef.ref_eq _ _ _ (hr c).1 (hr c).2, (h c).2⟩) (Cert.Reference7Ideal.Value.run (F := Ideal) m' ρ')⟩

/-! ## The modulation's own projection -/

theorem frame_kernel8Ideal : Cert.quiescent_Kernel8Ideal := fun m ρ _ => Cert.Kernel8Ideal.Gen.frame m ρ

theorem bodies8_eq : Cert.Kernel8.defs₀ (F := Bits) = Cert.Kernel8Ideal.defs₀ := by
  unfold Cert.Kernel8.defs₀ Cert.Kernel8Ideal.defs₀
  refine congrArg Defs.onTc (funext fun l => funext fun a => ?_)
  match l with
  | 0 => rfl
theorem defs8_eq : Cert.Kernel8.defs (F := Bits) = Cert.Kernel8Ideal.defs := congrArg (Pipeline.defs Cert.Kernel8Ideal.pcfgs) bodies8_eq

theorem frame_kernel8 : Cert.quiescent_Kernel8 := by
  intro m ρ _
  rw [defs8_eq]
  exact Cert.Kernel8Ideal.Gen.frame (F := Bits) m ρ

theorem frame_reference8Ideal : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem algebraic8 : Cert.algebraic_Kernel8Ideal_Reference8Ideal := fun m ρ m' ρ' _ hag =>
  ⟨fun c => Mods8.out (Mods8.X0 m c) (Mods8.X1 m c) (Mods8.W m c) (Mods8.B m c),
    (θ_run Cert.Kernel8Ideal.defs _ _).mono (fun _ h c => ⟨(h c).1.trans (Mods8.final m c), (h c).2⟩) (Cert.Kernel8Ideal.Value.run_blocks (F := Ideal) m ρ),
    (θ_run Cert.Reference8Ideal.defs _ _).mono (fun _ h c => ⟨by
      refine (h c).1.trans ((Cert.Reference8Ideal.Read.val_main_v8_eq _ _ _ _).trans ?_)
      rw [(hag c).1, (hag c).2.1, (hag c).2.2.1, (hag c).2.2.2]
      exact Mods8.ref_eq _ _ _ _, (h c).2⟩) (Cert.Reference8Ideal.Value.run (F := Ideal) m' ρ')⟩

/-! ## The rows joined, normalised and modulated -/

theorem frame_kernel9Ideal : Cert.quiescent_Kernel9Ideal := fun m ρ _ => Cert.Kernel9Ideal.Gen.frame m ρ

theorem bodies9_eq : Cert.Kernel9.defs₀ (F := Bits) = Cert.Kernel9Ideal.defs₀ := by
  unfold Cert.Kernel9.defs₀ Cert.Kernel9Ideal.defs₀
  refine congrArg Defs.onTc (funext fun l => funext fun a => ?_)
  match l with
  | 0 => rfl
theorem defs9_eq : Cert.Kernel9.defs (F := Bits) = Cert.Kernel9Ideal.defs := congrArg (Pipeline.defs Cert.Kernel9Ideal.pcfgs) bodies9_eq

theorem frame_kernel9 : Cert.quiescent_Kernel9 := by
  intro m ρ _
  rw [defs9_eq]
  exact Cert.Kernel9Ideal.Gen.frame (F := Bits) m ρ

theorem frame_reference9Ideal : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)

theorem algebraic9 : Cert.algebraic_Kernel9Ideal_Reference9Ideal := fun m ρ m' ρ' _ hag =>
  ⟨fun c => Join9.out (Join9.X m c) (Join9.C m c) (Join9.G m c) (Join9.W m c), fun c => Join9.joined (Join9.X m c) (Join9.C m c),
    (θ_run Cert.Kernel9Ideal.defs _ _).mono (fun _ h c => ⟨(h c).1.trans (Join9.final5 m c), (h c).2.1.trans (Join9.final6 m c), (h c).2.2⟩)
      (Cert.Kernel9Ideal.Value.run_blocks (F := Ideal) m ρ),
    (θ_run Cert.Reference9Ideal.defs _ _).mono (fun _ h c => ⟨by
      refine (h c).1.trans ((Cert.Reference9Ideal.Read.val_main_v51_eq _ _ _ _).trans ?_)
      rw [(hag c).1, (hag c).2.1, (hag c).2.2.1, (hag c).2.2.2]
      exact Join9.ref_out _ _ _ _, by
      refine (h c).2.1.trans ((Cert.Reference9Ideal.Read.val_main_v52_eq _ _).trans ?_)
      rw [(hag c).1, (hag c).2.1]
      exact Join9.ref_joined _ _, (h c).2.2⟩) (Cert.Reference9Ideal.Value.run (F := Ideal) m' ρ')⟩

/-! ## The queries and keys normalised and turned -/

theorem frame_kernel10Ideal : Cert.quiescent_Kernel10Ideal := fun m ρ _ => Cert.Kernel10Ideal.Gen.frame m ρ

theorem bodies10_eq : Cert.Kernel10.defs₀ (F := Bits) = Cert.Kernel10Ideal.defs₀ := by
  unfold Cert.Kernel10.defs₀ Cert.Kernel10Ideal.defs₀
  refine congrArg Defs.onTc (funext fun l => funext fun a => ?_)
  match l with
  | 0 => rfl
theorem defs10_eq : Cert.Kernel10.defs (F := Bits) = Cert.Kernel10Ideal.defs := congrArg (Pipeline.defs Cert.Kernel10Ideal.pcfgs) bodies10_eq

set_option maxHeartbeats 4000000 in
theorem frame_kernel10 : Cert.quiescent_Kernel10 := by
  intro m ρ _
  rw [defs10_eq]
  exact Cert.Kernel10Ideal.Gen.frame (F := Bits) m ρ

theorem frame_reference10Ideal : Cert.quiescent_Reference10Ideal := fun m ρ _ =>
  (θ_run Cert.Reference10Ideal.defs _ _).mono (fun r h => ⟨fun c => (h c).2.2, sem_eq_zero_of_no_sems (by decide) r.2⟩)
    (Cert.Reference10Ideal.Value.run (F := Ideal) m ρ)

theorem algebraic10 : Cert.algebraic_Kernel10Ideal_Reference10Ideal := fun m ρ m' ρ' _ hag =>
  ⟨fun c => PrepRef10.outQ (Prep10.U m c) (Prep10.GQ m c) (Prep10.PR m c) (Prep10.PC m c),
    fun c => PrepRef10.outK (Prep10.U m c) (Prep10.GK m c) (Prep10.PR m c) (Prep10.PC m c),
    (θ_run Cert.Kernel10Ideal.defs _ _).mono (fun _ h c => ⟨(h c).1.trans (Prep10.final6 m c), (h c).2.1.trans (Prep10.final7 m c), (h c).2.2.2⟩)
      (Cert.Kernel10Ideal.Value.run_blocks (F := Ideal) m ρ),
    (θ_run Cert.Reference10Ideal.defs _ _).mono (fun _ h c => ⟨by
      refine (h c).1.trans ((Cert.Reference10Ideal.Read.val_main_v150_eq _ _).trans ?_)
      rw [(hag c).1, (hag c).2.1, (hag c).2.2.2.1, (hag c).2.2.2.2]
      exact PrepRef10.ref_q _ _ _ _, by
      refine (h c).2.1.trans ((Cert.Reference10Ideal.Read.val_main_v152_eq _ _).trans ?_)
      rw [(hag c).1, (hag c).2.2.1, (hag c).2.2.2.1, (hag c).2.2.2.2]
      exact PrepRef10.ref_k _ _ _ _, (h c).2.2⟩) (Cert.Reference10Ideal.Value.run (F := Ideal) m' ρ')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts, GqaPre.facts,
  frame_kernel, frame_kernelIdeal, frame_referenceIdeal,
  frame_kernel2, frame_kernel2Ideal, frame_reference2Ideal,
  frame_kernel3, frame_kernel3Ideal, frame_reference3Ideal,
  frame_kernel4, frame_kernel4Ideal, frame_reference4Ideal,
  frame_kernel5, frame_kernel5Ideal, frame_reference5Ideal,
  frame_kernel6, frame_kernel6Ideal, frame_reference6Ideal,
  frame_kernel7, frame_kernel7Ideal, frame_kernel7Ideal_pre, frame_reference7Ideal, frame_reference7Ideal_pre,
  frame_kernel8, frame_kernel8Ideal, frame_reference8Ideal,
  frame_kernel9, frame_kernel9Ideal, frame_reference9Ideal,
  frame_kernel10, frame_kernel10Ideal, frame_reference10Ideal,
  trivial, algebraic, trivial, algebraic2, trivial, algebraic3, trivial, algebraic4, trivial, algebraic5, trivial, algebraic6,
  trivial, algebraic7, trivial, algebraic8, trivial, algebraic9, trivial, algebraic10⟩

end Cert.Proof

end
